-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_window [hPre_finite_window : Cert.Pre_finite_window.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_window.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_window [hPre_finite_window : Cert.Pre_finite_window.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_window.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_window [hKernel12Ideal : Cert.Kernel12Ideal.Facts] [hPre_finite_window : Cert.Pre_finite_window.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_window m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_window [hReference12Ideal : Cert.Reference12Ideal.Facts] [hPre_finite_window : Cert.Pre_finite_window.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_window m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v24)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v24) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v112) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v61) = v0 c
          ∧ r.2.mem ((c.tc : Thread Cert.Reference9Ideal.nD Cert.Reference9Ideal.τ).loc Cert.Reference9Ideal.main_v62) = v1 c
          ∧ r.2.mem ((c.tc : Thread Cert.Reference9Ideal.nD Cert.Reference9Ideal.τ).loc Cert.Reference9Ideal.main_v63) = v2 c
          ∧ r.2.mem ((c.tc : Thread Cert.Reference9Ideal.nD Cert.Reference9Ideal.τ).loc Cert.Reference9Ideal.main_v64) = v3 c
          ∧ r.2.mem ((c.tc : Thread Cert.Reference9Ideal.nD Cert.Reference9Ideal.τ).loc Cert.Reference9Ideal.main_v65) = v4 c
          ∧ r.2.mem ((c.tc : Thread Cert.Reference9Ideal.nD Cert.Reference9Ideal.τ).loc Cert.Reference9Ideal.main_v66) = v5 c
          ∧ r.2.mem ((c.tc : Thread Cert.Reference9Ideal.nD Cert.Reference9Ideal.τ).loc Cert.Reference9Ideal.main_v67) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v59) = v0 c
          ∧ r.2.mem ((c.tc : Thread Cert.Reference10Ideal.nD Cert.Reference10Ideal.τ).loc Cert.Reference10Ideal.main_v60) = v1 c
          ∧ r.2.mem ((c.tc : Thread Cert.Reference10Ideal.nD Cert.Reference10Ideal.τ).loc Cert.Reference10Ideal.main_v61) = v2 c
          ∧ r.2.mem ((c.tc : Thread Cert.Reference10Ideal.nD Cert.Reference10Ideal.τ).loc Cert.Reference10Ideal.main_v62) = v3 c
          ∧ r.2.mem ((c.tc : Thread Cert.Reference10Ideal.nD Cert.Reference10Ideal.τ).loc Cert.Reference10Ideal.main_v63) = v4 c
          ∧ r.2.mem ((c.tc : Thread Cert.Reference10Ideal.nD Cert.Reference10Ideal.τ).loc Cert.Reference10Ideal.main_v64) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  IdealRules.named_const.Statement Cert.Kernel12Ideal.κ "log2_e" .f32 0x3FB8AA3B#32 (((Real.log 2)⁻¹ : ℝ) : EReal)

def algebraic_Kernel12Ideal_Reference12Ideal_pre_finite_window [hKernel12Ideal : Cert.Kernel12Ideal.Facts] [hReference12Ideal : Cert.Reference12Ideal.Facts] [hPre_finite_window : Cert.Pre_finite_window.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_window m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_qk : Cert.Pre_finite_qk.Facts) (hPre_finite_window : Cert.Pre_finite_window.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_window (hKernel12Ideal := hKernel12Ideal) (hPre_finite_window := hPre_finite_window)
    ∧ quiescent_Reference12Ideal (hReference12Ideal := hReference12Ideal)
    ∧ quiescent_Reference12Ideal_pre_finite_window (hReference12Ideal := hReference12Ideal) (hPre_finite_window := hPre_finite_window)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_window (hKernel12Ideal := hKernel12Ideal) (hReference12Ideal := hReference12Ideal) (hPre_finite_window := hPre_finite_window)
-- ==== Pre_finite_qk.lean ====
abbrev S32768x2560 : Shape := ⟨2, ![32768, 2560]⟩
abbrev S32768x512 : Shape := ⟨2, ![32768, 512]⟩
abbrev S_ : Shape := ⟨0, ![]⟩

class Facts : Prop where
  bitsLt_bf16_f32 : FTy.bits .bf16 < FTy.bits .f32
  bcast_S_S32768x2560 : S_.BroadcastsInDim S32768x2560 (![] : Fin 0 → Fin S32768x2560.rank)

variable [Facts]

def fn {F : FTy → Type} [FloatOps F] (main_arg0 : FVec F S32768x2560 .bf16) (main_arg1 : FVec F S32768x512 .bf16) : IVec S32768x2560 1 :=
  let main_v0 : FVec F S32768x2560 .f32 := (extf .f32 · bitsLt_bf16_f32) main_arg0
  let main_v1 : FVec F S32768x2560 .f32 := Host.absf main_v0
  let main_cst : FVec F S_ .f32 := constant S_ .f32 0x7F800000#32
  let main_v2 : FVec F S32768x2560 .f32 := broadcastInDim S32768x2560 ![] bcast_S_S32768x2560 main_cst
  let main_v3 : IVec S32768x2560 1 := cmpf .olt main_v1 main_v2
  main_v3
-- ==== Pre_finite_window.lean ====
abbrev S32768x2560 : Shape := ⟨2, ![32768, 2560]⟩
abbrev S32768x512 : Shape := ⟨2, ![32768, 512]⟩
abbrev S32 : Shape := ⟨1, ![32]⟩
abbrev S_ : Shape := ⟨0, ![]⟩
abbrev S32768x40x2x32 : Shape := ⟨4, ![32768, 40, 2, 32]⟩
abbrev S1x1x1x32 : Shape := ⟨4, ![1, 1, 1, 32]⟩

class Facts : Prop where
  bitsLt_bf16_f32 : FTy.bits .bf16 < FTy.bits .f32
  bcast_S_S32768x2560 : S_.BroadcastsInDim S32768x2560 (![] : Fin 0 → Fin S32768x2560.rank)
  shapeCasts_S32768x2560_S32768x40x2x32 : S32768x2560.ShapeCasts S32768x40x2x32
  bcast_S_S32 : S_.BroadcastsInDim S32 (![] : Fin 0 → Fin S32.rank)
  bcast_S32_S1x1x1x32_3 : S32.BroadcastsInDim S1x1x1x32 (![3] : Fin 1 → Fin S1x1x1x32.rank)
  bcast_S1x1x1x32_S32768x40x2x32_0_1_2_3 : S1x1x1x32.BroadcastsInDim S32768x40x2x32 (![0, 1, 2, 3] : Fin 4 → Fin S32768x40x2x32.rank)

variable [Facts]

def fn {F : FTy → Type} [FloatOps F] (main_arg0 : FVec F S32768x2560 .bf16) (main_arg1 : FVec F S32768x512 .bf16) (main_arg2 : FVec F S32 .f32) : IVec S32768x40x2x32 1 :=
  let main_v0 : FVec F S32768x2560 .f32 := (extf .f32 · bitsLt_bf16_f32) main_arg0
  let main_v1 : FVec F S32768x2560 .f32 := Host.absf main_v0
  let main_cst : FVec F S_ .f32 := constant S_ .f32 0x7F800000#32
  let main_v2 : FVec F S32768x2560 .f32 := broadcastInDim S32768x2560 ![] bcast_S_S32768x2560 main_cst
  let main_v3 : IVec S32768x2560 1 := cmpf .olt main_v1 main_v2
  let main_v4 : IVec S32768x40x2x32 1 := shapeCast S32768x40x2x32 main_v3 shapeCasts_S32768x2560_S32768x40x2x32
  let main_cst_0 : FVec F S_ .f32 := constant S_ .f32 0x7F800000#32
  let main_v5 : FVec F S32 .f32 := broadcastInDim S32 ![] bcast_S_S32 main_cst_0
  let main_v6 : IVec S32 1 := cmpf .olt main_arg2 main_v5
  let main_v7 : IVec S1x1x1x32 1 := broadcastInDim S1x1x1x32 ![3] bcast_S32_S1x1x1x32_3 main_v6
  let main_v8 : IVec S32768x40x2x32 1 := broadcastInDim S32768x40x2x32 ![0, 1, 2, 3] bcast_S1x1x1x32_S32768x40x2x32_0_1_2_3 main_v7
  let main_v9 : IVec S32768x40x2x32 1 := andi main_v4 main_v8
  main_v9
-- ==== Kernel.lean ====
abbrev S32768x2560 : Shape := ⟨2, ![32768, 2560]⟩
abbrev S32768x512 : Shape := ⟨2, ![32768, 512]⟩
abbrev S32768x2048 : Shape := ⟨2, ![32768, 2048]⟩
abbrev S512x512 : Shape := ⟨2, ![512, 512]⟩
abbrev S4096x128 : Shape := ⟨2, ![4096, 128]⟩
abbrev S2048x128 : Shape := ⟨2, ![2048, 128]⟩
abbrev S2048x256 : Shape := ⟨2, ![2048, 256]⟩
abbrev S512x128 : Shape := ⟨2, ![512, 128]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 3
  | .vmem => 10
  | .smem => 0
  | _ => 0

abbrev bufTy : (tb : Table) → Fin (tcTables nBuf tb) → BufTy
  | .hbm, ⟨0, _⟩ => ⟨S32768x2560, .bf16⟩
  | .hbm, ⟨1, _⟩ => ⟨S32768x512, .bf16⟩
  | .hbm, ⟨2, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x512, .bf16⟩
  | .local _ .vmem, ⟨7, _⟩ => ⟨S512x512, .bf16⟩
  | .local _ .vmem, ⟨8, _⟩ => ⟨S2048x128, .f32⟩
  | .local _ .vmem, ⟨9, _⟩ => ⟨S2048x256, .f32⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 16, 2], ![false, false, false, false]⟩

def k0_cond2 (i : grid0.Coords) : BitVec 1 :=
  let arg3 : BitVec 32 := BitVec.ofNat 32 (i 3).val
  let c1_i32 : BitVec 32 := 1#32
  let v388 : BitVec 1 := Scalar.cmpi .eq arg3 c1_i32
  let v389 : BitVec 32 := Scalar.extui v388
  let c0_i32_192 : BitVec 32 := 0#32
  let v390 : BitVec 1 := Scalar.cmpi .ne v389 c0_i32_192
  v390

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S32768x2560 : Shape := ⟨2, ![32768, 2560]⟩
abbrev S32768x512 : Shape := ⟨2, ![32768, 512]⟩
abbrev S32768x2048 : Shape := ⟨2, ![32768, 2048]⟩
abbrev S4x8192x4x4x128 : Shape := ⟨5, ![4, 8192, 4, 4, 128]⟩
abbrev S4x8192x4x128 : Shape := ⟨4, ![4, 8192, 4, 128]⟩
abbrev S4x4x8192x8192x4 : Shape := ⟨5, ![4, 4, 8192, 8192, 4]⟩
abbrev S4x4x4x8192x8192 : Shape := ⟨5, ![4, 4, 4, 8192, 8192]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x128x4x8192 : Shape := ⟨5, ![4, 4, 128, 4, 8192]⟩

abbrev nBuf : Space → Nat
  | .hbm => 33
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S32768x512, .bf16⟩
  | .hbm, ⟨2, _⟩ => ⟨S32768x2560, .f32⟩
  | .hbm, ⟨3, _⟩ => ⟨S32768x2048, .f32⟩
  | .hbm, ⟨4, _⟩ => ⟨S4x8192x4x4x128, .f32⟩
  | .hbm, ⟨5, _⟩ => ⟨S32768x512, .f32⟩
  | .hbm, ⟨6, _⟩ => ⟨S4x8192x4x128, .f32⟩
  | .hbm, ⟨7, _⟩ => ⟨S32768x512, .f32⟩
  | .hbm, ⟨8, _⟩ => ⟨S4x8192x4x128, .f32⟩
  | .hbm, ⟨9, _⟩ => ⟨S4x4x8192x8192x4, .f32⟩
  | .hbm, ⟨10, _⟩ => ⟨S4x4x4x8192x8192, .f32⟩
  | .hbm, ⟨11, _⟩ => ⟨S_, .f32⟩
  | .hbm, ⟨12, _⟩ => ⟨S_, .f32⟩
  | .hbm, ⟨13, _⟩ => ⟨S4x4x4x8192x8192, .f32⟩
  | .hbm, ⟨14, _⟩ => ⟨S4x4x4x8192x8192, .f32⟩
  | .hbm, ⟨15, _⟩ => ⟨S_, .f32⟩
  | .hbm, ⟨16, _⟩ => ⟨S4x4x4x8192, .f32⟩
  | .hbm, ⟨17, _⟩ => ⟨S_, .f32⟩
  | .hbm, ⟨18, _⟩ => ⟨S4x4x4x8192, .f32⟩
  | .hbm, ⟨19, _⟩ => ⟨S4x4x4x8192, .f32⟩
  | .hbm, ⟨20, _⟩ => ⟨S4x4x4x8192x1, .f32⟩
  | .hbm, ⟨21, _⟩ => ⟨S4x4x4x8192x8192, .f32⟩
  | .hbm, ⟨22, _⟩ => ⟨S4x4x4x8192x8192, .f32⟩
  | .hbm, ⟨23, _⟩ => ⟨S4x4x4x8192x8192, .f32⟩
  | .hbm, ⟨24, _⟩ => ⟨S_, .f32⟩
  | .hbm, ⟨25, _⟩ => ⟨S4x4x4x8192, .f32⟩
  | .hbm, ⟨26, _⟩ => ⟨S4x4x4x8192x1, .f32⟩
  | .hbm, ⟨27, _⟩ => ⟨S4x4x4x8192x8192, .f32⟩
  | .hbm, ⟨28, _⟩ => ⟨S4x4x4x8192x8192, .f32⟩
  | .hbm, ⟨29, _⟩ => ⟨S4x4x128x4x8192, .f32⟩
  | .hbm, ⟨30, _⟩ => ⟨S4x8192x4x4x128, .f32⟩
  | .hbm, ⟨31, _⟩ => ⟨S32768x2048, .f32⟩
  | .hbm, ⟨32, _⟩ => ⟨S32768x2048, .bf16⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel2.lean ====
abbrev S32768x2048 : Shape := ⟨2, ![32768, 2048]⟩
abbrev S2048x11264 : Shape := ⟨2, ![2048, 11264]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .bf16⟩
  | .hbm, ⟨2, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S32768x2048 : Shape := ⟨2, ![32768, 2048]⟩
abbrev S2048x11264 : Shape := ⟨2, ![2048, 11264]⟩
abbrev S32768x11264 : Shape := ⟨2, ![32768, 11264]⟩
abbrev S32768x5632 : Shape := ⟨2, ![32768, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .bf16⟩
  | .hbm, ⟨2, _⟩ => ⟨S32768x2048, .f32⟩
  | .hbm, ⟨3, _⟩ => ⟨S2048x11264, .f32⟩
  | .hbm, ⟨4, _⟩ => ⟨S32768x11264, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x5632, .f32⟩
  | .hbm, ⟨9, _⟩ => ⟨S5632x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x2048 : Shape := ⟨2, ![32768, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048x2048, .f32⟩
  | .hbm, ⟨4, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S2048x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel6.lean ====
abbrev S32768x2048 : Shape := ⟨2, ![32768, 2048]⟩
abbrev S2048x512 : Shape := ⟨2, ![2048, 512]⟩
abbrev S512 : Shape := ⟨1, ![512]⟩
abbrev S1x512 : Shape := ⟨2, ![1, 512]⟩
abbrev S32768x512 : Shape := ⟨2, ![32768, 512]⟩
abbrev S1024x2048 : Shape := ⟨2, ![1024, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x512, .bf16⟩
  | .hbm, ⟨2, _⟩ => ⟨S512, .f32⟩
  | .hbm, ⟨3, _⟩ => ⟨S1x512, .f32⟩
  | .hbm, ⟨4, _⟩ => ⟨S32768x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x2048 : Shape := ⟨2, ![32768, 2048]⟩
abbrev S2048x512 : Shape := ⟨2, ![2048, 512]⟩
abbrev S512 : Shape := ⟨1, ![512]⟩
abbrev S32768x512 : Shape := ⟨2, ![32768, 512]⟩
abbrev S1x512 : Shape := ⟨2, ![1, 512]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x512, .bf16⟩
  | .hbm, ⟨2, _⟩ => ⟨S512, .f32⟩
  | .hbm, ⟨3, _⟩ => ⟨S32768x2048, .f32⟩
  | .hbm, ⟨4, _⟩ => ⟨S2048x512, .f32⟩
  | .hbm, ⟨5, _⟩ => ⟨S32768x512, .f32⟩
  | .hbm, ⟨6, _⟩ => ⟨S1x512, .f32⟩
  | .hbm, ⟨7, _⟩ => ⟨S32768x512, .f32⟩
  | .hbm, ⟨8, _⟩ => ⟨S32768x512, .f32⟩
  | .hbm, ⟨9, _⟩ => ⟨S32768x512, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S32768x2048 : Shape := ⟨2, ![32768, 2048]⟩
abbrev S2048x2560 : Shape := ⟨2, ![2048, 2560]⟩
abbrev S128 : Shape := ⟨1, ![128]⟩
abbrev S8192x32 : Shape := ⟨2, ![8192, 32]⟩
abbrev S_ : Shape := ⟨0, ![]⟩
abbrev S1x128 : Shape := ⟨2, ![1, 128]⟩
abbrev S16x128 : Shape := ⟨2, ![16, 128]⟩
abbrev S2048 : Shape := ⟨1, ![2048]⟩
abbrev S4x128 : Shape := ⟨2, ![4, 128]⟩
abbrev S512 : Shape := ⟨1, ![512]⟩
abbrev S2560 : Shape := ⟨1, ![2560]⟩
abbrev S8192x128 : Shape := ⟨2, ![8192, 128]⟩
abbrev S1x2560 : Shape := ⟨2, ![1, 2560]⟩
abbrev S32768x2560 : Shape := ⟨2, ![32768, 2560]⟩
abbrev S1024x2048 : Shape := ⟨2, ![1024, 2048]⟩
abbrev S2048x1280 : Shape := ⟨2, ![2048, 1280]⟩
abbrev S1x1280 : Shape := ⟨2, ![1, 1280]⟩
abbrev S1024x128 : Shape := ⟨2, ![1024, 128]⟩
abbrev S1024x1280 : Shape := ⟨2, ![1024, 1280]⟩
abbrev S2048x256 : Shape := ⟨2, ![2048, 256]⟩
abbrev S1024x256 : Shape := ⟨2, ![1024, 256]⟩
abbrev S128x128 : Shape := ⟨2, ![128, 128]⟩

abbrev nBuf : Space → Nat
  | .hbm => 34
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .bf16⟩
  | .hbm, ⟨2, _⟩ => ⟨S128, .f32⟩
  | .hbm, ⟨3, _⟩ => ⟨S128, .f32⟩
  | .hbm, ⟨4, _⟩ => ⟨S8192x32, .f32⟩
  | .hbm, ⟨5, _⟩ => ⟨S8192x32, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x128, .f32⟩
  | .hbm, ⟨13, _⟩ => ⟨S4x128, .f32⟩
  | .hbm, ⟨14, _⟩ => ⟨S512, .f32⟩
  | .hbm, ⟨15, _⟩ => ⟨S2560, .f32⟩
  | .hbm, ⟨16, _⟩ => ⟨S_, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x128, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x128, .f32⟩
  | .hbm, ⟨26, _⟩ => ⟨S8192x32, .f32⟩
  | .hbm, ⟨27, _⟩ => ⟨S8192x32, .f32⟩
  | .hbm, ⟨28, _⟩ => ⟨S8192x128, .f32⟩
  | .hbm, ⟨29, _⟩ => ⟨S_, .f32⟩
  | .hbm, ⟨30, _⟩ => ⟨S2560, .f32⟩
  | .hbm, ⟨31, _⟩ => ⟨S1x2560, .f32⟩
  | .hbm, ⟨32, _⟩ => ⟨S1x2560, .f32⟩
  | .hbm, ⟨33, _⟩ => ⟨S32768x2560, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1280, .bf16⟩
  | .local _ .vmem, ⟨15, _⟩ => ⟨S1024x1280, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S32768x2048 : Shape := ⟨2, ![32768, 2048]⟩
abbrev S2048x2560 : Shape := ⟨2, ![2048, 2560]⟩
abbrev S128 : Shape := ⟨1, ![128]⟩
abbrev S8192x32 : Shape := ⟨2, ![8192, 32]⟩
abbrev S32768x2560 : Shape := ⟨2, ![32768, 2560]⟩
abbrev S32768x512 : Shape := ⟨2, ![32768, 512]⟩
abbrev S4x8192x16x128 : Shape := ⟨4, ![4, 8192, 16, 128]⟩
abbrev S_ : Shape := ⟨0, ![]⟩
abbrev S4x8192x16 : Shape := ⟨3, ![4, 8192, 16]⟩
abbrev S4x8192x16x1 : Shape := ⟨4, ![4, 8192, 16, 1]⟩
abbrev S1x1x1x128 : Shape := ⟨4, ![1, 1, 1, 128]⟩
abbrev S4x8192x16x64 : Shape := ⟨4, ![4, 8192, 16, 64]⟩
abbrev S4x8192x16x32 : Shape := ⟨4, ![4, 8192, 16, 32]⟩
abbrev S1x8192x1x32 : Shape := ⟨4, ![1, 8192, 1, 32]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S4x8192x4x64 : Shape := ⟨4, ![4, 8192, 4, 64]⟩
abbrev S4x8192x4x32 : Shape := ⟨4, ![4, 8192, 4, 32]⟩

abbrev nBuf : Space → Nat
  | .hbm => 126
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .bf16⟩
  | .hbm, ⟨2, _⟩ => ⟨S128, .f32⟩
  | .hbm, ⟨3, _⟩ => ⟨S128, .f32⟩
  | .hbm, ⟨4, _⟩ => ⟨S8192x32, .f32⟩
  | .hbm, ⟨5, _⟩ => ⟨S8192x32, .f32⟩
  | .hbm, ⟨6, _⟩ => ⟨S32768x2048, .f32⟩
  | .hbm, ⟨7, _⟩ => ⟨S2048x2560, .f32⟩
  | .hbm, ⟨8, _⟩ => ⟨S32768x2560, .f32⟩
  | .hbm, ⟨9, _⟩ => ⟨S32768x2048, .f32⟩
  | .hbm, ⟨10, _⟩ => ⟨S32768x512, .f32⟩
  | .hbm, ⟨11, _⟩ => ⟨S4x8192x16x128, .f32⟩
  | .hbm, ⟨12, _⟩ => ⟨S4x8192x16x128, .f32⟩
  | .hbm, ⟨13, _⟩ => ⟨S_, .f32⟩
  | .hbm, ⟨14, _⟩ => ⟨S4x8192x16, .f32⟩
  | .hbm, ⟨15, _⟩ => ⟨S4x8192x16x1, .f32⟩
  | .hbm, ⟨16, _⟩ => ⟨S_, .f32⟩
  | .hbm, ⟨17, _⟩ => ⟨S4x8192x16x1, .f32⟩
  | .hbm, ⟨18, _⟩ => ⟨S4x8192x16x1, .f32⟩
  | .hbm, ⟨19, _⟩ => ⟨S_, .f32⟩
  | .hbm, ⟨20, _⟩ => ⟨S4x8192x16x1, .f32⟩
  | .hbm, ⟨21, _⟩ => ⟨S4x8192x16x1, .f32⟩
  | .hbm, ⟨22, _⟩ => ⟨S4x8192x16x1, .f32⟩
  | .hbm, ⟨23, _⟩ => ⟨S4x8192x16x128, .f32⟩
  | .hbm, ⟨24, _⟩ => ⟨S4x8192x16x128, .f32⟩
  | .hbm, ⟨25, _⟩ => ⟨S1x1x1x128, .f32⟩
  | .hbm, ⟨26, _⟩ => ⟨S4x8192x16x128, .f32⟩
  | .hbm, ⟨27, _⟩ => ⟨S4x8192x16x128, .f32⟩
  | .hbm, ⟨28, _⟩ => ⟨S4x8192x16x64, .f32⟩
  | .hbm, ⟨29, _⟩ => ⟨S4x8192x16x32, .f32⟩
  | .hbm, ⟨30, _⟩ => ⟨S4x8192x16x32, .f32⟩
  | .hbm, ⟨31, _⟩ => ⟨S8192x32, .f32⟩
  | .hbm, ⟨32, _⟩ => ⟨S1x8192x1x32, .f32⟩
  | .hbm, ⟨33, _⟩ => ⟨S8192x32, .f32⟩
  | .hbm, ⟨34, _⟩ => ⟨S1x8192x1x32, .f32⟩
  | .hbm, ⟨35, _⟩ => ⟨S4x8192x16x32, .f32⟩
  | .hbm, ⟨36, _⟩ => ⟨S4x8192x16x32, .f32⟩
  | .hbm, ⟨37, _⟩ => ⟨S4x8192x16x32, .f32⟩
  | .hbm, ⟨38, _⟩ => ⟨S4x8192x16x32, .f32⟩
  | .hbm, ⟨39, _⟩ => ⟨S4x8192x16x32, .f32⟩
  | .hbm, ⟨40, _⟩ => ⟨S4x8192x16x32, .f32⟩
  | .hbm, ⟨41, _⟩ => ⟨S4x8192x16x32, .f32⟩
  | .hbm, ⟨42, _⟩ => ⟨S4x8192x16x32, .f32⟩
  | .hbm, ⟨43, _⟩ => ⟨S4x8192x16x32, .f32⟩
  | .hbm, ⟨44, _⟩ => ⟨S4x8192x16x32, .f32⟩
  | .hbm, ⟨45, _⟩ => ⟨S4x8192x16x64, .f32⟩
  | .hbm, ⟨46, _⟩ => ⟨S4x8192x16x64, .f32⟩
  | .hbm, ⟨47, _⟩ => ⟨S4x8192x16x32, .f32⟩
  | .hbm, ⟨48, _⟩ => ⟨S4x8192x16x32, .f32⟩
  | .hbm, ⟨49, _⟩ => ⟨S8192x32, .f32⟩
  | .hbm, ⟨50, _⟩ => ⟨S1x8192x1x32, .f32⟩
  | .hbm, ⟨51, _⟩ => ⟨S8192x32, .f32⟩
  | .hbm, ⟨52, _⟩ => ⟨S1x8192x1x32, .f32⟩
  | .hbm, ⟨53, _⟩ => ⟨S4x8192x16x32, .f32⟩
  | .hbm, ⟨54, _⟩ => ⟨S4x8192x16x32, .f32⟩
  | .hbm, ⟨55, _⟩ => ⟨S4x8192x16x32, .f32⟩
  | .hbm, ⟨56, _⟩ => ⟨S4x8192x16x32, .f32⟩
  | .hbm, ⟨57, _⟩ => ⟨S4x8192x16x32, .f32⟩
  | .hbm, ⟨58, _⟩ => ⟨S4x8192x16x32, .f32⟩
  | .hbm, ⟨59, _⟩ => ⟨S4x8192x16x32, .f32⟩
  | .hbm, ⟨60, _⟩ => ⟨S4x8192x16x32, .f32⟩
  | .hbm, ⟨61, _⟩ => ⟨S4x8192x16x32, .f32⟩
  | .hbm, ⟨62, _⟩ => ⟨S4x8192x16x32, .f32⟩
  | .hbm, ⟨63, _⟩ => ⟨S4x8192x16x64, .f32⟩
  | .hbm, ⟨64, _⟩ => ⟨S4x8192x16x128, .f32⟩
  | .hbm, ⟨65, _⟩ => ⟨S_, .f32⟩
  | .hbm, ⟨66, _⟩ => ⟨S4x8192x16x128, .f32⟩
  | .hbm, ⟨67, _⟩ => ⟨S4x8192x16x128, .f32⟩
  | .hbm, ⟨68, _⟩ => ⟨S4x8192x4x128, .f32⟩
  | .hbm, ⟨69, _⟩ => ⟨S4x8192x4x128, .f32⟩
  | .hbm, ⟨70, _⟩ => ⟨S_, .f32⟩
  | .hbm, ⟨71, _⟩ => ⟨S4x8192x4, .f32⟩
  | .hbm, ⟨72, _⟩ => ⟨S4x8192x4x1, .f32⟩
  | .hbm, ⟨73, _⟩ => ⟨S_, .f32⟩
  | .hbm, ⟨74, _⟩ => ⟨S4x8192x4x1, .f32⟩
  | .hbm, ⟨75, _⟩ => ⟨S4x8192x4x1, .f32⟩
  | .hbm, ⟨76, _⟩ => ⟨S_, .f32⟩
  | .hbm, ⟨77, _⟩ => ⟨S4x8192x4x1, .f32⟩
  | .hbm, ⟨78, _⟩ => ⟨S4x8192x4x1, .f32⟩
  | .hbm, ⟨79, _⟩ => ⟨S4x8192x4x1, .f32⟩
  | .hbm, ⟨80, _⟩ => ⟨S4x8192x4x128, .f32⟩
  | .hbm, ⟨81, _⟩ => ⟨S4x8192x4x128, .f32⟩
  | .hbm, ⟨82, _⟩ => ⟨S1x1x1x128, .f32⟩
  | .hbm, ⟨83, _⟩ => ⟨S4x8192x4x128, .f32⟩
  | .hbm, ⟨84, _⟩ => ⟨S4x8192x4x128, .f32⟩
  | .hbm, ⟨85, _⟩ => ⟨S4x8192x4x64, .f32⟩
  | .hbm, ⟨86, _⟩ => ⟨S4x8192x4x32, .f32⟩
  | .hbm, ⟨87, _⟩ => ⟨S4x8192x4x32, .f32⟩
  | .hbm, ⟨88, _⟩ => ⟨S8192x32, .f32⟩
  | .hbm, ⟨89, _⟩ => ⟨S1x8192x1x32, .f32⟩
  | .hbm, ⟨90, _⟩ => ⟨S8192x32, .f32⟩
  | .hbm, ⟨91, _⟩ => ⟨S1x8192x1x32, .f32⟩
  | .hbm, ⟨92, _⟩ => ⟨S4x8192x4x32, .f32⟩
  | .hbm, ⟨93, _⟩ => ⟨S4x8192x4x32, .f32⟩
  | .hbm, ⟨94, _⟩ => ⟨S4x8192x4x32, .f32⟩
  | .hbm, ⟨95, _⟩ => ⟨S4x8192x4x32, .f32⟩
  | .hbm, ⟨96, _⟩ => ⟨S4x8192x4x32, .f32⟩
  | .hbm, ⟨97, _⟩ => ⟨S4x8192x4x32, .f32⟩
  | .hbm, ⟨98, _⟩ => ⟨S4x8192x4x32, .f32⟩
  | .hbm, ⟨99, _⟩ => ⟨S4x8192x4x32, .f32⟩
  | .hbm, ⟨100, _⟩ => ⟨S4x8192x4x32, .f32⟩
  | .hbm, ⟨101, _⟩ => ⟨S4x8192x4x32, .f32⟩
  | .hbm, ⟨102, _⟩ => ⟨S4x8192x4x64, .f32⟩
  | .hbm, ⟨103, _⟩ => ⟨S4x8192x4x64, .f32⟩
  | .hbm, ⟨104, _⟩ => ⟨S4x8192x4x32, .f32⟩
  | .hbm, ⟨105, _⟩ => ⟨S4x8192x4x32, .f32⟩
  | .hbm, ⟨106, _⟩ => ⟨S8192x32, .f32⟩
  | .hbm, ⟨107, _⟩ => ⟨S1x8192x1x32, .f32⟩
  | .hbm, ⟨108, _⟩ => ⟨S8192x32, .f32⟩
  | .hbm, ⟨109, _⟩ => ⟨S1x8192x1x32, .f32⟩
  | .hbm, ⟨110, _⟩ => ⟨S4x8192x4x32, .f32⟩
  | .hbm, ⟨111, _⟩ => ⟨S4x8192x4x32, .f32⟩
  | .hbm, ⟨112, _⟩ => ⟨S4x8192x4x32, .f32⟩
  | .hbm, ⟨113, _⟩ => ⟨S4x8192x4x32, .f32⟩
  | .hbm, ⟨114, _⟩ => ⟨S4x8192x4x32, .f32⟩
  | .hbm, ⟨115, _⟩ => ⟨S4x8192x4x32, .f32⟩
  | .hbm, ⟨116, _⟩ => ⟨S4x8192x4x32, .f32⟩
  | .hbm, ⟨117, _⟩ => ⟨S4x8192x4x32, .f32⟩
  | .hbm, ⟨118, _⟩ => ⟨S4x8192x4x32, .f32⟩
  | .hbm, ⟨119, _⟩ => ⟨S4x8192x4x32, .f32⟩
  | .hbm, ⟨120, _⟩ => ⟨S4x8192x4x64, .f32⟩
  | .hbm, ⟨121, _⟩ => ⟨S4x8192x4x128, .f32⟩
  | .hbm, ⟨122, _⟩ => ⟨S32768x2048, .f32⟩
  | .hbm, ⟨123, _⟩ => ⟨S32768x512, .f32⟩
  | .hbm, ⟨124, _⟩ => ⟨S32768x2560, .f32⟩
  | .hbm, ⟨125, _⟩ => ⟨S32768x2560, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_2 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_3 : Ref sig .tc := ⟨.hbm, 70, rfl⟩
abbrev main_v60 : Ref sig .tc := ⟨.hbm, 71, rfl⟩
abbrev main_v61 : Ref sig .tc := ⟨.hbm, 72, rfl⟩
abbrev main_cst_4 : Ref sig .tc := ⟨.hbm, 73, rfl⟩
abbrev main_v62 : Ref sig .tc := ⟨.hbm, 74, rfl⟩
abbrev main_v63 : Ref sig .tc := ⟨.hbm, 75, rfl⟩
abbrev main_cst_5 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩

abbrev nD : Nat := 1
abbrev τ : Topo := Topo.v7x

variable {F : FTy → Type} [FloatOps F]
-- ==== Kernel8.lean ====
abbrev S32768x2048 : Shape := ⟨2, ![32768, 2048]⟩
abbrev S2048x2560 : Shape := ⟨2, ![2048, 2560]⟩
abbrev S2560 : Shape := ⟨1, ![2560]⟩
abbrev S8192x32 : Shape := ⟨2, ![8192, 32]⟩
abbrev S_ : Shape := ⟨0, ![]⟩
abbrev S2048 : Shape := ⟨1, ![2048]⟩
abbrev S512 : Shape := ⟨1, ![512]⟩
abbrev S8192x128 : Shape := ⟨2, ![8192, 128]⟩
abbrev S1x2560 : Shape := ⟨2, ![1, 2560]⟩
abbrev S32768x2560 : Shape := ⟨2, ![32768, 2560]⟩
abbrev S1024x2048 : Shape := ⟨2, ![1024, 2048]⟩
abbrev S2048x1280 : Shape := ⟨2, ![2048, 1280]⟩
abbrev S1x1280 : Shape := ⟨2, ![1, 1280]⟩
abbrev S1024x128 : Shape := ⟨2, ![1024, 128]⟩
abbrev S1024x1280 : Shape := ⟨2, ![1024, 1280]⟩
abbrev S2048x256 : Shape := ⟨2, ![2048, 256]⟩
abbrev S1024x256 : Shape := ⟨2, ![1024, 256]⟩
abbrev S1x128 : Shape := ⟨2, ![1, 128]⟩

abbrev nBuf : Space → Nat
  | .hbm => 25
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .bf16⟩
  | .hbm, ⟨2, _⟩ => ⟨S2560, .f32⟩
  | .hbm, ⟨3, _⟩ => ⟨S8192x32, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S512, .f32⟩
  | .hbm, ⟨8, _⟩ => ⟨S2560, .f32⟩
  | .hbm, ⟨9, _⟩ => ⟨S_, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x128, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x128, .f32⟩
  | .hbm, ⟨19, _⟩ => ⟨S8192x32, .f32⟩
  | .hbm, ⟨20, _⟩ => ⟨S8192x32, .f32⟩
  | .hbm, ⟨21, _⟩ => ⟨S8192x128, .f32⟩
  | .hbm, ⟨22, _⟩ => ⟨S1x2560, .f32⟩
  | .hbm, ⟨23, _⟩ => ⟨S1x2560, .f32⟩
  | .hbm, ⟨24, _⟩ => ⟨S32768x2560, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1280, .bf16⟩
  | .local _ .vmem, ⟨15, _⟩ => ⟨S1024x1280, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S32768x2048 : Shape := ⟨2, ![32768, 2048]⟩
abbrev S2048x2560 : Shape := ⟨2, ![2048, 2560]⟩
abbrev S2560 : Shape := ⟨1, ![2560]⟩
abbrev S8192x32 : Shape := ⟨2, ![8192, 32]⟩
abbrev S32768x2560 : Shape := ⟨2, ![32768, 2560]⟩
abbrev S1x2560 : Shape := ⟨2, ![1, 2560]⟩
abbrev S32768x512 : Shape := ⟨2, ![32768, 512]⟩
abbrev S4x8192x32x64 : Shape := ⟨4, ![4, 8192, 32, 64]⟩
abbrev S4x8192x32x32 : Shape := ⟨4, ![4, 8192, 32, 32]⟩
abbrev S1x8192x1x32 : Shape := ⟨4, ![1, 8192, 1, 32]⟩
abbrev S_ : Shape := ⟨0, ![]⟩
abbrev S4x8192x8x64 : Shape := ⟨4, ![4, 8192, 8, 64]⟩
abbrev S4x8192x8x32 : Shape := ⟨4, ![4, 8192, 8, 32]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2560, .bf16⟩
  | .hbm, ⟨2, _⟩ => ⟨S2560, .f32⟩
  | .hbm, ⟨3, _⟩ => ⟨S8192x32, .f32⟩
  | .hbm, ⟨4, _⟩ => ⟨S32768x2048, .f32⟩
  | .hbm, ⟨5, _⟩ => ⟨S2048x2560, .f32⟩
  | .hbm, ⟨6, _⟩ => ⟨S32768x2560, .f32⟩
  | .hbm, ⟨7, _⟩ => ⟨S1x2560, .f32⟩
  | .hbm, ⟨8, _⟩ => ⟨S32768x2560, .f32⟩
  | .hbm, ⟨9, _⟩ => ⟨S32768x2560, .f32⟩
  | .hbm, ⟨10, _⟩ => ⟨S32768x2048, .f32⟩
  | .hbm, ⟨11, _⟩ => ⟨S32768x512, .f32⟩
  | .hbm, ⟨12, _⟩ => ⟨S4x8192x32x64, .f32⟩
  | .hbm, ⟨13, _⟩ => ⟨S4x8192x32x32, .f32⟩
  | .hbm, ⟨14, _⟩ => ⟨S4x8192x32x32, .f32⟩
  | .hbm, ⟨15, _⟩ => ⟨S8192x32, .f32⟩
  | .hbm, ⟨16, _⟩ => ⟨S1x8192x1x32, .f32⟩
  | .hbm, ⟨17, _⟩ => ⟨S8192x32, .f32⟩
  | .hbm, ⟨18, _⟩ => ⟨S1x8192x1x32, .f32⟩
  | .hbm, ⟨19, _⟩ => ⟨S4x8192x32x32, .f32⟩
  | .hbm, ⟨20, _⟩ => ⟨S4x8192x32x32, .f32⟩
  | .hbm, ⟨21, _⟩ => ⟨S4x8192x32x32, .f32⟩
  | .hbm, ⟨22, _⟩ => ⟨S4x8192x32x32, .f32⟩
  | .hbm, ⟨23, _⟩ => ⟨S4x8192x32x32, .f32⟩
  | .hbm, ⟨24, _⟩ => ⟨S4x8192x32x32, .f32⟩
  | .hbm, ⟨25, _⟩ => ⟨S4x8192x32x32, .f32⟩
  | .hbm, ⟨26, _⟩ => ⟨S4x8192x32x32, .f32⟩
  | .hbm, ⟨27, _⟩ => ⟨S4x8192x32x32, .f32⟩
  | .hbm, ⟨28, _⟩ => ⟨S4x8192x32x32, .f32⟩
  | .hbm, ⟨29, _⟩ => ⟨S4x8192x32x64, .f32⟩
  | .hbm, ⟨30, _⟩ => ⟨S_, .f32⟩
  | .hbm, ⟨31, _⟩ => ⟨S4x8192x32x64, .f32⟩
  | .hbm, ⟨32, _⟩ => ⟨S4x8192x32x64, .f32⟩
  | .hbm, ⟨33, _⟩ => ⟨S4x8192x8x64, .f32⟩
  | .hbm, ⟨34, _⟩ => ⟨S4x8192x8x32, .f32⟩
  | .hbm, ⟨35, _⟩ => ⟨S4x8192x8x32, .f32⟩
  | .hbm, ⟨36, _⟩ => ⟨S8192x32, .f32⟩
  | .hbm, ⟨37, _⟩ => ⟨S1x8192x1x32, .f32⟩
  | .hbm, ⟨38, _⟩ => ⟨S8192x32, .f32⟩
  | .hbm, ⟨39, _⟩ => ⟨S1x8192x1x32, .f32⟩
  | .hbm, ⟨40, _⟩ => ⟨S4x8192x8x32, .f32⟩
  | .hbm, ⟨41, _⟩ => ⟨S4x8192x8x32, .f32⟩
  | .hbm, ⟨42, _⟩ => ⟨S4x8192x8x32, .f32⟩
  | .hbm, ⟨43, _⟩ => ⟨S4x8192x8x32, .f32⟩
  | .hbm, ⟨44, _⟩ => ⟨S4x8192x8x32, .f32⟩
  | .hbm, ⟨45, _⟩ => ⟨S4x8192x8x32, .f32⟩
  | .hbm, ⟨46, _⟩ => ⟨S4x8192x8x32, .f32⟩
  | .hbm, ⟨47, _⟩ => ⟨S4x8192x8x32, .f32⟩
  | .hbm, ⟨48, _⟩ => ⟨S4x8192x8x32, .f32⟩
  | .hbm, ⟨49, _⟩ => ⟨S4x8192x8x32, .f32⟩
  | .hbm, ⟨50, _⟩ => ⟨S4x8192x8x64, .f32⟩
  | .hbm, ⟨51, _⟩ => ⟨S32768x2048, .f32⟩
  | .hbm, ⟨52, _⟩ => ⟨S32768x512, .f32⟩
  | .hbm, ⟨53, _⟩ => ⟨S32768x2560, .f32⟩
  | .hbm, ⟨54, _⟩ => ⟨S32768x2560, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩

abbrev nD : Nat := 1
abbrev τ : Topo := Topo.v7x

variable {F : FTy → Type} [FloatOps F]
-- ==== Kernel9.lean ====
abbrev S4x8192x2048 : Shape := ⟨3, ![4, 8192, 2048]⟩
abbrev S6x2048 : Shape := ⟨2, ![6, 2048]⟩
abbrev S2048x256 : Shape := ⟨2, ![2048, 256]⟩
abbrev S2048x128 : Shape := ⟨2, ![2048, 128]⟩
abbrev S4x8192x256 : Shape := ⟨3, ![4, 8192, 256]⟩
abbrev S4x8192x128 : Shape := ⟨3, ![4, 8192, 128]⟩
abbrev S1x256x2048 : Shape := ⟨3, ![1, 256, 2048]⟩
abbrev S1x8x2048 : Shape := ⟨3, ![1, 8, 2048]⟩
abbrev S1x256x256 : Shape := ⟨3, ![1, 256, 256]⟩
abbrev S1x256x128 : Shape := ⟨3, ![1, 256, 128]⟩
abbrev S256x2048 : Shape := ⟨2, ![256, 2048]⟩
abbrev S1x1x2048 : Shape := ⟨3, ![1, 1, 2048]⟩
abbrev S1x2048 : Shape := ⟨2, ![1, 2048]⟩
abbrev S256x256 : Shape := ⟨2, ![256, 256]⟩
abbrev S256x128 : Shape := ⟨2, ![256, 128]⟩

abbrev nBuf : Space → Nat
  | .hbm => 13
  | .vmem => 25
  | .smem => 0
  | _ => 0

abbrev bufTy : (tb : Table) → Fin (tcTables nBuf tb) → BufTy
  | .hbm, ⟨0, _⟩ => ⟨S4x8192x2048, .f32⟩
  | .hbm, ⟨1, _⟩ => ⟨S6x2048, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x128, .bf16⟩
  | .hbm, ⟨6, _⟩ => ⟨S4x8192x2048, .bf16⟩
  | .hbm, ⟨7, _⟩ => ⟨S4x8192x2048, .bf16⟩
  | .hbm, ⟨8, _⟩ => ⟨S4x8192x2048, .bf16⟩
  | .hbm, ⟨9, _⟩ => ⟨S4x8192x256, .bf16⟩
  | .hbm, ⟨10, _⟩ => ⟨S4x8192x256, .bf16⟩
  | .hbm, ⟨11, _⟩ => ⟨S4x8192x256, .bf16⟩
  | .hbm, ⟨12, _⟩ => ⟨S4x8192x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S6x2048, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x128, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x128, .bf16⟩
  | .local _ .vmem, ⟨24, _⟩ => ⟨S1x256x128, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference9Ideal.lean ====
abbrev S4x8192x2048 : Shape := ⟨3, ![4, 8192, 2048]⟩
abbrev S6x2048 : Shape := ⟨2, ![6, 2048]⟩
abbrev S2048x256 : Shape := ⟨2, ![2048, 256]⟩
abbrev S2048x128 : Shape := ⟨2, ![2048, 128]⟩
abbrev S4x1x2048 : Shape := ⟨3, ![4, 1, 2048]⟩
abbrev S_ : Shape := ⟨0, ![]⟩
abbrev S4x8191x2048 : Shape := ⟨3, ![4, 8191, 2048]⟩
abbrev S1x2048 : Shape := ⟨2, ![1, 2048]⟩
abbrev S2048 : Shape := ⟨1, ![2048]⟩
abbrev S1x1x2048 : Shape := ⟨3, ![1, 1, 2048]⟩
abbrev S4x8192x256 : Shape := ⟨3, ![4, 8192, 256]⟩
abbrev S4x8192x128 : Shape := ⟨3, ![4, 8192, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S6x2048, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x128, .bf16⟩
  | .hbm, ⟨6, _⟩ => ⟨S4x1x2048, .f32⟩
  | .hbm, ⟨7, _⟩ => ⟨S_, .f32⟩
  | .hbm, ⟨8, _⟩ => ⟨S4x1x2048, .f32⟩
  | .hbm, ⟨9, _⟩ => ⟨S4x8191x2048, .f32⟩
  | .hbm, ⟨10, _⟩ => ⟨S4x8192x2048, .f32⟩
  | .hbm, ⟨11, _⟩ => ⟨S4x8191x2048, .f32⟩
  | .hbm, ⟨12, _⟩ => ⟨S4x8192x2048, .f32⟩
  | .hbm, ⟨13, _⟩ => ⟨S4x8192x2048, .f32⟩
  | .hbm, ⟨14, _⟩ => ⟨S_, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S4x8192x2048, .f32⟩
  | .hbm, ⟨28, _⟩ => ⟨S4x8192x2048, .f32⟩
  | .hbm, ⟨29, _⟩ => ⟨S4x8192x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S1x2048, .f32⟩
  | .hbm, ⟨37, _⟩ => ⟨S2048, .f32⟩
  | .hbm, ⟨38, _⟩ => ⟨S1x1x2048, .f32⟩
  | .hbm, ⟨39, _⟩ => ⟨S4x8192x2048, .f32⟩
  | .hbm, ⟨40, _⟩ => ⟨S4x8192x2048, .f32⟩
  | .hbm, ⟨41, _⟩ => ⟨S4x8192x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S1x2048, .f32⟩
  | .hbm, ⟨49, _⟩ => ⟨S2048, .f32⟩
  | .hbm, ⟨50, _⟩ => ⟨S1x1x2048, .f32⟩
  | .hbm, ⟨51, _⟩ => ⟨S4x8192x2048, .f32⟩
  | .hbm, ⟨52, _⟩ => ⟨S4x8192x2048, .f32⟩
  | .hbm, ⟨53, _⟩ => ⟨S4x8192x2048, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x128, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192x256, .f32⟩
  | .hbm, ⟨69, _⟩ => ⟨S4x8192x256, .f32⟩
  | .hbm, ⟨70, _⟩ => ⟨S4x8192x128, .f32⟩
  | .hbm, ⟨71, _⟩ => ⟨S4x8192x2048, .bf16⟩
  | .hbm, ⟨72, _⟩ => ⟨S4x8192x2048, .bf16⟩
  | .hbm, ⟨73, _⟩ => ⟨S4x8192x2048, .bf16⟩
  | .hbm, ⟨74, _⟩ => ⟨S4x8192x256, .bf16⟩
  | .hbm, ⟨75, _⟩ => ⟨S4x8192x256, .bf16⟩
  | .hbm, ⟨76, _⟩ => ⟨S4x8192x256, .bf16⟩
  | .hbm, ⟨77, _⟩ => ⟨S4x8192x128, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_1 : Ref sig .tc := ⟨.hbm, 64, rfl⟩
abbrev main_v56 : Ref sig .tc := ⟨.hbm, 65, rfl⟩
abbrev main_v57 : Ref sig .tc := ⟨.hbm, 66, rfl⟩
abbrev main_cst_2 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩

abbrev nD : Nat := 1
abbrev τ : Topo := Topo.v7x

variable {F : FTy → Type} [FloatOps F]
-- ==== Kernel10.lean ====
abbrev S4x8192x2048 : Shape := ⟨3, ![4, 8192, 2048]⟩
abbrev S6x2048 : Shape := ⟨2, ![6, 2048]⟩
abbrev S2048x256 : Shape := ⟨2, ![2048, 256]⟩
abbrev S4x8192x256 : Shape := ⟨3, ![4, 8192, 256]⟩
abbrev S1x256x2048 : Shape := ⟨3, ![1, 256, 2048]⟩
abbrev S1x8x2048 : Shape := ⟨3, ![1, 8, 2048]⟩
abbrev S1x256x256 : Shape := ⟨3, ![1, 256, 256]⟩
abbrev S256x2048 : Shape := ⟨2, ![256, 2048]⟩
abbrev S1x1x2048 : Shape := ⟨3, ![1, 1, 2048]⟩
abbrev S1x2048 : Shape := ⟨2, ![1, 2048]⟩
abbrev S256x256 : Shape := ⟨2, ![256, 256]⟩

abbrev nBuf : Space → Nat
  | .hbm => 11
  | .vmem => 22
  | .smem => 0
  | _ => 0

abbrev bufTy : (tb : Table) → Fin (tcTables nBuf tb) → BufTy
  | .hbm, ⟨0, _⟩ => ⟨S4x8192x2048, .f32⟩
  | .hbm, ⟨1, _⟩ => ⟨S6x2048, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S4x8192x2048, .bf16⟩
  | .hbm, ⟨6, _⟩ => ⟨S4x8192x2048, .bf16⟩
  | .hbm, ⟨7, _⟩ => ⟨S4x8192x2048, .bf16⟩
  | .hbm, ⟨8, _⟩ => ⟨S4x8192x256, .bf16⟩
  | .hbm, ⟨9, _⟩ => ⟨S4x8192x256, .bf16⟩
  | .hbm, ⟨10, _⟩ => ⟨S4x8192x256, .bf16⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S6x2048, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference10Ideal.lean ====
abbrev S4x8192x2048 : Shape := ⟨3, ![4, 8192, 2048]⟩
abbrev S6x2048 : Shape := ⟨2, ![6, 2048]⟩
abbrev S2048x256 : Shape := ⟨2, ![2048, 256]⟩
abbrev S4x1x2048 : Shape := ⟨3, ![4, 1, 2048]⟩
abbrev S_ : Shape := ⟨0, ![]⟩
abbrev S4x8191x2048 : Shape := ⟨3, ![4, 8191, 2048]⟩
abbrev S1x2048 : Shape := ⟨2, ![1, 2048]⟩
abbrev S2048 : Shape := ⟨1, ![2048]⟩
abbrev S1x1x2048 : Shape := ⟨3, ![1, 1, 2048]⟩
abbrev S4x8192x256 : Shape := ⟨3, ![4, 8192, 256]⟩

abbrev nBuf : Space → Nat
  | .hbm => 74
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S6x2048, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S4x1x2048, .f32⟩
  | .hbm, ⟨6, _⟩ => ⟨S_, .f32⟩
  | .hbm, ⟨7, _⟩ => ⟨S4x1x2048, .f32⟩
  | .hbm, ⟨8, _⟩ => ⟨S4x8191x2048, .f32⟩
  | .hbm, ⟨9, _⟩ => ⟨S4x8192x2048, .f32⟩
  | .hbm, ⟨10, _⟩ => ⟨S4x8191x2048, .f32⟩
  | .hbm, ⟨11, _⟩ => ⟨S4x8192x2048, .f32⟩
  | .hbm, ⟨12, _⟩ => ⟨S4x8192x2048, .f32⟩
  | .hbm, ⟨13, _⟩ => ⟨S_, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S1x2048, .f32⟩
  | .hbm, ⟨42, _⟩ => ⟨S2048, .f32⟩
  | .hbm, ⟨43, _⟩ => ⟨S1x1x2048, .f32⟩
  | .hbm, ⟨44, _⟩ => ⟨S4x8192x2048, .f32⟩
  | .hbm, ⟨45, _⟩ => ⟨S4x8192x2048, .f32⟩
  | .hbm, ⟨46, _⟩ => ⟨S4x8192x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S4x8192x2048, .f32⟩
  | .hbm, ⟨51, _⟩ => ⟨S4x8192x2048, .f32⟩
  | .hbm, ⟨52, _⟩ => ⟨S4x8192x2048, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S4x8192x256, .f32⟩
  | .hbm, ⟨57, _⟩ => ⟨S4x8192x256, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192x256, .f32⟩
  | .hbm, ⟨64, _⟩ => ⟨S4x8192x256, .f32⟩
  | .hbm, ⟨65, _⟩ => ⟨S_, .f32⟩
  | .hbm, ⟨66, _⟩ => ⟨S4x8192x256, .f32⟩
  | .hbm, ⟨67, _⟩ => ⟨S4x8192x256, .f32⟩
  | .hbm, ⟨68, _⟩ => ⟨S4x8192x2048, .bf16⟩
  | .hbm, ⟨69, _⟩ => ⟨S4x8192x2048, .bf16⟩
  | .hbm, ⟨70, _⟩ => ⟨S4x8192x2048, .bf16⟩
  | .hbm, ⟨71, _⟩ => ⟨S4x8192x256, .bf16⟩
  | .hbm, ⟨72, _⟩ => ⟨S4x8192x256, .bf16⟩
  | .hbm, ⟨73, _⟩ => ⟨S4x8192x256, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_1 : Ref sig .tc := ⟨.hbm, 62, rfl⟩
abbrev main_v55 : Ref sig .tc := ⟨.hbm, 63, rfl⟩
abbrev main_v56 : Ref sig .tc := ⟨.hbm, 64, rfl⟩
abbrev main_cst_2 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩

abbrev nD : Nat := 1
abbrev τ : Topo := Topo.v7x

variable {F : FTy → Type} [FloatOps F]
-- ==== Kernel11.lean ====
abbrev S32768x128 : Shape := ⟨2, ![32768, 128]⟩
abbrev S128x2048 : Shape := ⟨2, ![128, 2048]⟩
abbrev S2048 : Shape := ⟨1, ![2048]⟩
abbrev S32768x2048 : Shape := ⟨2, ![32768, 2048]⟩
abbrev S1x2048 : Shape := ⟨2, ![1, 2048]⟩
abbrev S512x128 : Shape := ⟨2, ![512, 128]⟩
abbrev S128x1024 : Shape := ⟨2, ![128, 1024]⟩
abbrev S1x1024 : Shape := ⟨2, ![1, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S32768x128, .bf16⟩
  | .hbm, ⟨1, _⟩ => ⟨S128x2048, .bf16⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S1x2048, .f32⟩
  | .hbm, ⟨6, _⟩ => ⟨S32768x2048, .f32⟩
  | .local _ .vmem, ⟨0, _⟩ => ⟨S512x128, .bf16⟩
  | .local _ .vmem, ⟨1, _⟩ => ⟨S512x128, .bf16⟩
  | .local _ .vmem, ⟨2, _⟩ => ⟨S128x1024, .bf16⟩
  | .local _ .vmem, ⟨3, _⟩ => ⟨S128x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S32768x128 : Shape := ⟨2, ![32768, 128]⟩
abbrev S128x2048 : Shape := ⟨2, ![128, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32768x128, .bf16⟩
  | .hbm, ⟨1, _⟩ => ⟨S128x2048, .bf16⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S32768x2048, .f32⟩
  | .hbm, ⟨6, _⟩ => ⟨S32768x128, .f32⟩
  | .hbm, ⟨7, _⟩ => ⟨S128x2048, .f32⟩
  | .hbm, ⟨8, _⟩ => ⟨S32768x2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | _, _ => ⟨S32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel12.lean ====
abbrev S32768x2560 : Shape := ⟨2, ![32768, 2560]⟩
abbrev S32768x512 : Shape := ⟨2, ![32768, 512]⟩
abbrev S32 : Shape := ⟨1, ![32]⟩
abbrev S32x1 : Shape := ⟨2, ![32, 1]⟩
abbrev S32x128 : Shape := ⟨2, ![32, 128]⟩
abbrev S32768x2048 : Shape := ⟨2, ![32768, 2048]⟩
abbrev S256x512 : Shape := ⟨2, ![256, 512]⟩
abbrev S128x128 : Shape := ⟨2, ![128, 128]⟩
abbrev S256x128 : Shape := ⟨2, ![256, 128]⟩
abbrev S8x128 : Shape := ⟨2, ![8, 128]⟩
abbrev S512x128 : Shape := ⟨2, ![512, 128]⟩
abbrev S512x256 : Shape := ⟨2, ![512, 256]⟩
abbrev S512x64 : Shape := ⟨2, ![512, 64]⟩
abbrev S1x128 : Shape := ⟨2, ![1, 128]⟩
abbrev S256 : Shape := ⟨1, ![256]⟩
abbrev S256x1 : Shape := ⟨2, ![256, 1]⟩
abbrev S256x256 : Shape := ⟨2, ![256, 256]⟩

abbrev nBuf : Space → Nat
  | .hbm => 6
  | .vmem => 18
  | .smem => 0
  | _ => 0

abbrev bufTy : (tb : Table) → Fin (tcTables nBuf tb) → BufTy
  | .hbm, ⟨0, _⟩ => ⟨S32768x2560, .bf16⟩
  | .hbm, ⟨1, _⟩ => ⟨S32768x512, .bf16⟩
  | .hbm, ⟨2, _⟩ => ⟨S32, .f32⟩
  | .hbm, ⟨3, _⟩ => ⟨S32x1, .f32⟩
  | .hbm, ⟨4, _⟩ => ⟨S32x128, .f32⟩
  | .hbm, ⟨5, _⟩ => ⟨S32768x2048, .bf16⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S256x128, .bf16⟩
  | .local _ .vmem, ⟨5, _⟩ => ⟨S256x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x128, .bf16⟩
  | .local _ .vmem, ⟨11, _⟩ => ⟨S256x128, .bf16⟩
  | .local _ .vmem, ⟨12, _⟩ => ⟨S128x128, .bf16⟩
  | .local _ .vmem, ⟨13, _⟩ => ⟨S128x128, .bf16⟩
  | .local _ .vmem, ⟨14, _⟩ => ⟨S8x128, .f32⟩
  | .local _ .vmem, ⟨15, _⟩ => ⟨S8x128, .f32⟩
  | .local _ .vmem, ⟨16, _⟩ => ⟨S256x512, .bf16⟩
  | .local _ .vmem, ⟨17, _⟩ => ⟨S256x512, .bf16⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c2_i32 : BitVec 32 := 2#32
  let v1 : BitVec 32 := Scalar.muli arg2 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg1
  let c0_i32_0 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c2_i32 : BitVec 32 := 2#32
  let v2 : BitVec 32 := Scalar.muli v1 c2_i32
  let c63_i32 : BitVec 32 := 63#32
  let v3 : BitVec 32 := Scalar.minsi v2 c63_i32
  let v4 : BitVec 32 := Scalar.addi v0 v3
  let c16_i32 : BitVec 32 := 16#32
  let v5 : BitVec 32 := Scalar.addi c16_i32 arg1
  let c0_i32 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c2_i32 : BitVec 32 := 2#32
  let v1 : BitVec 32 := Scalar.muli arg2 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let v5 : BitVec 32 := Scalar.addi c0_i32_0 arg1
  let c0_i32_1 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c2_i32 : BitVec 32 := 2#32
  let v2 : BitVec 32 := Scalar.muli v1 c2_i32
  let c63_i32 : BitVec 32 := 63#32
  let v3 : BitVec 32 := Scalar.minsi v2 c63_i32
  let v4 : BitVec 32 := Scalar.addi v0 v3
  let c0_i32 : BitVec 32 := 0#32
  let v5 : BitVec 32 := Scalar.addi c0_i32 arg1
  let c0_i32_0 : BitVec 32 := 0#32
  ![v4.toNat, v5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel12Ideal.lean ====
variable {F : FTy → Type} [FloatOps F] [Named F]
def κ : String → Option EReal := fun
  | "log2_e" => some (((Real.log 2)⁻¹ : ℝ) : EReal)
  | _ => none
-- ==== Reference12Ideal.lean ====
abbrev S32768x2560 : Shape := ⟨2, ![32768, 2560]⟩
abbrev S32768x512 : Shape := ⟨2, ![32768, 512]⟩
abbrev S32 : Shape := ⟨1, ![32]⟩
abbrev S32768x2048 : Shape := ⟨2, ![32768, 2048]⟩
abbrev S4x8192x8x4x64 : Shape := ⟨5, ![4, 8192, 8, 4, 64]⟩
abbrev S4x8192x8x64 : Shape := ⟨4, ![4, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x8192x8192x4 : Shape := ⟨5, ![4, 8, 8192, 8192, 4]⟩
abbrev S4x8x4x8192x8192 : Shape := ⟨5, ![4, 8, 4, 8192, 8192]⟩
abbrev S8x4 : Shape := ⟨2, ![8, 4]⟩
abbrev S1x8x4x1x1 : Shape := ⟨5, ![1, 8, 4, 1, 1]⟩
abbrev S4x8x4x8192 : Shape := ⟨4, ![4, 8, 4, 8192]⟩
abbrev S4x8x4x8192x1 : Shape := ⟨5, ![4, 8, 4, 8192, 1]⟩
abbrev S4x8x64x4x8192 : Shape := ⟨5, ![4, 8, 64, 4, 8192]⟩

abbrev nBuf : Space → Nat
  | .hbm => 54
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S32768x512, .bf16⟩
  | .hbm, ⟨2, _⟩ => ⟨S32, .f32⟩
  | .hbm, ⟨3, _⟩ => ⟨S32768x2560, .f32⟩
  | .hbm, ⟨4, _⟩ => ⟨S32768x2048, .f32⟩
  | .hbm, ⟨5, _⟩ => ⟨S4x8192x8x4x64, .f32⟩
  | .hbm, ⟨6, _⟩ => ⟨S32768x512, .f32⟩
  | .hbm, ⟨7, _⟩ => ⟨S4x8192x8x64, .f32⟩
  | .hbm, ⟨8, _⟩ => ⟨S32768x512, .f32⟩
  | .hbm, ⟨9, _⟩ => ⟨S4x8192x8x64, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i1⟩
  | .hbm, ⟨20, _⟩ => ⟨S4x8x8192x8192x4, .f32⟩
  | .hbm, ⟨21, _⟩ => ⟨S4x8x4x8192x8192, .f32⟩
  | .hbm, ⟨22, _⟩ => ⟨S_, .f32⟩
  | .hbm, ⟨23, _⟩ => ⟨S_, .f32⟩
  | .hbm, ⟨24, _⟩ => ⟨S4x8x4x8192x8192, .f32⟩
  | .hbm, ⟨25, _⟩ => ⟨S4x8x4x8192x8192, .f32⟩
  | .hbm, ⟨26, _⟩ => ⟨S_, .f32⟩
  | .hbm, ⟨27, _⟩ => ⟨S_, .f32⟩
  | .hbm, ⟨28, _⟩ => ⟨S4x8x4x8192x8192, .i1⟩
  | .hbm, ⟨29, _⟩ => ⟨S4x8x4x8192x8192, .f32⟩
  | .hbm, ⟨30, _⟩ => ⟨S4x8x4x8192x8192, .f32⟩
  | .hbm, ⟨31, _⟩ => ⟨S8x4, .f32⟩
  | .hbm, ⟨32, _⟩ => ⟨S1x8x4x1x1, .f32⟩
  | .hbm, ⟨33, _⟩ => ⟨S_, .f32⟩
  | .hbm, ⟨34, _⟩ => ⟨S4x8x4x8192, .f32⟩
  | .hbm, ⟨35, _⟩ => ⟨S4x8x4x8192x1, .f32⟩
  | .hbm, ⟨36, _⟩ => ⟨S4x8x4x8192x1, .f32⟩
  | .hbm, ⟨37, _⟩ => ⟨S4x8x4x8192x1, .f32⟩
  | .hbm, ⟨38, _⟩ => ⟨S4x8x4x8192x8192, .f32⟩
  | .hbm, ⟨39, _⟩ => ⟨S4x8x4x8192x8192, .f32⟩
  | .hbm, ⟨40, _⟩ => ⟨S4x8x4x8192x8192, .f32⟩
  | .hbm, ⟨41, _⟩ => ⟨S_, .f32⟩
  | .hbm, ⟨42, _⟩ => ⟨S4x8x4x8192, .f32⟩
  | .hbm, ⟨43, _⟩ => ⟨S4x8x4x8192x1, .f32⟩
  | .hbm, ⟨44, _⟩ => ⟨S4x8x4x8192x1, .f32⟩
  | .hbm, ⟨45, _⟩ => ⟨S4x8x4x8192x1, .f32⟩
  | .hbm, ⟨46, _⟩ => ⟨S4x8x4x8192x1, .f32⟩
  | .hbm, ⟨47, _⟩ => ⟨S4x8x4x8192x1, .f32⟩
  | .hbm, ⟨48, _⟩ => ⟨S4x8x4x8192x8192, .f32⟩
  | .hbm, ⟨49, _⟩ => ⟨S4x8x4x8192x8192, .f32⟩
  | .hbm, ⟨50, _⟩ => ⟨S4x8x64x4x8192, .f32⟩
  | .hbm, ⟨51, _⟩ => ⟨S4x8192x8x4x64, .f32⟩
  | .hbm, ⟨52, _⟩ => ⟨S32768x2048, .f32⟩
  | .hbm, ⟨53, _⟩ => ⟨S32768x2048, .bf16⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Cells.lean ====
/-
The functions that say what one grid point leaves in the two scratch buffers and in the output block, written with one pair of
functions per sub-block of 1024 keys: `newMax` (the running row maximum) and `newAcc` (the rescaled
numerator and denominator).
-/
module
public import proofs.«01_k».proof.Proof.Gen.KernelIdeal.Value

@[expose] public section

noncomputable section

namespace Cert.Flash

open Cert.KernelIdeal Cert.KernelIdeal.Gen Idealize.ShloMosaic Idealize.ShloMosaic.TcCoe Idealize.SL.Sem

variable {F : FTy → Type} [FloatOps F]

/-- The scores of 512 queries against 1024 keys. -/
def scores (Q : Vec F S512x128 .bf16) (K : Vec F S1024x128 .bf16) : FVec F S512x1024 .f32 :=
  matmul dot_S512x128_S1024x128_S512x1024_1_1_0_0_n_n none Q K (constant S512x1024 .f32 0x00000000#32)

/-- The running maximum after a sub-block, before it is stored. -/
def runMax (Q : Vec F S512x128 .bf16) (K : Vec F S1024x128 .bf16) (p : Vec F S512x128 .f32) : FVec F S512x128 .f32 :=
  maximumf p (broadcastTo S512x128 (shapeCast S512x1 (multiReduction .maximumf [1] S512 (scores Q K) 0xFF800000#32 reduces_S512x1024_S512 (.inl rfl) rfl) shapeCasts_S512_S512x1) broadcasts_S512x1_S512x128)

/-- The running maximum as stored. -/
def newMax (Q : Vec F S512x128 .bf16) (K : Vec F S1024x128 .bf16) (p : Vec F S512x128 .f32) : FVec F S512x128 .f32 :=
  shapeCast S512x128 (runMax Q K p) shapeCasts_S512x128_S512x128

/-- The values of a sub-block with 128 columns of ones beside them. -/
def valOnes (V : Vec F S1024x128 .bf16) : FVec F S1024x256 .bf16 :=
  concatenate S1024x256 1 [⟨S1024x128, V⟩, ⟨S1024x128, broadcast S1024x128 (Scalar.ofBits (F := F) .bf16 0x3F80#16)⟩] concatenates_S1024x128_S1024x128_S1024x256_d1

/-- The weights of a sub-block: two to the power of score minus maximum. -/
def weights (Q : Vec F S512x128 .bf16) (K : Vec F S1024x128 .bf16) (p : Vec F S512x128 .f32) : FVec F S512x1024 .f32 :=
  exp2 (subf (scores Q K) (concatenate S512x1024 1 [⟨S512x128, runMax Q K p⟩, ⟨S512x128, runMax Q K p⟩, ⟨S512x128, runMax Q K p⟩, ⟨S512x128, runMax Q K p⟩, ⟨S512x128, runMax Q K p⟩, ⟨S512x128, runMax Q K p⟩, ⟨S512x128, runMax Q K p⟩, ⟨S512x128, runMax Q K p⟩] concatenates_S512x128_S512x128_S512x128_S512x128_S512x128_S512x128_S512x128_S512x128_S512x1024_d1))

/-- The factor by which the earlier accumulator is rescaled. -/
def rescale (Q : Vec F S512x128 .bf16) (K : Vec F S1024x128 .bf16) (p : Vec F S512x128 .f32) : FVec F S512x256 .f32 :=
  concatenate S512x256 1 [⟨S512x128, exp2 (subf p (runMax Q K p))⟩, ⟨S512x128, exp2 (subf p (runMax Q K p))⟩] concatenates_S512x128_S512x128_S512x256_d1

/-- The accumulator after a sub-block, as stored. -/
def newAcc (Q : Vec F S512x128 .bf16) (K V : Vec F S1024x128 .bf16) (p : Vec F S512x128 .f32) (a : Vec F S512x256 .f32) : FVec F S512x256 .f32 :=
  shapeCast S512x256 (addf (mulf (rescale Q K p) a)
    (matmul dot_S512x1024_S1024x256_S512x256_1_0_0_1_n_n none (truncf .bf16 (weights Q K p) bitsLt_bf16_f32) (valOnes V) (constant S512x256 .f32 0x00000000#32))) shapeCasts_S512x256_S512x256

/-! The sixteen accumulator stores of a point are `newAcc`. -/

section Cells
variable (Q : Vec F S512x128 .bf16) (K V : Vec F S1024x128 .bf16) (p : Vec F S512x128 .f32) (a : Vec F S512x256 .f32)

theorem cell_0_0 : k0_pay27 (k0_pay11 V) (k0_pay12 Q K) p (k0_pay16 Q K p) a = newAcc Q K V p a := rfl
theorem cell_0_1 : k0_pay30 (k0_pay11 V) (k0_pay23 (k0_pay13 Q K) p (k0_pay17 Q K)) (k0_pay29 p (k0_pay17 Q K)) a = newAcc Q K V p a := rfl
theorem cell_0_2 : k0_pay32 (k0_pay11 V) (k0_pay21 (k0_pay14 Q K) p) (k0_pay24 (k0_pay14 Q K) p) a = newAcc Q K V p a := rfl
theorem cell_0_3 : k0_pay34 (k0_pay11 V) (k0_pay22 (k0_pay15 Q K) p) (k0_pay25 (k0_pay15 Q K) p) a = newAcc Q K V p a := rfl
theorem cell_1_0 : k0_pay54 (k0_pay35 k0_pay10 V) (k0_pay44 Q K p) (k0_pay48 Q K p) a = newAcc Q K V p a := rfl
theorem cell_1_1 : k0_pay56 (k0_pay35 k0_pay10 V) (k0_pay45 Q K p) (k0_pay49 Q K p) a = newAcc Q K V p a := rfl
theorem cell_1_2 : k0_pay59 (k0_pay58 (k0_pay35 k0_pay10 V) (k0_pay46 Q K p) (k0_pay50 Q K p) a) = newAcc Q K V p a := rfl
theorem cell_1_3 : k0_pay61 (k0_pay35 k0_pay10 V) (k0_pay47 Q K p) (k0_pay52 (k0_pay39 Q K) (k0_pay51 Q K p)) a = newAcc Q K V p a := rfl
theorem cell_2_0 : k0_pay79 (k0_pay62 k0_pay10 V) (k0_pay63 Q K) p (k0_pay67 Q K p) a = newAcc Q K V p a := rfl
theorem cell_2_1 : k0_pay81 (k0_pay62 k0_pay10 V) (k0_pay72 p (k0_pay68 Q K)) (k0_pay75 (k0_pay64 Q K) p (k0_pay68 Q K)) a = newAcc Q K V p a := rfl
theorem cell_2_2 : k0_pay83 (k0_pay62 k0_pay10 V) (k0_pay73 (k0_pay65 Q K) p) (k0_pay76 (k0_pay65 Q K) p) a = newAcc Q K V p a := rfl
theorem cell_2_3 : k0_pay85 (k0_pay62 k0_pay10 V) (k0_pay74 (k0_pay66 Q K) p) (k0_pay77 (k0_pay66 Q K) p) a = newAcc Q K V p a := rfl
theorem cell_3_0 : k0_pay104 (k0_pay86 k0_pay10 V) (k0_pay95 Q K p) (k0_pay99 Q K p) a = newAcc Q K V p a := rfl
theorem cell_3_1 : k0_pay106 (k0_pay86 k0_pay10 V) (k0_pay96 Q K p) (k0_pay100 Q K p) a = newAcc Q K V p a := rfl
theorem cell_3_2 : k0_pay1 (k0_pay108 (k0_pay97 Q K p) a) (k0_pay109 (k0_pay86 k0_pay10 V) (k0_pay101 Q K p)) = newAcc Q K V p a := rfl
theorem cell_3_3 : k0_pay3 (k0_pay86 k0_pay10 V) (k0_pay98 Q K p) (k0_pay102 (k0_pay90 Q K) (k0_pay94 Q K p)) a = newAcc Q K V p a := rfl

end Cells

end Cert.Flash

end
-- ==== Proof.Blocks.lean ====
/-
What one grid point leaves in the two scratch buffers and in the output block, as
lists of stores, one step per sub-block of 1024 keys.
-/
module
public import proofs.«01_k».proof.Proof.Cells

@[expose] public section

noncomputable section

namespace Cert.Flash

open Cert.KernelIdeal Cert.KernelIdeal.Gen Idealize.ShloMosaic Idealize.ShloMosaic.TcCoe Idealize.SL.Sem

variable {F : FTy → Type} [FloatOps F]

/-! The four groups of 512 rows of the two scratch buffers. -/

abbrev mR0 : Rect S2048x128 := Rect.unit ![0, 0] S512x128.size inb_S2048x128_S512x128_0_0
abbrev mR1 : Rect S2048x128 := Rect.unit ![512, 0] S512x128.size inb_S2048x128_S512x128_512_0
abbrev mR2 : Rect S2048x128 := Rect.unit ![1024, 0] S512x128.size inb_S2048x128_S512x128_1024_0
abbrev mR3 : Rect S2048x128 := Rect.unit ![1536, 0] S512x128.size inb_S2048x128_S512x128_1536_0
abbrev aR0 : Rect S2048x256 := Rect.unit ![0, 0] S512x256.size inb_S2048x256_S512x256_0_0
abbrev aR1 : Rect S2048x256 := Rect.unit ![512, 0] S512x256.size inb_S2048x256_S512x256_512_0
abbrev aR2 : Rect S2048x256 := Rect.unit ![1024, 0] S512x256.size inb_S2048x256_S512x256_1024_0
abbrev aR3 : Rect S2048x256 := Rect.unit ![1536, 0] S512x256.size inb_S2048x256_S512x256_1536_0

abbrev qR0 : Rect S512x512 := Rect.unit ![0, 0] S512x128.size inb_S512x512_S512x128_0_0
abbrev qR1 : Rect S512x512 := Rect.unit ![0, 128] S512x128.size inb_S512x512_S512x128_0_128
abbrev qR2 : Rect S512x512 := Rect.unit ![0, 256] S512x128.size inb_S512x512_S512x128_0_256
abbrev qR3 : Rect S512x512 := Rect.unit ![0, 384] S512x128.size inb_S512x512_S512x128_0_384
abbrev kR0 : Rect S4096x128 := Rect.unit ![0, 0] S1024x128.size inb_S4096x128_S1024x128_0_0
abbrev kR1 : Rect S4096x128 := Rect.unit ![1024, 0] S1024x128.size inb_S4096x128_S1024x128_1024_0
abbrev kR2 : Rect S4096x128 := Rect.unit ![2048, 0] S1024x128.size inb_S4096x128_S1024x128_2048_0
abbrev kR3 : Rect S4096x128 := Rect.unit ![3072, 0] S1024x128.size inb_S4096x128_S1024x128_3072_0

/-- The four queries of a sub-block's step, group by group, and what the step finds in the running maximum. -/
structure Four (α : Type) where
  x0 : α
  x1 : α
  x2 : α
  x3 : α

abbrev MP (F : FTy → Type) := List (View.Piece (Elt F) S2048x128 .f32)
abbrev AP (F : FTy → Type) := List (View.Piece (Elt F) S2048x256 .f32)

/-- A sub-block's stores of the running maximum. -/
def mStep (Q : Four (Vec F S512x128 .bf16)) (K : Vec F S1024x128 .bf16) (p : Four (Vec F S512x128 .f32)) (L : MP F) : MP F :=
  ⟨mR3, newMax Q.x3 K p.x3⟩ :: ⟨mR2, newMax Q.x2 K p.x2⟩ :: ⟨mR1, newMax Q.x1 K p.x1⟩ :: ⟨mR0, newMax Q.x0 K p.x0⟩ :: L

/-- A sub-block's stores of the accumulator. -/
def aStep (Q : Four (Vec F S512x128 .bf16)) (K V : Vec F S1024x128 .bf16) (p : Four (Vec F S512x128 .f32)) (a : Four (Vec F S512x256 .f32)) (L : AP F) : AP F :=
  ⟨aR3, newAcc Q.x3 K V p.x3 a.x3⟩ :: ⟨aR2, newAcc Q.x2 K V p.x2 a.x2⟩ :: ⟨aR1, newAcc Q.x1 K V p.x1 a.x1⟩ :: ⟨aR0, newAcc Q.x0 K V p.x0 a.x0⟩ :: L

/-- What the running maximum's four groups read after the stores `L`. -/
def mRead (arg8 : Memref sig .tc .vmem S2048x128 .f32) (L : MP F) : Four (Vec F S512x128 .f32) :=
  ⟨arg8.view.readCov L mR0.toLoadRect, arg8.view.readCov L mR1.toLoadRect, arg8.view.readCov L mR2.toLoadRect, arg8.view.readCov L mR3.toLoadRect⟩

/-- What the accumulator's four groups read in turn, each after the stores of the groups before it. -/
def aRead (arg9 : Memref sig .tc .vmem S2048x256 .f32) (Q : Four (Vec F S512x128 .bf16)) (K V : Vec F S1024x128 .bf16) (p : Four (Vec F S512x128 .f32)) (L : AP F) : Four (Vec F S512x256 .f32) :=
  let a0 := arg9.view.readCov L aR0.toLoadRect
  let L1 : AP F := ⟨aR0, newAcc Q.x0 K V p.x0 a0⟩ :: L
  let a1 := arg9.view.readCov L1 aR1.toLoadRect
  let L2 : AP F := ⟨aR1, newAcc Q.x1 K V p.x1 a1⟩ :: L1
  let a2 := arg9.view.readCov L2 aR2.toLoadRect
  let L3 : AP F := ⟨aR2, newAcc Q.x2 K V p.x2 a2⟩ :: L2
  ⟨a0, a1, a2, arg9.view.readCov L3 aR3.toLoadRect⟩

/-- The four query heads of a query block. -/
def qRead (arg4 : Memref sig .tc .vmem S512x512 .bf16) (harg4 : arg4.IsWhole) (x0 : Vec F S512x512 .bf16) : Four (Vec F S512x128 .bf16) :=
  ⟨View.readAt (Elt F) arg4.view qR0.toLoadRect (harg4.unread x0),
   View.readAt (Elt F) arg4.view qR1.toLoadRect (harg4.unread x0),
   View.readAt (Elt F) arg4.view qR2.toLoadRect (harg4.unread x0),
   View.readAt (Elt F) arg4.view qR3.toLoadRect (harg4.unread x0)⟩

/-- The four sub-blocks of a key or value block. -/
def kRead (arg5 : Memref sig .tc .vmem S4096x128 .bf16) (harg5 : arg5.IsWhole) (x1 : Vec F S4096x128 .bf16) : Four (Vec F S1024x128 .bf16) :=
  ⟨View.readAt (Elt F) arg5.view kR0.toLoadRect (harg5.unread x1),
   View.readAt (Elt F) arg5.view kR1.toLoadRect (harg5.unread x1),
   View.readAt (Elt F) arg5.view kR2.toLoadRect (harg5.unread x1),
   View.readAt (Elt F) arg5.view kR3.toLoadRect (harg5.unread x1)⟩

/-- What the running maximum's four groups hold at the point's start. -/
def mHeld (arg8 : Memref sig .tc .vmem S2048x128 .f32) (harg8 : arg8.IsWhole) (y : Vec F S2048x128 .f32) : Four (Vec F S512x128 .f32) :=
  ⟨View.readAt (Elt F) arg8.view mR0.toLoadRect (harg8.unread y), View.readAt (Elt F) arg8.view mR1.toLoadRect (harg8.unread y),
   View.readAt (Elt F) arg8.view mR2.toLoadRect (harg8.unread y), View.readAt (Elt F) arg8.view mR3.toLoadRect (harg8.unread y)⟩

/-- What the accumulator's four groups hold at the point's start. -/
def aHeld (arg9 : Memref sig .tc .vmem S2048x256 .f32) (harg9 : arg9.IsWhole) (y : Vec F S2048x256 .f32) : Four (Vec F S512x256 .f32) :=
  ⟨View.readAt (Elt F) arg9.view aR0.toLoadRect (harg9.unread y), View.readAt (Elt F) arg9.view aR1.toLoadRect (harg9.unread y),
   View.readAt (Elt F) arg9.view aR2.toLoadRect (harg9.unread y), View.readAt (Elt F) arg9.view aR3.toLoadRect (harg9.unread y)⟩

/-- A later sub-block's step of the running maximum. -/
def mNext (arg8 : Memref sig .tc .vmem S2048x128 .f32) (Q : Four (Vec F S512x128 .bf16)) (K : Vec F S1024x128 .bf16) (L : MP F) : MP F :=
  mStep Q K (mRead arg8 L) L

/-- A later sub-block's step of the accumulator, over the maximum's stores before the sub-block. -/
def aNext (arg8 : Memref sig .tc .vmem S2048x128 .f32) (arg9 : Memref sig .tc .vmem S2048x256 .f32) (Q : Four (Vec F S512x128 .bf16)) (K V : Vec F S1024x128 .bf16) (Lm : MP F) (L : AP F) : AP F :=
  aStep Q K V (mRead arg8 Lm) (aRead arg9 Q K V (mRead arg8 Lm) L) L

abbrev mFill : MP F := [⟨Rect.unit ![0, 0] S2048x128.size inb_S2048x128_S2048x128_0_0, shapeCast S2048x128 (broadcast S2048x128 (Scalar.ofBits (F := F) .f32 0xFF800000#32)) shapeCasts_S2048x128_S2048x128⟩]
abbrev aFill : AP F := [⟨Rect.unit ![0, 0] S2048x256.size inb_S2048x256_S2048x256_0_0, shapeCast S2048x256 (broadcast S2048x256 (Scalar.ofBits (F := F) .f32 0x00000000#32)) shapeCasts_S2048x256_S2048x256⟩]

section Run
variable (c : Dev nD) (i : grid0.Coords) (arg4 : Memref sig .tc .vmem S512x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S512x512 .bf16) (harg7 : arg7.IsWhole) (arg8 : Memref sig .tc .vmem S2048x128 .f32) (harg8 : arg8.IsWhole) (arg9 : Memref sig .tc .vmem S2048x256 .f32) (harg9 : arg9.IsWhole)
    (x0 : Vec F S512x512 .bf16) (x1 : Vec F S4096x128 .bf16) (x2 : Vec F S4096x128 .bf16)

/-- The four steps of a first point: the maximum. -/
def mA (arg8 : Memref sig .tc .vmem S2048x128 .f32) (Q : Four (Vec F S512x128 .bf16)) (K : Four (Vec F S1024x128 .bf16)) : MP F :=
  mNext arg8 Q K.x3 (mNext arg8 Q K.x2 (mNext arg8 Q K.x1 (mNext arg8 Q K.x0 mFill)))

/-- The four steps of a first point: the accumulator. -/
def aA (arg8 : Memref sig .tc .vmem S2048x128 .f32) (arg9 : Memref sig .tc .vmem S2048x256 .f32) (Q : Four (Vec F S512x128 .bf16)) (K V : Four (Vec F S1024x128 .bf16)) : AP F :=
  aNext arg8 arg9 Q K.x3 V.x3 (mNext arg8 Q K.x2 (mNext arg8 Q K.x1 (mNext arg8 Q K.x0 mFill)))
    (aNext arg8 arg9 Q K.x2 V.x2 (mNext arg8 Q K.x1 (mNext arg8 Q K.x0 mFill))
      (aNext arg8 arg9 Q K.x1 V.x1 (mNext arg8 Q K.x0 mFill)
        (aNext arg8 arg9 Q K.x0 V.x0 mFill aFill)))

set_option maxRecDepth 100000 in
theorem mA_0 :
    (kernelRun0_A.sl.HS0_1 (F := F)) = mFill := rfl

set_option maxRecDepth 100000 in
theorem aA_0 :
    (kernelRun0_A.sl.HS1_1 (F := F)) = aFill := rfl

set_option maxRecDepth 100000 in
theorem mA_1 :
    (kernelRun0_A.sl.HS0_5 c arg4 harg4 arg5 harg5 arg8 x0 x1) = mNext arg8 (qRead arg4 harg4 x0) (kRead arg5 harg5 x1).x0 (kernelRun0_A.sl.HS0_1 ) := rfl

theorem aA_1 :
    (kernelRun0_A.sl.HS1_5 c arg4 harg4 arg5 harg5 arg6 harg6 arg8 arg9 x0 x1 x2) = aNext arg8 arg9 (qRead arg4 harg4 x0) (kRead arg5 harg5 x1).x0 (kRead arg6 harg6 x2).x0 (kernelRun0_A.sl.HS0_1 ) (kernelRun0_A.sl.HS1_1 ) := by
  simp only [kernelRun0_A.sl.HS1_5, kernelRun0_A.sl.HS1_4, kernelRun0_A.sl.HS1_3, kernelRun0_A.sl.HS1_2, kernelRun0_A.sl.v59, kernelRun0_A.sl.v71, kernelRun0_A.sl.v83, kernelRun0_A.sl.v95, kernelRun0_A.sl.v15, kernelRun0_A.sl.v16, kernelRun0_A.sl.v17, kernelRun0_A.sl.v18, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, cell_0_0, cell_0_1, cell_0_2, cell_0_3]
  rfl

set_option maxRecDepth 100000 in
theorem mA_2 :
    (kernelRun0_A.sl.HS0_9 c arg4 harg4 arg5 harg5 arg8 x0 x1) = mNext arg8 (qRead arg4 harg4 x0) (kRead arg5 harg5 x1).x1 (kernelRun0_A.sl.HS0_5 c arg4 harg4 arg5 harg5 arg8 x0 x1) := rfl

theorem aA_2 :
    (kernelRun0_A.sl.HS1_9 c arg4 harg4 arg5 harg5 arg6 harg6 arg8 arg9 x0 x1 x2) = aNext arg8 arg9 (qRead arg4 harg4 x0) (kRead arg5 harg5 x1).x1 (kRead arg6 harg6 x2).x1 (kernelRun0_A.sl.HS0_5 c arg4 harg4 arg5 harg5 arg8 x0 x1) (kernelRun0_A.sl.HS1_5 c arg4 harg4 arg5 harg5 arg6 harg6 arg8 arg9 x0 x1 x2) := by
  simp only [kernelRun0_A.sl.HS1_9, kernelRun0_A.sl.HS1_8, kernelRun0_A.sl.HS1_7, kernelRun0_A.sl.HS1_6, kernelRun0_A.sl.v154, kernelRun0_A.sl.v166, kernelRun0_A.sl.v178, kernelRun0_A.sl.v190, kernelRun0_A.sl.v110, kernelRun0_A.sl.v111, kernelRun0_A.sl.v112, kernelRun0_A.sl.v113, kernelRun0_A.sl.r, kernelRun0_A.sl.r_1, kernelRun0_A.sl.r_2, kernelRun0_A.sl.r_3, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, cell_1_0, cell_1_1, cell_1_2, cell_1_3]
  rfl

set_option maxRecDepth 100000 in
theorem mA_3 :
    (kernelRun0_A.sl.HS0_13 c arg4 harg4 arg5 harg5 arg8 x0 x1) = mNext arg8 (qRead arg4 harg4 x0) (kRead arg5 harg5 x1).x2 (kernelRun0_A.sl.HS0_9 c arg4 harg4 arg5 harg5 arg8 x0 x1) := rfl

theorem aA_3 :
    (kernelRun0_A.sl.HS1_13 c arg4 harg4 arg5 harg5 arg6 harg6 arg8 arg9 x0 x1 x2) = aNext arg8 arg9 (qRead arg4 harg4 x0) (kRead arg5 harg5 x1).x2 (kRead arg6 harg6 x2).x2 (kernelRun0_A.sl.HS0_9 c arg4 harg4 arg5 harg5 arg8 x0 x1) (kernelRun0_A.sl.HS1_9 c arg4 harg4 arg5 harg5 arg6 harg6 arg8 arg9 x0 x1 x2) := by
  simp only [kernelRun0_A.sl.HS1_13, kernelRun0_A.sl.HS1_12, kernelRun0_A.sl.HS1_11, kernelRun0_A.sl.HS1_10, kernelRun0_A.sl.v249, kernelRun0_A.sl.v261, kernelRun0_A.sl.v273, kernelRun0_A.sl.v285, kernelRun0_A.sl.v205, kernelRun0_A.sl.v206, kernelRun0_A.sl.v207, kernelRun0_A.sl.v208, kernelRun0_A.sl.r, kernelRun0_A.sl.r_1, kernelRun0_A.sl.r_2, kernelRun0_A.sl.r_3, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, cell_2_0, cell_2_1, cell_2_2, cell_2_3]
  rfl

set_option maxRecDepth 100000 in
theorem mB_0 (y0 : Vec F S2048x128 .f32) :
    (kernelRun0_B.sl.HS0_4 c arg4 harg4 arg5 harg5 arg8 harg8 x0 x1 y0) = mStep (qRead arg4 harg4 x0) (kRead arg5 harg5 x1).x0 (mHeld arg8 harg8 y0) [] := rfl

set_option maxRecDepth 100000 in
theorem aB_0 (y0 : Vec F S2048x128 .f32) (y1 : Vec F S2048x256 .f32) :
    (kernelRun0_B.sl.HS1_4 c arg4 harg4 arg5 harg5 arg6 harg6 arg8 harg8 arg9 harg9 x0 x1 x2 y0 y1) = aStep (qRead arg4 harg4 x0) (kRead arg5 harg5 x1).x0 (kRead arg6 harg6 x2).x0 (mHeld arg8 harg8 y0) (aHeld arg9 harg9 y1) [] := rfl

set_option maxRecDepth 100000 in
theorem mB_1 (y0 : Vec F S2048x128 .f32) :
    (kernelRun0_B.sl.HS0_8 c arg4 harg4 arg5 harg5 arg8 harg8 x0 x1 y0) = mNext arg8 (qRead arg4 harg4 x0) (kRead arg5 harg5 x1).x1 (kernelRun0_B.sl.HS0_4 c arg4 harg4 arg5 harg5 arg8 harg8 x0 x1 y0) := rfl

theorem aB_1 (y0 : Vec F S2048x128 .f32) (y1 : Vec F S2048x256 .f32) :
    (kernelRun0_B.sl.HS1_8 c arg4 harg4 arg5 harg5 arg6 harg6 arg8 harg8 arg9 harg9 x0 x1 x2 y0 y1) = aNext arg8 arg9 (qRead arg4 harg4 x0) (kRead arg5 harg5 x1).x1 (kRead arg6 harg6 x2).x1 (kernelRun0_B.sl.HS0_4 c arg4 harg4 arg5 harg5 arg8 harg8 x0 x1 y0) (kernelRun0_B.sl.HS1_4 c arg4 harg4 arg5 harg5 arg6 harg6 arg8 harg8 arg9 harg9 x0 x1 x2 y0 y1) := by
  simp only [kernelRun0_B.sl.HS1_8, kernelRun0_B.sl.HS1_7, kernelRun0_B.sl.HS1_6, kernelRun0_B.sl.HS1_5, kernelRun0_B.sl.v154, kernelRun0_B.sl.v166, kernelRun0_B.sl.v178, kernelRun0_B.sl.v190, kernelRun0_B.sl.v110, kernelRun0_B.sl.v111, kernelRun0_B.sl.v112, kernelRun0_B.sl.v113, kernelRun0_B.sl.r, kernelRun0_B.sl.r_1, kernelRun0_B.sl.r_2, kernelRun0_B.sl.r_3, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, cell_1_0, cell_1_1, cell_1_2, cell_1_3]
  rfl

set_option maxRecDepth 100000 in
theorem mB_2 (y0 : Vec F S2048x128 .f32) :
    (kernelRun0_B.sl.HS0_12 c arg4 harg4 arg5 harg5 arg8 harg8 x0 x1 y0) = mNext arg8 (qRead arg4 harg4 x0) (kRead arg5 harg5 x1).x2 (kernelRun0_B.sl.HS0_8 c arg4 harg4 arg5 harg5 arg8 harg8 x0 x1 y0) := rfl

theorem aB_2 (y0 : Vec F S2048x128 .f32) (y1 : Vec F S2048x256 .f32) :
    (kernelRun0_B.sl.HS1_12 c arg4 harg4 arg5 harg5 arg6 harg6 arg8 harg8 arg9 harg9 x0 x1 x2 y0 y1) = aNext arg8 arg9 (qRead arg4 harg4 x0) (kRead arg5 harg5 x1).x2 (kRead arg6 harg6 x2).x2 (kernelRun0_B.sl.HS0_8 c arg4 harg4 arg5 harg5 arg8 harg8 x0 x1 y0) (kernelRun0_B.sl.HS1_8 c arg4 harg4 arg5 harg5 arg6 harg6 arg8 harg8 arg9 harg9 x0 x1 x2 y0 y1) := by
  simp only [kernelRun0_B.sl.HS1_12, kernelRun0_B.sl.HS1_11, kernelRun0_B.sl.HS1_10, kernelRun0_B.sl.HS1_9, kernelRun0_B.sl.v249, kernelRun0_B.sl.v261, kernelRun0_B.sl.v273, kernelRun0_B.sl.v285, kernelRun0_B.sl.v205, kernelRun0_B.sl.v206, kernelRun0_B.sl.v207, kernelRun0_B.sl.v208, kernelRun0_B.sl.r, kernelRun0_B.sl.r_1, kernelRun0_B.sl.r_2, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, cell_2_0, cell_2_1, cell_2_2, cell_2_3]
  rfl

theorem aB_3 (y0 : Vec F S2048x128 .f32) (y1 : Vec F S2048x256 .f32) :
    (kernelRun0_B.sl.HS1_16 c arg4 harg4 arg5 harg5 arg6 harg6 arg8 harg8 arg9 harg9 x0 x1 x2 y0 y1) = aNext arg8 arg9 (qRead arg4 harg4 x0) (kRead arg5 harg5 x1).x3 (kRead arg6 harg6 x2).x3 (kernelRun0_B.sl.HS0_12 c arg4 harg4 arg5 harg5 arg8 harg8 x0 x1 y0) (kernelRun0_B.sl.HS1_12 c arg4 harg4 arg5 harg5 arg6 harg6 arg8 harg8 arg9 harg9 x0 x1 x2 y0 y1) := by
  simp only [kernelRun0_B.sl.HS1_16, kernelRun0_B.sl.HS1_15, kernelRun0_B.sl.HS1_14, kernelRun0_B.sl.HS1_13, kernelRun0_B.sl.v344, kernelRun0_B.sl.v356, kernelRun0_B.sl.v368, kernelRun0_B.sl.v380, kernelRun0_B.sl.v300, kernelRun0_B.sl.v301, kernelRun0_B.sl.v302, kernelRun0_B.sl.v303, kernelRun0_B.sl.r, kernelRun0_B.sl.r_1, kernelRun0_B.sl.r_2, kernelRun0_B.sl.r_3, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, cell_3_0, cell_3_1, cell_3_2, cell_3_3]
  rfl

set_option maxRecDepth 100000 in
theorem runA_max (hc0 : cond0_0 i) (hc1 : ¬cond0_1 i) :
    (kernelRun0_A c i arg4 harg4 arg5 harg5 arg6 harg6 arg7 harg7 arg8 harg8 arg9 harg9 hc0 hc1 x0 x1 x2).2.1 = mA arg8 (qRead arg4 harg4 x0) (kRead arg5 harg5 x1) := by
  rw [mA, ← mA_0, ← mA_1 c, ← mA_2, ← mA_3]
  unfold kernelRun0_A
  rfl

set_option maxRecDepth 100000 in
theorem runA_acc (hc0 : cond0_0 i) (hc1 : ¬cond0_1 i) :
    (kernelRun0_A c i arg4 harg4 arg5 harg5 arg6 harg6 arg7 harg7 arg8 harg8 arg9 harg9 hc0 hc1 x0 x1 x2).2.2.1 = aA arg8 arg9 (qRead arg4 harg4 x0) (kRead arg5 harg5 x1) (kRead arg6 harg6 x2) := by
  rw [aA, ← mA_0, ← aA_0, ← mA_1 c, ← mA_2, ← mA_3, ← aA_1, ← aA_2, ← aA_3]
  unfold kernelRun0_A
  simp only [kernelRun0_A.sl.HS1_16, kernelRun0_A.sl.HS1_15, kernelRun0_A.sl.HS1_14, kernelRun0_A.sl.v344, kernelRun0_A.sl.v356, kernelRun0_A.sl.v368, kernelRun0_A.sl.v380, kernelRun0_A.sl.v300, kernelRun0_A.sl.v301, kernelRun0_A.sl.v302, kernelRun0_A.sl.v303, kernelRun0_A.sl.r, kernelRun0_A.sl.r_1, kernelRun0_A.sl.r_2, kernelRun0_A.sl.r_3, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, cell_3_0, cell_3_1, cell_3_2, cell_3_3]
  rfl

/-- The four steps of a second point: the maximum. -/
def mB (arg8 : Memref sig .tc .vmem S2048x128 .f32) (Q : Four (Vec F S512x128 .bf16)) (K : Four (Vec F S1024x128 .bf16)) (p : Four (Vec F S512x128 .f32)) : MP F :=
  mNext arg8 Q K.x3 (mNext arg8 Q K.x2 (mNext arg8 Q K.x1 (mStep Q K.x0 p [])))

/-- The four steps of a second point: the accumulator. -/
def aB (arg8 : Memref sig .tc .vmem S2048x128 .f32) (arg9 : Memref sig .tc .vmem S2048x256 .f32) (Q : Four (Vec F S512x128 .bf16)) (K V : Four (Vec F S1024x128 .bf16)) (p : Four (Vec F S512x128 .f32)) (a : Four (Vec F S512x256 .f32)) : AP F :=
  aNext arg8 arg9 Q K.x3 V.x3 (mNext arg8 Q K.x2 (mNext arg8 Q K.x1 (mStep Q K.x0 p [])))
    (aNext arg8 arg9 Q K.x2 V.x2 (mNext arg8 Q K.x1 (mStep Q K.x0 p []))
      (aNext arg8 arg9 Q K.x1 V.x1 (mStep Q K.x0 p [])
        (aStep Q K.x0 V.x0 p a [])))

/-- One head's output from its accumulator: numerator times the reciprocal of the denominator. -/
def headOut (a : Vec F S512x256 .f32) : FVec F S512x128 .bf16 :=
  truncf .bf16 (mulf (extractStridedSlice S512x128 ![0, 0] a slices_S512x256_o0_0_S512x128)
    (divf (broadcast S512x128 (Scalar.ofBits .f32 0x3F800000#32)) (extractStridedSlice S512x128 ![0, 128] a slices_S512x256_o0_128_S512x128))) bitsLt_bf16_f32

/-- The output block's four stores. -/
def outs (arg9 : Memref sig .tc .vmem S2048x256 .f32) (L : AP F) : List (View.Piece (Elt F) S512x512 .bf16) :=
  [⟨qR3, headOut (arg9.view.readCov L aR3.toLoadRect)⟩,
   ⟨qR2, headOut (arg9.view.readCov L aR2.toLoadRect)⟩,
   ⟨qR1, headOut (arg9.view.readCov L aR1.toLoadRect)⟩,
   ⟨qR0, headOut (arg9.view.readCov L aR0.toLoadRect)⟩]

set_option maxRecDepth 100000 in
theorem runB_out (hc0 : ¬cond0_0 i) (hc1 : cond0_1 i) (y0 : Vec F S2048x128 .f32) (y1 : Vec F S2048x256 .f32) :
    (kernelRun0_B c i arg4 harg4 arg5 harg5 arg6 harg6 arg7 harg7 arg8 harg8 arg9 harg9 hc0 hc1 x0 x1 x2 y0 y1).1
      = outs arg9 (aB arg8 arg9 (qRead arg4 harg4 x0) (kRead arg5 harg5 x1) (kRead arg6 harg6 x2) (mHeld arg8 harg8 y0) (aHeld arg9 harg9 y1)) := by
  rw [aB, ← mB_0 c, ← aB_0 c, ← mB_1, ← mB_2, ← aB_1, ← aB_2, ← aB_3]
  unfold kernelRun0_B
  rfl

end Run

end Cert.Flash

end
-- ==== Proof.Online.lean ====
/-
The online softmax over the extended reals: the running maximum and the rescaled sums, taken over more and
more keys, and the quotient they end in.
-/
module
public import Idealize.ShloMosaic.PureOps.Ideal.Laws

@[expose] public section

noncomputable section

namespace Cert.Online

open Idealize.ShloMosaic

/-- A nonnegative real factor goes into a sum of extended reals, whatever the terms are. -/
theorem coe_mul_sum {ι : Type} (S : Finset ι) (c : ℝ) (hc : 0 ≤ c) (f : ι → EReal) :
    (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top c), ih]

/-- A finite sum of reals, as an extended real. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The largest of the first `n` scores, `⊥` when there is none. -/
def top (s : ℕ → ℝ) (n : ℕ) : EReal := (Finset.range n).sup fun k => (s k : EReal)

/-- The sum over the first `n` keys of two to the power of score minus the largest score, times the weight. -/
def acc (s : ℕ → ℝ) (w : ℕ → EReal) (n : ℕ) : EReal := ∑ k ∈ Finset.range n, Ideal.exp2 ((s k : EReal) - top s n) * w k

theorem top_zero (s : ℕ → ℝ) : top s 0 = ⊥ := rfl
theorem acc_zero (s : ℕ → ℝ) (w : ℕ → EReal) : acc s w 0 = 0 := rfl

/-- The largest score of at least one is a real. -/
theorem exists_top (s : ℕ → ℝ) {n : ℕ} (hn : 0 < n) : ∃ k < n, top s n = (s k : EReal) := by
  obtain ⟨k, hk, h⟩ := Finset.exists_mem_eq_sup (Finset.range n) ⟨0, Finset.mem_range.mpr hn⟩ (fun k => (s k : EReal))
  exact ⟨k, Finset.mem_range.mp hk, h⟩

/-- More keys: the larger of the maximum before and the new scores' maximum. -/
theorem top_add (s : ℕ → ℝ) (n t : ℕ) :
    top s (n + t) = max (top s n) ((Finset.univ : Finset (Fin t)).fold max ⊥ fun i => (s (n + i.val) : EReal)) := by
  have h : (Finset.univ : Finset (Fin t)).fold max ⊥ (fun i => (s (n + i.val) : EReal)) = (Finset.univ : Finset (Fin t)).sup fun i => (s (n + i.val) : EReal) := rfl
  rw [h]
  apply le_antisymm
  · refine Finset.sup_le fun k hk => ?_
    rw [Finset.mem_range] at hk
    by_cases hkn : k < n
    · exact le_max_of_le_left (Finset.le_sup (f := fun k => (s k : EReal)) (Finset.mem_range.mpr hkn))
    · refine le_max_of_le_right ?_
      have := Finset.le_sup (f := fun i : Fin t => (s (n + i.val) : EReal)) (Finset.mem_univ ⟨k - n, by omega⟩)
      simpa [show n + (k - n) = k by omega] using this
  · refine max_le (Finset.sup_le fun k hk => ?_) (Finset.sup_le fun i _ => ?_)
    · exact Finset.le_sup (f := fun k => (s k : EReal)) (Finset.mem_range.mpr (by have := Finset.mem_range.mp hk; omega))
    · exact Finset.le_sup (f := fun k => (s k : EReal)) (Finset.mem_range.mpr (by have := i.isLt; omega))

theorem exp2_sub (a b : ℝ) : Ideal.exp2 ((a : EReal) - (b : EReal)) = ((Real.rpow 2 (a - b) : ℝ) : EReal) := by
  rw [← EReal.coe_sub]; rfl

/-- More keys: the sum before is rescaled, the new keys' terms are added. -/
theorem acc_add (s : ℕ → ℝ) (w : ℕ → EReal) (n t : ℕ) (ht : 0 < t) :
    Ideal.exp2 (top s n - top s (n + t)) * acc s w n + ∑ i : Fin t, Ideal.exp2 ((s (n + i.val) : EReal) - top s (n + t)) * w (n + i.val)
      = acc s w (n + t) := by
  obtain ⟨b, -, hb⟩ := exists_top s (show 0 < n + t by omega)
  unfold acc
  rw [Finset.sum_range_add]
  rw [Finset.sum_range (n := t)]
  congr 1
  rcases Nat.eq_zero_or_pos n with rfl | hn
  · simp
  obtain ⟨a, -, ha⟩ := exists_top s hn
  rw [ha, hb, exp2_sub, coe_mul_sum _ (Real.rpow 2 (s a - s b)) (Real.rpow_nonneg (by norm_num) _)]
  refine Finset.sum_congr rfl fun k _ => ?_
  rw [exp2_sub, exp2_sub, ← mul_assoc, ← EReal.coe_mul]
  congr 2
  show (2 : ℝ) ^ (s a - s b) * (2 : ℝ) ^ (s k - s a) = (2 : ℝ) ^ (s k - s b)
  rw [← Real.rpow_add (by norm_num)]
  congr 1; ring

theorem exp_sub_log_two (x r : ℝ) :
    Ideal.exp ((x : EReal) * (Real.log 2 : EReal) - (r : EReal) * (Real.log 2 : EReal)) = ((Real.rpow 2 (x - r) : ℝ) : EReal) := by
  rw [← EReal.coe_mul, ← EReal.coe_mul, ← EReal.coe_sub, Ideal.exp_coe]
  congr 1
  show _ = (2 : ℝ) ^ (x - r)
  rw [Real.rpow_def_of_pos (by norm_num)]
  congr 1; ring

/-- The largest of the scores times the logarithm of two, as a fold over all keys. -/
theorem fold_mul_log_two (s : ℕ → ℝ) {n : ℕ} (r : ℝ) (h : top s n = (r : EReal)) (hn : 0 < n) :
    (Finset.univ : Finset (Fin n)).fold max ⊥ (fun i => (s i.val : EReal) * (Real.log 2 : EReal)) = (r : EReal) * (Real.log 2 : EReal) := by
  have hl : 0 ≤ Real.log 2 := Real.log_nonneg (by norm_num)
  show ((Finset.univ : Finset (Fin n)).sup fun i => (s i.val : EReal) * (Real.log 2 : EReal)) = _
  apply le_antisymm
  · refine Finset.sup_le fun i _ => ?_
    have h1 : (s i.val : EReal) ≤ (r : EReal) := h ▸ Finset.le_sup (f := fun k => (s k : EReal)) (Finset.mem_range.mpr i.isLt)
    rw [← EReal.coe_mul, ← EReal.coe_mul, EReal.coe_le_coe_iff]
    exact mul_le_mul_of_nonneg_right (EReal.coe_le_coe_iff.mp h1) hl
  · obtain ⟨k, hk, e⟩ := exists_top s hn
    rw [← h, e]
    exact Finset.le_sup (f := fun i : Fin n => (s i.val : EReal) * (Real.log 2 : EReal)) (Finset.mem_univ ⟨k, hk⟩)

/-- Numerator times the reciprocal of the denominator is the softmax of the scores times the logarithm of two,
    applied to the weights. -/
theorem quotient (s : ℕ → ℝ) (w : ℕ → EReal) {n : ℕ} (hn : 0 < n) (M : EReal)
    (hM : M = (Finset.univ : Finset (Fin n)).fold max ⊥ (fun i => (s i.val : EReal) * (Real.log 2 : EReal))) :
    acc s w n * Ideal.div 1 (acc s (fun _ => 1) n)
      = ∑ i : Fin n, Ideal.div (Ideal.exp ((s i.val : EReal) * (Real.log 2 : EReal) - M))
          (∑ j : Fin n, Ideal.exp ((s j.val : EReal) * (Real.log 2 : EReal) - M)) * w i.val := by
  obtain ⟨k, -, hr⟩ := exists_top s hn
  rw [fold_mul_log_two s _ hr hn] at hM
  have hz : (0 : ℝ) < ∑ i : Fin n, (2 : ℝ) ^ (s i.val - s k) := by
    haveI : Nonempty (Fin n) := ⟨⟨0, hn⟩⟩
    exact Finset.sum_pos (fun i _ => Real.rpow_pos_of_pos (by norm_num) _) Finset.univ_nonempty
  have hden : acc s (fun _ => 1) n = ((∑ i : Fin n, (2 : ℝ) ^ (s i.val - s k) : ℝ) : EReal) := by
    unfold acc
    rw [hr, Finset.sum_range, coe_sum]
    exact Finset.sum_congr rfl fun i _ => by rw [exp2_sub, mul_one]; rfl
  have hden' : (∑ j : Fin n, Ideal.exp ((s j.val : EReal) * (Real.log 2 : EReal) - M)) = ((∑ i : Fin n, (2 : ℝ) ^ (s i.val - s k) : ℝ) : EReal) := by
    rw [hM, coe_sum]
    exact Finset.sum_congr rfl fun i _ => by rw [exp_sub_log_two]; rfl
  rw [hden, hden', Ideal.div_coe hz.ne', one_mul, mul_comm]
  unfold acc
  rw [hr, coe_mul_sum _ _ (by positivity), Finset.sum_range]
  refine Finset.sum_congr rfl fun i _ => ?_
  rw [Ideal.div_coe hz.ne', hM, exp_sub_log_two, exp2_sub, ← mul_assoc]
  congr 1
  exact mul_comm _ _

end Cert.Online

end
-- ==== Proof.CellValue.lean ====
/-
The functions of a sub-block's step read at an index, over the extended reals.
-/
module
public import proofs.«01_k».proof.Proof.Cells
public import proofs.«01_k».proof.Proof.Online
public import Idealize.ShloMosaic.Lib.ValueIdx
public import Idealize.ShloMosaic.Lib.Pipeline.Value

@[expose] public section

noncomputable section

namespace Cert.Flash

open Cert.KernelIdeal Cert.KernelIdeal.Gen Idealize.ShloMosaic Idealize.ShloMosaic.ValueIdx Cert.Online

abbrev dQK := dot_S512x128_S1024x128_S512x1024_1_1_0_0_n_n
abbrev dPV := dot_S512x1024_S1024x256_S512x256_1_0_0_1_n_n

theorem qk_lhs (i : S512x1024.Idx) (k : Fin 128) : dQK.lhsIdx i ((contrEquiv1 dQK 128 rfl rfl).symm k) = (ix2 (i 0) (k) : S512x128.Idx) := by
  have hk := contrEquiv1_symm_val dQK 128 rfl rfl k
  funext b; apply Fin.ext
  match b with
  | ⟨0, _⟩ =>
    show (dQK.lhsIdx i _ 0).val = (i 0).val
    unfold DotDims.lhsIdx
    rw [dif_neg (show (0 : Fin S512x128.rank) ∉ dQK.lhsBatch by decide), dif_pos (show (0 : Fin S512x128.rank) ∈ dQK.lhsNonContracting by decide)]
    rfl
  | ⟨1, _⟩ =>
    exact (dQK.lhsIdx_val_of_single rfl i _).trans hk

theorem qk_rhs (i : S512x1024.Idx) (k : Fin 128) : dQK.rhsIdx i ((contrEquiv1 dQK 128 rfl rfl).symm k) = (ix2 (i 1) (k) : S1024x128.Idx) := by
  have hk := contrEquiv1_symm_val dQK 128 rfl rfl k
  funext b; apply Fin.ext
  match b with
  | ⟨0, _⟩ =>
    show (dQK.rhsIdx i _ 0).val = (i 1).val
    unfold DotDims.rhsIdx
    rw [dif_neg (show (0 : Fin S1024x128.rank) ∉ dQK.rhsBatch by decide), dif_pos (show (0 : Fin S1024x128.rank) ∈ dQK.rhsNonContracting by decide)]
    rfl
  | ⟨1, _⟩ =>
    exact (dQK.rhsIdx_val_of_single rfl i _).trans hk

theorem pv_lhs (i : S512x256.Idx) (k : Fin 1024) : dPV.lhsIdx i ((contrEquiv1 dPV 1024 rfl rfl).symm k) = (ix2 (i 0) (k) : S512x1024.Idx) := by
  have hk := contrEquiv1_symm_val dPV 1024 rfl rfl k
  funext b; apply Fin.ext
  match b with
  | ⟨0, _⟩ =>
    show (dPV.lhsIdx i _ 0).val = (i 0).val
    unfold DotDims.lhsIdx
    rw [dif_neg (show (0 : Fin S512x1024.rank) ∉ dPV.lhsBatch by decide), dif_pos (show (0 : Fin S512x1024.rank) ∈ dPV.lhsNonContracting by decide)]
    rfl
  | ⟨1, _⟩ =>
    exact (dPV.lhsIdx_val_of_single rfl i _).trans hk

theorem pv_rhs (i : S512x256.Idx) (k : Fin 1024) : dPV.rhsIdx i ((contrEquiv1 dPV 1024 rfl rfl).symm k) = (ix2 (k) (i 1) : S1024x256.Idx) := by
  have hk := contrEquiv1_symm_val dPV 1024 rfl rfl k
  funext b; apply Fin.ext
  match b with
  | ⟨0, _⟩ =>
    exact (dPV.rhsIdx_val_of_single rfl i _).trans hk
  | ⟨1, _⟩ =>
    show (dPV.rhsIdx i _ 1).val = (i 1).val
    unfold DotDims.rhsIdx
    rw [dif_neg (show (1 : Fin S1024x256.rank) ∉ dPV.rhsBatch by decide), dif_pos (show (1 : Fin S1024x256.rank) ∈ dPV.rhsNonContracting by decide)]
    rfl

variable (Q : Vec Ideal S512x128 .bf16) (K V : Vec Ideal S1024x128 .bf16) (p : Vec Ideal S512x128 .f32) (a : Vec Ideal S512x256 .f32)

theorem scores_apply (r : Fin 512) (s : Fin 1024) :
    scores (F := Ideal) Q K (ix2 r s) = ∑ d : Fin 128, Q (ix2 r d) * K (ix2 s d) := by
  unfold scores
  simp only [matmul]
  rw [Ideal.matmul_constant_zero_apply, ← Equiv.sum_comp (contrEquiv1 dQK 128 rfl rfl).symm]
  refine Finset.sum_congr rfl fun k _ => ?_
  rw [qk_lhs, qk_rhs]

theorem runMax_apply (r : Fin 512) (l : Fin 128) :
    runMax (F := Ideal) Q K p (ix2 r l) = max (p (ix2 r l)) ((Finset.univ : Finset (Fin 1024)).fold max ⊥ fun s => scores (F := Ideal) Q K (ix2 r s)) := by
  unfold runMax
  generalize scores (F := Ideal) Q K = S
  rw [maximumf_apply]
  refine congrArg (max _) ?_
  rw [broadcastTo_apply _ _ (ix2 r l) (ix2 r (0 : Fin 1)) (fun b => by match b with | ⟨0, _⟩ => rfl | ⟨1, _⟩ => rfl)]
  rw [shapeCast_apply _ _ (ix2 r (0 : Fin 1)) (ix1 r) (by rw [Shape.rowMajor_val_two, Shape.rowMajor_val_one]; simp)]
  refine (Ideal.multiReduction_maximumf_single S _ reduces_S512x1024_S512 (.inl rfl) rfl (ix1 r)).trans ?_
  have hb : (FloatOps.ofBits (F := Ideal) .f32 0xFF800000#32 : EReal) = ⊥ := by simp [FloatOps.ofBits, Ideal.ofBits, Ideal.ieee]
  refine congrArg₂ (fun b f => (Finset.univ : Finset (Fin 1024)).fold max b f) hb (funext fun s => congrArg S (funext fun b => ?_))
  match b with
  | ⟨0, _⟩ => rfl
  | ⟨1, _⟩ => rfl

theorem newMax_apply (r : Fin 512) (l : Fin 128) :
    newMax (F := Ideal) Q K p (ix2 r l) = runMax (F := Ideal) Q K p (ix2 r l) := by
  unfold newMax; rw [shapeCast_self]

theorem valOnes_left (s : Fin 1024) (d : Fin 128) : valOnes (F := Ideal) V (ix2 s ⟨d.val, by omega⟩) = V (ix2 s d) := by
  unfold valOnes
  exact concatenate_pair_apply_left (t := S1024x256) (s₁ := S1024x128) (s₂ := S1024x128) 1 V _ concatenates_S1024x128_S1024x128_S1024x256_d1 (ix2 s ⟨d.val, by omega⟩) rfl (ix2 s d) (fun b => by match b with | ⟨0, _⟩ => rfl | ⟨1, _⟩ => rfl)

theorem valOnes_right (s : Fin 1024) (d : Fin 128) : valOnes (F := Ideal) V (ix2 s ⟨128 + d.val, by omega⟩) = (1 : EReal) := by
  unfold valOnes
  refine (concatenate_pair_apply_right (t := S1024x256) (s₁ := S1024x128) (s₂ := S1024x128) 1 V _ concatenates_S1024x128_S1024x128_S1024x256_d1 (ix2 s ⟨128 + d.val, by omega⟩) rfl rfl (ix2 s d) (fun b hb => by match b with | ⟨0, _⟩ => rfl | ⟨1, _⟩ => exact absurd rfl hb) (by show d.val + 128 = 128 + d.val; omega)).trans ?_
  show (FloatOps.ofBits (F := Ideal) .bf16 0x3F80#16 : EReal) = 1
  simp [FloatOps.ofBits, Ideal.ofBits, Ideal.ieee]
  rw [← EReal.coe_one, ← EReal.coe_mul]
  norm_num

theorem weights_apply (r : Fin 512) (s : Fin 1024) :
    weights (F := Ideal) Q K p (ix2 r s) = Ideal.exp2 (scores (F := Ideal) Q K (ix2 r s) - runMax (F := Ideal) Q K p (ix2 r ⟨s.val % 128, Nat.mod_lt _ (by decide)⟩)) := by
  unfold weights
  show Ideal.exp2 (_ - _) = _
  congr 2
  exact concatenate_replicate_apply (t := S512x1024) 1 8 (runMax (F := Ideal) Q K p) concatenates_S512x128_S512x128_S512x128_S512x128_S512x128_S512x128_S512x128_S512x128_S512x1024_d1 rfl (ix2 r s) (ix2 r ⟨s.val % 128, Nat.mod_lt _ (by decide)⟩) rfl
    (fun b hb => by match b with | ⟨0, _⟩ => rfl | ⟨1, _⟩ => exact absurd rfl hb)

theorem rescale_apply (r : Fin 512) (c : Fin 256) :
    rescale (F := Ideal) Q K p (ix2 r c) = Ideal.exp2 (p (ix2 r ⟨c.val % 128, Nat.mod_lt _ (by decide)⟩) - runMax (F := Ideal) Q K p (ix2 r ⟨c.val % 128, Nat.mod_lt _ (by decide)⟩)) := by
  unfold rescale
  exact concatenate_replicate_apply (t := S512x256) 1 2 (exp2 (subf p (runMax (F := Ideal) Q K p))) concatenates_S512x128_S512x128_S512x256_d1 rfl (ix2 r c) (ix2 r ⟨c.val % 128, Nat.mod_lt _ (by decide)⟩) rfl
    (fun b hb => by match b with | ⟨0, _⟩ => rfl | ⟨1, _⟩ => exact absurd rfl hb)

theorem newAcc_apply (r : Fin 512) (c : Fin 256) :
    newAcc (F := Ideal) Q K V p a (ix2 r c) = rescale (F := Ideal) Q K p (ix2 r c) * a (ix2 r c)
      + ∑ s : Fin 1024, weights (F := Ideal) Q K p (ix2 r s) * valOnes (F := Ideal) V (ix2 s c) := by
  unfold newAcc
  rw [shapeCast_self]
  refine congrArg (rescale (F := Ideal) Q K p (ix2 r c) * a (ix2 r c) + ·) ?_
  generalize weights (F := Ideal) Q K p = W
  generalize valOnes (F := Ideal) V = U
  simp only [matmul]
  rw [Ideal.matmul_constant_zero_apply, ← Equiv.sum_comp (contrEquiv1 dPV 1024 rfl rfl).symm]
  refine Finset.sum_congr rfl fun k _ => ?_
  rw [pv_lhs, pv_rhs]
  rfl

/-- One sub-block moves the running maximum of a row from the first `n` keys to the first `n + 1024`. -/
theorem newMax_step (sc : ℕ → ℝ) (n : ℕ) (r : Fin 512) (hp : ∀ l, p (ix2 r l) = top sc n)
    (hs : ∀ i : Fin 1024, scores (F := Ideal) Q K (ix2 r i) = (sc (n + i) : EReal)) (l : Fin 128) :
    newMax (F := Ideal) Q K p (ix2 r l) = top sc (n + 1024) := by
  rw [newMax_apply, runMax_apply, hp, top_add]
  simp only [hs]

/-- One sub-block moves an accumulator of a row from the first `n` keys to the first `n + 1024`. -/
theorem newAcc_step (sc : ℕ → ℝ) (w : ℕ → EReal) (n : ℕ) (r : Fin 512) (c : Fin 256) (hp : ∀ l, p (ix2 r l) = top sc n)
    (hs : ∀ i : Fin 1024, scores (F := Ideal) Q K (ix2 r i) = (sc (n + i) : EReal))
    (ha : a (ix2 r c) = acc sc w n) (hw : ∀ i : Fin 1024, valOnes (F := Ideal) V (ix2 i c) = w (n + i)) :
    newAcc (F := Ideal) Q K V p a (ix2 r c) = acc sc w (n + 1024) := by
  have hm : ∀ l, runMax (F := Ideal) Q K p (ix2 r l) = top sc (n + 1024) := fun l => by
    rw [← newMax_apply]; exact newMax_step Q K p sc n r hp hs l
  rw [newAcc_apply, rescale_apply, hm, hp, ha, ← acc_add sc w n 1024 (by decide)]
  refine congrArg (fun x : EReal => Ideal.exp2 (top sc n - top sc (n + 1024)) * acc sc w n + x) (Finset.sum_congr rfl fun i _ => ?_)
  rw [weights_apply, hm, hs, hw]

end Cert.Flash

end
-- ==== Proof.Steps.lean ====
/-
The stores of one grid point read at an index: after each sub-block the two scratch buffers hold the running
maximum and the running sums over 1024 more keys.
-/
module
public import proofs.«01_k».proof.Proof.Blocks
public import proofs.«01_k».proof.Proof.CellValue

@[expose] public section

noncomputable section

namespace Cert.Flash

open Cert.KernelIdeal Cert.KernelIdeal.Gen Idealize.ShloMosaic Idealize.ShloMosaic.TcCoe Idealize.SL.Sem Idealize.ShloMosaic.ValueIdx Cert.Online

namespace Four
variable {α : Type}
/-- The member with a given number. -/
def get (x : Four α) (g : Fin 4) : α := match g with
  | 0 => x.x0
  | 1 => x.x1
  | 2 => x.x2
  | 3 => x.x3
end Four

/-- Row `r` of group `g`. -/
abbrev row (g : Fin 4) (r : Fin 512) : Fin 2048 := ⟨512 * g.val + r.val, by omega⟩
/-- Column `d` of head `g`. -/
abbrev col (g : Fin 4) (d : Fin 128) : Fin 512 := ⟨128 * g.val + d.val, by omega⟩
/-- Key `s` of sub-block `j`. -/
abbrev key (j : Fin 4) (s : Fin 1024) : Fin 4096 := ⟨1024 * j.val + s.val, by omega⟩

section Read
variable (arg4 : Memref sig .tc .vmem S512x512 .bf16) (harg4 : arg4.IsWhole) (arg5 : Memref sig .tc .vmem S4096x128 .bf16) (harg5 : arg5.IsWhole) (arg8 : Memref sig .tc .vmem S2048x128 .f32) (harg8 : arg8.IsWhole) (arg9 : Memref sig .tc .vmem S2048x256 .f32) (harg9 : arg9.IsWhole)

theorem qRead_apply (x : Vec Ideal S512x512 .bf16) (g : Fin 4) (r : Fin 512) (c : Fin 128) :
    (qRead arg4 harg4 x).get g (ix2 r c) = x (ix2 r (col g c)) := by
  match g with
  | 0 =>
    show View.readAt (Elt Ideal) arg4.view qR0.toLoadRect (harg4.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))
  | 1 =>
    show View.readAt (Elt Ideal) arg4.view qR1.toLoadRect (harg4.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))
  | 2 =>
    show View.readAt (Elt Ideal) arg4.view qR2.toLoadRect (harg4.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))
  | 3 =>
    show View.readAt (Elt Ideal) arg4.view qR3.toLoadRect (harg4.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))

theorem kRead_apply (x : Vec Ideal S4096x128 .bf16) (g : Fin 4) (r : Fin 1024) (c : Fin 128) :
    (kRead arg5 harg5 x).get g (ix2 r c) = x (ix2 (key g r) c) := by
  match g with
  | 0 =>
    show View.readAt (Elt Ideal) arg5.view kR0.toLoadRect (harg5.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))
  | 1 =>
    show View.readAt (Elt Ideal) arg5.view kR1.toLoadRect (harg5.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))
  | 2 =>
    show View.readAt (Elt Ideal) arg5.view kR2.toLoadRect (harg5.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))
  | 3 =>
    show View.readAt (Elt Ideal) arg5.view kR3.toLoadRect (harg5.unread x) (ix2 r c) = _
    rw [View.readAt_eq_ld, Memref.IsWhole.read_unread]
    exact congrArg x (funext fun a => Fin.ext (by match a with
      | ⟨0, _⟩ => (show _ + 1 * r.val = _); simp
      | ⟨1, _⟩ => (show _ + 1 * c.val = _); simp))

theorem mHeld_apply (y : Vec Ideal S2048x128 .f32) (g : Fin 4) (r : Fin 512) (c : Fin 128) :
    (mHeld arg8 harg8 y).get g (ix2 r c) = y (ix2 (row g r) c) := by
  match g with
  | 0 =>
    show View.readAt (Elt Ideal) arg8.view mR0.toLoadRect (harg8.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))
  | 1 =>
    show View.readAt (Elt Ideal) arg8.view mR1.toLoadRect (harg8.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))
  | 2 =>
    show View.readAt (Elt Ideal) arg8.view mR2.toLoadRect (harg8.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))
  | 3 =>
    show View.readAt (Elt Ideal) arg8.view mR3.toLoadRect (harg8.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))

theorem aHeld_apply (y : Vec Ideal S2048x256 .f32) (g : Fin 4) (r : Fin 512) (c : Fin 256) :
    (aHeld arg9 harg9 y).get g (ix2 r c) = y (ix2 (row g r) c) := by
  match g with
  | 0 =>
    show View.readAt (Elt Ideal) arg9.view aR0.toLoadRect (harg9.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))
  | 1 =>
    show View.readAt (Elt Ideal) arg9.view aR1.toLoadRect (harg9.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))
  | 2 =>
    show View.readAt (Elt Ideal) arg9.view aR2.toLoadRect (harg9.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))
  | 3 =>
    show View.readAt (Elt Ideal) arg9.view aR3.toLoadRect (harg9.unread y) (ix2 r c) = _
    rw [View.readAt_eq_ld, Memref.IsWhole.read_unread]
    exact congrArg y (funext fun a => Fin.ext (by match a with
      | ⟨0, _⟩ => (show _ + 1 * r.val = _); simp
      | ⟨1, _⟩ => (show _ + 1 * c.val = _); simp))

theorem mR0_emb (r : Fin 512) (c : Fin 128) : mR0.emb (ix2 r c) = ix2 (row 0 r) c := funext fun a => Fin.ext (by match a with
  | ⟨0, _⟩ => (show _ + 1 * r.val = _); simp
  | ⟨1, _⟩ => (show _ + 1 * c.val = _); simp)
theorem mR1_emb (r : Fin 512) (c : Fin 128) : mR1.emb (ix2 r c) = ix2 (row 1 r) c := funext fun a => Fin.ext (by match a with
  | ⟨0, _⟩ => (show _ + 1 * r.val = _); simp
  | ⟨1, _⟩ => (show _ + 1 * c.val = _); simp)
theorem mR2_emb (r : Fin 512) (c : Fin 128) : mR2.emb (ix2 r c) = ix2 (row 2 r) c := funext fun a => Fin.ext (by match a with
  | ⟨0, _⟩ => (show _ + 1 * r.val = _); simp
  | ⟨1, _⟩ => (show _ + 1 * c.val = _); simp)
theorem mR3_emb (r : Fin 512) (c : Fin 128) : mR3.emb (ix2 r c) = ix2 (row 3 r) c := funext fun a => Fin.ext (by match a with
  | ⟨0, _⟩ => (show _ + 1 * r.val = _); simp
  | ⟨1, _⟩ => (show _ + 1 * c.val = _); simp)

theorem aR0_emb (r : Fin 512) (c : Fin 256) : aR0.emb (ix2 r c) = ix2 (row 0 r) c := funext fun a => Fin.ext (by match a with
  | ⟨0, _⟩ => (show _ + 1 * r.val = _); simp
  | ⟨1, _⟩ => (show _ + 1 * c.val = _); simp)
theorem aR1_emb (r : Fin 512) (c : Fin 256) : aR1.emb (ix2 r c) = ix2 (row 1 r) c := funext fun a => Fin.ext (by match a with
  | ⟨0, _⟩ => (show _ + 1 * r.val = _); simp
  | ⟨1, _⟩ => (show _ + 1 * c.val = _); simp)
theorem aR2_emb (r : Fin 512) (c : Fin 256) : aR2.emb (ix2 r c) = ix2 (row 2 r) c := funext fun a => Fin.ext (by match a with
  | ⟨0, _⟩ => (show _ + 1 * r.val = _); simp
  | ⟨1, _⟩ => (show _ + 1 * c.val = _); simp)
theorem aR3_emb (r : Fin 512) (c : Fin 256) : aR3.emb (ix2 r c) = ix2 (row 3 r) c := funext fun a => Fin.ext (by match a with
  | ⟨0, _⟩ => (show _ + 1 * r.val = _); simp
  | ⟨1, _⟩ => (show _ + 1 * c.val = _); simp)

theorem qR0_emb (r : Fin 512) (c : Fin 128) : qR0.emb (ix2 r c) = ix2 r (col 0 c) := funext fun a => Fin.ext (by match a with
  | ⟨0, _⟩ => (show _ + 1 * r.val = _); simp
  | ⟨1, _⟩ => (show _ + 1 * c.val = _); simp)
theorem qR1_emb (r : Fin 512) (c : Fin 128) : qR1.emb (ix2 r c) = ix2 r (col 1 c) := funext fun a => Fin.ext (by match a with
  | ⟨0, _⟩ => (show _ + 1 * r.val = _); simp
  | ⟨1, _⟩ => (show _ + 1 * c.val = _); simp)
theorem qR2_emb (r : Fin 512) (c : Fin 128) : qR2.emb (ix2 r c) = ix2 r (col 2 c) := funext fun a => Fin.ext (by match a with
  | ⟨0, _⟩ => (show _ + 1 * r.val = _); simp
  | ⟨1, _⟩ => (show _ + 1 * c.val = _); simp)
theorem qR3_emb (r : Fin 512) (c : Fin 128) : qR3.emb (ix2 r c) = ix2 r (col 3 c) := funext fun a => Fin.ext (by match a with
  | ⟨0, _⟩ => (show _ + 1 * r.val = _); simp
  | ⟨1, _⟩ => (show _ + 1 * c.val = _); simp)

theorem mR0_off (g : Fin 4) (hg : g ≠ 0) (r : Fin 512) (c : Fin 128) : (ix2 (row g r) c : _) ∉ mR0.set := by
  intro h
  have h1 := (Rect.mem_set_unit.mp h) 0
  have h2 : g.val ≠ 0 := fun e => hg (Fin.ext e)
  have h3 : 0 ≤ (row g r).val ∧ (row g r).val < 512 := h1
  simp only [] at h3
  omega
theorem mR1_off (g : Fin 4) (hg : g ≠ 1) (r : Fin 512) (c : Fin 128) : (ix2 (row g r) c : _) ∉ mR1.set := by
  intro h
  have h1 := (Rect.mem_set_unit.mp h) 0
  have h2 : g.val ≠ 1 := fun e => hg (Fin.ext e)
  have h3 : 512 ≤ (row g r).val ∧ (row g r).val < 1024 := h1
  simp only [] at h3
  omega
theorem mR2_off (g : Fin 4) (hg : g ≠ 2) (r : Fin 512) (c : Fin 128) : (ix2 (row g r) c : _) ∉ mR2.set := by
  intro h
  have h1 := (Rect.mem_set_unit.mp h) 0
  have h2 : g.val ≠ 2 := fun e => hg (Fin.ext e)
  have h3 : 1024 ≤ (row g r).val ∧ (row g r).val < 1536 := h1
  simp only [] at h3
  omega
theorem mR3_off (g : Fin 4) (hg : g ≠ 3) (r : Fin 512) (c : Fin 128) : (ix2 (row g r) c : _) ∉ mR3.set := by
  intro h
  have h1 := (Rect.mem_set_unit.mp h) 0
  have h2 : g.val ≠ 3 := fun e => hg (Fin.ext e)
  have h3 : 1536 ≤ (row g r).val ∧ (row g r).val < 2048 := h1
  simp only [] at h3
  omega

theorem aR0_off (g : Fin 4) (hg : g ≠ 0) (r : Fin 512) (c : Fin 256) : (ix2 (row g r) c : _) ∉ aR0.set := by
  intro h
  have h1 := (Rect.mem_set_unit.mp h) 0
  have h2 : g.val ≠ 0 := fun e => hg (Fin.ext e)
  have h3 : 0 ≤ (row g r).val ∧ (row g r).val < 512 := h1
  simp only [] at h3
  omega
theorem aR1_off (g : Fin 4) (hg : g ≠ 1) (r : Fin 512) (c : Fin 256) : (ix2 (row g r) c : _) ∉ aR1.set := by
  intro h
  have h1 := (Rect.mem_set_unit.mp h) 0
  have h2 : g.val ≠ 1 := fun e => hg (Fin.ext e)
  have h3 : 512 ≤ (row g r).val ∧ (row g r).val < 1024 := h1
  simp only [] at h3
  omega
theorem aR2_off (g : Fin 4) (hg : g ≠ 2) (r : Fin 512) (c : Fin 256) : (ix2 (row g r) c : _) ∉ aR2.set := by
  intro h
  have h1 := (Rect.mem_set_unit.mp h) 0
  have h2 : g.val ≠ 2 := fun e => hg (Fin.ext e)
  have h3 : 1024 ≤ (row g r).val ∧ (row g r).val < 1536 := h1
  simp only [] at h3
  omega
theorem aR3_off (g : Fin 4) (hg : g ≠ 3) (r : Fin 512) (c : Fin 256) : (ix2 (row g r) c : _) ∉ aR3.set := by
  intro h
  have h1 := (Rect.mem_set_unit.mp h) 0
  have h2 : g.val ≠ 3 := fun e => hg (Fin.ext e)
  have h3 : 1536 ≤ (row g r).val ∧ (row g r).val < 2048 := h1
  simp only [] at h3
  omega

theorem qR0_off (g : Fin 4) (hg : g ≠ 0) (r : Fin 512) (c : Fin 128) : (ix2 r (col g c) : _) ∉ qR0.set := by
  intro h
  have h1 := (Rect.mem_set_unit.mp h) 1
  have h2 : g.val ≠ 0 := fun e => hg (Fin.ext e)
  have h3 : 0 ≤ (col g c).val ∧ (col g c).val < 128 := h1
  simp only [] at h3
  omega
theorem qR1_off (g : Fin 4) (hg : g ≠ 1) (r : Fin 512) (c : Fin 128) : (ix2 r (col g c) : _) ∉ qR1.set := by
  intro h
  have h1 := (Rect.mem_set_unit.mp h) 1
  have h2 : g.val ≠ 1 := fun e => hg (Fin.ext e)
  have h3 : 128 ≤ (col g c).val ∧ (col g c).val < 256 := h1
  simp only [] at h3
  omega
theorem qR2_off (g : Fin 4) (hg : g ≠ 2) (r : Fin 512) (c : Fin 128) : (ix2 r (col g c) : _) ∉ qR2.set := by
  intro h
  have h1 := (Rect.mem_set_unit.mp h) 1
  have h2 : g.val ≠ 2 := fun e => hg (Fin.ext e)
  have h3 : 256 ≤ (col g c).val ∧ (col g c).val < 384 := h1
  simp only [] at h3
  omega
theorem qR3_off (g : Fin 4) (hg : g ≠ 3) (r : Fin 512) (c : Fin 128) : (ix2 r (col g c) : _) ∉ qR3.set := by
  intro h
  have h1 := (Rect.mem_set_unit.mp h) 1
  have h2 : g.val ≠ 3 := fun e => hg (Fin.ext e)
  have h3 : 384 ≤ (col g c).val ∧ (col g c).val < 512 := h1
  simp only [] at h3
  omega

end Read

section Four
variable {s : Shape} {e : EltTy} (r0 r1 r2 r3 : Rect s) (w0 : r0.shape.Idx → Elt Ideal e) (w1 : r1.shape.Idx → Elt Ideal e) (w2 : r2.shape.Idx → Elt Ideal e) (w3 : r3.shape.Idx → Elt Ideal e) (L : List (View.Piece (Elt Ideal) s e)) {y : s.Idx}
theorem four_at0 (x : r0.shape.Idx) (e : r0.emb x = y) (h3 : y ∉ r3.set) (h2 : y ∉ r2.set) (h1 : y ∉ r1.set) : View.canon (⟨r3, w3⟩ :: ⟨r2, w2⟩ :: ⟨r1, w1⟩ :: ⟨r0, w0⟩ :: L) y = w0 x :=
  (View.canon_cons_of_not_mem _ _ h3).trans <| (View.canon_cons_of_not_mem _ _ h2).trans <| (View.canon_cons_of_not_mem _ _ h1).trans <| (congrArg (View.canon _) e.symm).trans (View.canon_cons_emb _ _ _ _)
theorem four_at1 (x : r1.shape.Idx) (e : r1.emb x = y) (h3 : y ∉ r3.set) (h2 : y ∉ r2.set) : View.canon (⟨r3, w3⟩ :: ⟨r2, w2⟩ :: ⟨r1, w1⟩ :: ⟨r0, w0⟩ :: L) y = w1 x :=
  (View.canon_cons_of_not_mem _ _ h3).trans <| (View.canon_cons_of_not_mem _ _ h2).trans <| (congrArg (View.canon _) e.symm).trans (View.canon_cons_emb _ _ _ _)
theorem four_at2 (x : r2.shape.Idx) (e : r2.emb x = y) (h3 : y ∉ r3.set) : View.canon (⟨r3, w3⟩ :: ⟨r2, w2⟩ :: ⟨r1, w1⟩ :: ⟨r0, w0⟩ :: L) y = w2 x :=
  (View.canon_cons_of_not_mem _ _ h3).trans <| (congrArg (View.canon _) e.symm).trans (View.canon_cons_emb _ _ _ _)
theorem four_at3 (x : r3.shape.Idx) (e : r3.emb x = y)  : View.canon (⟨r3, w3⟩ :: ⟨r2, w2⟩ :: ⟨r1, w1⟩ :: ⟨r0, w0⟩ :: L) y = w3 x :=
  (congrArg (View.canon _) e.symm).trans (View.canon_cons_emb _ _ _ _)
theorem skip1 (h0 : y ∉ r0.set) : View.canon (⟨r0, w0⟩ :: L) y = View.canon L y :=
  (View.canon_cons_of_not_mem _ _ h0).trans <| rfl
theorem skip2 (h1 : y ∉ r1.set) (h0 : y ∉ r0.set) : View.canon (⟨r1, w1⟩ :: ⟨r0, w0⟩ :: L) y = View.canon L y :=
  (View.canon_cons_of_not_mem _ _ h1).trans <| (View.canon_cons_of_not_mem _ _ h0).trans <| rfl
theorem skip3 (h2 : y ∉ r2.set) (h1 : y ∉ r1.set) (h0 : y ∉ r0.set) : View.canon (⟨r2, w2⟩ :: ⟨r1, w1⟩ :: ⟨r0, w0⟩ :: L) y = View.canon L y :=
  (View.canon_cons_of_not_mem _ _ h2).trans <| (View.canon_cons_of_not_mem _ _ h1).trans <| (View.canon_cons_of_not_mem _ _ h0).trans <| rfl
end Four

variable (Q : Four (Vec Ideal S512x128 .bf16)) (K V : Vec Ideal S1024x128 .bf16) (p : Four (Vec Ideal S512x128 .f32)) (a : Four (Vec Ideal S512x256 .f32))

theorem mStep_canon (L : MP Ideal) (g : Fin 4) (r : Fin 512) (c : Fin 128) :
    View.canon (mStep Q K p L) (ix2 (row g r) c) = newMax (F := Ideal) (Q.get g) K (p.get g) (ix2 r c) := by
  match g with
  | 0 =>
    show View.canon (mStep Q K p L) _ = newMax (F := Ideal) (Q.x0) K (p.x0) (ix2 r c)
    unfold mStep
    exact four_at0 mR0 mR1 mR2 mR3 _ _ _ _ _ (ix2 r c) (mR0_emb r c) (mR3_off 0 (by decide) r c) (mR2_off 0 (by decide) r c) (mR1_off 0 (by decide) r c)
  | 1 =>
    show View.canon (mStep Q K p L) _ = newMax (F := Ideal) (Q.x1) K (p.x1) (ix2 r c)
    unfold mStep
    exact four_at1 mR0 mR1 mR2 mR3 _ _ _ _ _ (ix2 r c) (mR1_emb r c) (mR3_off 1 (by decide) r c) (mR2_off 1 (by decide) r c)
  | 2 =>
    show View.canon (mStep Q K p L) _ = newMax (F := Ideal) (Q.x2) K (p.x2) (ix2 r c)
    unfold mStep
    exact four_at2 mR0 mR1 mR2 mR3 _ _ _ _ _ (ix2 r c) (mR2_emb r c) (mR3_off 2 (by decide) r c)
  | 3 =>
    show View.canon (mStep Q K p L) _ = newMax (F := Ideal) (Q.x3) K (p.x3) (ix2 r c)
    unfold mStep
    exact four_at3 mR0 mR1 mR2 mR3 _ _ _ _ _ (ix2 r c) (mR3_emb r c)

theorem aStep_canon (L : AP Ideal) (g : Fin 4) (r : Fin 512) (c : Fin 256) :
    View.canon (aStep Q K V p a L) (ix2 (row g r) c) = newAcc (F := Ideal) (Q.get g) K V (p.get g) (a.get g) (ix2 r c) := by
  match g with
  | 0 =>
    show View.canon (aStep Q K V p a L) _ = newAcc (F := Ideal) (Q.x0) K V (p.x0) (a.x0) (ix2 r c)
    unfold aStep
    exact four_at0 aR0 aR1 aR2 aR3 _ _ _ _ _ (ix2 r c) (aR0_emb r c) (aR3_off 0 (by decide) r c) (aR2_off 0 (by decide) r c) (aR1_off 0 (by decide) r c)
  | 1 =>
    show View.canon (aStep Q K V p a L) _ = newAcc (F := Ideal) (Q.x1) K V (p.x1) (a.x1) (ix2 r c)
    unfold aStep
    exact four_at1 aR0 aR1 aR2 aR3 _ _ _ _ _ (ix2 r c) (aR1_emb r c) (aR3_off 1 (by decide) r c) (aR2_off 1 (by decide) r c)
  | 2 =>
    show View.canon (aStep Q K V p a L) _ = newAcc (F := Ideal) (Q.x2) K V (p.x2) (a.x2) (ix2 r c)
    unfold aStep
    exact four_at2 aR0 aR1 aR2 aR3 _ _ _ _ _ (ix2 r c) (aR2_emb r c) (aR3_off 2 (by decide) r c)
  | 3 =>
    show View.canon (aStep Q K V p a L) _ = newAcc (F := Ideal) (Q.x3) K V (p.x3) (a.x3) (ix2 r c)
    unfold aStep
    exact four_at3 aR0 aR1 aR2 aR3 _ _ _ _ _ (ix2 r c) (aR3_emb r c)

theorem outs_canon (arg9 : Memref sig .tc .vmem S2048x256 .f32) (L : AP Ideal) (g : Fin 4) (r : Fin 512) (c : Fin 128) :
    View.canon (outs arg9 L) (ix2 r (col g c)) = headOut (F := Ideal) (fun i => View.canon L (ix2 (row g (i 0)) (i 1))) (ix2 r c) := by
  match g with
  | 0 =>
    unfold outs
    refine (four_at0 qR0 qR1 qR2 qR3 _ _ _ _ _ (ix2 r c) (qR0_emb r c) (qR3_off 0 (by decide) r c) (qR2_off 0 (by decide) r c) (qR1_off 0 (by decide) r c)).trans ?_
    refine congrArg (fun x => headOut (F := Ideal) x (ix2 r c)) ?_
    rw [View.readCov_eq_canon']
    funext i
    obtain ⟨i0, i1, rfl⟩ : ∃ i0 i1, i = ix2 i0 i1 := ⟨i 0, i 1, eq_ix2 i⟩
    exact congrArg (View.canon _) (aR0_emb i0 i1)
  | 1 =>
    unfold outs
    refine (four_at1 qR0 qR1 qR2 qR3 _ _ _ _ _ (ix2 r c) (qR1_emb r c) (qR3_off 1 (by decide) r c) (qR2_off 1 (by decide) r c)).trans ?_
    refine congrArg (fun x => headOut (F := Ideal) x (ix2 r c)) ?_
    rw [View.readCov_eq_canon']
    funext i
    obtain ⟨i0, i1, rfl⟩ : ∃ i0 i1, i = ix2 i0 i1 := ⟨i 0, i 1, eq_ix2 i⟩
    exact congrArg (View.canon _) (aR1_emb i0 i1)
  | 2 =>
    unfold outs
    refine (four_at2 qR0 qR1 qR2 qR3 _ _ _ _ _ (ix2 r c) (qR2_emb r c) (qR3_off 2 (by decide) r c)).trans ?_
    refine congrArg (fun x => headOut (F := Ideal) x (ix2 r c)) ?_
    rw [View.readCov_eq_canon']
    funext i
    obtain ⟨i0, i1, rfl⟩ : ∃ i0 i1, i = ix2 i0 i1 := ⟨i 0, i 1, eq_ix2 i⟩
    exact congrArg (View.canon _) (aR2_emb i0 i1)
  | 3 =>
    unfold outs
    refine (four_at3 qR0 qR1 qR2 qR3 _ _ _ _ _ (ix2 r c) (qR3_emb r c) ).trans ?_
    refine congrArg (fun x => headOut (F := Ideal) x (ix2 r c)) ?_
    rw [View.readCov_eq_canon']
    funext i
    obtain ⟨i0, i1, rfl⟩ : ∃ i0 i1, i = ix2 i0 i1 := ⟨i 0, i 1, eq_ix2 i⟩
    exact congrArg (View.canon _) (aR3_emb i0 i1)

theorem headOut_apply (x : Vec Ideal S512x256 .f32) (r : Fin 512) (d : Fin 128) :
    headOut (F := Ideal) x (ix2 r d) = x (ix2 r ⟨d.val, by omega⟩) * Ideal.div 1 (x (ix2 r ⟨128 + d.val, by omega⟩)) := by
  unfold headOut
  show extractStridedSlice S512x128 ![0, 0] x slices_S512x256_o0_0_S512x128 (ix2 r d) * Ideal.div (FloatOps.ofBits (F := Ideal) .f32 0x3F800000#32) (extractStridedSlice S512x128 ![0, 128] x slices_S512x256_o0_128_S512x128 (ix2 r d)) = _
  rw [extractStridedSlice_apply (k := ix2 r ⟨d.val, by omega⟩) (hk := fun b => by match b with | ⟨0, _⟩ => exact (Nat.zero_add _).symm | ⟨1, _⟩ => exact (Nat.zero_add _).symm),
    extractStridedSlice_apply (k := ix2 r ⟨128 + d.val, by omega⟩) (hk := fun b => by match b with | ⟨0, _⟩ => exact (Nat.zero_add _).symm | ⟨1, _⟩ => rfl)]
  have h1 : (FloatOps.ofBits (F := Ideal) .f32 0x3F800000#32 : EReal) = 1 := by
    simp [FloatOps.ofBits, Ideal.ofBits, Ideal.ieee]
    rw [← EReal.coe_one, ← EReal.coe_mul]
    norm_num
  rw [h1]

theorem mRead_apply (arg8 : Memref sig .tc .vmem S2048x128 .f32) (L : MP Ideal) (g : Fin 4) (r : Fin 512) (c : Fin 128) :
    (mRead arg8 L).get g (ix2 r c) = View.canon L (ix2 (row g r) c) := by
  match g with
  | 0 =>
    show arg8.view.readCov L mR0.toLoadRect (ix2 r c) = _
    rw [View.readCov_eq_canon']
    exact congrArg (View.canon _) (mR0_emb r c)
  | 1 =>
    show arg8.view.readCov L mR1.toLoadRect (ix2 r c) = _
    rw [View.readCov_eq_canon']
    exact congrArg (View.canon _) (mR1_emb r c)
  | 2 =>
    show arg8.view.readCov L mR2.toLoadRect (ix2 r c) = _
    rw [View.readCov_eq_canon']
    exact congrArg (View.canon _) (mR2_emb r c)
  | 3 =>
    show arg8.view.readCov L mR3.toLoadRect (ix2 r c) = _
    rw [View.readCov_eq_canon']
    exact congrArg (View.canon _) (mR3_emb r c)

theorem aRead_apply (arg9 : Memref sig .tc .vmem S2048x256 .f32) (L : AP Ideal) (g : Fin 4) (r : Fin 512) (c : Fin 256) :
    (aRead arg9 Q K V p L).get g (ix2 r c) = View.canon L (ix2 (row g r) c) := by
  match g with
  | 0 =>
    show arg9.view.readCov _ aR0.toLoadRect (ix2 r c) = _
    rw [View.readCov_eq_canon']
    refine (congrArg (View.canon _) (aR0_emb r c)).trans ?_
    exact rfl
  | 1 =>
    show arg9.view.readCov _ aR1.toLoadRect (ix2 r c) = _
    rw [View.readCov_eq_canon']
    refine (congrArg (View.canon _) (aR1_emb r c)).trans ?_
    exact skip1 aR0 _ L (aR0_off 1 (by decide) r c)
  | 2 =>
    show arg9.view.readCov _ aR2.toLoadRect (ix2 r c) = _
    rw [View.readCov_eq_canon']
    refine (congrArg (View.canon _) (aR2_emb r c)).trans ?_
    exact skip2 aR0 aR1 _ _ L (aR1_off 2 (by decide) r c) (aR0_off 2 (by decide) r c)
  | 3 =>
    show arg9.view.readCov _ aR3.toLoadRect (ix2 r c) = _
    rw [View.readCov_eq_canon']
    refine (congrArg (View.canon _) (aR3_emb r c)).trans ?_
    exact skip3 aR0 aR1 aR2 _ _ _ L (aR2_off 3 (by decide) r c) (aR1_off 3 (by decide) r c) (aR0_off 3 (by decide) r c)

/-! ## The invariant -/

/-- The scratch buffers after `n` keys: for every row the largest score so far, and the sums rescaled by it. -/
def Inv (sc : Fin 4 → Fin 512 → ℕ → ℝ) (w : Fin 256 → ℕ → EReal) (n : ℕ) (M : S2048x128.Idx → EReal) (A : S2048x256.Idx → EReal) : Prop :=
  ∀ g r, (∀ l, M (ix2 (row g r) l) = top (sc g r) n) ∧ ∀ c, A (ix2 (row g r) c) = acc (sc g r) (w c) n

variable (sc : Fin 4 → Fin 512 → ℕ → ℝ) (w : Fin 256 → ℕ → EReal) (n : ℕ)

/-- The scores and the values of a sub-block of 1024 keys from key `n` on. -/
def Keys : Prop :=
  (∀ g r (i : Fin 1024), scores (F := Ideal) (Q.get g) K (ix2 r i) = (sc g r (n + i) : EReal)) ∧
  ∀ (i : Fin 1024) c, valOnes (F := Ideal) V (ix2 i c) = w c (n + i)

theorem inv_step (hk : Keys Q K V sc w n) (Lm : MP Ideal) (La : AP Ideal)
    (hp : ∀ g r, (∀ l, p.get g (ix2 r l) = top (sc g r) n) ∧ ∀ c, a.get g (ix2 r c) = acc (sc g r) (w c) n) :
    Inv sc w (n + 1024) (View.canon (mStep Q K p Lm)) (View.canon (aStep Q K V p a La)) := by
  intro g r
  refine ⟨fun l => ?_, fun c => ?_⟩
  · rw [mStep_canon]
    exact newMax_step _ _ _ _ _ r (hp g r).1 (hk.1 g r) l
  · rw [aStep_canon]
    exact newAcc_step _ _ _ _ _ _ _ _ r c (hp g r).1 (hk.1 g r) ((hp g r).2 c) (fun i => hk.2 i c)

variable (arg8 : Memref sig .tc .vmem S2048x128 .f32) (arg9 : Memref sig .tc .vmem S2048x256 .f32)

theorem inv_next (hk : Keys Q K V sc w n) (Lm : MP Ideal) (La : AP Ideal) (h : Inv sc w n (View.canon Lm) (View.canon La)) :
    Inv sc w (n + 1024) (View.canon (mNext arg8 Q K Lm)) (View.canon (aNext arg8 arg9 Q K V Lm La)) := by
  unfold mNext aNext
  refine inv_step Q K V _ _ sc w n hk _ _ fun g r => ⟨fun l => ?_, fun c => ?_⟩
  · rw [mRead_apply]; exact (h g r).1 l
  · rw [aRead_apply]; exact (h g r).2 c

theorem inv_fill : Inv sc w 0 (View.canon (mFill (F := Ideal))) (View.canon (aFill (F := Ideal))) := by
  intro g r
  refine ⟨fun l => ?_, fun c => ?_⟩
  · have e : (Rect.unit ![0, 0] S2048x128.size inb_S2048x128_S2048x128_0_0).emb (ix2 (row g r) l) = ix2 (row g r) l := funext fun a => Fin.ext (by match a with
      | ⟨0, _⟩ => (show 0 + 1 * (row g r).val = _); simp
      | ⟨1, _⟩ => (show 0 + 1 * l.val = _); simp)
    refine ((congrArg (View.canon _) e.symm).trans (View.canon_cons_emb _ _ _ _)).trans ?_
    rw [shapeCast_self, top_zero]
    show (FloatOps.ofBits (F := Ideal) .f32 0xFF800000#32 : EReal) = ⊥
    simp [FloatOps.ofBits, Ideal.ofBits, Ideal.ieee]
  · have e : (Rect.unit ![0, 0] S2048x256.size inb_S2048x256_S2048x256_0_0).emb (ix2 (row g r) c) = ix2 (row g r) c := funext fun a => Fin.ext (by match a with
      | ⟨0, _⟩ => (show 0 + 1 * (row g r).val = _); simp
      | ⟨1, _⟩ => (show 0 + 1 * c.val = _); simp)
    refine ((congrArg (View.canon _) e.symm).trans (View.canon_cons_emb _ _ _ _)).trans ?_
    rw [shapeCast_self, acc_zero]
    exact Ideal.ofBits_zero_f32

variable (K4 V4 : Four (Vec Ideal S1024x128 .bf16))

/-- The first point of a query block: 4096 keys from nothing. -/
theorem inv_A (h : ∀ j : Fin 4, Keys Q (K4.get j) (V4.get j) sc w (1024 * j)) :
    Inv sc w 4096 (View.canon (mA arg8 Q K4)) (View.canon (aA arg8 arg9 Q K4 V4)) := by
  unfold mA aA
  have h0 := inv_next Q _ _ sc w 0 arg8 arg9 (h 0) _ _ (inv_fill sc w)
  have h1 := inv_next Q _ _ sc w 1024 arg8 arg9 (h 1) _ _ h0
  have h2 := inv_next Q _ _ sc w 2048 arg8 arg9 (h 2) _ _ h1
  exact inv_next Q _ _ sc w 3072 arg8 arg9 (h 3) _ _ h2

/-- The second point of a query block: 4096 more keys. -/
theorem inv_B (h : ∀ j : Fin 4, Keys Q (K4.get j) (V4.get j) sc w (4096 + 1024 * j))
    (hp : ∀ g r, (∀ l, p.get g (ix2 r l) = top (sc g r) 4096) ∧ ∀ c, a.get g (ix2 r c) = acc (sc g r) (w c) 4096) :
    Inv sc w 8192 (View.canon (mB arg8 Q K4 p)) (View.canon (aB arg8 arg9 Q K4 V4 p a)) := by
  unfold mB aB
  have h0 := inv_step Q _ _ p a sc w 4096 (h 0) [] [] hp
  have h1 := inv_next Q _ _ sc w 5120 arg8 arg9 (h 1) _ _ h0
  have h2 := inv_next Q _ _ sc w 6144 arg8 arg9 (h 2) _ _ h1
  exact inv_next Q _ _ sc w 7168 arg8 arg9 (h 3) _ _ h2

/-- The output block of a query block from the sums over all its keys. -/
theorem outs_value (L : AP Ideal) (M : S2048x128.Idx → EReal) (h : Inv sc w 8192 M (View.canon L)) (g : Fin 4) (r : Fin 512) (d : Fin 128) :
    View.canon (outs arg9 L) (ix2 r (col g d)) = acc (sc g r) (w ⟨d.val, by omega⟩) 8192 * Ideal.div 1 (acc (sc g r) (w ⟨128 + d.val, by omega⟩) 8192) := by
  rw [outs_canon, headOut_apply, ← (h g r).2, ← (h g r).2]

end Cert.Flash

end
-- ==== Proof.At2.lean ====
/- Reading an array of two axes at natural numbers, so that positions in blocks and in whole arrays compare by arithmetic. -/
module
public import Idealize.ShloMosaic.Lib.ValueIdx

@[expose] public section

noncomputable section

namespace Cert.Flash

open Idealize.ShloMosaic Idealize.ShloMosaic.ValueIdx

/-- An array of two axes read at two naturals, `0` outside. -/
def at2 {a b : ℕ} (X : (⟨2, ![a, b]⟩ : Shape).Idx → EReal) (R C : ℕ) : EReal :=
  if h : R < a ∧ C < b then X (ix2 ⟨R, h.1⟩ ⟨C, h.2⟩) else 0

theorem at2_of {a b : ℕ} (X : (⟨2, ![a, b]⟩ : Shape).Idx → EReal) (j : (⟨2, ![a, b]⟩ : Shape).Idx) (R C : ℕ)
    (h0 : (j 0).val = R) (h1 : (j 1).val = C) : X j = at2 X R C := by
  subst h0 h1
  unfold at2
  rw [dif_pos ⟨(j 0).isLt, (j 1).isLt⟩]
  exact congrArg X (ValueIdx.eq_ix2 j)

theorem at2_congr {a b : ℕ} (X : (⟨2, ![a, b]⟩ : Shape).Idx → EReal) {R R' C C' : ℕ} (hR : R = R') (hC : C = C') : at2 X R C = at2 X R' C' := by
  subst hR hC; rfl

end Cert.Flash

end
-- ==== Proof.Points.lean ====
/-
The grid points of the attention: the blocks each reads, the scratch buffers from the first point of a query block to
the second, and the result array in closed form.
-/
module
public import proofs.«01_k».proof.Proof.Steps
public import proofs.«01_k».proof.Proof.At2
public import Idealize.ShloMosaic.Lib.Pipeline.ValueKit

@[expose] public section

noncomputable section

namespace Cert.Flash

open Cert.KernelIdeal Cert.KernelIdeal.Gen Idealize.ShloMosaic.TcCoe Idealize.SL.Sem Idealize.ShloMosaic.ValueIdx Cert.Online
open Idealize.ShloMosaic hiding ix2 ix1

theorem idx0 : ∀ t : Fin cfg0.N, win0_0.index t = ![t.val / 2 / 64 * 16 + t.val / 2 % 16, t.val / 2 / 16 % 4] := (by decide +kernel : ∀ t : Fin grid0.N, _)
theorem idx1 : ∀ t : Fin cfg0.N, win0_1.index t = ![t.val / 2 / 64 * 2 + t.val % 2, 16 + t.val / 2 / 16 % 4] := (by decide +kernel : ∀ t : Fin grid0.N, _)
theorem idx2 : ∀ t : Fin cfg0.N, win0_2.index t = ![t.val / 2 / 64 * 2 + t.val % 2, t.val / 2 / 16 % 4] := (by decide +kernel : ∀ t : Fin grid0.N, _)
theorem idx3 : ∀ t : Fin cfg0.N, win0_3.index t = ![t.val / 2 / 64 * 16 + t.val / 2 % 16, t.val / 2 / 16 % 4] := (by decide +kernel : ∀ t : Fin grid0.N, _)

variable (m : (ℓ : Loc nD τ sig) → Buf (Elt Ideal) ℓ) (c : Dev nD)

/-- The queries and keys as launched. -/
abbrev argQK : S32768x2560.Idx → EReal := m ((c : Thread nD τ).loc main_arg0)
/-- The values as launched. -/
abbrev argV : S32768x512.Idx → EReal := m ((c : Thread nD τ).loc main_arg1)

theorem iblk0_apply (t : Fin cfg0.N) (r : Fin 512) (q : Fin 512) :
    iblk m c 0 t (ix2 r q) = at2 (argQK m c) (t.val / 2 / 64 * 8192 + t.val / 2 % 16 * 512 + r.val) (t.val / 2 / 16 % 4 * 512 + q.val) := by
  blk_simp [iblk]
  rw [V_main_arg0]
  refine at2_of _ _ _ _ ?_ ?_
  · blk_simp [idx0]
    show _ + r.val = _ + r.val
    omega
  · blk_simp [idx0]
theorem iblk1_apply (t : Fin cfg0.N) (r : Fin 4096) (q : Fin 128) :
    iblk m c 1 t (ix2 r q) = at2 (argQK m c) (t.val / 2 / 64 * 8192 + t.val % 2 * 4096 + r.val) (2048 + t.val / 2 / 16 % 4 * 128 + q.val) := by
  blk_simp [iblk]
  rw [V_main_arg0]
  refine at2_of _ _ _ _ ?_ ?_
  · blk_simp [idx1]
    show _ + r.val = _ + r.val
    omega
  · blk_simp [idx1]
    show _ + q.val = _ + q.val
    omega
theorem iblk2_apply (t : Fin cfg0.N) (r : Fin 4096) (q : Fin 128) :
    iblk m c 2 t (ix2 r q) = at2 (argV m c) (t.val / 2 / 64 * 8192 + t.val % 2 * 4096 + r.val) (t.val / 2 / 16 % 4 * 128 + q.val) := by
  blk_simp [iblk]
  rw [V_main_arg1]
  refine at2_of _ _ _ _ ?_ ?_
  · blk_simp [idx2]
    show _ + r.val = _ + r.val
    omega
  · blk_simp [idx2]

/-- The score of query row `R` at head column `C` with key `k` of the row's batch, as a real. -/
def score (X : S32768x2560.Idx → EReal) (R C : ℕ) (k : ℕ) : ℝ :=
  (∑ d : Fin 128, at2 X R (C / 128 * 128 + d.val) * at2 X (R / 8192 * 8192 + k) (2048 + C / 512 * 128 + d.val)).toReal

/-- The value of key `k` of row `R`'s batch in column `C`. -/
def value (Y : S32768x512.Idx → EReal) (R C : ℕ) (k : ℕ) : EReal := at2 Y (R / 8192 * 8192 + k) (C / 512 * 128 + C % 128)

/-- The result: for every row and column, the weighted sum of the values over the sum of the weights. -/
def result (X : S32768x2560.Idx → EReal) (Y : S32768x512.Idx → EReal) : S32768x2048.Idx → EReal := fun i =>
  acc (score X (i 0).val (i 1).val) (value Y (i 0).val (i 1).val) 8192 * Ideal.div 1 (acc (score X (i 0).val (i 1).val) (fun _ => 1) 8192)

/-- Every entry is a real. -/
def Finite (X : S32768x2560.Idx → EReal) : Prop := ∀ i, ∃ r : ℝ, X i = (r : EReal)

theorem Finite.at2 {X : S32768x2560.Idx → EReal} (h : Finite X) (R C : ℕ) : ∃ r : ℝ, at2 X R C = (r : EReal) := by
  unfold Flash.at2
  split
  · exact h _
  · exact ⟨0, rfl⟩

theorem Finite.score {X : S32768x2560.Idx → EReal} (h : Finite X) (R C k : ℕ) :
    ∑ d : Fin 128, Flash.at2 X R (C / 128 * 128 + d.val) * Flash.at2 X (R / 8192 * 8192 + k) (2048 + C / 512 * 128 + d.val) = (score X R C k : EReal) := by
  choose f hf using h.at2
  unfold Flash.score
  have e : ∑ d : Fin 128, Flash.at2 X R (C / 128 * 128 + d.val) * Flash.at2 X (R / 8192 * 8192 + k) (2048 + C / 512 * 128 + d.val)
      = ((∑ d : Fin 128, f R (C / 128 * 128 + d.val) * f (R / 8192 * 8192 + k) (2048 + C / 512 * 128 + d.val) : ℝ) : EReal) := by
    rw [coe_sum]
    exact Finset.sum_congr rfl fun d _ => by rw [hf, hf, EReal.coe_mul]
  rw [e, EReal.toReal_coe]

/-- Row `r` of query block `u`. -/
def rowOf (u r : ℕ) : ℕ := u / 64 * 8192 + u % 16 * 512 + r
/-- The scores of row `r` of head `g` in query block `u`. -/
def sc (X : S32768x2560.Idx → EReal) (u : ℕ) (g : Fin 4) (r : Fin 512) : ℕ → ℝ := score X (rowOf u r.val) (u / 16 % 4 * 512 + g.val * 128)
/-- The values of query block `u`, with ones beside them. -/
def wt (Y : S32768x512.Idx → EReal) (u : ℕ) (j : Fin 256) (k : ℕ) : EReal := if j.val < 128 then at2 Y (u / 64 * 8192 + k) (u / 16 % 4 * 128 + j.val) else 1

section
variable (arg4 : Memref sig .tc .vmem S512x512 .bf16) (harg4 : arg4.IsWhole) (arg5 : Memref sig .tc .vmem S4096x128 .bf16) (harg5 : arg5.IsWhole) (arg6 : Memref sig .tc .vmem S4096x128 .bf16) (harg6 : arg6.IsWhole)

/-- What the four sub-blocks of a point read. -/
theorem keys (hX : Finite (argQK m c)) (t : Fin cfg0.N) (j : Fin 4) :
    Keys (qRead arg4 harg4 (iblk m c 0 t)) ((kRead arg5 harg5 (iblk m c 1 t)).get j) ((kRead arg6 harg6 (iblk m c 2 t)).get j)
      (sc (argQK m c) (t.val / 2)) (wt (argV m c) (t.val / 2)) (t.val % 2 * 4096 + 1024 * j.val) := by
  refine ⟨fun g r i => ?_, fun i q => ?_⟩
  · rw [scores_apply, sc, ← hX.score]
    have hu : t.val / 2 < 256 := by have := t.isLt; have hN : cfg0.N = 512 := N_0; omega
    refine Finset.sum_congr rfl fun d _ => ?_
    rw [qRead_apply, kRead_apply, iblk0_apply, iblk1_apply]
    unfold rowOf
    have hr := r.isLt
    have hd := d.isLt
    have hg := g.isLt
    exact congrArg₂ (· * ·) (at2_congr _ rfl (by show _ + (128 * g.val + d.val) = _; omega)) (at2_congr _ (by show _ + (1024 * j.val + i.val) = _; omega) (by omega))
  · by_cases hq : q.val < 128
    · have e : q = ⟨(⟨q.val, hq⟩ : Fin 128).val, by omega⟩ := rfl
      rw [e, valOnes_left, kRead_apply, iblk2_apply, wt, if_pos (show (⟨(⟨q.val, hq⟩ : Fin 128).val, by omega⟩ : Fin 256).val < 128 from hq)]
      exact at2_congr _ (by show _ + (1024 * j.val + i.val) = _; omega) rfl
    · have e : q = ⟨128 + (⟨q.val - 128, by omega⟩ : Fin 128).val, by omega⟩ := Fin.ext (by simp only []; omega)
      rw [e, valOnes_right, wt, if_neg (by simp)]

end

section
variable (c : Dev nD) (i : grid0.Coords) (arg4 : Memref sig .tc .vmem S512x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S512x512 .bf16) (harg7 : arg7.IsWhole) (arg8 : Memref sig .tc .vmem S2048x128 .f32) (harg8 : arg8.IsWhole) (arg9 : Memref sig .tc .vmem S2048x256 .f32) (harg9 : arg9.IsWhole)
    (x0 : Vec Ideal S512x512 .bf16) (x1 : Vec Ideal S4096x128 .bf16) (x2 : Vec Ideal S4096x128 .bf16)

theorem left_max (hc0 : cond0_0 i) (hc1 : ¬cond0_1 i) :
    sout0_A_0 (F := Ideal) c i arg4 harg4 arg5 harg5 arg6 harg6 arg7 harg7 arg8 harg8 arg9 harg9 hc0 hc1 x0 x1 x2 = View.canon (mA arg8 (qRead arg4 harg4 x0) (kRead arg5 harg5 x1)) := by
  unfold sout0_A_0
  rw [View.read_writes_junk_eq_canon]
  exact congrArg View.canon (runA_max c i arg4 harg4 arg5 harg5 arg6 harg6 arg7 harg7 arg8 harg8 arg9 harg9 x0 x1 x2 hc0 hc1)

theorem left_acc (hc0 : cond0_0 i) (hc1 : ¬cond0_1 i) :
    sout0_A_1 (F := Ideal) c i arg4 harg4 arg5 harg5 arg6 harg6 arg7 harg7 arg8 harg8 arg9 harg9 hc0 hc1 x0 x1 x2 = View.canon (aA arg8 arg9 (qRead arg4 harg4 x0) (kRead arg5 harg5 x1) (kRead arg6 harg6 x2)) := by
  unfold sout0_A_1
  rw [View.read_writes_junk_eq_canon]
  exact congrArg View.canon (runA_acc c i arg4 harg4 arg5 harg5 arg6 harg6 arg7 harg7 arg8 harg8 arg9 harg9 x0 x1 x2 hc0 hc1)

theorem left_out (hc0 : ¬cond0_0 i) (hc1 : cond0_1 i) (y0 : Vec Ideal S2048x128 .f32) (y1 : Vec Ideal S2048x256 .f32) :
    out0_B_3 (F := Ideal) c i arg4 harg4 arg5 harg5 arg6 harg6 arg7 harg7 arg8 harg8 arg9 harg9 hc0 hc1 x0 x1 x2 y0 y1 = View.canon (outs arg9 (aB arg8 arg9 (qRead arg4 harg4 x0) (kRead arg5 harg5 x1) (kRead arg6 harg6 x2) (mHeld arg8 harg8 y0) (aHeld arg9 harg9 y1))) := by
  unfold out0_B_3
  rw [View.read_writes_junk_eq_canon]
  exact congrArg View.canon (runB_out c i arg4 harg4 arg5 harg5 arg6 harg6 arg7 harg7 arg8 harg8 arg9 harg9 x0 x1 x2 hc0 hc1 y0 y1)

end

/-- The scratch buffers after the first point of a query block. -/
theorem scratch (hX : Finite (argQK m c)) (t : Fin cfg0.N) (h0 : t.val % 2 = 0) :
    Inv (sc (argQK m c) (t.val / 2)) (wt (argV m c) (t.val / 2)) 4096 (outsAt0 m c t.val t.isLt).2.1 (outsAt0 m c t.val t.isLt).2.2 := by
  rw [outsAt0_A m c t h0 (by omega)]
  dsimp only
  rw [left_max, left_acc]
  refine inv_A _ _ _ _ _ _ _ fun j => ?_
  have h := keys m c (ms0_0 t) (hs0_0 t) (ms0_1 t) (hs0_1 t) (ms0_2 t) (hs0_2 t) hX t j
  rw [h0, Nat.zero_mul, Nat.zero_add] at h
  exact h

/-- The output block a second point leaves. -/
theorem block (hX : Finite (argQK m c)) (t : Fin cfg0.N) (h1 : t.val % 2 = 1) (g : Fin 4) (r : Fin 512) (d : Fin 128) :
    (outsAt0 m c t.val t.isLt).1 (ix2 r (col g d)) = acc (sc (argQK m c) (t.val / 2) g r) (wt (argV m c) (t.val / 2) ⟨d.val, by omega⟩) 8192
      * Ideal.div 1 (acc (sc (argQK m c) (t.val / 2) g r) (wt (argV m c) (t.val / 2) ⟨128 + d.val, by omega⟩) 8192) := by
  have hp := scratch m c hX ⟨t.val - 1, Nat.lt_of_le_of_lt (Nat.sub_le _ _) t.isLt⟩ (by dsimp only; omega)
  rw [outsAt0_B m c t (by omega) h1]
  dsimp only at hp ⊢
  rw [show (t.val - 1) / 2 = t.val / 2 by omega] at hp
  revert hp
  generalize (outsAt0 m c (t.val - 1) (Nat.lt_of_le_of_lt (Nat.sub_le _ _) t.isLt)).2.1 = y0
  generalize (outsAt0 m c (t.val - 1) (Nat.lt_of_le_of_lt (Nat.sub_le _ _) t.isLt)).2.2 = y1
  intro hp
  rw [left_out]
  refine outs_value _ _ _ _ _ (inv_B _ _ _ _ _ _ _ _ _ (fun j => ?_) fun g r => ⟨fun l => ?_, fun q => ?_⟩) g r d
  · have h := keys m c (ms0_0 t) (hs0_0 t) (ms0_1 t) (hs0_1 t) (ms0_2 t) (hs0_2 t) hX t j
    rw [h1, Nat.one_mul] at h
    exact h
  · rw [mHeld_apply]; exact (hp g r).1 l
  · rw [aHeld_apply]; exact (hp g r).2 q

/-- The result array after the run. -/
theorem final (hX : Finite (argQK m c)) : (dats m 0 c).arrAt 3 cfg0.N = result (argQK m c) (argV m c) := by
  refine (dats m 0 c).arrAt_eq_of_covers 3 _ (by decide +kernel) fun t hf y => ?_
  have h1 : t.val % 2 = 1 := (flush0_3 t).mp hf
  obtain ⟨r, q, rfl⟩ : ∃ r q, y = ix2 (n0 := 512) (n1 := 512) r q := ⟨y 0, y 1, ValueIdx.eq_ix2 y⟩
  obtain ⟨g, d, rfl⟩ : ∃ g d, q = col g d := ⟨⟨q.val / 128, by omega⟩, ⟨q.val % 128, by omega⟩, Fin.ext (by show q.val = 128 * (q.val / 128) + q.val % 128; omega)⟩
  blk_simp
  rw [after0_3]
  refine (block m c hX t h1 g r d).trans ?_
  have e0 : (((cfg0.win 3).blk t).view.emb (ix2 r (col g d)) 0).val = rowOf (t.val / 2) r.val := by
    blk_simp [idx3]
    show _ + r.val = _
    unfold rowOf
    omega
  have e1 : (((cfg0.win 3).blk t).view.emb (ix2 r (col g d)) 1).val = t.val / 2 / 16 % 4 * 512 + (128 * g.val + d.val) := by
    blk_simp [idx3]
    rfl
  unfold result
  rw [e0, e1]
  have ht : t.val < 512 := lt_of_lt_of_eq t.isLt N_0
  have hu : t.val / 2 < 256 := by omega
  generalize t.val / 2 = u at hu ⊢
  have hg := g.isLt
  have hr := r.isLt
  have hd := d.isLt
  have hs : sc (argQK m c) u g r = score (argQK m c) (rowOf u r.val) (u / 16 % 4 * 512 + (128 * g.val + d.val)) := by
    funext k
    unfold sc score
    refine congrArg EReal.toReal (Finset.sum_congr rfl fun e _ => congrArg₂ (· * ·) (at2_congr _ rfl (by omega)) (at2_congr _ rfl (by omega)))
  have hw : wt (argV m c) u ⟨d.val, by omega⟩ = value (argV m c) (rowOf u r.val) (u / 16 % 4 * 512 + (128 * g.val + d.val)) := by
    funext k
    unfold wt value
    rw [if_pos hd]
    exact at2_congr _ (by unfold rowOf; omega) (by show _ + d.val = _; omega)
  have h1 : wt (argV m c) u ⟨128 + d.val, by omega⟩ = fun _ => 1 := by
    funext k
    unfold wt
    rw [if_neg (by simp)]
  rw [hs, hw, h1]

end Cert.Flash

end
-- ==== Proof.RefValue.lean ====
/-
The reference's array at the ideal instance: the softmax attention, element by element, is the closed form the
kernel's points leave.
-/
module
public import proofs.«01_k».proof.Proof.Points
public import proofs.«01_k».proof.Proof.Gen.ReferenceIdeal.Read
public import proofs.«01_k».proof.Pre_finite_qk
public import Idealize.ShloMosaic.Lib.KernelVsHost

@[expose] public section

noncomputable section

namespace Cert.Flash

open Cert.ReferenceIdeal Cert.ReferenceIdeal.Gen Cert.ReferenceIdeal.Read Idealize.ShloMosaic Cert.Online

/-- Scores depend on the row and on the column's head alone. -/
theorem score_congr (X : S32768x2560.Idx → EReal) {R R' C C' : ℕ} (hR : R = R') (hC : C / 128 = C' / 128) (k : ℕ) : score X R C k = score X R' C' k := by
  subst hR
  unfold score
  exact congrArg EReal.toReal (Finset.sum_congr rfl fun d _ => congrArg₂ (· * ·) (at2_congr _ rfl (by omega)) (at2_congr _ rfl (by omega)))

theorem log_two : FloatOps.hostUnary (F := Ideal) (φ := .f32) .log (FloatOps.ofBits (F := Ideal) .f32 0x40000000#32) = ((Real.log 2 : ℝ) : EReal) := by
  have h : (FloatOps.ofBits (F := Ideal) .f32 0x40000000#32 : EReal) = ((2 : ℝ) : EReal) := by
    simp [FloatOps.ofBits, Ideal.ofBits, Ideal.ieee]
    rw [← EReal.coe_mul]
    norm_num
  refine (congrArg (Ideal.log) h).trans ?_
  rw [Ideal.log_coe, if_neg (by norm_num)]

/-- The host's maximum over one axis, from minus infinity. -/
theorem hostMax_single {s t u : Shape} {a : Fin s.rank} (x : FVec Ideal s .f32) (h : s.ReducesTo [a] t) (hu : 0 < u.numel) (h' : s.Reduces [a] t) (j : t.Idx) :
    Host.reduce FloatOps.maximumf x (constant u .f32 0xFF800000#32) h hu j
      = (Finset.univ : Finset (Fin (s.size a))).fold max (⊥ : EReal) fun k => x (h'.lift j k) := by
  have hb : (FloatOps.ofBits (F := Ideal) .f32 0xFF800000#32 : EReal) = ⊥ := by simp [FloatOps.ofBits, Ideal.ofBits, Ideal.ieee]
  refine (congrFun (hostReduce_maximumf_eq_multiReduction x 0xFF800000#32 h hu h' (.inl rfl) rfl) j).trans ?_
  refine (Ideal.multiReduction_maximumf_single x _ h' (.inl rfl) rfl j).trans ?_
  exact congrArg₂ (fun b f => (Finset.univ : Finset (Fin (s.size a))).fold max b f) hb rfl

variable (x0 : S32768x2560.Idx → EReal) (x1 : S32768x512.Idx → EReal)

theorem query_apply (j : S4x8192x4x4x128.Idx) :
    val_main_v2 (F := Ideal) x0 j = at2 x0 ((j 0).val * 8192 + (j 1).val) (((j 2).val * 4 + (j 3).val) * 128 + (j 4).val) := by
  rw [val_main_v2_apply, val_main_v1_apply, val_main_v0_apply]
  have h0 : (j 0).val < 4 := (j 0).isLt
  have h1 : (j 1).val < 8192 := (j 1).isLt
  have h2 : (j 2).val < 4 := (j 2).isLt
  have h3 : (j 3).val < 4 := (j 3).isLt
  have h4 : (j 4).val < 128 := (j 4).isLt
  refine at2_of x0 _ _ _ ?_ ?_
  · show (_ : ℕ) / 2048 = _; omega
  · show (_ : ℕ) % 2048 = _; omega

theorem key_apply (j : S4x8192x4x128.Idx) :
    val_main_v4 (F := Ideal) x0 j = at2 x0 ((j 0).val * 8192 + (j 1).val) (2048 + (j 2).val * 128 + (j 3).val) := by
  rw [val_main_v4_apply, val_main_v3_apply, val_main_v0_apply]
  have h0 : (j 0).val < 4 := (j 0).isLt
  have h1 : (j 1).val < 8192 := (j 1).isLt
  have h2 : (j 2).val < 4 := (j 2).isLt
  have h3 : (j 3).val < 128 := (j 3).isLt
  refine at2_of x0 _ _ _ ?_ ?_
  · show (_ : ℕ) / 512 = _; omega
  · show 2048 + (_ : ℕ) % 512 = _; omega

theorem val_apply (j : S4x8192x4x128.Idx) :
    val_main_v6 (F := Ideal) x1 j = at2 x1 ((j 0).val * 8192 + (j 1).val) ((j 2).val * 128 + (j 3).val) := by
  rw [val_main_v6_apply, val_main_v5_apply]
  have h0 : (j 0).val < 4 := (j 0).isLt
  have h1 : (j 1).val < 8192 := (j 1).isLt
  have h2 : (j 2).val < 4 := (j 2).isLt
  have h3 : (j 3).val < 128 := (j 3).isLt
  refine at2_of x1 _ _ _ ?_ ?_
  · show (_ : ℕ) / 512 = _; omega
  · show (_ : ℕ) % 512 = _; omega

/-- The scaled score the softmax is taken of. -/
theorem scaled_apply (hX : Finite x0) (j : S4x4x4x8192x8192.Idx) :
    val_main_v11 (F := Ideal) x0 j
      = (score x0 ((j 0).val * 8192 + (j 3).val) (((j 1).val * 4 + (j 2).val) * 128) (j 4).val : EReal) * (Real.log 2 : EReal) := by
  rw [val_main_v11_apply, val_main_v8_apply, val_main_v7_apply, val_main_v10_apply, val_main_v9_apply, val_main_cst_apply, log_two]
  refine congrArg (fun x : EReal => x * (Real.log 2 : EReal)) ?_
  rw [← hX.score]
  have h2 : (j 2).val < 4 := (j 2).isLt
  have h3 : (j 3).val < 8192 := (j 3).isLt
  refine Finset.sum_congr rfl fun d _ => ?_
  rw [key_apply, query_apply, mul_comm]
  refine congrArg₂ (· * ·) (at2_congr _ rfl ?_) (at2_congr _ ?_ ?_)
  · show ((j 1).val * 4 + (j 2).val) * 128 + d.val = _; omega
  · show (j 0).val * 8192 + (j 4).val = _; omega
  · show 2048 + (j 1).val * 128 + d.val = _; omega

/-- The maximum the softmax subtracts. -/
theorem max_apply (j : S4x4x4x8192.Idx) :
    val_main_v14 (F := Ideal) x0 j = (Finset.univ : Finset (Fin 8192)).fold max ⊥ fun k => val_main_v11 (F := Ideal) x0 (idx_main_v19 j k) := by
  have hb : (FloatOps.ofBits (F := Ideal) .f32 0xFF800000#32 : EReal) = ⊥ := by simp [FloatOps.ofBits, Ideal.ofBits, Ideal.ieee]
  have h' : S4x4x4x8192x8192.Reduces [4] S4x4x4x8192 := by decide
  rw [val_main_v14_apply, val_main_v13_apply, val_main_cst_1_apply, hb]
  refine (max_eq_right bot_le).trans ?_
  unfold val_main_v12 val_main_cst_0
  generalize val_main_v11 (F := Ideal) x0 = S
  refine (hostMax_single S reducesTo_S4x4x4x8192x8192_S4x4x4x8192_d4 h_S_ h' j).trans ?_
  refine congrArg (fun f => (Finset.univ : Finset (Fin 8192)).fold max ⊥ f) (funext fun s => congrArg S (funext fun b => Fin.ext ?_))
  match b with
  | ⟨0, _⟩ => rfl
  | ⟨1, _⟩ => rfl
  | ⟨2, _⟩ => rfl
  | ⟨3, _⟩ => rfl
  | ⟨4, _⟩ => rfl

/-- A softmax numerator. -/
theorem num_apply (j : S4x4x4x8192x8192.Idx) :
    val_main_v18 (F := Ideal) x0 j = Ideal.exp (val_main_v11 (F := Ideal) x0 j - val_main_v14 (F := Ideal) x0 (idx_main_v15 (idx_main_v16 j))) := by
  rw [val_main_v18_apply, val_main_v17_apply, val_main_v16_apply, val_main_v15_apply]
  rfl

/-- A softmax weight. -/
theorem weight_apply (j : S4x4x4x8192x8192.Idx) :
    val_main_v22 (F := Ideal) x0 j = Ideal.div (val_main_v18 (F := Ideal) x0 j) (∑ k : Fin 8192, val_main_v18 (F := Ideal) x0 (idx_main_v19 (idx_main_v20 (idx_main_v21 j)) k)) := by
  rw [val_main_v22_apply, val_main_v21_apply, val_main_v20_apply, val_main_v19_apply, val_main_cst_2_apply, show (FloatOps.ofBits (F := Ideal) .f32 0#32 : EReal) = 0 from Ideal.ofBits_zero_f32, zero_add]
  rfl

/-- The reference's result is the closed form. -/
theorem reference_result (hX : Finite x0) : val_main_v26 (F := Ideal) x0 x1 = result x0 x1 := by
  funext i
  rw [val_main_v26_apply, val_main_v25_apply, val_main_v24_apply]
  refine (val_main_v23_apply x0 x1 _).trans ?_
  have h0 : (i 0).val < 32768 := (i 0).isLt
  have h1 : (i 1).val < 2048 := (i 1).isLt
  unfold result
  let u := idx_main_v24 (idx_main_v25 i)
  have hs : ∀ k : Fin 8192, val_main_v11 (F := Ideal) x0 (ridx_main_v23 u k) = (score x0 (i 0).val (i 1).val k.val : EReal) * (Real.log 2 : EReal) := fun k => by
    rw [scaled_apply x0 hX]
    refine congrArg (fun x : ℝ => (x : EReal) * (Real.log 2 : EReal)) (score_congr x0 ?_ ?_ _)
    · show ((i 0).val * 2048 + (i 1).val) / 16777216 * 8192 + ((i 0).val * 2048 + (i 1).val) / 2048 % 8192 = _; omega
    · show (((i 0).val * 2048 + (i 1).val) / 512 % 4 * 4 + ((i 0).val * 2048 + (i 1).val) / 128 % 4) * 128 / 128 = _; omega
  have hm : ∀ k : Fin 8192, val_main_v14 (F := Ideal) x0 (idx_main_v15 (idx_main_v16 (ridx_main_v23 u k))) = (Finset.univ : Finset (Fin 8192)).fold max ⊥ fun n => (score x0 (i 0).val (i 1).val n.val : EReal) * (Real.log 2 : EReal) := fun k => by
    rw [max_apply]
    refine congrArg (fun f => (Finset.univ : Finset (Fin 8192)).fold max ⊥ f) (funext fun n => ?_)
    rw [← hs]
  have hn : ∀ k : Fin 8192, val_main_v18 (F := Ideal) x0 (ridx_main_v23 u k) = Ideal.exp ((score x0 (i 0).val (i 1).val k.val : EReal) * (Real.log 2 : EReal) - (Finset.univ : Finset (Fin 8192)).fold max ⊥ fun n => (score x0 (i 0).val (i 1).val n.val : EReal) * (Real.log 2 : EReal)) := fun k => by
    rw [num_apply, hm, hs]
  rw [quotient (score x0 (i 0).val (i 1).val) (value x1 (i 0).val (i 1).val) (n := 8192) (by decide) _ rfl]
  refine Finset.sum_congr rfl fun k _ => ?_
  rw [mul_comm]
  refine congrArg₂ (· * ·) ?_ ?_
  · rw [weight_apply]
    refine congrArg₂ Ideal.div (hn k) (Finset.sum_congr rfl fun l _ => ?_)
    rw [← hn]
  · rw [val_apply]
    unfold value
    refine at2_congr _ ?_ ?_
    · show ((i 0).val * 2048 + (i 1).val) / 16777216 * 8192 + k.val = _; omega
    · show ((i 0).val * 2048 + (i 1).val) / 512 % 4 * 128 + ((i 0).val * 2048 + (i 1).val) % 128 = _; omega

/-- The precondition's array of ones says that every query and key element is a real. -/
theorem finite_of_ones [Cert.Pre_finite_qk.Facts] (h : Cert.Pre_finite_qk.fn (F := Ideal) x0 x1 = fun _ => 1#1) : Finite x0 := by
  intro i
  have hi : FloatOps.cmpf (F := Ideal) (φ := .f32) .olt (FloatOps.hostAbsf (x0 i)) (FloatOps.ofBits (F := Ideal) .f32 0x7F800000#32) = 1#1 := congrFun h i
  rw [← Ideal.xori_weird_eq_hostAbsf_olt_inf] at hi
  have hw : ¬((x0 i : EReal) = ⊤ ∨ (x0 i : EReal) = ⊥) := fun hc => by
    have h1 : (FloatOps.weird (F := Ideal) (show Ideal .f32 from x0 i)) = 1#1 := by
      show BitVec.ofBool (decide ((x0 i : EReal) = ⊤ ∨ (x0 i : EReal) = ⊥)) = 1#1
      rw [decide_eq_true hc]; rfl
    rw [h1] at hi
    exact absurd hi (by decide)
  push Not at hw
  exact ⟨(x0 i).toReal, (EReal.coe_toReal hw.1 hw.2).symm⟩

end Cert.Flash

end
-- ==== Proof.Dense.lean ====
/-
What the dense calls compute, element by element: a product of two matrices, a gated product, and the normalization of a
row; each from a block's side and from the whole array's side.
-/
module
public import proofs.«01_k».proof.Proof.At2
public import Idealize.ShloMosaic.Lib.MatmulPlain
public import Idealize.ShloMosaic.Lib.StackMember
public import Idealize.ShloMosaic.Lib.ValueLayout
public import Idealize.ShloMosaic.Lib.ValueLayoutCasts
public import Idealize.ShloMosaic.Lib.KernelVsHost

@[expose] public section

noncomputable section

namespace Cert.Dense

open Idealize.ShloMosaic Idealize.ShloMosaic.ValueIdx Cert.Flash

/-- Row `R` of `X` times column `C` of `W`. -/
def prod {M K N : ℕ} (X : (⟨2, ![M, K]⟩ : Shape).Idx → EReal) (W : (⟨2, ![K, N]⟩ : Shape).Idx → EReal) (R C : ℕ) : EReal :=
  ∑ k : Fin K, at2 X R k.val * at2 W k.val C

/-- A block product is a piece of the whole product where its operands are pieces of the whole operands. -/
theorem block_prod {m M K n N : ℕ} {φ₁ φ₂ : FTy} (x : FVec Ideal ⟨2, ![m, K]⟩ φ₁) (w : FVec Ideal ⟨2, ![K, n]⟩ φ₂)
    (X : (⟨2, ![M, K]⟩ : Shape).Idx → EReal) (W : (⟨2, ![K, N]⟩ : Shape).Idx → EReal) (r : Fin m) (q : Fin n) (R C : ℕ)
    (hx : ∀ k : Fin K, x (ix2 r k) = at2 X R k.val) (hw : ∀ k : Fin K, w (ix2 k q) = at2 W k.val C) :
    matmul (DotDims.plain m K n) none x w (constant ⟨2, ![m, n]⟩ .f32 0x00000000#32) (ix2 r q) = prod X W R C := by
  refine (Ideal.matmul_plain_apply none x w _ r q).trans ?_
  rw [show constant (F := Ideal) ⟨2, ![m, n]⟩ .f32 0x00000000#32 (ix2 r q) = (0 : EReal) from Ideal.ofBits_zero_f32, zero_add]
  exact Finset.sum_congr rfl fun k _ => congrArg₂ (· * ·) (hx k) (hw k)

/-- The whole product at one place. -/
theorem host_prod {M K N : ℕ} {φ₁ φ₂ : FTy} (X : FVec Ideal ⟨2, ![M, K]⟩ φ₁) (W : FVec Ideal ⟨2, ![K, N]⟩ φ₂) (i : (⟨2, ![M, N]⟩ : Shape).Idx) :
    Host.dotGeneral (DotDims.plain M K N) none X W i = prod X W (i 0).val (i 1).val := by
  obtain ⟨r, q, rfl⟩ : ∃ r q, i = ix2 r q := ⟨i 0, i 1, eq_ix2 i⟩
  refine (StackMember.dotGeneral_plain_apply none X W r q).trans ?_
  exact Finset.sum_congr rfl fun k _ => congrArg₂ (· * ·) (at2_of X _ _ _ rfl rfl) (at2_of W _ _ _ rfl rfl)

/-- The gate's swish times the other factor. -/
def gated (g u : EReal) : EReal :=
  g * Ideal.div (FloatOps.ofBits (F := Ideal) .f32 0x3F800000#32) (FloatOps.ofBits (F := Ideal) .f32 0x3F800000#32 + Ideal.exp (-g)) * u

/-- The number a row's sum is divided by for its mean. -/
abbrev width : EReal := FloatOps.ofBits (F := Ideal) .f32 0x45000000#32

/-- A row's mean. -/
def mean {d : ℕ} (y : Fin d → EReal) : EReal := Ideal.div (∑ k, y k) width

/-- A row normalized, scaled and shifted, at column `q`. -/
def norm {d : ℕ} (y : Fin d → EReal) (w b : EReal) (q : Fin d) : EReal :=
  (y q - mean y) * Ideal.rsqrt (mean (fun k => (y k - mean y) * (y k - mean y)) + FloatOps.ofBits (F := Ideal) .f32 0x3727C5AC#32) * w + b

/-! ### A block's rows normalized -/

section Block
variable {n d : ℕ}

/-- The column of means of a block's rows. -/
def blockMean (y : FVec Ideal ⟨2, ![n, d]⟩ .f32) (hr : (⟨2, ![n, d]⟩ : Shape).Reduces [1] ⟨1, ![n]⟩) (hs : (⟨1, ![n]⟩ : Shape).ShapeCasts ⟨2, ![n, 1]⟩) : FVec Ideal ⟨2, ![n, 1]⟩ .f32 :=
  divf (shapeCast ⟨2, ![n, 1]⟩ (multiReduction .add [1] ⟨1, ![n]⟩ y 0x00000000#32 hr (.inl rfl) rfl) hs) (broadcast ⟨2, ![n, 1]⟩ (Scalar.ofBits .f32 0x45000000#32))

theorem blockMean_apply (y : FVec Ideal ⟨2, ![n, d]⟩ .f32) (hr : (⟨2, ![n, d]⟩ : Shape).Reduces [1] ⟨1, ![n]⟩) (hs : (⟨1, ![n]⟩ : Shape).ShapeCasts ⟨2, ![n, 1]⟩) (r : Fin n) :
    blockMean y hr hs (ix2 r (0 : Fin 1)) = mean fun k => y (ix2 r k) := by
  unfold blockMean mean
  refine congrArg (fun s => Ideal.div s width) ?_
  refine (shapeCast_a_a1_apply _ hs r 0).trans ?_
  refine (Ideal.multiReduction_add_single y _ hr (.inl rfl) rfl (ix1 r)).trans ?_
  refine Finset.sum_congr rfl fun k _ => congrArg y (funext fun a => Fin.ext ?_)
  match a with
  | ⟨0, _⟩ => rfl
  | ⟨1, _⟩ => rfl

/-- A column copied along the rows. -/
theorem column_apply (v : (⟨2, ![n, 1]⟩ : Shape).Idx → EReal) (h : (⟨2, ![n, 1]⟩ : Shape).Broadcasts ⟨2, ![n, d]⟩) (r : Fin n) (q : Fin d) :
    broadcastTo ⟨2, ![n, d]⟩ v h (ix2 r q) = v (ix2 r (0 : Fin 1)) := by
  refine broadcastTo_apply v h (ix2 r q) (ix2 r 0) fun a => ?_
  match a with
  | ⟨0, _⟩ =>
    show r.val = if n = 1 then 0 else r.val
    split
    · have := r.isLt
      omega
    · rfl
  | ⟨1, _⟩ => rfl

/-- A block's rows normalized, scaled by one row and shifted by another. -/
def blockNorm (y : FVec Ideal ⟨2, ![n, d]⟩ .f32) (w b : FVec Ideal ⟨2, ![1, d]⟩ .f32) (hr : (⟨2, ![n, d]⟩ : Shape).Reduces [1] ⟨1, ![n]⟩) (hs : (⟨1, ![n]⟩ : Shape).ShapeCasts ⟨2, ![n, 1]⟩)
    (hc : (⟨2, ![n, 1]⟩ : Shape).Broadcasts ⟨2, ![n, d]⟩) (hw : (⟨2, ![1, d]⟩ : Shape).ShapeCasts ⟨2, ![1, d]⟩) (hb : (⟨2, ![1, d]⟩ : Shape).Broadcasts ⟨2, ![n, d]⟩) : FVec Ideal ⟨2, ![n, d]⟩ .f32 :=
  addf (mulf (mulf (subf y (broadcastTo ⟨2, ![n, d]⟩ (blockMean y hr hs) hc))
    (broadcastTo ⟨2, ![n, d]⟩ (rsqrt (addf (blockMean (mulf (subf y (broadcastTo ⟨2, ![n, d]⟩ (blockMean y hr hs) hc)) (subf y (broadcastTo ⟨2, ![n, d]⟩ (blockMean y hr hs) hc))) hr hs)
      (broadcast ⟨2, ![n, 1]⟩ (Scalar.ofBits .f32 0x3727C5AC#32)))) hc))
    (broadcastTo ⟨2, ![n, d]⟩ (shapeCast ⟨2, ![1, d]⟩ w hw) hb)) (broadcastTo ⟨2, ![n, d]⟩ (shapeCast ⟨2, ![1, d]⟩ b hw) hb)

theorem blockNorm_apply (y : FVec Ideal ⟨2, ![n, d]⟩ .f32) (w b : FVec Ideal ⟨2, ![1, d]⟩ .f32) (hr : (⟨2, ![n, d]⟩ : Shape).Reduces [1] ⟨1, ![n]⟩) (hs : (⟨1, ![n]⟩ : Shape).ShapeCasts ⟨2, ![n, 1]⟩)
    (hc : (⟨2, ![n, 1]⟩ : Shape).Broadcasts ⟨2, ![n, d]⟩) (hw : (⟨2, ![1, d]⟩ : Shape).ShapeCasts ⟨2, ![1, d]⟩) (hb : (⟨2, ![1, d]⟩ : Shape).Broadcasts ⟨2, ![n, d]⟩) (r : Fin n) (q : Fin d) :
    blockNorm y w b hr hs hc hw hb (ix2 r q) = norm (fun k => y (ix2 r k)) (w (ix2 (0 : Fin 1) q)) (b (ix2 (0 : Fin 1) q)) q := by
  have hd : ∀ k : Fin d, subf y (broadcastTo ⟨2, ![n, d]⟩ (blockMean y hr hs) hc) (ix2 r k) = y (ix2 r k) - mean fun k => y (ix2 r k) := fun k =>
    congrArg (fun s => y (ix2 r k) - s) ((column_apply _ hc r k).trans (blockMean_apply y hr hs r))
  unfold blockNorm norm
  refine congrArg₂ (· + ·) (congrArg₂ (· * ·) (congrArg₂ (· * ·) (hd q) ?_) ?_) ?_
  · refine (column_apply _ hc r q).trans (congrArg (fun s => Ideal.rsqrt (s + FloatOps.ofBits (F := Ideal) .f32 0x3727C5AC#32)) ?_)
    refine (blockMean_apply _ hr hs r).trans (congrArg mean (funext fun k => ?_))
    exact congrArg₂ (· * ·) (hd k) (hd k)
  · refine (broadcastTo_1b_ab_apply _ hb r q).trans ?_
    rw [shapeCast_self]
  · refine (broadcastTo_1b_ab_apply _ hb r q).trans ?_
    rw [shapeCast_self]

end Block

/-! ### The whole array's rows normalized -/

section Whole
variable {n d : ℕ}

/-- The column of means of an array's rows. -/
def hostMean (y : FVec Ideal ⟨2, ![n, d]⟩ .f32) (hr : (⟨2, ![n, d]⟩ : Shape).ReducesTo [1] ⟨1, ![n]⟩) (hu : 0 < (⟨0, ![]⟩ : Shape).numel)
    (h1 : (⟨1, ![n]⟩ : Shape).BroadcastsInDim ⟨2, ![n, 1]⟩ ![0]) (h0 : (⟨0, ![]⟩ : Shape).BroadcastsInDim ⟨2, ![n, 1]⟩ ![]) : FVec Ideal ⟨2, ![n, 1]⟩ .f32 :=
  Host.divf (broadcastInDim ⟨2, ![n, 1]⟩ ![0] h1 (Host.reduceAdd y (constant ⟨0, ![]⟩ .f32 0x00000000#32) hr hu))
    (broadcastInDim ⟨2, ![n, 1]⟩ ![] h0 (constant ⟨0, ![]⟩ .f32 0x45000000#32))

/-- One number copied down a column. -/
theorem hostScalar_apply (b : BitVec 32) (h0 : (⟨0, ![]⟩ : Shape).BroadcastsInDim ⟨2, ![n, 1]⟩ ![]) (i : (⟨2, ![n, 1]⟩ : Shape).Idx) :
    broadcastInDim ⟨2, ![n, 1]⟩ ![] h0 (constant (F := Ideal) ⟨0, ![]⟩ .f32 b) i = FloatOps.ofBits (F := Ideal) .f32 b := rfl

theorem hostMean_apply (y : FVec Ideal ⟨2, ![n, d]⟩ .f32) (hr : (⟨2, ![n, d]⟩ : Shape).ReducesTo [1] ⟨1, ![n]⟩) (hr' : (⟨2, ![n, d]⟩ : Shape).Reduces [1] ⟨1, ![n]⟩) (hu : 0 < (⟨0, ![]⟩ : Shape).numel)
    (h1 : (⟨1, ![n]⟩ : Shape).BroadcastsInDim ⟨2, ![n, 1]⟩ ![0]) (h0 : (⟨0, ![]⟩ : Shape).BroadcastsInDim ⟨2, ![n, 1]⟩ ![]) (r : Fin n) :
    hostMean y hr hu h1 h0 (ix2 r (0 : Fin 1)) = mean fun k => y (ix2 r k) := by
  unfold hostMean mean
  refine congrArg₂ Ideal.div ?_ (hostScalar_apply _ h0 _)
  refine (broadcastInDim_apply _ h1 _ (ix2 r 0) (ix1 r) fun a => ?_).trans ?_
  · match a with
    | ⟨0, _⟩ =>
      show r.val = if n = 1 then 0 else r.val
      split
      · have := r.isLt
        omega
      · rfl
  · refine (Ideal.hostReduceAdd_single hr hr' y _ (ix1 r)).trans ?_
    rw [show constant (F := Ideal) ⟨0, ![]⟩ .f32 0x00000000#32 (Shape.Idx.first hu) = (0 : EReal) from Ideal.ofBits_zero_f32, zero_add]
    refine Finset.sum_congr rfl fun k _ => congrArg y (funext fun a => Fin.ext ?_)
    match a with
    | ⟨0, _⟩ => rfl
    | ⟨1, _⟩ => rfl

/-- A column copied along the rows. -/
theorem hostColumn_apply (v : (⟨2, ![n, 1]⟩ : Shape).Idx → EReal) (h : (⟨2, ![n, 1]⟩ : Shape).BroadcastsInDim ⟨2, ![n, d]⟩ ![0, 1]) (r : Fin n) (q : Fin d) :
    broadcastInDim ⟨2, ![n, d]⟩ ![0, 1] h v (ix2 r q) = v (ix2 r (0 : Fin 1)) := by
  refine broadcastInDim_apply _ h v (ix2 r q) (ix2 r 0) fun a => ?_
  match a with
  | ⟨0, _⟩ =>
    show r.val = if n = 1 then 0 else r.val
    split
    · have := r.isLt
      omega
    · rfl
  | ⟨1, _⟩ => rfl

/-- A row copied down the columns. -/
theorem hostRow_apply (v : (⟨1, ![d]⟩ : Shape).Idx → EReal) (h : (⟨1, ![d]⟩ : Shape).BroadcastsInDim ⟨2, ![1, d]⟩ ![1]) (h' : (⟨2, ![1, d]⟩ : Shape).BroadcastsInDim ⟨2, ![n, d]⟩ ![0, 1]) (r : Fin n) (q : Fin d) :
    broadcastInDim ⟨2, ![n, d]⟩ ![0, 1] h' (broadcastInDim ⟨2, ![1, d]⟩ ![1] h v) (ix2 r q) = v (ix1 q) := by
  refine (broadcastInDim_apply _ h' _ (ix2 r q) (ix2 (0 : Fin 1) q) fun a => ?_).trans (broadcastInDim_apply _ h v (ix2 (0 : Fin 1) q) (ix1 q) fun a => ?_)
  · match a with
    | ⟨0, _⟩ => rfl
    | ⟨1, _⟩ =>
      show q.val = if d = 1 then 0 else q.val
      split
      · have := q.isLt
        omega
      · rfl
  · match a with
    | ⟨0, _⟩ =>
      show q.val = if d = 1 then 0 else q.val
      split
      · have := q.isLt
        omega
      · rfl

/-- An array's rows normalized, scaled by one vector and shifted by another. -/
def hostNorm (y : FVec Ideal ⟨2, ![n, d]⟩ .f32) (w b : FVec Ideal ⟨1, ![d]⟩ .f32) (hr : (⟨2, ![n, d]⟩ : Shape).ReducesTo [1] ⟨1, ![n]⟩) (hu : 0 < (⟨0, ![]⟩ : Shape).numel)
    (h1 : (⟨1, ![n]⟩ : Shape).BroadcastsInDim ⟨2, ![n, 1]⟩ ![0]) (h0 : (⟨0, ![]⟩ : Shape).BroadcastsInDim ⟨2, ![n, 1]⟩ ![]) (hc : (⟨2, ![n, 1]⟩ : Shape).BroadcastsInDim ⟨2, ![n, d]⟩ ![0, 1])
    (hw : (⟨1, ![d]⟩ : Shape).BroadcastsInDim ⟨2, ![1, d]⟩ ![1]) (hb : (⟨2, ![1, d]⟩ : Shape).BroadcastsInDim ⟨2, ![n, d]⟩ ![0, 1]) : FVec Ideal ⟨2, ![n, d]⟩ .f32 :=
  addf (mulf (mulf (subf y (broadcastInDim ⟨2, ![n, d]⟩ ![0, 1] hc (hostMean y hr hu h1 h0)))
    (broadcastInDim ⟨2, ![n, d]⟩ ![0, 1] hc (Host.rsqrt (addf (hostMean (mulf (subf y (broadcastInDim ⟨2, ![n, d]⟩ ![0, 1] hc (hostMean y hr hu h1 h0))) (subf y (broadcastInDim ⟨2, ![n, d]⟩ ![0, 1] hc (hostMean y hr hu h1 h0)))) hr hu h1 h0)
      (broadcastInDim ⟨2, ![n, 1]⟩ ![] h0 (constant ⟨0, ![]⟩ .f32 0x3727C5AC#32))))))
    (broadcastInDim ⟨2, ![n, d]⟩ ![0, 1] hb (broadcastInDim ⟨2, ![1, d]⟩ ![1] hw w))) (broadcastInDim ⟨2, ![n, d]⟩ ![0, 1] hb (broadcastInDim ⟨2, ![1, d]⟩ ![1] hw b))

theorem hostNorm_apply (y : FVec Ideal ⟨2, ![n, d]⟩ .f32) (w b : FVec Ideal ⟨1, ![d]⟩ .f32) (hr : (⟨2, ![n, d]⟩ : Shape).ReducesTo [1] ⟨1, ![n]⟩) (hr' : (⟨2, ![n, d]⟩ : Shape).Reduces [1] ⟨1, ![n]⟩) (hu : 0 < (⟨0, ![]⟩ : Shape).numel)
    (h1 : (⟨1, ![n]⟩ : Shape).BroadcastsInDim ⟨2, ![n, 1]⟩ ![0]) (h0 : (⟨0, ![]⟩ : Shape).BroadcastsInDim ⟨2, ![n, 1]⟩ ![]) (hc : (⟨2, ![n, 1]⟩ : Shape).BroadcastsInDim ⟨2, ![n, d]⟩ ![0, 1])
    (hw : (⟨1, ![d]⟩ : Shape).BroadcastsInDim ⟨2, ![1, d]⟩ ![1]) (hb : (⟨2, ![1, d]⟩ : Shape).BroadcastsInDim ⟨2, ![n, d]⟩ ![0, 1]) (r : Fin n) (q : Fin d) :
    hostNorm y w b hr hu h1 h0 hc hw hb (ix2 r q) = norm (fun k => y (ix2 r k)) (w (ix1 q)) (b (ix1 q)) q := by
  have hd : ∀ k : Fin d, subf y (broadcastInDim ⟨2, ![n, d]⟩ ![0, 1] hc (hostMean y hr hu h1 h0)) (ix2 r k) = y (ix2 r k) - mean fun k => y (ix2 r k) := fun k =>
    congrArg (fun s => y (ix2 r k) - s) ((hostColumn_apply _ hc r k).trans (hostMean_apply y hr hr' hu h1 h0 r))
  unfold hostNorm norm
  refine congrArg₂ (· + ·) (congrArg₂ (· * ·) (congrArg₂ (· * ·) (hd q) ?_) (hostRow_apply w hw hb r q)) (hostRow_apply b hw hb r q)
  refine (hostColumn_apply _ hc r q).trans (congrArg (fun s => Ideal.rsqrt (s + FloatOps.ofBits (F := Ideal) .f32 0x3727C5AC#32)) ?_)
  refine (hostMean_apply _ hr hr' hu h1 h0 r).trans (congrArg mean (funext fun k => ?_))
  exact congrArg₂ (· * ·) (hd k) (hd k)

end Whole

/-! ### A product added to a scaled residual, and the rows normalized -/

section Residual
variable {m M K d : ℕ}

/-- The residual's scale. -/
abbrev alpha : EReal := FloatOps.ofBits (F := Ideal) .f32 0x3FD744FD#32

/-- Row `R` of the product plus the scaled residual, normalized, at column `q`. -/
def resNorm (X : (⟨2, ![M, K]⟩ : Shape).Idx → EReal) (W : (⟨2, ![K, d]⟩ : Shape).Idx → EReal) (Y : (⟨2, ![M, d]⟩ : Shape).Idx → EReal) (w b : EReal) (R : ℕ) (q : Fin d) : EReal :=
  norm (fun k : Fin d => alpha * at2 Y R k.val + prod X W R k.val) w b q

/-- A block's rows. -/
def blockRes (x : FVec Ideal ⟨2, ![m, K]⟩ .bf16) (w : FVec Ideal ⟨2, ![K, d]⟩ .bf16) (y : FVec Ideal ⟨2, ![m, d]⟩ .f32) : FVec Ideal ⟨2, ![m, d]⟩ .f32 :=
  addf (mulf (broadcast ⟨2, ![m, d]⟩ (Scalar.ofBits .f32 0x3FD744FD#32)) y) (matmul (DotDims.plain m K d) none x w (constant ⟨2, ![m, d]⟩ .f32 0x00000000#32))

theorem blockRes_norm (x : FVec Ideal ⟨2, ![m, K]⟩ .bf16) (w : FVec Ideal ⟨2, ![K, d]⟩ .bf16) (y : FVec Ideal ⟨2, ![m, d]⟩ .f32)
    (X : (⟨2, ![M, K]⟩ : Shape).Idx → EReal) (W : (⟨2, ![K, d]⟩ : Shape).Idx → EReal) (Y : (⟨2, ![M, d]⟩ : Shape).Idx → EReal) (r : Fin m) (R : ℕ) (g h : EReal) (q : Fin d)
    (hx : ∀ k : Fin K, x (ix2 r k) = at2 X R k.val) (hw : ∀ (k : Fin K) (j : Fin d), w (ix2 k j) = at2 W k.val j.val) (hy : ∀ j : Fin d, y (ix2 r j) = at2 Y R j.val) :
    norm (fun k => blockRes x w y (ix2 r k)) g h q = resNorm X W Y g h R q := by
  unfold resNorm blockRes
  refine congrArg (fun f => norm f g h q) (funext fun k => ?_)
  exact congrArg₂ (· + ·) (congrArg (alpha * ·) (hy k)) (block_prod x w X W r k R k.val hx fun j => hw j k)

/-- The whole array's rows. -/
def hostRes (X : FVec Ideal ⟨2, ![M, K]⟩ .f32) (W : FVec Ideal ⟨2, ![K, d]⟩ .f32) (Y : FVec Ideal ⟨2, ![M, d]⟩ .f32) (h0 : (⟨0, ![]⟩ : Shape).BroadcastsInDim ⟨2, ![M, d]⟩ ![]) : FVec Ideal ⟨2, ![M, d]⟩ .f32 :=
  addf (mulf (broadcastInDim ⟨2, ![M, d]⟩ ![] h0 (constant ⟨0, ![]⟩ .f32 0x3FD744FD#32)) Y) (Host.dotGeneral (DotDims.plain M K d) none X W)

theorem hostRes_norm (X : FVec Ideal ⟨2, ![M, K]⟩ .f32) (W : FVec Ideal ⟨2, ![K, d]⟩ .f32) (Y : FVec Ideal ⟨2, ![M, d]⟩ .f32) (h0 : (⟨0, ![]⟩ : Shape).BroadcastsInDim ⟨2, ![M, d]⟩ ![]) (r : Fin M) (g h : EReal) (q : Fin d) :
    norm (fun k => hostRes X W Y h0 (ix2 r k)) g h q = resNorm X W Y g h r.val q := by
  unfold resNorm hostRes
  refine congrArg (fun f => norm f g h q) (funext fun k => ?_)
  exact congrArg₂ (· + ·) (congrArg (alpha * ·) (at2_of Y _ _ _ rfl rfl)) (host_prod X W (ix2 r k))

end Residual

end Cert.Dense

end
-- ==== Proof.SwiGlu.lean ====
/- The gated product: what its blocks leave, what its reference leaves, and that the two are one array. -/
module
public import proofs.«01_k».proof.Proof.Dense
public import proofs.«01_k».proof.Proof.Gen.Kernel2Ideal.Value
public import proofs.«01_k».proof.Proof.Gen.Reference2Ideal.Read
public import Idealize.ShloMosaic.Lib.Pipeline.ValueKit

@[expose] public section

noncomputable section

namespace Cert.SwiGlu

open Cert.Kernel2Ideal Cert.Kernel2Ideal.Gen Idealize.ShloMosaic.TcCoe Idealize.SL.Sem Idealize.ShloMosaic.ValueIdx Cert.Flash Cert.Dense
open Idealize.ShloMosaic hiding ix2 ix1

/-- The result: the gate's column and the column 5632 further on, each a product with the row, gated. -/
def result (X : S32768x2048.Idx → EReal) (W : S2048x11264.Idx → EReal) : S32768x5632.Idx → EReal := fun i =>
  gated (prod X W (i 0).val (i 1).val) (prod X W (i 0).val (5632 + (i 1).val))

theorem pay_apply (x : Vec Ideal S1024x2048 .bf16) (w u : Vec Ideal S2048x512 .bf16) (X : S32768x2048.Idx → EReal) (W : S2048x11264.Idx → EReal) (r : Fin 1024) (q : Fin 512) (R C C' : ℕ)
    (hx : ∀ k : Fin 2048, x (ix2 r k) = at2 X R k.val) (hw : ∀ k : Fin 2048, w (ix2 k q) = at2 W k.val C) (hu : ∀ k : Fin 2048, u (ix2 k q) = at2 W k.val C') :
    k0_pay1 (F := Ideal) x w u (ix2 r q) = gated (prod X W R C) (prod X W R C') := by
  have hg := block_prod (φ₁ := .bf16) (φ₂ := .bf16) x w X W r q R C hx hw
  have hv := block_prod (φ₁ := .bf16) (φ₂ := .bf16) x u X W r q R C' hx hu
  have e : ∀ g v : EReal, g * Ideal.div (FloatOps.ofBits (F := Ideal) .f32 0x3F800000#32) (FloatOps.ofBits (F := Ideal) .f32 0x3F800000#32 + Ideal.exp (FloatOps.ofBits (F := Ideal) .f32 0x00000000#32 - g)) * v = gated g v := fun g v => by
    rw [show (FloatOps.ofBits (F := Ideal) .f32 0x00000000#32 : EReal) = 0 from Ideal.ofBits_zero_f32, zero_sub]
    rfl
  rw [← hg, ← hv, ← e]
  rfl

theorem idx0 : ∀ t : Fin cfg0.N, win0_0.index t = ![t.val / 11, 0] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![0, 11 + t.val % 11] := (by decide +kernel : ∀ t : Fin grid0.N, _)
theorem idx3 : ∀ t : Fin cfg0.N, win0_3.index t = ![t.val / 11, t.val % 11] := (by decide +kernel : ∀ t : Fin grid0.N, _)

variable (m : (ℓ : Loc nD τ sig) → Buf (Elt Ideal) ℓ) (c : Dev nD)

/-- The rows as launched. -/
abbrev argX : S32768x2048.Idx → EReal := m ((c : Thread nD τ).loc main_arg0)
/-- The two weight matrices side by side as launched. -/
abbrev argW : S2048x11264.Idx → EReal := m ((c : Thread nD τ).loc main_arg1)

theorem iblk0_apply (t : Fin cfg0.N) (r : Fin 1024) (k : Fin 2048) : iblk m c 0 t (ix2 r k) = at2 (argX m c) (t.val / 11 * 1024 + r.val) k.val := by
  blk_simp [iblk]
  rw [V_main_arg0]
  refine at2_of _ _ _ _ ?_ ?_
  · blk_simp [idx0]
  · blk_simp [idx0]
theorem iblk1_apply (t : Fin cfg0.N) (k : Fin 2048) (q : Fin 512) : iblk m c 1 t (ix2 k q) = at2 (argW m c) k.val (t.val % 11 * 512 + q.val) := by
  blk_simp [iblk]
  rw [V_main_arg1]
  refine at2_of _ _ _ _ ?_ ?_
  · blk_simp [idx1]
  · blk_simp [idx1]
theorem iblk2_apply (t : Fin cfg0.N) (k : Fin 2048) (q : Fin 512) : iblk m c 2 t (ix2 k q) = at2 (argW m c) k.val (5632 + (t.val % 11 * 512 + q.val)) := by
  blk_simp [iblk]
  rw [V_main_arg1]
  refine at2_of _ _ _ _ ?_ ?_
  · blk_simp [idx2]
  · blk_simp [idx2]
    show _ + q.val = _ + (_ + q.val)
    omega

/-- The result array after the run. -/
theorem final : (dats m 0 c).arrAt 3 cfg0.N = result (argX m c) (argW m c) := by
  refine (dats m 0 c).arrAt_eq_of_covers 3 _ (by decide +kernel) fun t _ y => ?_
  obtain ⟨r, q, rfl⟩ : ∃ r q, y = ix2 (n0 := 1024) (n1 := 512) r q := ⟨y 0, y 1, ValueIdx.eq_ix2 y⟩
  blk_simp
  rw [after0_3]
  have e0 : (((cfg0.win 3).blk t).view.emb (ix2 r q) 0).val = t.val / 11 * 1024 + r.val := by
    blk_simp [idx3]
    show _ + r.val = _ + r.val
    omega
  have e1 : (((cfg0.win 3).blk t).view.emb (ix2 r q) 1).val = t.val % 11 * 512 + q.val := by
    blk_simp [idx3]
    show _ + q.val = _ + q.val
    omega
  unfold result
  rw [e0, e1]
  frame_out
  exact pay_apply _ _ _ _ _ r q _ _ _ (fun k => iblk0_apply m c t r k) (fun k => iblk1_apply m c t k q) (fun k => iblk2_apply m c t k q)

section
open Cert.Reference2Ideal.Read
variable (X : S32768x2048.Idx → EReal) (W : S2048x11264.Idx → EReal)

theorem reference_prod (i : Cert.Reference2Ideal.S32768x11264.Idx) : val_main_v2 (F := Ideal) X W i = prod X W (i 0).val (i 1).val := by
  unfold val_main_v2
  exact host_prod (φ₁ := .f32) (φ₂ := .f32) X W i

/-- The reference's result is the closed form. -/
theorem reference_result : val_main_v7 (F := Ideal) X W = result X W := by
  funext i
  unfold result
  have hg : val_main_v3 (F := Ideal) X W i = prod X W (i 0).val (i 1).val := (val_main_v3_apply (F := Ideal) X W i).trans (reference_prod X W _)
  have hv : val_main_v4 (F := Ideal) X W i = prod X W (i 0).val (5632 + (i 1).val) := (val_main_v4_apply (F := Ideal) X W i).trans (reference_prod X W _)
  rw [← hg, ← hv, val_main_v7_apply, val_main_v6_apply, val_main_v5_apply, val_main_call0_v5_apply, val_main_call0_v4_apply, val_main_call0_v3_apply, val_main_call0_v2_apply, val_main_call0_v1_apply, val_main_call0_v0_apply]
  rfl

end

end Cert.SwiGlu

end
-- ==== Proof.FfnDown.lean ====
/- The feed-forward network's second product with its residual and normalization: what its blocks leave, what its reference leaves, and that the two are one pair of arrays. -/
module
public import proofs.«01_k».proof.Proof.Dense
public import proofs.«01_k».proof.Proof.Gen.Kernel3Ideal.Value
public import proofs.«01_k».proof.Proof.Gen.Reference3Ideal.Read
public import Idealize.ShloMosaic.Lib.Pipeline.ValueKit

@[expose] public section

noncomputable section

namespace Cert.FfnDown

open Cert.Kernel3Ideal Cert.Kernel3Ideal.Gen Idealize.ShloMosaic.TcCoe Idealize.SL.Sem Idealize.ShloMosaic.ValueIdx Cert.Flash Cert.Dense
open Idealize.ShloMosaic hiding ix2 ix1

/-- The result: every row of the product plus the scaled residual, normalized. -/
def result (X : S32768x5632.Idx → EReal) (W : S5632x2048.Idx → EReal) (Y : S32768x2048.Idx → EReal) (g h : S2048.Idx → EReal) : S32768x2048.Idx → EReal := fun i =>
  resNorm X W Y (g (ix1 (n := 2048) (i 1))) (h (ix1 (n := 2048) (i 1))) (i 0).val (i 1)

theorem pay_apply (y : Vec Ideal S256x2048 .f32) (x : Vec Ideal S256x5632 .bf16) (w : Vec Ideal S5632x2048 .bf16) (g h : Vec Ideal S1x2048 .f32) (r : Fin 256) (q : Fin 2048) :
    k0_pay1 (F := Ideal) y x w g h (ix2 r q) = norm (fun k => blockRes (m := 256) (K := 5632) (d := 2048) x w y (ix2 r k)) (g (ix2 (0 : Fin 1) q)) (h (ix2 (0 : Fin 1) q)) q :=
  blockNorm_apply (n := 256) (d := 2048) (blockRes (m := 256) (K := 5632) (d := 2048) x w y) g h reduces_S256x2048_S256 shapeCasts_S256_S256x1 broadcasts_S256x1_S256x2048 shapeCasts_S1x2048_S1x2048 broadcasts_S1x2048_S256x2048 r q

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

variable (m : (ℓ : Loc nD τ sig) → Buf (Elt Ideal) ℓ) (c : Dev nD)

/-- The left factor as launched. -/
abbrev argX : S32768x5632.Idx → EReal := m ((c : Thread nD τ).loc main_arg0)
/-- The right factor as launched. -/
abbrev argW : S5632x2048.Idx → EReal := m ((c : Thread nD τ).loc main_arg1)
/-- The residual as launched. -/
abbrev argY : S32768x2048.Idx → EReal := m ((c : Thread nD τ).loc main_arg2)
/-- The normalization's scale as launched. -/
abbrev argG : S2048.Idx → EReal := m ((c : Thread nD τ).loc main_arg3)
/-- The normalization's shift as launched. -/
abbrev argH : S2048.Idx → EReal := m ((c : Thread nD τ).loc main_arg4)

/-- The scale as one row. -/
theorem V_scale : V m c main_v0 = shapeCast S1x2048 (argG m c) shapeCasts_S2048_S1x2048 := by
  unfold_abbrev_sides
  after_results
  rfl
/-- The shift as one row. -/
theorem V_shift : V m c main_v1 = shapeCast S1x2048 (argH m c) shapeCasts_S2048_S1x2048 := by
  unfold_abbrev_sides
  after_results
  rfl

theorem iblk0_apply (t : Fin cfg0.N) (r : Fin 256) (k : Fin 5632) : iblk m c 0 t (ix2 r k) = at2 (argX m c) (t.val * 256 + r.val) k.val := by
  blk_simp [iblk]
  rw [V_main_arg0]
  refine at2_of _ _ _ _ ?_ ?_ <;> blk_simp [idx0]
theorem iblk1_apply (t : Fin cfg0.N) (k : Fin 5632) (q : Fin 2048) : iblk m c 1 t (ix2 k q) = at2 (argW m c) k.val q.val := by
  blk_simp [iblk]
  rw [V_main_arg1]
  refine at2_of _ _ _ _ ?_ ?_ <;> blk_simp [idx1]
theorem iblk2_apply (t : Fin cfg0.N) (r : Fin 256) (q : Fin 2048) : iblk m c 2 t (ix2 r q) = at2 (argY m c) (t.val * 256 + r.val) q.val := by
  blk_simp [iblk]
  rw [V_main_arg2]
  refine at2_of _ _ _ _ ?_ ?_ <;> blk_simp [idx2]
theorem iblk3_apply (t : Fin cfg0.N) (q : Fin 2048) : iblk m c 3 t (ix2 (0 : Fin 1) q) = argG m c (ix1 q) := by
  blk_simp [iblk]
  rw [V_scale]
  refine Eq.trans (congrArg _ ?_) (shapeCast_a_1a_apply (argG m c) shapeCasts_S2048_S1x2048 0 q)
  funext a
  apply Fin.ext
  match a with
  | ⟨0, _⟩ => blk_simp [idx3]
  | ⟨1, _⟩ => blk_simp [idx3]
theorem iblk4_apply (t : Fin cfg0.N) (q : Fin 2048) : iblk m c 4 t (ix2 (0 : Fin 1) q) = argH m c (ix1 q) := by
  blk_simp [iblk]
  rw [V_shift]
  refine Eq.trans (congrArg _ ?_) (shapeCast_a_1a_apply (argH m c) shapeCasts_S2048_S1x2048 0 q)
  funext a
  apply Fin.ext
  match a with
  | ⟨0, _⟩ => blk_simp [idx4]
  | ⟨1, _⟩ => blk_simp [idx4]

/-- What a point's block holds, row by row. -/
theorem block (t : Fin cfg0.N) (r : Fin 256) (q : Fin 2048) :
    k0_pay1 (F := Ideal) (iblk m c 2 t) (iblk m c 0 t) (iblk m c 1 t) (iblk m c 3 t) (iblk m c 4 t) (ix2 r q)
      = resNorm (argX m c) (argW m c) (argY m c) (argG m c (ix1 q)) (argH m c (ix1 q)) (t.val * 256 + r.val) q := by
  rw [pay_apply, iblk3_apply, iblk4_apply]
  exact blockRes_norm _ _ _ _ _ _ r _ _ _ q (iblk0_apply m c t r) (iblk1_apply m c t) (iblk2_apply m c t r)

/-- The first result array after the run. -/
theorem final : (dats m 0 c).arrAt 5 cfg0.N = result (argX m c) (argW m c) (argY m c) (argG m c) (argH m c) := by
  refine (dats m 0 c).arrAt_eq_of_covers 5 _ (by decide +kernel) fun t _ y => ?_
  obtain ⟨r, q, rfl⟩ : ∃ r q, y = ix2 (n0 := 256) (n1 := 2048) r q := ⟨y 0, y 1, ValueIdx.eq_ix2 y⟩
  blk_simp
  rw [after0_5]
  have e0 : (((cfg0.win 5).blk t).view.emb (ix2 r q) 0).val = t.val * 256 + r.val := by
    blk_simp [idx5]
    rfl
  have e1 : ((cfg0.win 5).blk t).view.emb (ix2 r q) 1 = q := Fin.ext (by blk_simp [idx5]; rfl)
  unfold result
  rw [e0, e1]
  frame_out
  exact block m c t r q

/-- The second result array after the run: the same numbers. -/
theorem final_copy : (dats m 0 c).arrAt 6 cfg0.N = result (argX m c) (argW m c) (argY m c) (argG m c) (argH m c) := by
  refine (dats m 0 c).arrAt_eq_of_covers 6 _ (by decide +kernel) fun t _ y => ?_
  obtain ⟨r, q, rfl⟩ : ∃ r q, y = ix2 (n0 := 256) (n1 := 2048) r q := ⟨y 0, y 1, ValueIdx.eq_ix2 y⟩
  blk_simp
  rw [after0_6]
  have e0 : (((cfg0.win 6).blk t).view.emb (ix2 r q) 0).val = t.val * 256 + r.val := by
    blk_simp [idx6]
    rfl
  have e1 : ((cfg0.win 6).blk t).view.emb (ix2 r q) 1 = q := Fin.ext (by blk_simp [idx6]; rfl)
  unfold result
  rw [e0, e1]
  frame_out
  exact block m c t r q

section
open Cert.Reference3Ideal.Read Cert.Reference3Ideal.Gen
variable (X : S32768x5632.Idx → EReal) (W : S5632x2048.Idx → EReal) (Y : S32768x2048.Idx → EReal) (g h : S2048.Idx → EReal)

/-- The reference's first result is the closed form. -/
theorem reference_result : val_main_v29 (F := Ideal) X W Y g h = result X W Y g h := by
  funext i
  obtain ⟨r, q, rfl⟩ : ∃ r q, i = ix2 (n0 := 32768) (n1 := 2048) r q := ⟨i 0, i 1, ValueIdx.eq_ix2 i⟩
  refine Eq.trans ?_ (hostRes_norm (M := 32768) (K := 5632) (d := 2048) X W Y bcast_S_S32768x2048 r (g (ix1 q)) (h (ix1 q)) q)
  exact hostNorm_apply (n := 32768) (d := 2048) (hostRes (M := 32768) (K := 5632) (d := 2048) X W Y bcast_S_S32768x2048) g h reducesTo_S32768x2048_S32768_d1 (by decide) h_S_
    bcast_S32768_S32768x1_0 bcast_S_S32768x1 bcast_S32768x1_S32768x2048_0_1 bcast_S2048_S1x2048_1 bcast_S1x2048_S32768x2048_0_1 r q

/-- And so is its second. -/
theorem reference_copy : val_main_v30 (F := Ideal) X W Y g h = result X W Y g h := (funext fun _ => rfl : _ = val_main_v29 (F := Ideal) X W Y g h).trans (reference_result X W Y g h)

end

end Cert.FfnDown

end
-- ==== Proof.Proj.lean ====
/- The plain projection: what its blocks leave, what its reference leaves, and that the two are one array. -/
module
public import proofs.«01_k».proof.Proof.Dense
public import proofs.«01_k».proof.Proof.Gen.Kernel4Ideal.Value
public import proofs.«01_k».proof.Proof.Gen.Reference4Ideal.Read
public import Idealize.ShloMosaic.Lib.Pipeline.ValueKit

@[expose] public section

noncomputable section

namespace Cert.Proj

open Cert.Kernel4Ideal Cert.Kernel4Ideal.Gen Idealize.ShloMosaic.TcCoe Idealize.SL.Sem Idealize.ShloMosaic.ValueIdx Cert.Flash Cert.Dense
open Idealize.ShloMosaic hiding ix2 ix1

/-- The result: the product. -/
def result (X : S32768x2048.Idx → EReal) (W : S2048x2048.Idx → EReal) : S32768x2048.Idx → EReal := fun i => prod X W (i 0).val (i 1).val

/-- The product plus a bias row that is zero. -/
theorem pay_apply (x : Vec Ideal S1024x2048 .bf16) (w : Vec Ideal S2048x2048 .bf16) (b : Vec Ideal S1x2048 .f32) (X : S32768x2048.Idx → EReal) (W : S2048x2048.Idx → EReal) (r : Fin 1024) (q : Fin 2048) (R : ℕ)
    (hx : ∀ k : Fin 2048, x (ix2 r k) = at2 X R k.val) (hw : ∀ k : Fin 2048, w (ix2 k q) = at2 W k.val q.val) (hb : b (ix2 (0 : Fin 1) q) = (0 : EReal)) :
    k0_pay1 (F := Ideal) x w b (ix2 r q) = prod X W R q.val := by
  have hp := block_prod (φ₁ := .bf16) (φ₂ := .bf16) x w X W r q R q.val hx hw
  have hz : broadcastTo S1024x2048 (shapeCast S1x2048 b shapeCasts_S1x2048_S1x2048) broadcasts_S1x2048_S1024x2048 (ix2 r q) = (0 : EReal) := by
    refine (broadcastTo_1b_ab_apply (a := 1024) (b := 2048) _ broadcasts_S1x2048_S1024x2048 r q).trans ?_
    rw [shapeCast_self, hb]
  exact (congrArg₂ (fun s t : EReal => s + t) hp hz).trans (add_zero _)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx3 : ∀ t : Fin cfg0.N, win0_3.index t = ![t.val, 0] := (by decide +kernel : ∀ t : Fin grid0.N, _)

variable (m : (ℓ : Loc nD τ sig) → Buf (Elt Ideal) ℓ) (c : Dev nD)

/-- The rows as launched. -/
abbrev argX : S32768x2048.Idx → EReal := m ((c : Thread nD τ).loc main_arg0)
/-- The weights as launched. -/
abbrev argW : S2048x2048.Idx → EReal := m ((c : Thread nD τ).loc main_arg1)

/-- The bias row, written before the launch, is zero. -/
theorem V_bias : V m c main_v1 = shapeCast S1x2048 (broadcastInDim S2048 ![] bcast_S_S2048 (constant (F := Ideal) S_ .f32 0x00000000#32)) shapeCasts_S2048_S1x2048 := by
  unfold_abbrev_sides
  after_results
  rfl

theorem iblk0_apply (t : Fin cfg0.N) (r : Fin 1024) (k : Fin 2048) : iblk m c 0 t (ix2 r k) = at2 (argX m c) (t.val * 1024 + r.val) k.val := by
  blk_simp [iblk]
  rw [V_main_arg0]
  refine at2_of _ _ _ _ ?_ ?_ <;> blk_simp [idx0]
theorem iblk1_apply (t : Fin cfg0.N) (k : Fin 2048) (q : Fin 2048) : iblk m c 1 t (ix2 k q) = at2 (argW m c) k.val q.val := by
  blk_simp [iblk]
  rw [V_main_arg1]
  refine at2_of _ _ _ _ ?_ ?_ <;> blk_simp [idx1]
theorem iblk2_apply (t : Fin cfg0.N) (y : S1x2048.Idx) : iblk m c 2 t y = (0 : EReal) := by
  blk_simp [iblk]
  rw [V_bias]
  exact Ideal.ofBits_zero_f32

/-- The result array after the run. -/
theorem final : (dats m 0 c).arrAt 3 cfg0.N = result (argX m c) (argW m c) := by
  refine (dats m 0 c).arrAt_eq_of_covers 3 _ (by decide +kernel) fun t _ y => ?_
  obtain ⟨r, q, rfl⟩ : ∃ r q, y = ix2 (n0 := 1024) (n1 := 2048) r q := ⟨y 0, y 1, ValueIdx.eq_ix2 y⟩
  blk_simp
  rw [after0_3]
  have e0 : (((cfg0.win 3).blk t).view.emb (ix2 r q) 0).val = t.val * 1024 + r.val := by
    blk_simp [idx3]
    rfl
  have e1 : (((cfg0.win 3).blk t).view.emb (ix2 r q) 1).val = q.val := by
    blk_simp [idx3]
    rfl
  unfold result
  rw [e0, e1]
  frame_out
  exact pay_apply _ _ _ _ _ r q _ (iblk0_apply m c t r) (fun k => iblk1_apply m c t k q) (iblk2_apply m c t _)

/-- The reference's result is the closed form. -/
theorem reference_result (X : S32768x2048.Idx → EReal) (W : S2048x2048.Idx → EReal) : Cert.Reference4Ideal.Read.val_main_v2 (F := Ideal) X W = result X W :=
  funext fun i => host_prod (φ₁ := .f32) (φ₂ := .f32) X W i

end Cert.Proj

end
-- ==== Proof.OutProj.lean ====
/- The output projection with its residual and normalization: what its blocks leave, what its reference leaves, and that the two are one pair of arrays. -/
module
public import proofs.«01_k».proof.Proof.Dense
public import proofs.«01_k».proof.Proof.Gen.Kernel5Ideal.Value
public import proofs.«01_k».proof.Proof.Gen.Reference5Ideal.Read
public import Idealize.ShloMosaic.Lib.Pipeline.ValueKit

@[expose] public section

noncomputable section

namespace Cert.OutProj

open Cert.Kernel5Ideal Cert.Kernel5Ideal.Gen Idealize.ShloMosaic.TcCoe Idealize.SL.Sem Idealize.ShloMosaic.ValueIdx Cert.Flash Cert.Dense
open Idealize.ShloMosaic hiding ix2 ix1

/-- The result: every row of the product plus the scaled residual, normalized. -/
def result (X : S32768x2048.Idx → EReal) (W : S2048x2048.Idx → EReal) (Y : S32768x2048.Idx → EReal) (g h : S2048.Idx → EReal) : S32768x2048.Idx → EReal := fun i =>
  resNorm X W Y (g (ix1 (n := 2048) (i 1))) (h (ix1 (n := 2048) (i 1))) (i 0).val (i 1)

theorem pay_apply (y : Vec Ideal S512x2048 .f32) (x : Vec Ideal S512x2048 .bf16) (w : Vec Ideal S2048x2048 .bf16) (g h : Vec Ideal S1x2048 .f32) (r : Fin 512) (q : Fin 2048) :
    k0_pay1 (F := Ideal) y x w g h (ix2 r q) = norm (fun k => blockRes (m := 512) (K := 2048) (d := 2048) x w y (ix2 r k)) (g (ix2 (0 : Fin 1) q)) (h (ix2 (0 : Fin 1) q)) q :=
  blockNorm_apply (n := 512) (d := 2048) (blockRes (m := 512) (K := 2048) (d := 2048) x w y) g h reduces_S512x2048_S512 shapeCasts_S512_S512x1 broadcasts_S512x1_S512x2048 shapeCasts_S1x2048_S1x2048 broadcasts_S1x2048_S512x2048 r q

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

variable (m : (ℓ : Loc nD τ sig) → Buf (Elt Ideal) ℓ) (c : Dev nD)

/-- The left factor as launched. -/
abbrev argX : S32768x2048.Idx → EReal := m ((c : Thread nD τ).loc main_arg0)
/-- The right factor as launched. -/
abbrev argW : S2048x2048.Idx → EReal := m ((c : Thread nD τ).loc main_arg1)
/-- The residual as launched. -/
abbrev argY : S32768x2048.Idx → EReal := m ((c : Thread nD τ).loc main_arg2)
/-- The normalization's scale as launched. -/
abbrev argG : S2048.Idx → EReal := m ((c : Thread nD τ).loc main_arg3)
/-- The normalization's shift as launched. -/
abbrev argH : S2048.Idx → EReal := m ((c : Thread nD τ).loc main_arg4)

/-- The scale as one row. -/
theorem V_scale : V m c main_v0 = shapeCast S1x2048 (argG m c) shapeCasts_S2048_S1x2048 := by
  unfold_abbrev_sides
  after_results
  rfl
/-- The shift as one row. -/
theorem V_shift : V m c main_v1 = shapeCast S1x2048 (argH m c) shapeCasts_S2048_S1x2048 := by
  unfold_abbrev_sides
  after_results
  rfl

theorem iblk0_apply (t : Fin cfg0.N) (r : Fin 512) (k : Fin 2048) : iblk m c 0 t (ix2 r k) = at2 (argX m c) (t.val * 512 + r.val) k.val := by
  blk_simp [iblk]
  rw [V_main_arg0]
  refine at2_of _ _ _ _ ?_ ?_ <;> blk_simp [idx0]
theorem iblk1_apply (t : Fin cfg0.N) (k : Fin 2048) (q : Fin 2048) : iblk m c 1 t (ix2 k q) = at2 (argW m c) k.val q.val := by
  blk_simp [iblk]
  rw [V_main_arg1]
  refine at2_of _ _ _ _ ?_ ?_ <;> blk_simp [idx1]
theorem iblk2_apply (t : Fin cfg0.N) (r : Fin 512) (q : Fin 2048) : iblk m c 2 t (ix2 r q) = at2 (argY m c) (t.val * 512 + r.val) q.val := by
  blk_simp [iblk]
  rw [V_main_arg2]
  refine at2_of _ _ _ _ ?_ ?_ <;> blk_simp [idx2]
theorem iblk3_apply (t : Fin cfg0.N) (q : Fin 2048) : iblk m c 3 t (ix2 (0 : Fin 1) q) = argG m c (ix1 q) := by
  blk_simp [iblk]
  rw [V_scale]
  refine Eq.trans (congrArg _ ?_) (shapeCast_a_1a_apply (argG m c) shapeCasts_S2048_S1x2048 0 q)
  funext a
  apply Fin.ext
  match a with
  | ⟨0, _⟩ => blk_simp [idx3]
  | ⟨1, _⟩ => blk_simp [idx3]
theorem iblk4_apply (t : Fin cfg0.N) (q : Fin 2048) : iblk m c 4 t (ix2 (0 : Fin 1) q) = argH m c (ix1 q) := by
  blk_simp [iblk]
  rw [V_shift]
  refine Eq.trans (congrArg _ ?_) (shapeCast_a_1a_apply (argH m c) shapeCasts_S2048_S1x2048 0 q)
  funext a
  apply Fin.ext
  match a with
  | ⟨0, _⟩ => blk_simp [idx4]
  | ⟨1, _⟩ => blk_simp [idx4]

/-- What a point's block holds, row by row. -/
theorem block (t : Fin cfg0.N) (r : Fin 512) (q : Fin 2048) :
    k0_pay1 (F := Ideal) (iblk m c 2 t) (iblk m c 0 t) (iblk m c 1 t) (iblk m c 3 t) (iblk m c 4 t) (ix2 r q)
      = resNorm (argX m c) (argW m c) (argY m c) (argG m c (ix1 q)) (argH m c (ix1 q)) (t.val * 512 + r.val) q := by
  rw [pay_apply, iblk3_apply, iblk4_apply]
  exact blockRes_norm _ _ _ _ _ _ r _ _ _ q (iblk0_apply m c t r) (iblk1_apply m c t) (iblk2_apply m c t r)

/-- The first result array after the run. -/
theorem final : (dats m 0 c).arrAt 5 cfg0.N = result (argX m c) (argW m c) (argY m c) (argG m c) (argH m c) := by
  refine (dats m 0 c).arrAt_eq_of_covers 5 _ (by decide +kernel) fun t _ y => ?_
  obtain ⟨r, q, rfl⟩ : ∃ r q, y = ix2 (n0 := 512) (n1 := 2048) r q := ⟨y 0, y 1, ValueIdx.eq_ix2 y⟩
  blk_simp
  rw [after0_5]
  have e0 : (((cfg0.win 5).blk t).view.emb (ix2 r q) 0).val = t.val * 512 + r.val := by
    blk_simp [idx5]
    rfl
  have e1 : ((cfg0.win 5).blk t).view.emb (ix2 r q) 1 = q := Fin.ext (by blk_simp [idx5]; rfl)
  unfold result
  rw [e0, e1]
  frame_out
  exact block m c t r q

/-- The second result array after the run: the same numbers. -/
theorem final_copy : (dats m 0 c).arrAt 6 cfg0.N = result (argX m c) (argW m c) (argY m c) (argG m c) (argH m c) := by
  refine (dats m 0 c).arrAt_eq_of_covers 6 _ (by decide +kernel) fun t _ y => ?_
  obtain ⟨r, q, rfl⟩ : ∃ r q, y = ix2 (n0 := 512) (n1 := 2048) r q := ⟨y 0, y 1, ValueIdx.eq_ix2 y⟩
  blk_simp
  rw [after0_6]
  have e0 : (((cfg0.win 6).blk t).view.emb (ix2 r q) 0).val = t.val * 512 + r.val := by
    blk_simp [idx6]
    rfl
  have e1 : ((cfg0.win 6).blk t).view.emb (ix2 r q) 1 = q := Fin.ext (by blk_simp [idx6]; rfl)
  unfold result
  rw [e0, e1]
  frame_out
  exact block m c t r q

section
open Cert.Reference5Ideal.Read Cert.Reference5Ideal.Gen
variable (X : S32768x2048.Idx → EReal) (W : S2048x2048.Idx → EReal) (Y : S32768x2048.Idx → EReal) (g h : S2048.Idx → EReal)

/-- The reference's first result is the closed form. -/
theorem reference_result : val_main_v29 (F := Ideal) X W Y g h = result X W Y g h := by
  funext i
  obtain ⟨r, q, rfl⟩ : ∃ r q, i = ix2 (n0 := 32768) (n1 := 2048) r q := ⟨i 0, i 1, ValueIdx.eq_ix2 i⟩
  refine Eq.trans ?_ (hostRes_norm (M := 32768) (K := 2048) (d := 2048) X W Y bcast_S_S32768x2048 r (g (ix1 q)) (h (ix1 q)) q)
  exact hostNorm_apply (n := 32768) (d := 2048) (hostRes (M := 32768) (K := 2048) (d := 2048) X W Y bcast_S_S32768x2048) g h reducesTo_S32768x2048_S32768_d1 (by decide) h_S_
    bcast_S32768_S32768x1_0 bcast_S_S32768x1 bcast_S32768x1_S32768x2048_0_1 bcast_S2048_S1x2048_1 bcast_S1x2048_S32768x2048_0_1 r q

/-- And so is its second. -/
theorem reference_copy : val_main_v30 (F := Ideal) X W Y g h = result X W Y g h := (funext fun _ => rfl : _ = val_main_v29 (F := Ideal) X W Y g h).trans (reference_result X W Y g h)

end

end Cert.OutProj

end
-- ==== Proof.VProj.lean ====
/- The value projection: what its blocks leave, what its reference leaves, and that the two are one array. -/
module
public import proofs.«01_k».proof.Proof.Dense
public import proofs.«01_k».proof.Proof.Gen.Kernel6Ideal.Value
public import proofs.«01_k».proof.Proof.Gen.Reference6Ideal.Read
public import Idealize.ShloMosaic.Lib.Pipeline.ValueKit

@[expose] public section

noncomputable section

namespace Cert.VProj

open Cert.Kernel6Ideal Cert.Kernel6Ideal.Gen Idealize.ShloMosaic.TcCoe Idealize.SL.Sem Idealize.ShloMosaic.ValueIdx Cert.Flash Cert.Dense
open Idealize.ShloMosaic hiding ix2 ix1

/-- The result: the product plus the bias of its column. -/
def result (X : S32768x2048.Idx → EReal) (W : S2048x512.Idx → EReal) (B : S512.Idx → EReal) : S32768x512.Idx → EReal := fun i => prod X W (i 0).val (i 1).val + B (ix1 (i 1))

/-- A block's elements. -/
theorem pay_apply (x : Vec Ideal S1024x2048 .bf16) (w : Vec Ideal S2048x512 .bf16) (b : Vec Ideal S1x512 .f32) (X : S32768x2048.Idx → EReal) (W : S2048x512.Idx → EReal) (B : EReal) (r : Fin 1024) (q : Fin 512) (R : ℕ)
    (hx : ∀ k : Fin 2048, x (ix2 r k) = at2 X R k.val) (hw : ∀ k : Fin 2048, w (ix2 k q) = at2 W k.val q.val) (hb : b (ix2 (0 : Fin 1) q) = B) :
    k0_pay1 (F := Ideal) x w b (ix2 r q) = prod X W R q.val + B := by
  have hp := block_prod (φ₁ := .bf16) (φ₂ := .bf16) x w X W r q R q.val hx hw
  have hz : broadcastTo S1024x512 (shapeCast S1x512 b shapeCasts_S1x512_S1x512) broadcasts_S1x512_S1024x512 (ix2 r q) = B := by
    refine (broadcastTo_1b_ab_apply (a := 1024) (b := 512) _ broadcasts_S1x512_S1024x512 r q).trans ?_
    rw [shapeCast_self, hb]
  exact congrArg₂ (fun s t : EReal => s + t) hp hz

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

variable (m : (ℓ : Loc nD τ sig) → Buf (Elt Ideal) ℓ) (c : Dev nD)

/-- The rows as launched. -/
abbrev argX : S32768x2048.Idx → EReal := m ((c : Thread nD τ).loc main_arg0)
/-- The weights as launched. -/
abbrev argW : S2048x512.Idx → EReal := m ((c : Thread nD τ).loc main_arg1)
/-- The bias as launched. -/
abbrev argB : S512.Idx → EReal := m ((c : Thread nD τ).loc main_arg2)

/-- The bias row, written before the launch. -/
theorem V_bias : V m c main_v0 = shapeCast S1x512 (argB m c) shapeCasts_S512_S1x512 := by
  unfold_abbrev_sides
  after_results
  rfl

theorem iblk0_apply (t : Fin cfg0.N) (r : Fin 1024) (k : Fin 2048) : iblk m c 0 t (ix2 r k) = at2 (argX m c) (t.val * 1024 + r.val) k.val := by
  blk_simp [iblk]
  rw [V_main_arg0]
  refine at2_of _ _ _ _ ?_ ?_ <;> blk_simp [idx0]
theorem iblk1_apply (t : Fin cfg0.N) (k : Fin 2048) (q : Fin 512) : iblk m c 1 t (ix2 k q) = at2 (argW m c) k.val q.val := by
  blk_simp [iblk]
  rw [V_main_arg1]
  refine at2_of _ _ _ _ ?_ ?_ <;> blk_simp [idx1]
theorem iblk2_apply (t : Fin cfg0.N) (q : Fin 512) : iblk m c 2 t (ix2 (0 : Fin 1) q) = argB m c (ix1 q) := by
  blk_simp [iblk]
  rw [V_bias]
  refine (congrArg _ (funext fun a => Fin.ext ?_ : _ = ix2 (0 : Fin 1) q)).trans (shapeCast_a_1a_apply (argB m c) shapeCasts_S512_S1x512 0 q)
  match a with
  | ⟨0, _⟩ => blk_simp [idx2]
  | ⟨1, _⟩ => blk_simp [idx2]

/-- The result array after the run. -/
theorem final : (dats m 0 c).arrAt 3 cfg0.N = result (argX m c) (argW m c) (argB m c) := by
  refine (dats m 0 c).arrAt_eq_of_covers 3 _ (by decide +kernel) fun t _ y => ?_
  obtain ⟨r, q, rfl⟩ : ∃ r q, y = ix2 (n0 := 1024) (n1 := 512) r q := ⟨y 0, y 1, ValueIdx.eq_ix2 y⟩
  blk_simp
  rw [after0_3]
  have e0 : (((cfg0.win 3).blk t).view.emb (ix2 r q) 0).val = t.val * 1024 + r.val := by
    blk_simp [idx3]
    rfl
  have e1 : ((cfg0.win 3).blk t).view.emb (ix2 r q) 1 = q := Fin.ext (by
    blk_simp [idx3]
    rfl)
  unfold result
  rw [e0, e1]
  frame_out
  exact pay_apply _ _ _ _ _ _ r q _ (iblk0_apply m c t r) (fun k => iblk1_apply m c t k q) (iblk2_apply m c t q)

/-- The reference's result is the closed form. -/
theorem reference_result (X : S32768x2048.Idx → EReal) (W : S2048x512.Idx → EReal) (B : S512.Idx → EReal) : Cert.Reference6Ideal.Read.val_main_v6 (F := Ideal) X W B = result X W B :=
  funext fun i => congrArg₂ (fun s t : EReal => s + t) (host_prod (φ₁ := .f32) (φ₂ := .f32) X W i)
    ((Cert.Reference6Ideal.Read.val_main_v4_apply (F := Ideal) B i).trans ((Cert.Reference6Ideal.Read.val_main_v3_apply (F := Ideal) B _).trans
      (congrArg B (funext fun a => match a with | ⟨0, _⟩ => rfl))))

end Cert.VProj

end
-- ==== Proof.Rope.lean ====
/-
Rotary position embedding of heads whose rotated parts are 64 columns wide: from a block's side, where the partner column
comes by rotating 128 columns, and from the whole array's side, where the two halves are split and joined.
-/
module
public import proofs.«01_k».proof.Proof.Dense
public import Idealize.ShloMosaic.Lib.Pipeline.ValueKit

@[expose] public section

noncomputable section

namespace Cert.Rope

open Idealize.ShloMosaic.ValueIdx Cert.Flash Cert.Dense
open Idealize.ShloMosaic hiding ix2 ix1

/-- Column `Q` turned by an angle of cosine `c` and sine `s` together with its partner, half a part away. -/
def turned (Y : ℕ → EReal) (c s : EReal) (Q : ℕ) : EReal :=
  if Q % 64 < 32 then Y Q * c - Y (Q + 32) * s else Y Q * c + Y (Q - 32) * s

/-- A nonnegative factor that is not infinite goes into the turn. -/
theorem turned_mul (Y : ℕ → EReal) (c s t : EReal) (Q : ℕ) (h0 : 0 ≤ t) (ht : t ≠ ⊤) : turned Y c s Q * t = turned (fun j => Y j * t) c s Q := by
  unfold turned
  split
  · rw [sub_eq_add_neg, EReal.right_distrib_of_nonneg_of_ne_top h0 ht, EReal.neg_mul, ← sub_eq_add_neg]
    simp only [mul_assoc, mul_comm t]
  · rw [EReal.right_distrib_of_nonneg_of_ne_top h0 ht]
    simp only [mul_assoc, mul_comm t]

/-- A turn reads its own part alone. -/
theorem turned_congr (Y Y' : ℕ → EReal) (c s : EReal) (Q : ℕ) (h : ∀ j, j / 64 = Q / 64 → Y j = Y' j) : turned Y c s Q = turned Y' c s Q := by
  unfold turned
  rw [h Q rfl]
  split
  · rw [h (Q + 32) (by omega)]
  · rw [h (Q - 32) (by omega)]

/-- The angle of row `R`, column `Q`: the first array's in the first part of 128 columns, the second's in the second. -/
def angle (g h : (⟨2, ![8192, 32]⟩ : Shape).Idx → EReal) (R Q : ℕ) : EReal :=
  if Q % 128 < 64 then at2 g (R % 8192) (Q % 32) else at2 h (R % 8192) (Q % 32)

/-- The angle depends on the row among the 8192, and on the column among the 128. -/
theorem angle_congr (g h : (⟨2, ![8192, 32]⟩ : Shape).Idx → EReal) {R R' Q Q' : ℕ} (hR : R % 8192 = R' % 8192) (hQ : Q % 128 = Q' % 128) : angle g h R Q = angle g h R' Q' := by
  unfold angle
  rw [hR, hQ, show Q % 32 = Q' % 32 by omega]

/-- One array of angles for both parts. -/
theorem angle_self (g : (⟨2, ![8192, 32]⟩ : Shape).Idx → EReal) (R Q : ℕ) : angle g g R Q = at2 g (R % 8192) (Q % 32) := by
  unfold angle
  exact ite_self _

/-! ### A block's side -/

/-- 128 columns turned: the partner comes from 32 columns on where its coefficient is not zero, and from 32 columns back
    where that one is not zero. -/
def blockTurn (z cs a b : FVec Ideal ⟨2, ![1024, 128]⟩ .f32) (h : (⟨2, ![1024, 128]⟩ : Shape).Rotates 1 none) : FVec Ideal ⟨2, ![1024, 128]⟩ .f32 :=
  addf (addf (mulf z cs) (mulf (dynamicRotate 1 96#32 none z h) a)) (mulf (dynamicRotate 1 32#32 none z h) b)

theorem blockTurn_apply (z cs a b : FVec Ideal ⟨2, ![1024, 128]⟩ .f32) (h : (⟨2, ![1024, 128]⟩ : Shape).Rotates 1 none) (Y : ℕ → EReal) (c s : EReal) (H : ℕ) (hH : H % 128 = 0) (r : Fin 1024) (q : Fin 128)
    (hz : ∀ j : Fin 128, z (ix2 r j) = Y (H + j.val)) (hc : cs (ix2 r q) = c) (ha : a (ix2 r q) = if q.val % 64 < 32 then -s else 0) (hb : b (ix2 r q) = if q.val % 64 < 32 then 0 else s) :
    blockTurn z cs a b h (ix2 r q) = turned Y c s (H + q.val) := by
  have hq := q.isLt
  have h96 : dynamicRotate 1 96#32 none z h (ix2 r q) = Y (H + (q.val + 32) % 128) :=
    (dynamicRotate_apply (1 : Fin 2) 96#32 z h (ix2 r q) (ix2 r ⟨(q.val + 32) % 128, Nat.mod_lt _ (by omega)⟩) fun b => by
      match b with
      | ⟨0, _⟩ => rfl
      | ⟨1, _⟩ => exact congrArg (· % 128) (by show q.val + 32 = q.val + 128 - 96; omega)).trans (hz _)
  have h32 : dynamicRotate 1 32#32 none z h (ix2 r q) = Y (H + (q.val + 96) % 128) :=
    (dynamicRotate_apply (1 : Fin 2) 32#32 z h (ix2 r q) (ix2 r ⟨(q.val + 96) % 128, Nat.mod_lt _ (by omega)⟩) fun b => by
      match b with
      | ⟨0, _⟩ => rfl
      | ⟨1, _⟩ => exact congrArg (· % 128) (by show q.val + 96 = q.val + 128 - 32; omega)).trans (hz _)
  have e : blockTurn z cs a b h (ix2 r q) = Y (H + q.val) * c + Y (H + (q.val + 32) % 128) * (if q.val % 64 < 32 then -s else 0) + Y (H + (q.val + 96) % 128) * (if q.val % 64 < 32 then 0 else s) :=
    congrArg₂ (fun u v : EReal => u + v) (congrArg₂ (fun u v : EReal => u + v) (congrArg₂ (fun u v : EReal => u * v) (hz q) hc) (congrArg₂ (fun u v : EReal => u * v) h96 ha)) (congrArg₂ (fun u v : EReal => u * v) h32 hb)
  rw [e]
  unfold turned
  by_cases hlt : q.val % 64 < 32
  · rw [if_pos hlt, if_pos hlt, if_pos (by omega), mul_zero, add_zero, mul_neg, ← sub_eq_add_neg, show H + (q.val + 32) % 128 = H + q.val + 32 by omega]
  · rw [if_neg hlt, if_neg hlt, if_neg (by omega), mul_zero, add_zero, show H + (q.val + 96) % 128 = H + q.val - 32 by omega]

/-- A product's 128 columns, from column `d` on, plus a bias row. -/
def blockBiased (d : ℕ) (x : FVec Ideal ⟨2, ![1024, 2048]⟩ .bf16) (w : FVec Ideal ⟨2, ![2048, 256]⟩ .bf16) (b : FVec Ideal ⟨2, ![1, 128]⟩ .f32)
    (hs : (⟨2, ![1024, 256]⟩ : Shape).Slices ![0, d] ⟨2, ![1024, 128]⟩) (h1 : (⟨2, ![1, 128]⟩ : Shape).ShapeCasts ⟨2, ![1, 128]⟩) (h2 : (⟨2, ![1, 128]⟩ : Shape).Broadcasts ⟨2, ![1024, 128]⟩) : FVec Ideal ⟨2, ![1024, 128]⟩ .f32 :=
  addf (extractStridedSlice ⟨2, ![1024, 128]⟩ ![0, d] (matmul (DotDims.plain 1024 2048 256) none x w (constant ⟨2, ![1024, 256]⟩ .f32 0x00000000#32)) hs)
    (broadcastTo ⟨2, ![1024, 128]⟩ (shapeCast ⟨2, ![1, 128]⟩ b h1) h2)

/-- The columns, scaled by a row and turned. -/
def blockPiece (d : ℕ) (x : FVec Ideal ⟨2, ![1024, 2048]⟩ .bf16) (w : FVec Ideal ⟨2, ![2048, 256]⟩ .bf16) (b t : FVec Ideal ⟨2, ![1, 128]⟩ .f32) (cs p q : FVec Ideal ⟨2, ![1024, 128]⟩ .f32)
    (hs : (⟨2, ![1024, 256]⟩ : Shape).Slices ![0, d] ⟨2, ![1024, 128]⟩) (h1 : (⟨2, ![1, 128]⟩ : Shape).ShapeCasts ⟨2, ![1, 128]⟩) (h2 : (⟨2, ![1, 128]⟩ : Shape).Broadcasts ⟨2, ![1024, 128]⟩)
    (h3 : (⟨2, ![1024, 128]⟩ : Shape).ShapeCasts ⟨2, ![1024, 128]⟩) (h4 : (⟨2, ![1024, 128]⟩ : Shape).Rotates 1 none) : FVec Ideal ⟨2, ![1024, 128]⟩ .f32 :=
  blockTurn (mulf (blockBiased d x w b hs h1 h2) (broadcastTo ⟨2, ![1024, 128]⟩ (shapeCast ⟨2, ![1, 128]⟩ t h1) h2))
    (shapeCast ⟨2, ![1024, 128]⟩ cs h3) (shapeCast ⟨2, ![1024, 128]⟩ p h3) (shapeCast ⟨2, ![1024, 128]⟩ q h3) h4

/-- The columns divided by the root of their mean square, which a product with ones spreads over the columns. -/
def blockScaled (u y : FVec Ideal ⟨2, ![1024, 128]⟩ .f32) (h : FTy.bits .bf16 < FTy.bits .f32) : FVec Ideal ⟨2, ![1024, 128]⟩ .f32 :=
  mulf u (rsqrt (addf (mulf (matmul (DotDims.plain 1024 128 128) none (truncf .bf16 (mulf y y) h) (broadcast ⟨2, ![128, 128]⟩ (Scalar.ofBits .bf16 0x3F80#16)) (constant ⟨2, ![1024, 128]⟩ .f32 0x00000000#32))
    (broadcast ⟨2, ![1024, 128]⟩ (Scalar.ofBits .f32 0x3C000000#32))) (broadcast ⟨2, ![1024, 128]⟩ (Scalar.ofBits .f32 0x358637BD#32))))

theorem blockBiased_apply (d : ℕ) (x : FVec Ideal ⟨2, ![1024, 2048]⟩ .bf16) (w : FVec Ideal ⟨2, ![2048, 256]⟩ .bf16) (b : FVec Ideal ⟨2, ![1, 128]⟩ .f32)
    (hs : (⟨2, ![1024, 256]⟩ : Shape).Slices ![0, d] ⟨2, ![1024, 128]⟩) (h1 : (⟨2, ![1, 128]⟩ : Shape).ShapeCasts ⟨2, ![1, 128]⟩) (h2 : (⟨2, ![1, 128]⟩ : Shape).Broadcasts ⟨2, ![1024, 128]⟩)
    (X : (⟨2, ![32768, 2048]⟩ : Shape).Idx → EReal) (W : (⟨2, ![2048, 2560]⟩ : Shape).Idx → EReal) (B : ℕ → EReal) (R H : ℕ) (r : Fin 1024) (q : Fin 128) (hd : d + 128 ≤ 256)
    (hx : ∀ k : Fin 2048, x (ix2 r k) = at2 X R k.val) (hw : ∀ (k : Fin 2048) (j : Fin 256), w (ix2 k j) = at2 W k.val (H + j.val)) (hb : b (ix2 (0 : Fin 1) q) = B (H + d + q.val)) :
    blockBiased d x w b hs h1 h2 (ix2 r q) = prod X W R (H + d + q.val) + B (H + d + q.val) := by
  have hq := q.isLt
  refine congrArg₂ (fun u v : EReal => u + v) ?_ ?_
  · refine (extractStridedSlice_apply ![0, d] _ hs (ix2 r q) (ix2 r ⟨d + q.val, by omega⟩) fun a => ?_).trans ?_
    · match a with
      | ⟨0, _⟩ => exact (Nat.zero_add _).symm
      | ⟨1, _⟩ => rfl
    · exact (block_prod x w X W r ⟨d + q.val, by omega⟩ R (H + (d + q.val)) hx fun k => hw k _).trans (congrArg (prod X W R) (by omega))
  · refine (broadcastTo_1b_ab_apply (a := 1024) (b := 128) _ h2 r q).trans ?_
    rw [shapeCast_self, hb]

/-- Row `R`, column `Q` of the biased product, scaled by the numbers `T` of the columns and turned. -/
def heads (X : (⟨2, ![32768, 2048]⟩ : Shape).Idx → EReal) (W : (⟨2, ![2048, 2560]⟩ : Shape).Idx → EReal) (B T : ℕ → EReal) (g h : (⟨2, ![8192, 32]⟩ : Shape).Idx → EReal) (R Q : ℕ) : EReal :=
  turned (fun j => (prod X W R j + B j) * T j) (Ideal.cos (angle g h R Q)) (Ideal.sin (angle g h R Q)) Q

theorem blockPiece_apply (d : ℕ) (x : FVec Ideal ⟨2, ![1024, 2048]⟩ .bf16) (w : FVec Ideal ⟨2, ![2048, 256]⟩ .bf16) (b t : FVec Ideal ⟨2, ![1, 128]⟩ .f32) (cs p u : FVec Ideal ⟨2, ![1024, 128]⟩ .f32)
    (hs : (⟨2, ![1024, 256]⟩ : Shape).Slices ![0, d] ⟨2, ![1024, 128]⟩) (h1 : (⟨2, ![1, 128]⟩ : Shape).ShapeCasts ⟨2, ![1, 128]⟩) (h2 : (⟨2, ![1, 128]⟩ : Shape).Broadcasts ⟨2, ![1024, 128]⟩)
    (h3 : (⟨2, ![1024, 128]⟩ : Shape).ShapeCasts ⟨2, ![1024, 128]⟩) (h4 : (⟨2, ![1024, 128]⟩ : Shape).Rotates 1 none)
    (X : (⟨2, ![32768, 2048]⟩ : Shape).Idx → EReal) (W : (⟨2, ![2048, 2560]⟩ : Shape).Idx → EReal) (B T : ℕ → EReal) (g h : (⟨2, ![8192, 32]⟩ : Shape).Idx → EReal) (R H : ℕ) (r : Fin 1024) (q : Fin 128) (hd : d + 128 ≤ 256) (hH : (H + d) % 128 = 0)
    (hx : ∀ k : Fin 2048, x (ix2 r k) = at2 X R k.val) (hw : ∀ (k : Fin 2048) (j : Fin 256), w (ix2 k j) = at2 W k.val (H + j.val))
    (hb : ∀ j : Fin 128, b (ix2 (0 : Fin 1) j) = B (H + d + j.val)) (ht : ∀ j : Fin 128, t (ix2 (0 : Fin 1) j) = T (H + d + j.val))
    (hc : cs (ix2 r q) = Ideal.cos (angle g h R q.val)) (hp : p (ix2 r q) = if q.val % 64 < 32 then -Ideal.sin (angle g h R q.val) else 0) (hu : u (ix2 r q) = if q.val % 64 < 32 then 0 else Ideal.sin (angle g h R q.val)) :
    blockPiece d x w b t cs p u hs h1 h2 h3 h4 (ix2 r q) = heads X W B T g h R (H + d + q.val) := by
  unfold blockPiece heads
  rw [shapeCast_self, shapeCast_self, shapeCast_self, shapeCast_self, angle_congr g h (R := R) (R' := R) (Q := H + d + q.val) (Q' := q.val) rfl (by omega)]
  refine blockTurn_apply _ cs p u h4 _ _ _ (H + d) hH r q (fun j => ?_) hc hp hu
  refine congrArg₂ (fun u v : EReal => u * v) (blockBiased_apply d x w b hs h1 h2 X W B R H r j hd hx hw (hb j)) ?_
  refine (broadcastTo_1b_ab_apply (a := 1024) (b := 128) _ h2 r j).trans (ht j)

/-- The reciprocal of the root of the mean square, over the 128 columns that hold column `Q`. -/
def rms (Z : ℕ → EReal) (Q : ℕ) : EReal :=
  Ideal.rsqrt ((∑ k : Fin 128, Z (Q / 128 * 128 + k.val) * Z (Q / 128 * 128 + k.val)) * FloatOps.ofBits (F := Ideal) .f32 0x3C000000#32 + FloatOps.ofBits (F := Ideal) .f32 0x358637BD#32)

theorem blockScaled_apply (u y : FVec Ideal ⟨2, ![1024, 128]⟩ .f32) (h : FTy.bits .bf16 < FTy.bits .f32) (Z : ℕ → EReal) (H : ℕ) (hH : H % 128 = 0) (r : Fin 1024) (q : Fin 128) (hy : ∀ j : Fin 128, y (ix2 r j) = Z (H + j.val)) :
    blockScaled u y h (ix2 r q) = u (ix2 r q) * rms Z (H + q.val) := by
  unfold blockScaled rms
  refine congrArg (fun s : EReal => u (ix2 r q) * Ideal.rsqrt (s * FloatOps.ofBits (F := Ideal) .f32 0x3C000000#32 + FloatOps.ofBits (F := Ideal) .f32 0x358637BD#32)) ?_
  refine (Ideal.matmul_plain_apply none _ _ _ r q).trans ?_
  rw [show constant (F := Ideal) ⟨2, ![1024, 128]⟩ .f32 0x00000000#32 (ix2 r q) = (0 : EReal) from Ideal.ofBits_zero_f32, zero_add]
  refine Finset.sum_congr rfl fun k _ => ?_
  refine Eq.trans (congrArg (fun s : EReal => y (ix2 r k) * y (ix2 r k) * s) Ideal.ofBits_one_bf16) ?_
  have hq := q.isLt
  rw [mul_one, hy, show (H + q.val) / 128 * 128 = H by omega]

theorem epsilon_pos : (0 : EReal) < FloatOps.ofBits (F := Ideal) .f32 0x358637BD#32 := by
  have h : (FloatOps.ofBits (F := Ideal) .f32 0x358637BD#32 : EReal) = (((8796093 : ℝ) / 8796093022208 : ℝ) : EReal) := by
    simp [FloatOps.ofBits, Ideal.ofBits, Ideal.ieee, -EReal.coe_mul]
    norm_num
  rw [h]
  exact EReal.coe_pos.mpr (by norm_num)

theorem rsqrt_of_pos (x : EReal) (h : 0 < x) : 0 ≤ Ideal.rsqrt x ∧ Ideal.rsqrt x ≠ ⊤ := by
  induction x with
  | bot => exact absurd h (by simp)
  | top => simp
  | coe a =>
    have ha : 0 < a := EReal.coe_pos.mp h
    rw [Ideal.rsqrt_coe, if_neg (not_lt.mpr ha.le), if_neg ha.ne']
    exact ⟨EReal.coe_nonneg.mpr (inv_nonneg.mpr (Real.sqrt_nonneg a)), EReal.coe_ne_top _⟩

theorem square_nonneg (x : EReal) : 0 ≤ x * x := by
  induction x with
  | bot => simp
  | top => simp
  | coe a => exact_mod_cast mul_self_nonneg a

theorem part_nonneg : (0 : EReal) ≤ FloatOps.ofBits (F := Ideal) .f32 0x3C000000#32 := by
  have h : (FloatOps.ofBits (F := Ideal) .f32 0x3C000000#32 : EReal) = (((1 : ℝ) / 128 : ℝ) : EReal) := by
    simp [FloatOps.ofBits, Ideal.ofBits, Ideal.ieee, -EReal.coe_mul]
    norm_num
  rw [h]
  exact EReal.coe_nonneg.mpr (by norm_num)

theorem rms_bounds (Z : ℕ → EReal) (Q : ℕ) : 0 ≤ rms Z Q ∧ rms Z Q ≠ ⊤ := by
  refine rsqrt_of_pos _ (lt_of_lt_of_le epsilon_pos (le_add_of_nonneg_left ?_))
  exact mul_nonneg (Finset.sum_nonneg fun k _ => square_nonneg _) part_nonneg

/-! ### What the blocks hold, and the pieces loaded from them -/

/-- A vector read at a natural, `0` outside. -/
def at1 {n : ℕ} (B : (⟨1, ![n]⟩ : Shape).Idx → EReal) (j : ℕ) : EReal := if h : j < n then B (ix1 ⟨j, h⟩) else 0

theorem at1_of {n : ℕ} (B : (⟨1, ![n]⟩ : Shape).Idx → EReal) (j : Fin n) : B (ix1 j) = at1 B j.val := by
  unfold at1
  rw [dif_pos j.isLt]

/-- The blocks from row `R` and column `C` on: the rows, the weights, the bias and the scale of their columns, and the
    tables of their rows. -/
structure Block (x : FVec Ideal ⟨2, ![1024, 2048]⟩ .bf16) (w : FVec Ideal ⟨2, ![2048, 1280]⟩ .bf16) (b t : FVec Ideal ⟨2, ![1, 1280]⟩ .f32) (cs p u : FVec Ideal ⟨2, ![1024, 128]⟩ .f32)
    (X : (⟨2, ![32768, 2048]⟩ : Shape).Idx → EReal) (W : (⟨2, ![2048, 2560]⟩ : Shape).Idx → EReal) (B T : ℕ → EReal) (g h : (⟨2, ![8192, 32]⟩ : Shape).Idx → EReal) (R C : ℕ) : Prop where
  part : C % 128 = 0
  rows : ∀ (r : Fin 1024) (k : Fin 2048), x (ix2 r k) = at2 X (R + r.val) k.val
  weights : ∀ (k : Fin 2048) (j : Fin 1280), w (ix2 k j) = at2 W k.val (C + j.val)
  bias : ∀ j : Fin 1280, b (ix2 (0 : Fin 1) j) = B (C + j.val)
  scale : ∀ j : Fin 1280, t (ix2 (0 : Fin 1) j) = T (C + j.val)
  cosine : ∀ (r : Fin 1024) (q : Fin 128), cs (ix2 r q) = Ideal.cos (angle g h (R + r.val) q.val)
  forward : ∀ (r : Fin 1024) (q : Fin 128), p (ix2 r q) = if q.val % 64 < 32 then -Ideal.sin (angle g h (R + r.val) q.val) else 0
  backward : ∀ (r : Fin 1024) (q : Fin 128), u (ix2 r q) = if q.val % 64 < 32 then 0 else Ideal.sin (angle g h (R + r.val) q.val)

theorem load_apply {m n k : ℕ} {e : EltTy} (X : (⟨2, ![m, n]⟩ : Shape).Idx → Elt Ideal e) (o : ℕ) (hi : ∀ a, (![0, o] : Fin 2 → ℕ) a + (⟨2, ![m, k]⟩ : Shape).size a ≤ (⟨2, ![m, n]⟩ : Shape).size a) (r : Fin m) (j : Fin k) (h : o + j.val < n) :
    View.ld X (Rect.unit (s := ⟨2, ![m, n]⟩) ![0, o] (⟨2, ![m, k]⟩ : Shape).size hi) (ix2 r j) = X (ix2 r ⟨o + j.val, h⟩) :=
  View.ld_unit_apply_of X _ _ hi _ _ fun a => by
    match a with
    | ⟨0, _⟩ => exact (Nat.zero_add _).symm
    | ⟨1, _⟩ => rfl

section Loaded
variable {x : FVec Ideal ⟨2, ![1024, 2048]⟩ .bf16} {w : FVec Ideal ⟨2, ![2048, 1280]⟩ .bf16} {b t : FVec Ideal ⟨2, ![1, 1280]⟩ .f32} {cs p u : FVec Ideal ⟨2, ![1024, 128]⟩ .f32}
  {X : (⟨2, ![32768, 2048]⟩ : Shape).Idx → EReal} {W : (⟨2, ![2048, 2560]⟩ : Shape).Idx → EReal} {B T : ℕ → EReal} {g h : (⟨2, ![8192, 32]⟩ : Shape).Idx → EReal} {R C : ℕ}
  (hold : Block x w b t cs p u X W B T g h R C) (o d : ℕ) (hd : d + 128 ≤ 256) (hp : (o + d) % 128 = 0) (ho : o + 256 ≤ 1280)
  (hx : ∀ a, (![0, 0] : Fin 2 → ℕ) a + (⟨2, ![1024, 2048]⟩ : Shape).size a ≤ (⟨2, ![1024, 2048]⟩ : Shape).size a)
  (hw : ∀ a, (![0, o] : Fin 2 → ℕ) a + (⟨2, ![2048, 256]⟩ : Shape).size a ≤ (⟨2, ![2048, 1280]⟩ : Shape).size a)
  (hb : ∀ a, (![0, o + d] : Fin 2 → ℕ) a + (⟨2, ![1, 128]⟩ : Shape).size a ≤ (⟨2, ![1, 1280]⟩ : Shape).size a)
  (hc : ∀ a, (![0, 0] : Fin 2 → ℕ) a + (⟨2, ![1024, 128]⟩ : Shape).size a ≤ (⟨2, ![1024, 128]⟩ : Shape).size a)
  (hs : (⟨2, ![1024, 256]⟩ : Shape).Slices ![0, d] ⟨2, ![1024, 128]⟩) (h1 : (⟨2, ![1, 128]⟩ : Shape).ShapeCasts ⟨2, ![1, 128]⟩) (h2 : (⟨2, ![1, 128]⟩ : Shape).Broadcasts ⟨2, ![1024, 128]⟩)
  (h3 : (⟨2, ![1024, 128]⟩ : Shape).ShapeCasts ⟨2, ![1024, 128]⟩) (h4 : (⟨2, ![1024, 128]⟩ : Shape).Rotates 1 none) (r : Fin 1024) (q : Fin 128)

include hold hd ho in
theorem loadBiased_apply :
    blockBiased d (View.ld (Val := Elt Ideal) (e' := .bf16) x (Rect.unit (s := ⟨2, ![1024, 2048]⟩) ![0, 0] (⟨2, ![1024, 2048]⟩ : Shape).size hx)) (View.ld (Val := Elt Ideal) (e' := .bf16) w (Rect.unit (s := ⟨2, ![2048, 1280]⟩) ![0, o] (⟨2, ![2048, 256]⟩ : Shape).size hw))
      (View.ld (Val := Elt Ideal) (e' := .f32) b (Rect.unit (s := ⟨2, ![1, 1280]⟩) ![0, o + d] (⟨2, ![1, 128]⟩ : Shape).size hb)) hs h1 h2 (ix2 r q)
      = prod X W (R + r.val) (C + (o + d) + q.val) + B (C + (o + d) + q.val) := by
  have hq := q.isLt
  refine (blockBiased_apply d _ _ _ hs h1 h2 X W B (R + r.val) (C + o) r q hd (fun k => ?_) (fun k j => ?_) ?_).trans ?_
  · exact (load_apply (e := .bf16) x 0 hx r k (by omega)).trans ((hold.rows r _).trans (at2_congr X rfl (Nat.zero_add _)))
  · exact (load_apply (e := .bf16) w o hw k j (by omega)).trans ((hold.weights k _).trans (at2_congr W rfl (by show C + (o + j.val) = _; omega)))
  · exact (load_apply (e := .f32) b (o + d) hb 0 q (by omega)).trans ((hold.bias _).trans (congrArg B (by show C + (o + d + q.val) = _; omega)))
  · rw [Nat.add_assoc C o d]

include hold hd ho hp in
theorem loadPiece_apply :
    blockPiece d (View.ld (Val := Elt Ideal) (e' := .bf16) x (Rect.unit (s := ⟨2, ![1024, 2048]⟩) ![0, 0] (⟨2, ![1024, 2048]⟩ : Shape).size hx)) (View.ld (Val := Elt Ideal) (e' := .bf16) w (Rect.unit (s := ⟨2, ![2048, 1280]⟩) ![0, o] (⟨2, ![2048, 256]⟩ : Shape).size hw))
      (View.ld (Val := Elt Ideal) (e' := .f32) b (Rect.unit (s := ⟨2, ![1, 1280]⟩) ![0, o + d] (⟨2, ![1, 128]⟩ : Shape).size hb)) (View.ld (Val := Elt Ideal) (e' := .f32) t (Rect.unit (s := ⟨2, ![1, 1280]⟩) ![0, o + d] (⟨2, ![1, 128]⟩ : Shape).size hb))
      (View.ld (Val := Elt Ideal) (e' := .f32) cs (Rect.unit (s := ⟨2, ![1024, 128]⟩) ![0, 0] (⟨2, ![1024, 128]⟩ : Shape).size hc)) (View.ld (Val := Elt Ideal) (e' := .f32) p (Rect.unit (s := ⟨2, ![1024, 128]⟩) ![0, 0] (⟨2, ![1024, 128]⟩ : Shape).size hc))
      (View.ld (Val := Elt Ideal) (e' := .f32) u (Rect.unit (s := ⟨2, ![1024, 128]⟩) ![0, 0] (⟨2, ![1024, 128]⟩ : Shape).size hc)) hs h1 h2 h3 h4 (ix2 r q)
      = heads X W B T g h (R + r.val) (C + (o + d) + q.val) := by
  have hq := q.isLt
  have hC := hold.part
  have h0 : ∀ v : FVec Ideal ⟨2, ![1024, 128]⟩ .f32, View.ld (Val := Elt Ideal) (e' := .f32) v (Rect.unit (s := ⟨2, ![1024, 128]⟩) ![0, 0] (⟨2, ![1024, 128]⟩ : Shape).size hc) (ix2 r q) = v (ix2 r q) := fun v =>
    (load_apply (e := .f32) v 0 hc r q (by omega)).trans (congrArg v (congrArg (ix2 r) (Fin.ext (Nat.zero_add _))))
  refine (blockPiece_apply d _ _ _ _ _ _ _ hs h1 h2 h3 h4 X W B T g h (R + r.val) (C + o) r q hd (by omega) (fun k => ?_) (fun k j => ?_) (fun j => ?_) (fun j => ?_) ?_ ?_ ?_).trans ?_
  · exact (load_apply (e := .bf16) x 0 hx r k (by omega)).trans ((hold.rows r _).trans (at2_congr X rfl (Nat.zero_add _)))
  · exact (load_apply (e := .bf16) w o hw k j (by omega)).trans ((hold.weights k _).trans (at2_congr W rfl (by show C + (o + j.val) = _; omega)))
  · exact (load_apply (e := .f32) b (o + d) hb 0 j (by omega)).trans ((hold.bias _).trans (congrArg B (by show C + (o + d + j.val) = _; omega)))
  · exact (load_apply (e := .f32) t (o + d) hb 0 j (by omega)).trans ((hold.scale _).trans (congrArg T (by show C + (o + d + j.val) = _; omega)))
  · exact (h0 cs).trans (hold.cosine r q)
  · exact (h0 p).trans (hold.forward r q)
  · exact (h0 u).trans (hold.backward r q)
  · rw [Nat.add_assoc C o d]

end Loaded

end Cert.Rope

end
-- ==== Proof.RopeRef.lean ====
/-
Rotary position embedding from the whole array's side: the tables of cosines and sines, the heads, their parts
split, turned and joined, and the queries' and keys' columns side by side.
-/
module
public import proofs.«01_k».proof.Proof.Rope

@[expose] public section

noncomputable section

namespace Cert.Rope

open Idealize.ShloMosaic.ValueIdx Cert.Flash Cert.Dense
open Idealize.ShloMosaic hiding ix2 ix1 ix3 ix4

/-! ### The tables -/

/-- Four arrays of 32 columns side by side. -/
def table (a b c d : (⟨2, ![8192, 32]⟩ : Shape).Idx → EReal) (h : Shape.Concatenates [⟨2, ![8192, 32]⟩, ⟨2, ![8192, 32]⟩, ⟨2, ![8192, 32]⟩, ⟨2, ![8192, 32]⟩] ⟨2, ![8192, 128]⟩ 1) : (⟨2, ![8192, 128]⟩ : Shape).Idx → EReal :=
  concatenate ⟨2, ![8192, 128]⟩ 1 [⟨⟨2, ![8192, 32]⟩, a⟩, ⟨⟨2, ![8192, 32]⟩, b⟩, ⟨⟨2, ![8192, 32]⟩, c⟩, ⟨⟨2, ![8192, 32]⟩, d⟩] h

theorem table_apply (a b c d : (⟨2, ![8192, 32]⟩ : Shape).Idx → EReal) (h : Shape.Concatenates [⟨2, ![8192, 32]⟩, ⟨2, ![8192, 32]⟩, ⟨2, ![8192, 32]⟩, ⟨2, ![8192, 32]⟩] ⟨2, ![8192, 128]⟩ 1) (R : Fin 8192) (q : Fin 128) :
    table a b c d h (ix2 R q) = (if q.val % 128 < 64 then (if q.val % 64 < 32 then a else b) else (if q.val % 64 < 32 then c else d)) (ix2 R ⟨q.val % 32, Nat.mod_lt _ (by omega)⟩) := by
  have hq := q.isLt
  have hpart : ∀ (k : ℕ) (hk : k < 4) (f : (⟨2, ![8192, 32]⟩ : Shape).Idx → EReal), [a, b, c, d][k] = f → q.val / 32 = k → table a b c d h (ix2 R q) = f (ix2 R ⟨q.val % 32, Nat.mod_lt _ (by omega)⟩) := by
    intro k hk f hf e
    unfold table
    refine concatenate_apply_piece (t := ⟨2, ![8192, 128]⟩) (1 : Fin 2) [⟨⟨2, ![8192, 32]⟩, a⟩, ⟨⟨2, ![8192, 32]⟩, b⟩, ⟨⟨2, ![8192, 32]⟩, c⟩, ⟨⟨2, ![8192, 32]⟩, d⟩] h (ix2 R q) k hk ⟨2, ![8192, 32]⟩ f ?_ rfl (32 * k) ?_ _ (fun b hb => ?_) ?_
    · subst hf
      interval_cases k <;> rfl
    · interval_cases k <;> rfl
    · match b with
      | ⟨0, _⟩ => rfl
      | ⟨1, _⟩ => exact absurd rfl hb
    · show 32 * k + q.val % 32 = q.val
      omega
  split <;> split
  · exact hpart 0 (by omega) a rfl (by omega)
  · exact hpart 1 (by omega) b rfl (by omega)
  · exact hpart 2 (by omega) c rfl (by omega)
  · exact hpart 3 (by omega) d rfl (by omega)

theorem angle_of (g h : (⟨2, ![8192, 32]⟩ : Shape).Idx → EReal) (R : Fin 8192) (q : Fin 128) :
    (if q.val % 128 < 64 then g else h) (ix2 R ⟨q.val % 32, Nat.mod_lt _ (by omega)⟩) = angle g h R.val q.val := by
  have hR := R.isLt
  unfold angle
  split <;> exact at2_of _ _ _ _ (Nat.mod_eq_of_lt hR).symm rfl

section Tables
variable (g h : FVec Ideal ⟨2, ![8192, 32]⟩ .f32) (z : FVec Ideal ⟨2, ![8192, 32]⟩ .f32) (hz : ∀ i, z i = (0 : EReal))
  (hc : Shape.Concatenates [⟨2, ![8192, 32]⟩, ⟨2, ![8192, 32]⟩, ⟨2, ![8192, 32]⟩, ⟨2, ![8192, 32]⟩] ⟨2, ![8192, 128]⟩ 1) (R : Fin 8192) (q : Fin 128)

theorem cos_table : table (Host.cos g) (Host.cos g) (Host.cos h) (Host.cos h) hc (ix2 R q) = Ideal.cos (angle g h R.val q.val) := by
  rw [table_apply, ← angle_of, ite_self, ite_self]
  split <;> rfl

include hz in
theorem neg_sin_table : table (Host.negf (Host.sin g)) z (Host.negf (Host.sin h)) z hc (ix2 R q) = if q.val % 64 < 32 then -Ideal.sin (angle g h R.val q.val) else 0 := by
  rw [table_apply, ← angle_of]
  by_cases h1 : q.val % 64 < 32
  · rw [if_pos h1, if_pos h1, if_pos h1]
    split <;> rfl
  · rw [if_neg h1, if_neg h1, if_neg h1, ite_self, hz]

include hz in
theorem sin_table : table z (Host.sin g) z (Host.sin h) hc (ix2 R q) = if q.val % 64 < 32 then 0 else Ideal.sin (angle g h R.val q.val) := by
  rw [table_apply, ← angle_of]
  by_cases h1 : q.val % 64 < 32
  · rw [if_pos h1, if_pos h1, if_pos h1, ite_self, hz]
  · rw [if_neg h1, if_neg h1, if_neg h1]
    split <;> rfl

end Tables

/-! ### Heads turned -/

section Turn
variable {H : ℕ} (y : FVec Ideal ⟨4, ![4, 8192, H, 64]⟩ .f32) (g : FVec Ideal ⟨2, ![8192, 32]⟩ .f32)
  (hl : (⟨4, ![4, 8192, H, 64]⟩ : Shape).Slices ![0, 0, 0, 0] ⟨4, ![4, 8192, H, 32]⟩) (hr : (⟨4, ![4, 8192, H, 64]⟩ : Shape).Slices ![0, 0, 0, 32] ⟨4, ![4, 8192, H, 32]⟩)
  (h1 : (⟨2, ![8192, 32]⟩ : Shape).BroadcastsInDim ⟨4, ![1, 8192, 1, 32]⟩ ![1, 3]) (h2 : (⟨4, ![1, 8192, 1, 32]⟩ : Shape).BroadcastsInDim ⟨4, ![4, 8192, H, 32]⟩ ![0, 1, 2, 3])
  (hc : Shape.Concatenates [⟨4, ![4, 8192, H, 32]⟩, ⟨4, ![4, 8192, H, 32]⟩] ⟨4, ![4, 8192, H, 64]⟩ 3)

/-- A table copied to every batch and head. -/
def spread {H : ℕ} (f : FVec Ideal ⟨2, ![8192, 32]⟩ .f32) (h1 : (⟨2, ![8192, 32]⟩ : Shape).BroadcastsInDim ⟨4, ![1, 8192, 1, 32]⟩ ![1, 3]) (h2 : (⟨4, ![1, 8192, 1, 32]⟩ : Shape).BroadcastsInDim ⟨4, ![4, 8192, H, 32]⟩ ![0, 1, 2, 3]) : FVec Ideal ⟨4, ![4, 8192, H, 32]⟩ .f32 :=
  broadcastInDim ⟨4, ![4, 8192, H, 32]⟩ ![0, 1, 2, 3] h2 (broadcastInDim ⟨4, ![1, 8192, 1, 32]⟩ ![1, 3] h1 f)

theorem spread_apply (f : FVec Ideal ⟨2, ![8192, 32]⟩ .f32) (b : Fin 4) (s : Fin 8192) (a : Fin H) (q : Fin 32) : spread f h1 h2 (ix4 b s a q) = f (ix2 s q) := by
  unfold spread
  refine (broadcastInDim_apply _ h2 _ (ix4 b s a q) (ix4 (0 : Fin 1) s (0 : Fin 1) q) fun x => ?_).trans (broadcastInDim_apply _ h1 f _ (ix2 s q) fun x => ?_)
  · match x with
    | ⟨0, _⟩ => rfl
    | ⟨1, _⟩ => rfl
    | ⟨2, _⟩ => rfl
    | ⟨3, _⟩ => rfl
  · match x with
    | ⟨0, _⟩ => rfl
    | ⟨1, _⟩ => rfl

/-- Both halves of the heads turned and joined. -/
def hostTurn : FVec Ideal ⟨4, ![4, 8192, H, 64]⟩ .f32 :=
  concatenate ⟨4, ![4, 8192, H, 64]⟩ 3
    [⟨⟨4, ![4, 8192, H, 32]⟩, subf (mulf (extractStridedSlice ⟨4, ![4, 8192, H, 32]⟩ ![0, 0, 0, 0] y hl) (spread (Host.cos g) h1 h2)) (mulf (extractStridedSlice ⟨4, ![4, 8192, H, 32]⟩ ![0, 0, 0, 32] y hr) (spread (Host.sin g) h1 h2))⟩,
     ⟨⟨4, ![4, 8192, H, 32]⟩, addf (mulf (extractStridedSlice ⟨4, ![4, 8192, H, 32]⟩ ![0, 0, 0, 32] y hr) (spread (Host.cos g) h1 h2)) (mulf (extractStridedSlice ⟨4, ![4, 8192, H, 32]⟩ ![0, 0, 0, 0] y hl) (spread (Host.sin g) h1 h2))⟩] hc

theorem hostTurn_apply (b : Fin 4) (s : Fin 8192) (a : Fin H) (q : Fin 64) (Y : ℕ → EReal) (A : ℕ) (hA : A % 64 = 0) (hY : ∀ j : Fin 64, y (ix4 b s a j) = Y (A + j.val)) :
    hostTurn y g hl hr h1 h2 hc (ix4 b s a q) = turned Y (Ideal.cos (at2 g s.val (q.val % 32))) (Ideal.sin (at2 g s.val (q.val % 32))) (A + q.val) := by
  have hq := q.isLt
  have el : ∀ j : Fin 32, extractStridedSlice ⟨4, ![4, 8192, H, 32]⟩ ![0, 0, 0, 0] y hl (ix4 b s a j) = Y (A + j.val) := fun j =>
    (extractStridedSlice_apply ![0, 0, 0, 0] y hl (ix4 b s a j) (ix4 b s a (⟨j.val, by omega⟩ : Fin 64)) fun x => by
      match x with
      | ⟨0, _⟩ => exact (Nat.zero_add _).symm
      | ⟨1, _⟩ => exact (Nat.zero_add _).symm
      | ⟨2, _⟩ => exact (Nat.zero_add _).symm
      | ⟨3, _⟩ => exact (Nat.zero_add _).symm).trans (hY _)
  have er : ∀ j : Fin 32, extractStridedSlice ⟨4, ![4, 8192, H, 32]⟩ ![0, 0, 0, 32] y hr (ix4 b s a j) = Y (A + (32 + j.val)) := fun j =>
    (extractStridedSlice_apply ![0, 0, 0, 32] y hr (ix4 b s a j) (ix4 b s a (⟨32 + j.val, by omega⟩ : Fin 64)) fun x => by
      match x with
      | ⟨0, _⟩ => exact (Nat.zero_add _).symm
      | ⟨1, _⟩ => exact (Nat.zero_add _).symm
      | ⟨2, _⟩ => exact (Nat.zero_add _).symm
      | ⟨3, _⟩ => rfl).trans (hY _)
  have ec : ∀ j : Fin 32, j.val = q.val % 32 → spread (Host.cos g) h1 h2 (ix4 b s a j) = Ideal.cos (at2 g s.val (q.val % 32)) := fun j hj =>
    (spread_apply h1 h2 _ b s a j).trans (congrArg Ideal.cos (at2_of g (ix2 s j) _ _ rfl hj))
  have es : ∀ j : Fin 32, j.val = q.val % 32 → spread (Host.sin g) h1 h2 (ix4 b s a j) = Ideal.sin (at2 g s.val (q.val % 32)) := fun j hj =>
    (spread_apply h1 h2 _ b s a j).trans (congrArg Ideal.sin (at2_of g (ix2 s j) _ _ rfl hj))
  unfold hostTurn turned
  by_cases hlt : q.val < 32
  · rw [if_pos (by omega)]
    have e : q.val = q.val % 32 := by omega
    refine (concatenate_pair_apply_left (t := ⟨4, ![4, 8192, H, 64]⟩) (3 : Fin 4) _ _ hc _ rfl (ix4 b s a (⟨q.val, hlt⟩ : Fin 32)) fun x => ?_).trans ?_
    · match x with
      | ⟨0, _⟩ => rfl
      | ⟨1, _⟩ => rfl
      | ⟨2, _⟩ => rfl
      | ⟨3, _⟩ => rfl
    · exact congrArg₂ (fun u v : EReal => u - v) (congrArg₂ (fun u v : EReal => u * v) (el _) (ec _ e)) (congrArg₂ (fun u v : EReal => u * v) ((er _).trans (congrArg Y (by show A + (32 + q.val) = A + q.val + 32; omega))) (es _ e))
  · rw [if_neg (by omega)]
    have e : q.val - 32 = q.val % 32 := by omega
    refine (concatenate_pair_apply_right (t := ⟨4, ![4, 8192, H, 64]⟩) (3 : Fin 4) _ _ hc _ rfl rfl (ix4 b s a (⟨q.val - 32, by omega⟩ : Fin 32)) (fun x hx => ?_) ?_).trans ?_
    · match x with
      | ⟨0, _⟩ => rfl
      | ⟨1, _⟩ => rfl
      | ⟨2, _⟩ => rfl
      | ⟨3, _⟩ => exact absurd rfl hx
    · show q.val - 32 + 32 = q.val
      omega
    · exact congrArg₂ (fun u v : EReal => u + v) (congrArg₂ (fun u v : EReal => u * v) ((er _).trans (congrArg Y (by show A + (32 + (q.val - 32)) = A + q.val; omega))) (ec _ e)) (congrArg₂ (fun u v : EReal => u * v) ((el _).trans (congrArg Y (by show A + (q.val - 32) = A + q.val - 32; omega))) (es _ e))

end Turn

/-! ### Rows split into heads, and queries and keys side by side -/

section Split
variable {H D N : ℕ}

/-- The columns split into heads, the rows into batches. -/
theorem split_apply (x : (⟨2, ![32768, N]⟩ : Shape).Idx → EReal) (h : (⟨2, ![32768, N]⟩ : Shape).ShapeCasts ⟨4, ![4, 8192, H, D]⟩) (hN : N = H * D) (b : Fin 4) (s : Fin 8192) (a : Fin H) (d : Fin D) :
    shapeCast ⟨4, ![4, 8192, H, D]⟩ x h (ix4 b s a d) = at2 x (b.val * 8192 + s.val) (a.val * D + d.val) := by
  subst hN
  have hb := b.isLt
  have hs := s.isLt
  have had : a.val * D + d.val < H * D := by
    have h1 : (a.val + 1) * D ≤ H * D := Nat.mul_le_mul_right D a.isLt
    have h2 := d.isLt
    rw [Nat.add_mul, Nat.one_mul] at h1
    omega
  refine (shapeCast_apply x h (ix4 b s a d) (ix2 (⟨b.val * 8192 + s.val, by omega⟩ : Fin 32768) (⟨a.val * D + d.val, had⟩ : Fin (H * D))) ?_).trans (at2_of x _ _ _ rfl rfl)
  rw [Shape.rowMajor_val_two, Shape.rowMajor_val_four]
  show (b.val * 8192 + s.val) * (H * D) + (a.val * D + d.val) = ((b.val * 8192 + s.val) * H + a.val) * D + d.val
  ring

/-- The heads joined into columns, the batches into rows. -/
theorem join_apply (y : (⟨4, ![4, 8192, H, D]⟩ : Shape).Idx → EReal) (h : (⟨4, ![4, 8192, H, D]⟩ : Shape).ShapeCasts ⟨2, ![32768, N]⟩) (hN : N = H * D) (hD : 0 < D) (R : Fin 32768) (Q : Fin N) :
    shapeCast ⟨2, ![32768, N]⟩ y h (ix2 R Q) = y (ix4 (⟨R.val / 8192, by omega⟩ : Fin 4) (⟨R.val % 8192, by omega⟩ : Fin 8192) (⟨Q.val / D, by rw [Nat.div_lt_iff_lt_mul hD]; exact hN ▸ Q.isLt⟩ : Fin H) (⟨Q.val % D, Nat.mod_lt _ hD⟩ : Fin D)) := by
  subst hN
  refine shapeCast_apply y h (ix2 R Q) _ ?_
  rw [Shape.rowMajor_val_two, Shape.rowMajor_val_four]
  show ((R.val / 8192 * 8192 + R.val % 8192) * H + Q.val / D) * D + Q.val % D = R.val * (H * D) + Q.val
  rw [Nat.add_mul, Nat.add_assoc, Nat.div_add_mod' Q.val D, Nat.div_add_mod' R.val 8192]
  ring

end Split

/-- Columns split into heads, the heads turned, read at row `R` and column `Q`. -/
theorem hostTurn_split {H N : ℕ} (x : FVec Ideal ⟨2, ![32768, N]⟩ .f32) (hx : (⟨2, ![32768, N]⟩ : Shape).ShapeCasts ⟨4, ![4, 8192, H, 64]⟩) (hN : N = H * 64) (g : FVec Ideal ⟨2, ![8192, 32]⟩ .f32)
    (hl : (⟨4, ![4, 8192, H, 64]⟩ : Shape).Slices ![0, 0, 0, 0] ⟨4, ![4, 8192, H, 32]⟩) (hr : (⟨4, ![4, 8192, H, 64]⟩ : Shape).Slices ![0, 0, 0, 32] ⟨4, ![4, 8192, H, 32]⟩)
    (h1 : (⟨2, ![8192, 32]⟩ : Shape).BroadcastsInDim ⟨4, ![1, 8192, 1, 32]⟩ ![1, 3]) (h2 : (⟨4, ![1, 8192, 1, 32]⟩ : Shape).BroadcastsInDim ⟨4, ![4, 8192, H, 32]⟩ ![0, 1, 2, 3])
    (hc : Shape.Concatenates [⟨4, ![4, 8192, H, 32]⟩, ⟨4, ![4, 8192, H, 32]⟩] ⟨4, ![4, 8192, H, 64]⟩ 3) (R : Fin 32768) (Q : Fin N) (hb : R.val / 8192 < 4) (hs : R.val % 8192 < 8192) (ha : Q.val / 64 < H) (hd : Q.val % 64 < 64)
    (Y : ℕ → EReal) (C : ℕ) (hC : C % 64 = 0) (hY : ∀ j : Fin N, x (ix2 R j) = Y (C + j.val)) :
    hostTurn (shapeCast ⟨4, ![4, 8192, H, 64]⟩ x hx) g hl hr h1 h2 hc (ix4 (⟨R.val / 8192, hb⟩ : Fin 4) (⟨R.val % 8192, hs⟩ : Fin 8192) (⟨Q.val / 64, ha⟩ : Fin H) (⟨Q.val % 64, hd⟩ : Fin 64))
      = turned Y (Ideal.cos (at2 g (R.val % 8192) (Q.val % 32))) (Ideal.sin (at2 g (R.val % 8192) (Q.val % 32))) (C + Q.val) := by
  have hR := R.isLt
  have e : C + Q.val / 64 * 64 + Q.val % 64 = C + Q.val := by omega
  have e' : Q.val % 64 % 32 = Q.val % 32 := by omega
  refine (hostTurn_apply _ g hl hr h1 h2 hc _ _ _ _ Y (C + Q.val / 64 * 64) (by omega) fun j => ?_).trans ?_
  · have hj := j.isLt
    have hlt : Q.val / 64 * 64 + j.val < N := by omega
    refine (split_apply x hx hN _ _ _ _).trans ?_
    refine (at2_of x (ix2 R (⟨Q.val / 64 * 64 + j.val, hlt⟩ : Fin N)) _ _ ?_ rfl).symm.trans ((hY _).trans (congrArg Y (Nat.add_assoc _ _ _).symm))
    show R.val = R.val / 8192 * 8192 + R.val % 8192
    omega
  · show turned Y (Ideal.cos (at2 g (R.val % 8192) (Q.val % 64 % 32))) (Ideal.sin (at2 g (R.val % 8192) (Q.val % 64 % 32))) (C + Q.val / 64 * 64 + Q.val % 64) = _
    rw [e, e']

/-- 2048 columns of queries and 512 of keys side by side. -/
theorem sides_apply (x : (⟨2, ![32768, 2048]⟩ : Shape).Idx → EReal) (y : (⟨2, ![32768, 512]⟩ : Shape).Idx → EReal) (h : Shape.Concatenates [⟨2, ![32768, 2048]⟩, ⟨2, ![32768, 512]⟩] ⟨2, ![32768, 2560]⟩ 1) (R : Fin 32768) (Q : Fin 2560) :
    concatenate ⟨2, ![32768, 2560]⟩ 1 [⟨⟨2, ![32768, 2048]⟩, x⟩, ⟨⟨2, ![32768, 512]⟩, y⟩] h (ix2 R Q) = if hQ : Q.val < 2048 then x (ix2 R ⟨Q.val, hQ⟩) else y (ix2 R ⟨Q.val - 2048, by omega⟩) := by
  have hq := Q.isLt
  split
  · rename_i hQ
    refine concatenate_pair_apply_left (t := ⟨2, ![32768, 2560]⟩) (1 : Fin 2) x y h _ rfl (ix2 R ⟨Q.val, hQ⟩) fun a => ?_
    match a with
    | ⟨0, _⟩ => rfl
    | ⟨1, _⟩ => rfl
  · refine concatenate_pair_apply_right (t := ⟨2, ![32768, 2560]⟩) (1 : Fin 2) x y h _ rfl rfl (ix2 R ⟨Q.val - 2048, by omega⟩) (fun a ha => ?_) ?_
    · match a with
      | ⟨0, _⟩ => rfl
      | ⟨1, _⟩ => exact absurd rfl ha
    · show Q.val - 2048 + 2048 = Q.val
      omega

end Cert.Rope

end
-- ==== Proof.NormRef.lean ====
/- Normalized heads from the whole array's side: each head divided by the root of its mean square and weighted, and its two parts turned by two arrays of angles. -/
module
public import proofs.«01_k».proof.Proof.RopeRef

@[expose] public section

noncomputable section

namespace Cert.Rope

open Idealize.ShloMosaic.ValueIdx Cert.Flash Cert.Dense
open Idealize.ShloMosaic hiding ix2 ix1 ix3 ix4

/-- Row `R`, column `Q` of rows normalized in parts of 128 columns, weighted and turned. -/
def normed (Z : ℕ → EReal) (T : ℕ → EReal) (g h : (⟨2, ![8192, 32]⟩ : Shape).Idx → EReal) (R Q : ℕ) : EReal :=
  turned (fun j => Z j * rms Z j * T j) (Ideal.cos (angle g h R Q)) (Ideal.sin (angle g h R Q)) Q

/-- The reciprocal root is one number over a turn, so it may be taken before the turn or after it. -/
theorem heads_rms (X : (⟨2, ![32768, 2048]⟩ : Shape).Idx → EReal) (W : (⟨2, ![2048, 2560]⟩ : Shape).Idx → EReal) (B T : ℕ → EReal) (g h : (⟨2, ![8192, 32]⟩ : Shape).Idx → EReal) (R Q : ℕ) :
    heads X W B T g h R Q * rms (fun j => prod X W R j + B j) Q = normed (fun j => prod X W R j + B j) T g h R Q := by
  unfold heads normed
  rw [turned_mul _ _ _ _ _ (rms_bounds _ Q).1 (rms_bounds _ Q).2]
  refine turned_congr _ _ _ _ _ fun j hj => ?_
  have e : rms (fun j => prod X W R j + B j) j = rms (fun j => prod X W R j + B j) Q := by
    unfold rms
    rw [show j / 128 = Q / 128 by omega]
  show (prod X W R j + B j) * T j * _ = (prod X W R j + B j) * rms (fun j => prod X W R j + B j) j * T j
  rw [e, mul_right_comm]

/-- Dividing by 128 is multiplying by its reciprocal. -/
theorem div_width (x : EReal) : Ideal.div x (FloatOps.ofBits (F := Ideal) .f32 0x43000000#32) = x * FloatOps.ofBits (F := Ideal) .f32 0x3C000000#32 := by
  have h1 : (FloatOps.ofBits (F := Ideal) .f32 0x43000000#32 : EReal) = ((128 : ℝ) : EReal) := by
    simp [FloatOps.ofBits, Ideal.ofBits, Ideal.ieee, -EReal.coe_mul]
    norm_num
  have h2 : (FloatOps.ofBits (F := Ideal) .f32 0x3C000000#32 : EReal) = (((1 : ℝ) / 128 : ℝ) : EReal) := by
    simp [FloatOps.ofBits, Ideal.ofBits, Ideal.ieee, -EReal.coe_mul]
    norm_num
  rw [h1, h2, Ideal.div_coe (by norm_num)]

section Norm
variable {H : ℕ} (y : FVec Ideal ⟨4, ![4, 8192, H, 128]⟩ .f32) (w : FVec Ideal ⟨1, ![128]⟩ .f32) (g h : FVec Ideal ⟨2, ![8192, 32]⟩ .f32)
  (hr : (⟨4, ![4, 8192, H, 128]⟩ : Shape).ReducesTo [3] ⟨3, ![4, 8192, H]⟩) (hu : 0 < (⟨0, ![]⟩ : Shape).numel)
  (b1 : (⟨3, ![4, 8192, H]⟩ : Shape).BroadcastsInDim ⟨4, ![4, 8192, H, 1]⟩ ![0, 1, 2]) (b0 : (⟨0, ![]⟩ : Shape).BroadcastsInDim ⟨4, ![4, 8192, H, 1]⟩ ![])
  (b2 : (⟨4, ![4, 8192, H, 1]⟩ : Shape).BroadcastsInDim ⟨4, ![4, 8192, H, 128]⟩ ![0, 1, 2, 3])
  (w1 : (⟨1, ![128]⟩ : Shape).BroadcastsInDim ⟨4, ![1, 1, 1, 128]⟩ ![3]) (w2 : (⟨4, ![1, 1, 1, 128]⟩ : Shape).BroadcastsInDim ⟨4, ![4, 8192, H, 128]⟩ ![0, 1, 2, 3])

/-- One number over each head: the reciprocal of the root of its mean square. -/
def hostRms : FVec Ideal ⟨4, ![4, 8192, H, 1]⟩ .f32 :=
  Host.rsqrt (addf (Host.divf (broadcastInDim ⟨4, ![4, 8192, H, 1]⟩ ![0, 1, 2] b1 (Host.reduceAdd (mulf y y) (constant ⟨0, ![]⟩ .f32 0x00000000#32) hr hu))
      (broadcastInDim ⟨4, ![4, 8192, H, 1]⟩ ![] b0 (constant ⟨0, ![]⟩ .f32 0x43000000#32)))
    (broadcastInDim ⟨4, ![4, 8192, H, 1]⟩ ![] b0 (constant ⟨0, ![]⟩ .f32 0x358637BD#32)))

/-- The heads normalized and weighted. -/
def hostNorm : FVec Ideal ⟨4, ![4, 8192, H, 128]⟩ .f32 :=
  mulf (mulf y (broadcastInDim ⟨4, ![4, 8192, H, 128]⟩ ![0, 1, 2, 3] b2 (hostRms y hr hu b1 b0)))
    (broadcastInDim ⟨4, ![4, 8192, H, 128]⟩ ![0, 1, 2, 3] w2 (broadcastInDim ⟨4, ![1, 1, 1, 128]⟩ ![3] w1 w))

theorem hostRms_apply (hr' : (⟨4, ![4, 8192, H, 128]⟩ : Shape).Reduces [3] ⟨3, ![4, 8192, H]⟩) (b : Fin 4) (s : Fin 8192) (a : Fin H) (Y : ℕ → EReal) (A Q : ℕ) (hQ : Q / 128 * 128 = A) (hY : ∀ j : Fin 128, y (ix4 b s a j) = Y (A + j.val)) :
    hostRms y hr hu b1 b0 (ix4 b s a (0 : Fin 1)) = rms Y Q := by
  unfold hostRms rms
  refine congrArg (fun t : EReal => Ideal.rsqrt (t + FloatOps.ofBits (F := Ideal) .f32 0x358637BD#32)) ((div_width _).trans (congrArg (fun t : EReal => t * FloatOps.ofBits (F := Ideal) .f32 0x3C000000#32) ?_))
  refine (broadcastInDim_apply _ b1 _ (ix4 b s a (0 : Fin 1)) (ix3 b s a) fun x => ?_).trans ?_
  · match x with
    | ⟨0, _⟩ => rfl
    | ⟨1, _⟩ => rfl
    | ⟨2, _⟩ =>
      show a.val = if H = 1 then 0 else a.val
      split
      · have := a.isLt
        omega
      · rfl
  · refine (Ideal.hostReduceAdd_single hr hr' (mulf y y) _ (ix3 b s a)).trans ?_
    rw [show constant (F := Ideal) ⟨0, ![]⟩ .f32 0x00000000#32 (Shape.Idx.first hu) = (0 : EReal) from Ideal.ofBits_zero_f32, zero_add]
    refine Finset.sum_congr rfl fun k _ => ?_
    have e : y (hr'.lift (ix3 b s a) k) = Y (Q / 128 * 128 + k.val) := by
      rw [hQ]
      refine (congrArg y (funext fun x => Fin.ext ?_ : _ = ix4 b s a k)).trans (hY k)
      match x with
      | ⟨0, _⟩ => rfl
      | ⟨1, _⟩ => rfl
      | ⟨2, _⟩ => rfl
      | ⟨3, _⟩ => rfl
    exact congrArg₂ (fun u v : EReal => u * v) e e

theorem hostNorm_apply (hr' : (⟨4, ![4, 8192, H, 128]⟩ : Shape).Reduces [3] ⟨3, ![4, 8192, H]⟩) (b : Fin 4) (s : Fin 8192) (a : Fin H) (d : Fin 128) (Y : ℕ → EReal) (A : ℕ) (hA : A % 128 = 0) (hY : ∀ j : Fin 128, y (ix4 b s a j) = Y (A + j.val)) :
    hostNorm y w hr hu b1 b0 b2 w1 w2 (ix4 b s a d) = Y (A + d.val) * rms Y (A + d.val) * at1 w ((A + d.val) % 128) := by
  have hd := d.isLt
  unfold hostNorm
  refine congrArg₂ (fun u v : EReal => u * v) (congrArg₂ (fun u v : EReal => u * v) (hY d) ?_) ?_
  · refine (broadcastInDim_apply _ b2 _ (ix4 b s a d) (ix4 b s a (0 : Fin 1)) fun x => ?_).trans (hostRms_apply y hr hu b1 b0 hr' b s a Y A _ (by omega) hY)
    match x with
    | ⟨0, _⟩ => rfl
    | ⟨1, _⟩ => rfl
    | ⟨2, _⟩ =>
      show a.val = if H = 1 then 0 else a.val
      split
      · have := a.isLt
        omega
      · rfl
    | ⟨3, _⟩ => rfl
  · refine (broadcastInDim_apply _ w2 _ (ix4 b s a d) (ix4 (0 : Fin 1) (0 : Fin 1) (0 : Fin 1) d) fun x => ?_).trans ((broadcastInDim_apply _ w1 w _ (ix1 d) fun x => ?_).trans ((at1_of w d).trans (congrArg (at1 w) (by omega))))
    · match x with
      | ⟨0, _⟩ => rfl
      | ⟨1, _⟩ => rfl
      | ⟨2, _⟩ => rfl
      | ⟨3, _⟩ => rfl
    · match x with
      | ⟨0, _⟩ => rfl

variable (p0 : (⟨4, ![4, 8192, H, 128]⟩ : Shape).Slices ![0, 0, 0, 0] ⟨4, ![4, 8192, H, 64]⟩) (p1 : (⟨4, ![4, 8192, H, 128]⟩ : Shape).Slices ![0, 0, 0, 64] ⟨4, ![4, 8192, H, 64]⟩)
  (hl : (⟨4, ![4, 8192, H, 64]⟩ : Shape).Slices ![0, 0, 0, 0] ⟨4, ![4, 8192, H, 32]⟩) (hr2 : (⟨4, ![4, 8192, H, 64]⟩ : Shape).Slices ![0, 0, 0, 32] ⟨4, ![4, 8192, H, 32]⟩)
  (h1 : (⟨2, ![8192, 32]⟩ : Shape).BroadcastsInDim ⟨4, ![1, 8192, 1, 32]⟩ ![1, 3]) (h2 : (⟨4, ![1, 8192, 1, 32]⟩ : Shape).BroadcastsInDim ⟨4, ![4, 8192, H, 32]⟩ ![0, 1, 2, 3])
  (hc : Shape.Concatenates [⟨4, ![4, 8192, H, 32]⟩, ⟨4, ![4, 8192, H, 32]⟩] ⟨4, ![4, 8192, H, 64]⟩ 3)
  (hj : Shape.Concatenates [⟨4, ![4, 8192, H, 64]⟩, ⟨4, ![4, 8192, H, 64]⟩] ⟨4, ![4, 8192, H, 128]⟩ 3)

/-- The first part of the heads turned by the first angles, the second by the second. -/
def hostParts : FVec Ideal ⟨4, ![4, 8192, H, 128]⟩ .f32 :=
  concatenate ⟨4, ![4, 8192, H, 128]⟩ 3
    [⟨⟨4, ![4, 8192, H, 64]⟩, hostTurn (extractStridedSlice ⟨4, ![4, 8192, H, 64]⟩ ![0, 0, 0, 0] y p0) g hl hr2 h1 h2 hc⟩,
     ⟨⟨4, ![4, 8192, H, 64]⟩, hostTurn (extractStridedSlice ⟨4, ![4, 8192, H, 64]⟩ ![0, 0, 0, 64] y p1) h hl hr2 h1 h2 hc⟩] hj

theorem hostParts_apply (b : Fin 4) (s : Fin 8192) (a : Fin H) (d : Fin 128) (Y : ℕ → EReal) (A : ℕ) (hA : A % 128 = 0) (hY : ∀ j : Fin 128, y (ix4 b s a j) = Y (A + j.val)) :
    hostParts y g h p0 p1 hl hr2 h1 h2 hc hj (ix4 b s a d) = turned Y (Ideal.cos (angle g h s.val (A + d.val))) (Ideal.sin (angle g h s.val (A + d.val))) (A + d.val) := by
  have hd := d.isLt
  have hs : s.val % 8192 = s.val := Nat.mod_eq_of_lt s.isLt
  unfold hostParts
  by_cases hlt : d.val < 64
  · have e : angle g h s.val (A + d.val) = at2 g s.val (d.val % 32) := by
      unfold angle
      rw [if_pos (by omega), hs, show (A + d.val) % 32 = d.val % 32 by omega]
    rw [e]
    refine (concatenate_pair_apply_left (t := ⟨4, ![4, 8192, H, 128]⟩) (3 : Fin 4) _ _ hj _ rfl (ix4 b s a (⟨d.val, hlt⟩ : Fin 64)) fun x => ?_).trans ?_
    · match x with
      | ⟨0, _⟩ => rfl
      | ⟨1, _⟩ => rfl
      | ⟨2, _⟩ => rfl
      | ⟨3, _⟩ => rfl
    · refine hostTurn_apply _ g hl hr2 h1 h2 hc b s a (⟨d.val, hlt⟩ : Fin 64) Y A (by omega) fun j => ?_
      refine (extractStridedSlice_apply ![0, 0, 0, 0] y p0 (ix4 b s a j) (ix4 b s a (⟨j.val, by omega⟩ : Fin 128)) fun x => ?_).trans (hY _)
      match x with
      | ⟨0, _⟩ => exact (Nat.zero_add _).symm
      | ⟨1, _⟩ => exact (Nat.zero_add _).symm
      | ⟨2, _⟩ => exact (Nat.zero_add _).symm
      | ⟨3, _⟩ => exact (Nat.zero_add _).symm
  · have e : angle g h s.val (A + d.val) = at2 h s.val ((d.val - 64) % 32) := by
      unfold angle
      rw [if_neg (by omega), hs, show (A + d.val) % 32 = (d.val - 64) % 32 by omega]
    rw [e]
    refine (concatenate_pair_apply_right (t := ⟨4, ![4, 8192, H, 128]⟩) (3 : Fin 4) _ _ hj _ rfl rfl (ix4 b s a (⟨d.val - 64, by omega⟩ : Fin 64)) (fun x hx => ?_) ?_).trans ?_
    · match x with
      | ⟨0, _⟩ => rfl
      | ⟨1, _⟩ => rfl
      | ⟨2, _⟩ => rfl
      | ⟨3, _⟩ => exact absurd rfl hx
    · show d.val - 64 + 64 = d.val
      omega
    · refine (hostTurn_apply _ h hl hr2 h1 h2 hc b s a (⟨d.val - 64, by omega⟩ : Fin 64) Y (A + 64) (by omega) fun j => ?_).trans (congrArg (turned Y _ _) (by show A + 64 + (d.val - 64) = A + d.val; omega))
      refine (extractStridedSlice_apply ![0, 0, 0, 64] y p1 (ix4 b s a j) (ix4 b s a (⟨64 + j.val, by omega⟩ : Fin 128)) fun x => ?_).trans ((hY _).trans (congrArg Y (Nat.add_assoc _ _ _).symm))
      match x with
      | ⟨0, _⟩ => exact (Nat.zero_add _).symm
      | ⟨1, _⟩ => exact (Nat.zero_add _).symm
      | ⟨2, _⟩ => exact (Nat.zero_add _).symm
      | ⟨3, _⟩ => rfl

/-- Columns split into heads, the heads normalized and turned, read at row `R` and column `Q`. -/
theorem hostHeads_apply {N : ℕ} (x : FVec Ideal ⟨2, ![32768, N]⟩ .f32) (hx : (⟨2, ![32768, N]⟩ : Shape).ShapeCasts ⟨4, ![4, 8192, H, 128]⟩) (hN : N = H * 128) (hr' : (⟨4, ![4, 8192, H, 128]⟩ : Shape).Reduces [3] ⟨3, ![4, 8192, H]⟩)
    (R : Fin 32768) (Q : Fin N) (hb : R.val / 8192 < 4) (hs : R.val % 8192 < 8192) (ha : Q.val / 128 < H) (hd : Q.val % 128 < 128) (Y : ℕ → EReal) (C : ℕ) (hC : C % 128 = 0) (hY : ∀ j : Fin N, x (ix2 R j) = Y (C + j.val)) :
    hostParts (hostNorm (shapeCast ⟨4, ![4, 8192, H, 128]⟩ x hx) w hr hu b1 b0 b2 w1 w2) g h p0 p1 hl hr2 h1 h2 hc hj (ix4 (⟨R.val / 8192, hb⟩ : Fin 4) (⟨R.val % 8192, hs⟩ : Fin 8192) (⟨Q.val / 128, ha⟩ : Fin H) (⟨Q.val % 128, hd⟩ : Fin 128))
      = normed Y (fun j => at1 w (j % 128)) g h R.val (C + Q.val) := by
  have hR := R.isLt
  have e : C + Q.val / 128 * 128 + Q.val % 128 = C + Q.val := by omega
  refine (hostParts_apply _ g h p0 p1 hl hr2 h1 h2 hc hj _ _ _ _ (fun j => Y j * rms Y j * at1 w (j % 128)) (C + Q.val / 128 * 128) (by omega) fun j =>
    hostNorm_apply _ w hr hu b1 b0 b2 w1 w2 hr' _ _ _ j Y (C + Q.val / 128 * 128) (by omega) fun k => ?_).trans ?_
  · have hk := k.isLt
    have hlt : Q.val / 128 * 128 + k.val < N := by omega
    refine (split_apply x hx hN _ _ _ _).trans ?_
    refine (at2_of x (ix2 R (⟨Q.val / 128 * 128 + k.val, hlt⟩ : Fin N)) _ _ ?_ rfl).symm.trans ((hY _).trans (congrArg Y (Nat.add_assoc _ _ _).symm))
    show R.val = R.val / 8192 * 8192 + R.val % 8192
    omega
  · show turned _ (Ideal.cos (angle g h (R.val % 8192) (C + Q.val / 128 * 128 + Q.val % 128))) (Ideal.sin (angle g h (R.val % 8192) (C + Q.val / 128 * 128 + Q.val % 128))) (C + Q.val / 128 * 128 + Q.val % 128) = _
    rw [e, angle_congr g h (R := R.val % 8192) (R' := R.val) (Q := C + Q.val) (Q' := C + Q.val) (Nat.mod_mod _ _) rfl]
    rfl

end Norm

end Cert.Rope

end
-- ==== Proof.AxialProj.lean ====
/- The axial layer's query and key projection: what its blocks leave, what its reference leaves, and that the two are one array. -/
module
public import proofs.«01_k».proof.Proof.NormRef
public import proofs.«01_k».proof.Proof.Gen.Kernel7Ideal.Value
public import proofs.«01_k».proof.Proof.Gen.Reference7Ideal.Read
public import Idealize.ShloMosaic.Lib.Pipeline.ValueKit

@[expose] public section

noncomputable section

namespace Cert.AxialProj

open Cert.Kernel7Ideal Cert.Kernel7Ideal.Gen Idealize.ShloMosaic.TcCoe Idealize.SL.Sem Idealize.ShloMosaic.ValueIdx Cert.Flash Cert.Dense Cert.Rope
open Idealize.ShloMosaic hiding ix2 ix1 ix3 ix4

/-- The queries' factor. -/
abbrev factor : EReal := FloatOps.ofBits (F := Ideal) .f32 0x3E0293EE#32

/-- The number column `j` is weighted by, the queries' taking the factor in. -/
def scales (q k : S128.Idx → EReal) (j : ℕ) : EReal := if j < 2048 then at1 q (j % 128) * factor else at1 k (j % 128)

/-- The result: the product's heads normalized, weighted and turned. -/
def result (X : S32768x2048.Idx → EReal) (W : S2048x2560.Idx → EReal) (q k : S128.Idx → EReal) (g h : S8192x32.Idx → EReal) : S32768x2560.Idx → EReal :=
  fun i => normed (prod X W (i 0).val) (scales q k) g h (i 0).val (i 1).val

section Pieces
variable {x0 : Vec Ideal S1024x2048 .bf16} {x1 : Vec Ideal S2048x1280 .bf16} {x2 x3 : Vec Ideal S1x1280 .f32} {x4 x5 x6 : Vec Ideal S1024x128 .f32}
  {X : S32768x2048.Idx → EReal} {W : S2048x2560.Idx → EReal} {B T : ℕ → EReal} {g h : S8192x32.Idx → EReal} {R C : ℕ} (hold : Block x0 x1 x2 x3 x4 x5 x6 X W B T g h R C)

include hold in
/-- One stored piece. -/
theorem piece_apply (o d : ℕ) (hd : d + 128 ≤ 256) (hp : (o + d) % 128 = 0) (ho : o + 256 ≤ 1280)
    (hw : ∀ a, (![0, o] : Fin 2 → ℕ) a + S2048x256.size a ≤ S2048x1280.size a) (hb : ∀ a, (![0, o + d] : Fin 2 → ℕ) a + S1x128.size a ≤ S1x1280.size a)
    (hi : ∀ a, (![0, o + d] : Fin 2 → ℕ) a + S1024x128.size a ≤ S1024x1280.size a) (hs : S1024x256.Slices ![0, d] S1024x128) (x : S1024x128.Idx) :
    truncf (F := Ideal) .bf16 (blockScaled (blockPiece d (View.ld (Val := Elt Ideal) (e' := .bf16) x0 r0_0) (View.ld (Val := Elt Ideal) (e' := .bf16) x1 (Rect.unit (s := S2048x1280) ![0, o] S2048x256.size hw))
      (View.ld (Val := Elt Ideal) (e' := .f32) x2 (Rect.unit (s := S1x1280) ![0, o + d] S1x128.size hb)) (View.ld (Val := Elt Ideal) (e' := .f32) x3 (Rect.unit (s := S1x1280) ![0, o + d] S1x128.size hb))
      (View.ld (Val := Elt Ideal) (e' := .f32) x4 r0_1) (View.ld (Val := Elt Ideal) (e' := .f32) x5 r0_1) (View.ld (Val := Elt Ideal) (e' := .f32) x6 r0_1)
      hs shapeCasts_S1x128_S1x128 broadcasts_S1x128_S1024x128 shapeCasts_S1024x128_S1024x128 rotates_S1024x128_d1)
      (blockBiased d (View.ld (Val := Elt Ideal) (e' := .bf16) x0 r0_0) (View.ld (Val := Elt Ideal) (e' := .bf16) x1 (Rect.unit (s := S2048x1280) ![0, o] S2048x256.size hw))
      (View.ld (Val := Elt Ideal) (e' := .f32) x2 (Rect.unit (s := S1x1280) ![0, o + d] S1x128.size hb)) hs shapeCasts_S1x128_S1x128 broadcasts_S1x128_S1024x128) bitsLt_bf16_f32) bitsLt_bf16_f32 x
      = (fun y : S1024x1280.Idx => normed (fun j => prod X W (R + (y 0).val) j + B j) T g h (R + (y 0).val) (C + (y 1).val)) ((Rect.unit (s := S1024x1280) ![0, o + d] S1024x128.size hi).emb x) := by
  obtain ⟨r, q, rfl⟩ : ∃ r q, x = ix2 (n0 := 1024) (n1 := 128) r q := ⟨x 0, x 1, ValueIdx.eq_ix2 x⟩
  have hC := hold.part
  refine (blockScaled_apply _ _ bitsLt_bf16_f32 (fun j => prod X W (R + r.val) j + B j) (C + (o + d)) (by omega) r q fun j =>
    loadBiased_apply hold o d hd ho inb_S1024x2048_S1024x2048_0_0 hw hb hs shapeCasts_S1x128_S1x128 broadcasts_S1x128_S1024x128 r j).trans ?_
  rw [loadPiece_apply hold o d hd hp ho inb_S1024x2048_S1024x2048_0_0 hw hb inb_S1024x128_S1024x128_0_0 hs shapeCasts_S1x128_S1x128 broadcasts_S1x128_S1024x128 shapeCasts_S1024x128_S1024x128 rotates_S1024x128_d1 r q, heads_rms]
  show normed (fun j => prod X W (R + r.val) j + B j) T g h (R + r.val) (C + (o + d) + q.val) = normed (fun j => prod X W (R + (0 + 1 * r.val)) j + B j) T g h (R + (0 + 1 * r.val)) (C + (o + d + 1 * q.val))
  rw [show 0 + 1 * r.val = r.val by omega, show C + (o + d) + q.val = C + (o + d + 1 * q.val) by omega]

include hold in
/-- All that a grid point stores. -/
theorem out_apply (r : Fin 1024) (q : Fin 1280) : out0_7 (F := Ideal) x0 x1 x2 x3 x4 x5 x6 (ix2 r q) = normed (fun j => prod X W (R + r.val) j + B j) T g h (R + r.val) (C + q.val) := by
  unfold_out out0_7
  refine View.canon_apply_of_pieces (Val := Elt Ideal) (e := .bf16) (fun y : S1024x1280.Idx => normed (fun j => prod X W (R + (y 0).val) j + B j) T g h (R + (y 0).val) (C + (y 1).val)) _ ?_ (ix2 r q) (cover0_7 _ _ _ _ _ _ _ _ _ _ _)
  simp only [List.forall_mem_cons]
  refine ⟨piece_apply hold 1024 128 ?_ ?_ ?_ ?_ ?_ ?_ ?_, piece_apply hold 1024 0 ?_ ?_ ?_ ?_ ?_ ?_ ?_, piece_apply hold 768 128 ?_ ?_ ?_ ?_ ?_ ?_ ?_, piece_apply hold 768 0 ?_ ?_ ?_ ?_ ?_ ?_ ?_,
    piece_apply hold 512 128 ?_ ?_ ?_ ?_ ?_ ?_ ?_, piece_apply hold 512 0 ?_ ?_ ?_ ?_ ?_ ?_ ?_, piece_apply hold 256 128 ?_ ?_ ?_ ?_ ?_ ?_ ?_, piece_apply hold 256 0 ?_ ?_ ?_ ?_ ?_ ?_ ?_,
    piece_apply hold 0 128 ?_ ?_ ?_ ?_ ?_ ?_ ?_, piece_apply hold 0 0 ?_ ?_ ?_ ?_ ?_ ?_ ?_, fun _ hm => absurd hm List.not_mem_nil⟩ <;> decide

end Pieces

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![0, t.val % 2] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![t.val / 2 % 8, 0] := (by decide +kernel : ∀ t : Fin grid0.N, _)
theorem idx5 : ∀ t : Fin cfg0.N, win0_5.index t = ![t.val / 2 % 8, 0] := (by decide +kernel : ∀ t : Fin grid0.N, _)
theorem idx6 : ∀ t : Fin cfg0.N, win0_6.index t = ![t.val / 2 % 8, 0] := (by decide +kernel : ∀ t : Fin grid0.N, _)
theorem idx7 : ∀ t : Fin cfg0.N, win0_7.index t = ![t.val / 2, t.val % 2] := (by decide +kernel : ∀ t : Fin grid0.N, _)

variable (m : (ℓ : Loc nD τ sig) → Buf (Elt Ideal) ℓ) (c : Dev nD)

/-- The rows as launched. -/
abbrev argX : S32768x2048.Idx → EReal := m ((c : Thread nD τ).loc main_arg0)
/-- The weights as launched. -/
abbrev argW : S2048x2560.Idx → EReal := m ((c : Thread nD τ).loc main_arg1)
/-- The queries' weights over a head, as launched. -/
abbrev argQ : S128.Idx → EReal := m ((c : Thread nD τ).loc main_arg2)
/-- The keys' weights over a head, as launched. -/
abbrev argK : S128.Idx → EReal := m ((c : Thread nD τ).loc main_arg3)
/-- The first part's angles as launched. -/
abbrev argG : S8192x32.Idx → EReal := m ((c : Thread nD τ).loc main_arg4)
/-- The second part's angles as launched. -/
abbrev argH : S8192x32.Idx → EReal := m ((c : Thread nD τ).loc main_arg5)

/-- The row of numbers the columns are weighted by. -/
abbrev scaleRow (q k : S128.Idx → EReal) : S2560.Idx → EReal :=
  concatenate S2560 0
    [⟨S2048, shapeCast S2048 (broadcastInDim S16x128 ![0, 1] bcast_S1x128_S16x128_0_1 (shapeCast S1x128 (mulf (F := Ideal) (φ := .f32) q (broadcastInDim S128 ![] bcast_S_S128 (constant (F := Ideal) S_ .f32 0x3E0293EE#32))) shapeCasts_S128_S1x128)) shapeCasts_S16x128_S2048⟩,
     ⟨S512, shapeCast S512 (broadcastInDim S4x128 ![0, 1] bcast_S1x128_S4x128_0_1 (shapeCast S1x128 k shapeCasts_S128_S1x128)) shapeCasts_S4x128_S512⟩] concatenates_S2048_S512_S2560_d0

/-- No bias. -/
abbrev noBias : S2560.Idx → EReal := broadcastInDim S2560 ![] bcast_S_S2560 (constant (F := Ideal) S_ .f32 0x00000000#32)

/-- Zeros. -/
abbrev zeros : S8192x32.Idx → EReal := broadcastInDim S8192x32 ![] bcast_S_S8192x32 (constant (F := Ideal) S_ .f32 0x00000000#32)

theorem V_bias : V m c main_v22 = shapeCast S1x2560 noBias shapeCasts_S2560_S1x2560 := by
  unfold_abbrev_sides
  after_results
  rfl
theorem V_scale : V m c main_v23 = shapeCast S1x2560 (scaleRow (argQ m c) (argK m c)) shapeCasts_S2560_S1x2560 := by
  unfold_abbrev_sides
  after_results
  rfl
theorem V_cos : V m c main_v12 = table (Host.cos (F := Ideal) (φ := .f32) (argG m c)) (Host.cos (F := Ideal) (φ := .f32) (argG m c)) (Host.cos (F := Ideal) (φ := .f32) (argH m c)) (Host.cos (F := Ideal) (φ := .f32) (argH m c)) (by decide) := by
  unfold_abbrev_sides
  after_results
  rfl

theorem V_forward : V m c main_v17 = table (Host.negf (F := Ideal) (φ := .f32) (Host.sin (F := Ideal) (φ := .f32) (argG m c))) zeros (Host.negf (F := Ideal) (φ := .f32) (Host.sin (F := Ideal) (φ := .f32) (argH m c))) zeros (by decide) := by
  unfold_abbrev_sides
  after_results
  rfl
theorem V_backward : V m c main_v20 = table zeros (Host.sin (F := Ideal) (φ := .f32) (argG m c)) zeros (Host.sin (F := Ideal) (φ := .f32) (argH m c)) (by decide) := by
  unfold_abbrev_sides
  after_results
  rfl

theorem zeros_apply (i : S8192x32.Idx) : zeros i = (0 : EReal) := Ideal.ofBits_zero_f32

/-- A head's weights, repeated over the heads. -/
theorem repeated_apply {H N : ℕ} (w : (⟨1, ![128]⟩ : Shape).Idx → EReal) (h1 : (⟨1, ![128]⟩ : Shape).ShapeCasts ⟨2, ![1, 128]⟩) (hb : (⟨2, ![1, 128]⟩ : Shape).BroadcastsInDim ⟨2, ![H, 128]⟩ ![0, 1]) (h2 : (⟨2, ![H, 128]⟩ : Shape).ShapeCasts ⟨1, ![N]⟩)
    (hN : N = H * 128) (j : Fin N) : shapeCast ⟨1, ![N]⟩ (broadcastInDim ⟨2, ![H, 128]⟩ ![0, 1] hb (shapeCast ⟨2, ![1, 128]⟩ w h1)) h2 (ix1 j) = at1 w (j.val % 128) := by
  have hj := j.isLt
  refine (shapeCast_apply _ h2 (ix1 j) (ix2 (⟨j.val / 128, by omega⟩ : Fin H) (⟨j.val % 128, Nat.mod_lt _ (by omega)⟩ : Fin 128)) ?_).trans ?_
  · rw [Shape.rowMajor_val_two, Shape.rowMajor_val_one]
    show j.val / 128 * 128 + j.val % 128 = j.val
    omega
  · refine (broadcastInDim_apply _ hb _ _ (ix2 (0 : Fin 1) (⟨j.val % 128, Nat.mod_lt _ (by omega)⟩ : Fin 128)) fun x => ?_).trans ((shapeCast_a_1a_apply w h1 0 _).trans (at1_of w _))
    match x with
    | ⟨0, _⟩ => rfl
    | ⟨1, _⟩ => rfl

theorem weighted_apply (q : S128.Idx → EReal) (j : ℕ) (hj : j < 128) : at1 (mulf (F := Ideal) (φ := .f32) q (broadcastInDim S128 ![] bcast_S_S128 (constant (F := Ideal) S_ .f32 0x3E0293EE#32))) j = at1 q j * factor := by
  unfold at1
  rw [dif_pos hj, dif_pos hj]
  rfl

theorem scaleRow_apply (q k : S128.Idx → EReal) (j : Fin 2560) : scaleRow q k (ix1 j) = scales q k j.val := by
  have hj := j.isLt
  unfold scales
  split
  · rename_i h
    refine (concatenate_pair_apply_left (t := S2560) (0 : Fin 1) _ _ concatenates_S2048_S512_S2560_d0 _ rfl (ix1 (⟨j.val, h⟩ : Fin 2048)) fun a => ?_).trans ((repeated_apply _ _ _ _ rfl _).trans (weighted_apply q _ (Nat.mod_lt _ (by omega))))
    match a with
    | ⟨0, _⟩ => rfl
  · refine (concatenate_pair_apply_right (t := S2560) (0 : Fin 1) _ _ concatenates_S2048_S512_S2560_d0 _ rfl rfl (ix1 (⟨j.val - 2048, by omega⟩ : Fin 512)) (fun a ha => ?_) ?_).trans ((repeated_apply _ _ _ _ rfl _).trans (congrArg (at1 k) ?_))
    · match a with
      | ⟨0, _⟩ => exact absurd rfl ha
    · show j.val - 2048 + 2048 = j.val
      omega
    · show (j.val - 2048) % 128 = j.val % 128
      omega

theorem block (t : Fin cfg0.N) : Block (iblk m c 0 t) (iblk m c 1 t) (iblk m c 2 t) (iblk m c 3 t) (iblk m c 4 t) (iblk m c 5 t) (iblk m c 6 t)
    (argX m c) (argW m c) (fun _ => 0) (scales (argQ m c) (argK m c)) (argG m c) (argH m c) (t.val / 2 * 1024) (t.val % 2 * 1280) := by
  have ht : t.val < 64 := t.isLt
  constructor
  · omega
  · intro r k
    blk_simp [iblk]
    rw [V_main_arg0]
    refine at2_of _ _ _ _ ?_ ?_ <;> blk_simp [idx0]
  · intro k j
    blk_simp [iblk]
    rw [V_main_arg1]
    refine at2_of _ _ _ _ ?_ ?_ <;> blk_simp [idx1]
  · intro j
    have hj := j.isLt
    blk_simp [iblk]
    rw [V_bias]
    refine (congrArg _ (funext fun a => Fin.ext ?_ : _ = ix2 (0 : Fin 1) (⟨t.val % 2 * 1280 + j.val, by omega⟩ : Fin 2560))).trans ((shapeCast_a_1a_apply noBias shapeCasts_S2560_S1x2560 0 _).trans Ideal.ofBits_zero_f32)
    match a with
    | ⟨0, _⟩ => blk_simp [idx2]
    | ⟨1, _⟩ => blk_simp [idx2]
  · intro j
    have hj := j.isLt
    blk_simp [iblk]
    rw [V_scale]
    refine (congrArg _ (funext fun a => Fin.ext ?_ : _ = ix2 (0 : Fin 1) (⟨t.val % 2 * 1280 + j.val, by omega⟩ : Fin 2560))).trans ((shapeCast_a_1a_apply (scaleRow (argQ m c) (argK m c)) shapeCasts_S2560_S1x2560 0 _).trans (scaleRow_apply _ _ _))
    match a with
    | ⟨0, _⟩ => blk_simp [idx3]
    | ⟨1, _⟩ => blk_simp [idx3]
  · intro r q
    have hr := r.isLt
    blk_simp [iblk]
    rw [V_cos]
    refine (congrArg _ (funext fun a => Fin.ext ?_ : _ = ix2 (⟨t.val / 2 % 8 * 1024 + r.val, by omega⟩ : Fin 8192) q)).trans ((cos_table _ _ _ _ _).trans (congrArg Ideal.cos (angle_congr _ _ (by show (t.val / 2 % 8 * 1024 + r.val) % 8192 = _; omega) rfl)))
    match a with
    | ⟨0, _⟩ => blk_simp [idx4]
    | ⟨1, _⟩ => blk_simp [idx4]
  · intro r q
    have hr := r.isLt
    blk_simp [iblk]
    rw [V_forward]
    refine (congrArg _ (funext fun a => Fin.ext ?_ : _ = ix2 (⟨t.val / 2 % 8 * 1024 + r.val, by omega⟩ : Fin 8192) q)).trans ((neg_sin_table _ _ _ zeros_apply _ _ _).trans (congrArg (fun a : EReal => if q.val % 64 < 32 then -Ideal.sin a else 0) (angle_congr _ _ (by show (t.val / 2 % 8 * 1024 + r.val) % 8192 = _; omega) rfl)))
    match a with
    | ⟨0, _⟩ => blk_simp [idx5]
    | ⟨1, _⟩ => blk_simp [idx5]
  · intro r q
    have hr := r.isLt
    blk_simp [iblk]
    rw [V_backward]
    refine (congrArg _ (funext fun a => Fin.ext ?_ : _ = ix2 (⟨t.val / 2 % 8 * 1024 + r.val, by omega⟩ : Fin 8192) q)).trans ((sin_table _ _ _ zeros_apply _ _ _).trans (congrArg (fun a : EReal => if q.val % 64 < 32 then 0 else Ideal.sin a) (angle_congr _ _ (by show (t.val / 2 % 8 * 1024 + r.val) % 8192 = _; omega) rfl)))
    match a with
    | ⟨0, _⟩ => blk_simp [idx6]
    | ⟨1, _⟩ => blk_simp [idx6]

/-- The result array after the run. -/
theorem final : (dats m 0 c).arrAt 7 cfg0.N = result (argX m c) (argW m c) (argQ m c) (argK m c) (argG m c) (argH m c) := by
  refine (dats m 0 c).arrAt_eq_of_covers 7 _ (by decide +kernel) fun t _ y => ?_
  obtain ⟨r, q, rfl⟩ : ∃ r q, y = ix2 (n0 := 1024) (n1 := 1280) r q := ⟨y 0, y 1, ValueIdx.eq_ix2 y⟩
  blk_simp
  rw [after0_7]
  have e0 : (((cfg0.win 7).blk t).view.emb (ix2 r q) 0).val = t.val / 2 * 1024 + r.val := by
    blk_simp [idx7]
    rfl
  have e1 : (((cfg0.win 7).blk t).view.emb (ix2 r q) 1).val = t.val % 2 * 1280 + q.val := by
    blk_simp [idx7]
    rfl
  unfold result
  rw [e0, e1]
  refine (out_apply (block m c t) r q).trans ?_
  simp only [add_zero]

/-! ### The reference -/

section Reference
open Cert.Reference7Ideal.Read
variable (X : S32768x2048.Idx → EReal) (W : S2048x2560.Idx → EReal) (wq wk : S128.Idx → EReal) (g h : S8192x32.Idx → EReal)

/-- The product's first 2048 columns. -/
theorem left_apply (R : Fin 32768) (Q : Fin 2048) : val_main_v3 (F := Ideal) X W (ix2 R Q) = prod X W R.val (0 + Q.val) := by
  have hQ := Q.isLt
  rw [Nat.zero_add]
  refine (extractStridedSlice_apply (s := S32768x2560) (t := S32768x2048) ![0, 0] (val_main_v2 (F := Ideal) X W) (by decide) (ix2 R Q) (ix2 R (⟨Q.val, by omega⟩ : Fin 2560)) fun a => ?_).trans (host_prod (φ₁ := .f32) (φ₂ := .f32) X W _)
  match a with
  | ⟨0, _⟩ => exact (Nat.zero_add _).symm
  | ⟨1, _⟩ => exact (Nat.zero_add _).symm

/-- Its last 512 columns. -/
theorem right_apply (R : Fin 32768) (Q : Fin 512) : val_main_v4 (F := Ideal) X W (ix2 R Q) = prod X W R.val (2048 + Q.val) := by
  have hQ := Q.isLt
  refine (extractStridedSlice_apply (s := S32768x2560) (t := ⟨2, ![32768, 512]⟩) ![0, 2048] (val_main_v2 (F := Ideal) X W) (by decide) (ix2 R Q) (ix2 R (⟨2048 + Q.val, by omega⟩ : Fin 2560)) fun a => ?_).trans (host_prod (φ₁ := .f32) (φ₂ := .f32) X W _)
  match a with
  | ⟨0, _⟩ => exact (Nat.zero_add _).symm
  | ⟨1, _⟩ => rfl

theorem factor_bounds : (0 : EReal) ≤ factor ∧ factor ≠ ⊤ := by
  constructor <;> simp [factor, FloatOps.ofBits, Ideal.ofBits, Ideal.ieee, -EReal.coe_mul] <;> norm_num

/-- The queries' heads. -/
theorem queries_apply (R : Fin 32768) (Q : Fin 2048) (hb : R.val / 8192 < 4) (hs : R.val % 8192 < 8192) (ha : Q.val / 128 < 16) (hd : Q.val % 128 < 128) :
    val_main_v55 (F := Ideal) X W wq g h (ix4 (⟨R.val / 8192, hb⟩ : Fin 4) (⟨R.val % 8192, hs⟩ : Fin 8192) (⟨Q.val / 128, ha⟩ : Fin 16) (⟨Q.val % 128, hd⟩ : Fin 128)) = normed (prod X W R.val) (fun j => at1 wq (j % 128)) g h R.val (0 + Q.val) :=
  hostHeads_apply wq g h (by decide) (by decide) (by decide) (by decide) (by decide) (by decide) (by decide) (by decide) (by decide) (by decide) (by decide) (by decide) (by decide) (by decide) (by decide)
    (val_main_v3 (F := Ideal) X W) (by decide) rfl (by decide) R Q hb hs ha hd (prod X W R.val) 0 rfl (left_apply X W R)

/-- The keys' heads. -/
theorem keys_apply (R : Fin 32768) (Q : Fin 512) (hb : R.val / 8192 < 4) (hs : R.val % 8192 < 8192) (ha : Q.val / 128 < 4) (hd : Q.val % 128 < 128) :
    val_main_v108 (F := Ideal) X W wk g h (ix4 (⟨R.val / 8192, hb⟩ : Fin 4) (⟨R.val % 8192, hs⟩ : Fin 8192) (⟨Q.val / 128, ha⟩ : Fin 4) (⟨Q.val % 128, hd⟩ : Fin 128)) = normed (prod X W R.val) (fun j => at1 wk (j % 128)) g h R.val (2048 + Q.val) :=
  hostHeads_apply wk g h (by decide) (by decide) (by decide) (by decide) (by decide) (by decide) (by decide) (by decide) (by decide) (by decide) (by decide) (by decide) (by decide) (by decide) (by decide)
    (val_main_v4 (F := Ideal) X W) (by decide) rfl (by decide) R Q hb hs ha hd (prod X W R.val) 2048 rfl (right_apply X W R)

/-- The reference's result is the closed form. -/
theorem reference_result : val_main_v112 (F := Ideal) X W wq wk g h = result X W wq wk g h := by
  funext i
  obtain ⟨R, Q, rfl⟩ : ∃ R Q, i = ix2 (n0 := 32768) (n1 := 2560) R Q := ⟨i 0, i 1, ValueIdx.eq_ix2 i⟩
  have hQ := Q.isLt
  refine (sides_apply (val_main_v109 (F := Ideal) X W wq g h) (val_main_v110 (F := Ideal) X W wk g h) (by decide) R Q).trans ?_
  show _ = normed (prod X W R.val) (scales wq wk) g h R.val Q.val
  split
  · rename_i hlt
    refine (join_apply (val_main_v57 (F := Ideal) X W wq g h) (by decide) rfl (by decide) R ⟨Q.val, hlt⟩).trans ?_
    refine (congrArg (fun s : EReal => s * factor) (queries_apply X W wq g h R ⟨Q.val, hlt⟩ _ _ _ _)).trans ?_
    unfold normed
    rw [turned_mul _ _ _ _ _ factor_bounds.1 factor_bounds.2, Nat.zero_add]
    refine turned_congr _ _ _ _ _ fun j hj => ?_
    have hl : j < 2048 := by omega
    show _ = _ * scales wq wk j
    rw [scales, if_pos hl, mul_assoc]
  · rename_i hlt
    have e : 2048 + (Q.val - 2048) = Q.val := by omega
    refine (join_apply (val_main_v108 (F := Ideal) X W wk g h) (by decide) rfl (by decide) R ⟨Q.val - 2048, by omega⟩).trans ?_
    refine (keys_apply X W wk g h R ⟨Q.val - 2048, by omega⟩ _ _ _ _).trans ?_
    show normed _ _ g h R.val (2048 + (Q.val - 2048)) = _
    rw [e]
    unfold normed
    refine turned_congr _ _ _ _ _ fun j hj => ?_
    have hl : ¬ j < 2048 := by omega
    show _ = _ * scales wq wk j
    rw [scales, if_neg hl]

end Reference

end Cert.AxialProj

end
-- ==== Proof.WindowProj.lean ====
/- The window layer's query and key projection: what its blocks leave, what its reference leaves, and that the two are one array. -/
module
public import proofs.«01_k».proof.Proof.RopeRef
public import proofs.«01_k».proof.Proof.Gen.Kernel8Ideal.Value
public import proofs.«01_k».proof.Proof.Gen.Reference8Ideal.Read
public import Idealize.ShloMosaic.Lib.Pipeline.ValueKit

@[expose] public section

noncomputable section

namespace Cert.WindowProj

open Cert.Kernel8Ideal Cert.Kernel8Ideal.Gen Idealize.ShloMosaic.TcCoe Idealize.SL.Sem Idealize.ShloMosaic.ValueIdx Cert.Flash Cert.Dense Cert.Rope
open Idealize.ShloMosaic hiding ix2 ix1 ix3 ix4

/-- The queries' factor. -/
abbrev factor : EReal := FloatOps.ofBits (F := Ideal) .f32 0x3E38AA3B#32

/-- The number column `j` is scaled by. -/
def scales (j : ℕ) : EReal := if j < 2048 then factor else FloatOps.ofBits (F := Ideal) .f32 0x3F800000#32

/-- The result: the biased product's columns scaled and turned. -/
def result (X : S32768x2048.Idx → EReal) (W : S2048x2560.Idx → EReal) (B : S2560.Idx → EReal) (g : S8192x32.Idx → EReal) : S32768x2560.Idx → EReal :=
  fun i => heads X W (at1 B) scales g g (i 0).val (i 1).val

section Pieces
variable {x0 : Vec Ideal S1024x2048 .bf16} {x1 : Vec Ideal S2048x1280 .bf16} {x2 x3 : Vec Ideal S1x1280 .f32} {x4 x5 x6 : Vec Ideal S1024x128 .f32}
  {X : S32768x2048.Idx → EReal} {W : S2048x2560.Idx → EReal} {B T : ℕ → EReal} {g h : S8192x32.Idx → EReal} {R C : ℕ} (hold : Block x0 x1 x2 x3 x4 x5 x6 X W B T g h R C)

include hold in
/-- One stored piece. -/
theorem piece_apply (o d : ℕ) (hd : d + 128 ≤ 256) (hp : (o + d) % 128 = 0) (ho : o + 256 ≤ 1280)
    (hw : ∀ a, (![0, o] : Fin 2 → ℕ) a + S2048x256.size a ≤ S2048x1280.size a) (hb : ∀ a, (![0, o + d] : Fin 2 → ℕ) a + S1x128.size a ≤ S1x1280.size a)
    (hi : ∀ a, (![0, o + d] : Fin 2 → ℕ) a + S1024x128.size a ≤ S1024x1280.size a) (hs : S1024x256.Slices ![0, d] S1024x128) (x : S1024x128.Idx) :
    truncf (F := Ideal) .bf16 (blockPiece d (View.ld (Val := Elt Ideal) (e' := .bf16) x0 r0_0) (View.ld (Val := Elt Ideal) (e' := .bf16) x1 (Rect.unit (s := S2048x1280) ![0, o] S2048x256.size hw))
      (View.ld (Val := Elt Ideal) (e' := .f32) x2 (Rect.unit (s := S1x1280) ![0, o + d] S1x128.size hb)) (View.ld (Val := Elt Ideal) (e' := .f32) x3 (Rect.unit (s := S1x1280) ![0, o + d] S1x128.size hb))
      (View.ld (Val := Elt Ideal) (e' := .f32) x4 r0_1) (View.ld (Val := Elt Ideal) (e' := .f32) x5 r0_1) (View.ld (Val := Elt Ideal) (e' := .f32) x6 r0_1)
      hs shapeCasts_S1x128_S1x128 broadcasts_S1x128_S1024x128 shapeCasts_S1024x128_S1024x128 rotates_S1024x128_d1) bitsLt_bf16_f32 x
      = (fun y : S1024x1280.Idx => heads X W B T g h (R + (y 0).val) (C + (y 1).val)) ((Rect.unit (s := S1024x1280) ![0, o + d] S1024x128.size hi).emb x) := by
  obtain ⟨r, q, rfl⟩ : ∃ r q, x = ix2 (n0 := 1024) (n1 := 128) r q := ⟨x 0, x 1, ValueIdx.eq_ix2 x⟩
  refine (loadPiece_apply hold o d hd hp ho inb_S1024x2048_S1024x2048_0_0 hw hb inb_S1024x128_S1024x128_0_0 hs shapeCasts_S1x128_S1x128 broadcasts_S1x128_S1024x128 shapeCasts_S1024x128_S1024x128 rotates_S1024x128_d1 r q).trans ?_
  show heads X W B T g h (R + r.val) (C + (o + d) + q.val) = heads X W B T g h (R + (0 + 1 * r.val)) (C + (o + d + 1 * q.val))
  congr 1 <;> omega

include hold in
/-- All that a grid point stores. -/
theorem out_apply (r : Fin 1024) (q : Fin 1280) : out0_7 (F := Ideal) x0 x1 x2 x3 x4 x5 x6 (ix2 r q) = heads X W B T g h (R + r.val) (C + q.val) := by
  unfold_out out0_7
  refine View.canon_apply_of_pieces (Val := Elt Ideal) (e := .bf16) (fun y : S1024x1280.Idx => heads X W B T g h (R + (y 0).val) (C + (y 1).val)) _ ?_ (ix2 r q) (cover0_7 _ _ _ _ _ _ _ _ _ _ _)
  simp only [List.forall_mem_cons]
  refine ⟨piece_apply hold 1024 128 ?_ ?_ ?_ ?_ ?_ ?_ ?_, piece_apply hold 1024 0 ?_ ?_ ?_ ?_ ?_ ?_ ?_, piece_apply hold 768 128 ?_ ?_ ?_ ?_ ?_ ?_ ?_, piece_apply hold 768 0 ?_ ?_ ?_ ?_ ?_ ?_ ?_,
    piece_apply hold 512 128 ?_ ?_ ?_ ?_ ?_ ?_ ?_, piece_apply hold 512 0 ?_ ?_ ?_ ?_ ?_ ?_ ?_, piece_apply hold 256 128 ?_ ?_ ?_ ?_ ?_ ?_ ?_, piece_apply hold 256 0 ?_ ?_ ?_ ?_ ?_ ?_ ?_,
    piece_apply hold 0 128 ?_ ?_ ?_ ?_ ?_ ?_ ?_, piece_apply hold 0 0 ?_ ?_ ?_ ?_ ?_ ?_ ?_, fun _ hm => absurd hm List.not_mem_nil⟩ <;> decide

end Pieces

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![0, t.val % 2] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![t.val / 2 % 8, 0] := (by decide +kernel : ∀ t : Fin grid0.N, _)
theorem idx5 : ∀ t : Fin cfg0.N, win0_5.index t = ![t.val / 2 % 8, 0] := (by decide +kernel : ∀ t : Fin grid0.N, _)
theorem idx6 : ∀ t : Fin cfg0.N, win0_6.index t = ![t.val / 2 % 8, 0] := (by decide +kernel : ∀ t : Fin grid0.N, _)
theorem idx7 : ∀ t : Fin cfg0.N, win0_7.index t = ![t.val / 2, t.val % 2] := (by decide +kernel : ∀ t : Fin grid0.N, _)

variable (m : (ℓ : Loc nD τ sig) → Buf (Elt Ideal) ℓ) (c : Dev nD)

/-- The rows as launched. -/
abbrev argX : S32768x2048.Idx → EReal := m ((c : Thread nD τ).loc main_arg0)
/-- The weights as launched. -/
abbrev argW : S2048x2560.Idx → EReal := m ((c : Thread nD τ).loc main_arg1)
/-- The bias as launched. -/
abbrev argB : S2560.Idx → EReal := m ((c : Thread nD τ).loc main_arg2)
/-- The angles as launched. -/
abbrev argG : S8192x32.Idx → EReal := m ((c : Thread nD τ).loc main_arg3)

/-- The row of numbers the columns are scaled by. -/
abbrev scaleRow : S2560.Idx → EReal :=
  concatenate S2560 0 [⟨S2048, broadcastInDim S2048 ![] bcast_S_S2048 (constant (F := Ideal) S_ .f32 0x3E38AA3B#32)⟩, ⟨S512, broadcastInDim S512 ![] bcast_S_S512 (constant (F := Ideal) S_ .f32 0x3F800000#32)⟩] concatenates_S2048_S512_S2560_d0

/-- Zeros. -/
abbrev zeros : S8192x32.Idx → EReal := broadcastInDim S8192x32 ![] bcast_S_S8192x32 (constant (F := Ideal) S_ .f32 0x00000000#32)

theorem V_bias : V m c main_v15 = shapeCast S1x2560 (argB m c) shapeCasts_S2560_S1x2560 := by
  unfold_abbrev_sides
  after_results
  rfl
theorem V_scale : V m c main_v16 = shapeCast S1x2560 scaleRow shapeCasts_S2560_S1x2560 := by
  unfold_abbrev_sides
  after_results
  rfl
theorem V_cos : V m c main_v6 = table (Host.cos (F := Ideal) (φ := .f32) (argG m c)) (Host.cos (F := Ideal) (φ := .f32) (argG m c)) (Host.cos (F := Ideal) (φ := .f32) (argG m c)) (Host.cos (F := Ideal) (φ := .f32) (argG m c)) (by decide) := by
  unfold_abbrev_sides
  after_results
  rfl

theorem V_forward : V m c main_v11 = table (Host.negf (F := Ideal) (φ := .f32) (Host.sin (F := Ideal) (φ := .f32) (argG m c))) zeros (Host.negf (F := Ideal) (φ := .f32) (Host.sin (F := Ideal) (φ := .f32) (argG m c))) zeros (by decide) := by
  unfold_abbrev_sides
  after_results
  rfl
theorem V_backward : V m c main_v14 = table zeros (Host.sin (F := Ideal) (φ := .f32) (argG m c)) zeros (Host.sin (F := Ideal) (φ := .f32) (argG m c)) (by decide) := by
  unfold_abbrev_sides
  after_results
  rfl

theorem zeros_apply (i : S8192x32.Idx) : zeros i = (0 : EReal) := Ideal.ofBits_zero_f32

theorem scaleRow_apply (j : Fin 2560) : scaleRow (ix1 j) = scales j.val := by
  have hj := j.isLt
  unfold scales
  split
  · rename_i h
    exact concatenate_pair_apply_left (t := S2560) (0 : Fin 1) _ _ concatenates_S2048_S512_S2560_d0 _ rfl (ix1 (⟨j.val, h⟩ : Fin 2048)) fun a => by
      match a with
      | ⟨0, _⟩ => rfl
  · exact concatenate_pair_apply_right (t := S2560) (0 : Fin 1) _ _ concatenates_S2048_S512_S2560_d0 _ rfl rfl (ix1 (⟨j.val - 2048, by omega⟩ : Fin 512)) (fun a ha => by
      match a with
      | ⟨0, _⟩ => exact absurd rfl ha) (by show j.val - 2048 + 2048 = j.val; omega)

theorem block (t : Fin cfg0.N) : Block (iblk m c 0 t) (iblk m c 1 t) (iblk m c 2 t) (iblk m c 3 t) (iblk m c 4 t) (iblk m c 5 t) (iblk m c 6 t)
    (argX m c) (argW m c) (at1 (argB m c)) scales (argG m c) (argG m c) (t.val / 2 * 1024) (t.val % 2 * 1280) := by
  have ht : t.val < 64 := t.isLt
  constructor
  · omega
  · intro r k
    blk_simp [iblk]
    rw [V_main_arg0]
    refine at2_of _ _ _ _ ?_ ?_ <;> blk_simp [idx0]
  · intro k j
    blk_simp [iblk]
    rw [V_main_arg1]
    refine at2_of _ _ _ _ ?_ ?_ <;> blk_simp [idx1]
  · intro j
    have hj := j.isLt
    blk_simp [iblk]
    rw [V_bias]
    refine (congrArg _ (funext fun a => Fin.ext ?_ : _ = ix2 (0 : Fin 1) (⟨t.val % 2 * 1280 + j.val, by omega⟩ : Fin 2560))).trans ((shapeCast_a_1a_apply (argB m c) shapeCasts_S2560_S1x2560 0 _).trans (at1_of _ _))
    match a with
    | ⟨0, _⟩ => blk_simp [idx2]
    | ⟨1, _⟩ => blk_simp [idx2]
  · intro j
    have hj := j.isLt
    blk_simp [iblk]
    rw [V_scale]
    refine (congrArg _ (funext fun a => Fin.ext ?_ : _ = ix2 (0 : Fin 1) (⟨t.val % 2 * 1280 + j.val, by omega⟩ : Fin 2560))).trans ((shapeCast_a_1a_apply scaleRow shapeCasts_S2560_S1x2560 0 _).trans (scaleRow_apply _))
    match a with
    | ⟨0, _⟩ => blk_simp [idx3]
    | ⟨1, _⟩ => blk_simp [idx3]
  · intro r q
    have hr := r.isLt
    blk_simp [iblk]
    rw [V_cos]
    refine (congrArg _ (funext fun a => Fin.ext ?_ : _ = ix2 (⟨t.val / 2 % 8 * 1024 + r.val, by omega⟩ : Fin 8192) q)).trans ((cos_table _ _ _ _ _).trans (congrArg Ideal.cos (angle_congr _ _ (by show (t.val / 2 % 8 * 1024 + r.val) % 8192 = _; omega) rfl)))
    match a with
    | ⟨0, _⟩ => blk_simp [idx4]
    | ⟨1, _⟩ => blk_simp [idx4]
  · intro r q
    have hr := r.isLt
    blk_simp [iblk]
    rw [V_forward]
    refine (congrArg _ (funext fun a => Fin.ext ?_ : _ = ix2 (⟨t.val / 2 % 8 * 1024 + r.val, by omega⟩ : Fin 8192) q)).trans ((neg_sin_table _ _ _ zeros_apply _ _ _).trans (congrArg (fun a : EReal => if q.val % 64 < 32 then -Ideal.sin a else 0) (angle_congr _ _ (by show (t.val / 2 % 8 * 1024 + r.val) % 8192 = _; omega) rfl)))
    match a with
    | ⟨0, _⟩ => blk_simp [idx5]
    | ⟨1, _⟩ => blk_simp [idx5]
  · intro r q
    have hr := r.isLt
    blk_simp [iblk]
    rw [V_backward]
    refine (congrArg _ (funext fun a => Fin.ext ?_ : _ = ix2 (⟨t.val / 2 % 8 * 1024 + r.val, by omega⟩ : Fin 8192) q)).trans ((sin_table _ _ _ zeros_apply _ _ _).trans (congrArg (fun a : EReal => if q.val % 64 < 32 then 0 else Ideal.sin a) (angle_congr _ _ (by show (t.val / 2 % 8 * 1024 + r.val) % 8192 = _; omega) rfl)))
    match a with
    | ⟨0, _⟩ => blk_simp [idx6]
    | ⟨1, _⟩ => blk_simp [idx6]

/-- The result array after the run. -/
theorem final : (dats m 0 c).arrAt 7 cfg0.N = result (argX m c) (argW m c) (argB m c) (argG m c) := by
  refine (dats m 0 c).arrAt_eq_of_covers 7 _ (by decide +kernel) fun t _ y => ?_
  obtain ⟨r, q, rfl⟩ : ∃ r q, y = ix2 (n0 := 1024) (n1 := 1280) r q := ⟨y 0, y 1, ValueIdx.eq_ix2 y⟩
  blk_simp
  rw [after0_7]
  have e0 : (((cfg0.win 7).blk t).view.emb (ix2 r q) 0).val = t.val / 2 * 1024 + r.val := by
    blk_simp [idx7]
    rfl
  have e1 : (((cfg0.win 7).blk t).view.emb (ix2 r q) 1).val = t.val % 2 * 1280 + q.val := by
    blk_simp [idx7]
    rfl
  unfold result
  rw [e0, e1]
  exact out_apply (block m c t) r q

/-! ### The reference -/

section Reference
open Cert.Reference8Ideal.Read
variable (X : S32768x2048.Idx → EReal) (W : S2048x2560.Idx → EReal) (B : S2560.Idx → EReal) (g : S8192x32.Idx → EReal)

/-- The biased product. -/
theorem biased_apply (R : Fin 32768) (Q : Fin 2560) : val_main_v5 (F := Ideal) X W B (ix2 R Q) = prod X W R.val Q.val + at1 B Q.val :=
  congrArg₂ (fun s t : EReal => s + t) (host_prod (φ₁ := .f32) (φ₂ := .f32) X W (ix2 R Q))
    ((val_main_v4_apply (F := Ideal) B _).trans ((val_main_v3_apply (F := Ideal) B _).trans
      ((congrArg B (show idx_main_v3 (idx_main_v4 (ix2 R Q)) = ix1 Q from funext fun a => match a with | ⟨0, _⟩ => rfl)).trans (at1_of B Q))))

/-- Its first 2048 columns. -/
theorem left_apply (R : Fin 32768) (Q : Fin 2048) : val_main_v6 (F := Ideal) X W B (ix2 R Q) = prod X W R.val (0 + Q.val) + at1 B (0 + Q.val) := by
  have hQ := Q.isLt
  rw [Nat.zero_add]
  refine (extractStridedSlice_apply (s := S32768x2560) (t := S32768x2048) ![0, 0] (val_main_v5 (F := Ideal) X W B) (by decide) (ix2 R Q) (ix2 R (⟨Q.val, by omega⟩ : Fin 2560)) fun a => ?_).trans (biased_apply X W B _ _)
  match a with
  | ⟨0, _⟩ => exact (Nat.zero_add _).symm
  | ⟨1, _⟩ => exact (Nat.zero_add _).symm

/-- Its last 512 columns. -/
theorem right_apply (R : Fin 32768) (Q : Fin 512) : val_main_v7 (F := Ideal) X W B (ix2 R Q) = prod X W R.val (2048 + Q.val) + at1 B (2048 + Q.val) := by
  have hQ := Q.isLt
  refine (extractStridedSlice_apply (s := S32768x2560) (t := ⟨2, ![32768, 512]⟩) ![0, 2048] (val_main_v5 (F := Ideal) X W B) (by decide) (ix2 R Q) (ix2 R (⟨2048 + Q.val, by omega⟩ : Fin 2560)) fun a => ?_).trans (biased_apply X W B _ _)
  match a with
  | ⟨0, _⟩ => exact (Nat.zero_add _).symm
  | ⟨1, _⟩ => rfl

theorem factor_bounds : (0 : EReal) ≤ factor ∧ factor ≠ ⊤ := by
  constructor <;> simp [factor, FloatOps.ofBits, Ideal.ofBits, Ideal.ieee, -EReal.coe_mul] <;> norm_num

/-- The reference's result is the closed form. -/
theorem reference_result : val_main_v49 (F := Ideal) X W B g = result X W B g := by
  funext i
  obtain ⟨R, Q, rfl⟩ : ∃ R Q, i = ix2 (n0 := 32768) (n1 := 2560) R Q := ⟨i 0, i 1, ValueIdx.eq_ix2 i⟩
  have hQ := Q.isLt
  refine (sides_apply (val_main_v46 (F := Ideal) X W B g) (val_main_v47 (F := Ideal) X W B g) (by decide) R Q).trans ?_
  show _ = heads X W (at1 B) scales g g R.val Q.val
  unfold heads
  rw [angle_self]
  split
  · rename_i h
    refine (join_apply (val_main_v27 (F := Ideal) X W B g) (by decide) rfl (by decide) R ⟨Q.val, h⟩).trans ?_
    refine (congrArg (fun s : EReal => s * factor) (hostTurn_split (val_main_v6 (F := Ideal) X W B) (by decide) rfl g (by decide) (by decide) (by decide) (by decide) (by decide) R ⟨Q.val, h⟩ _ _ _ _ (fun j => prod X W R.val j + at1 B j) 0 rfl (left_apply X W B R))).trans ?_
    rw [turned_mul _ _ _ _ _ factor_bounds.1 factor_bounds.2, Nat.zero_add]
    refine turned_congr _ _ _ _ _ fun j hj => ?_
    have hlt : j < 2048 := by omega
    show _ = _ * scales j
    rw [scales, if_pos hlt]
  · rename_i h
    have e : 2048 + (Q.val - 2048) = Q.val := by omega
    refine (join_apply (val_main_v45 (F := Ideal) X W B g) (by decide) rfl (by decide) R ⟨Q.val - 2048, by omega⟩).trans ?_
    refine (hostTurn_split (val_main_v7 (F := Ideal) X W B) (by decide) rfl g (by decide) (by decide) (by decide) (by decide) (by decide) R ⟨Q.val - 2048, by omega⟩ _ _ _ _ (fun j => prod X W R.val j + at1 B j) 2048 rfl (right_apply X W B R)).trans ?_
    show turned _ (Ideal.cos (at2 g _ ((Q.val - 2048) % 32))) (Ideal.sin (at2 g _ ((Q.val - 2048) % 32))) (2048 + (Q.val - 2048)) = _
    rw [e, show (Q.val - 2048) % 32 = Q.val % 32 by omega]
    refine turned_congr _ _ _ _ _ fun j hj => ?_
    have hlt : ¬ j < 2048 := by omega
    show _ = _ * scales j
    rw [scales, if_neg hlt]
    exact ((congrArg _ Ideal.ofBits_one_f32).trans (mul_one _)).symm

end Reference

end Cert.WindowProj

end
-- ==== Proof.ShiftMix.lean ====
/-
The shift mix: every row moves towards the middle of its two neighbours, by another share for each of the six results.
What it computes, element by element, and that a block of rows computes it from the block, the last row before it and the
first row after it.
-/
module
public import proofs.«01_k».proof.Proof.Dense
public import Idealize.ShloMosaic.Lib.IdealHost
public import Idealize.ShloMosaic.Lib.WordCmp
public import Idealize.ShloMosaic.Lib.Pipeline.ValueKit

@[expose] public section

noncomputable section

namespace Cert.ShiftMix

open Idealize.ShloMosaic.ValueIdx Cert.Flash Cert.Dense
open Idealize.ShloMosaic hiding ix2 ix1 ix3 ix4

/-- An array at a batch, a row and a column given as numbers, zero outside. -/
def at3 {a b c : ℕ} (X : (⟨3, ![a, b, c]⟩ : Shape).Idx → EReal) (B R K : ℕ) : EReal :=
  if h : B < a ∧ R < b ∧ K < c then X (ix3 ⟨B, h.1⟩ ⟨R, h.2.1⟩ ⟨K, h.2.2⟩) else 0

theorem at3_of {a b c : ℕ} (X : (⟨3, ![a, b, c]⟩ : Shape).Idx → EReal) (i : (⟨3, ![a, b, c]⟩ : Shape).Idx) (B R K : ℕ)
    (h0 : (i 0).val = B) (h1 : (i 1).val = R) (h2 : (i 2).val = K) : X i = at3 X B R K := by
  subst h0 h1 h2
  unfold at3
  rw [dif_pos ⟨(i 0).isLt, (i 1).isLt, (i 2).isLt⟩]
  exact congrArg X (ValueIdx.eq_ix3 i)

/-- The sequences, 4 of 8192 rows. -/
abbrev Rows : Type := (⟨3, ![4, 8192, 2048]⟩ : Shape).Idx → EReal
/-- The six shares, a row each. -/
abbrev Shares : Type := (⟨2, ![6, 2048]⟩ : Shape).Idx → EReal

/-- The row before, zero before the first. -/
def before (X : Rows) (B R K : ℕ) : EReal := if R = 0 then 0 else at3 X B (R - 1) K
/-- The row after, zero after the last. -/
def behind (X : Rows) (B R K : ℕ) : EReal := if R = 8191 then 0 else at3 X B (R + 1) K
/-- The way from a row to the middle of its neighbours. -/
def centre (X : Rows) (B R K : ℕ) : EReal :=
  FloatOps.ofBits (F := Ideal) .f32 0x3F000000#32 * (before X B R K + behind X B R K) - at3 X B R K
/-- The row moved by share `i`. -/
def mix (X : Rows) (M : Shares) (i B R K : ℕ) : EReal := at3 X B R K + centre X B R K * at2 M i K
/-- The mixed rows as an array. -/
def mixed (X : Rows) (M : Shares) (i : ℕ) : Rows := fun y => mix X M i (y 0).val (y 1).val (y 2).val
/-- A mixed row times column `C` of `W`. -/
def mixProd {n : ℕ} (X : Rows) (M : Shares) (W : (⟨2, ![2048, n]⟩ : Shape).Idx → EReal) (i B R C : ℕ) : EReal :=
  ∑ k : Fin 2048, mix X M i B R k.val * at2 W k.val C
/-- The products as an array, each sent through `f`. -/
def lora {n : ℕ} (f : EReal → EReal) (X : Rows) (M : Shares) (W : (⟨2, ![2048, n]⟩ : Shape).Idx → EReal) (i : ℕ) : (⟨3, ![4, 8192, n]⟩ : Shape).Idx → EReal :=
  fun y => f (mixProd X M W i (y 0).val (y 1).val (y 2).val)
/-- An array of mixed rows at an index whose three positions are known. -/
theorem mixed_at (X : Rows) (M : Shares) (i : ℕ) (y : (⟨3, ![4, 8192, 2048]⟩ : Shape).Idx) {B R K : ℕ} (h0 : (y 0).val = B) (h1 : (y 1).val = R) (h2 : (y 2).val = K) : mix X M i B R K = mixed X M i y := by
  subst h0 h1 h2
  rfl
/-- The array of products likewise. -/
theorem lora_at {n : ℕ} (f : EReal → EReal) (X : Rows) (M : Shares) (W : (⟨2, ![2048, n]⟩ : Shape).Idx → EReal) (i : ℕ) (y : (⟨3, ![4, 8192, n]⟩ : Shape).Idx) {B R C : ℕ} (h0 : (y 0).val = B) (h1 : (y 1).val = R) (h2 : (y 2).val = C) :
    f (mixProd X M W i B R C) = lora f X M W i y := by
  subst h0 h1 h2
  rfl
/-- The logistic function. -/
def sigmoid (x : EReal) : EReal :=
  Ideal.div (FloatOps.ofBits (F := Ideal) .f32 0x3F800000#32) (FloatOps.ofBits (F := Ideal) .f32 0x3F800000#32 + Ideal.exp (-x))

/-! ### A block -/

abbrev SB : Shape := ⟨2, ![256, 2048]⟩
abbrev SR : Shape := ⟨2, ![1, 2048]⟩

/-- A neighbour row kept or made zero. -/
theorem edge_apply (p : FVec Ideal SR .f32) (b : BitVec 1) (hs : SR.ShapeCasts SR) (hb : SR.Broadcasts SB) (r : Fin 256) (k : Fin 2048) (P : EReal) (Q : Prop) [Decidable Q]
    (h1 : b = 1 ↔ Q) (hp : Q → p (ix2 (0 : Fin 1) k) = P) :
    broadcastTo SB (shapeCast SR (mulf p (broadcast SR (Scalar.select b (Scalar.ofBits (F := Ideal) .f32 0x3F800000#32) (Scalar.ofBits .f32 0x00000000#32)))) hs) hb (ix2 r k) = if Q then P else 0 := by
  refine (broadcastTo_1b_ab_apply _ hb r k).trans ?_
  rw [shapeCast_self]
  show p (ix2 (0 : Fin 1) k) * Scalar.select b (FloatOps.ofBits (F := Ideal) .f32 0x3F800000#32) (FloatOps.ofBits (F := Ideal) .f32 0x00000000#32) = _
  unfold Scalar.select
  by_cases hq : Q
  · rw [if_pos (h1.2 hq), if_pos hq, hp hq]
    exact (congrArg (fun s => P * s) Ideal.ofBits_one_f32).trans (mul_one P)
  · rw [if_neg (fun h => hq (h1.1 h)), if_neg hq]
    exact (congrArg (fun s => p (ix2 (0 : Fin 1) k) * s) Ideal.ofBits_zero_f32).trans (mul_zero _)

/-- The choice of the neighbour row on one row of the block and of the rotated block on the others. -/
theorem pick_apply (hi : SB.Iotas .tc 32 [0]) (n : ℕ) (hn : n < 256) (u v : FVec Ideal SB .f32) (r : Fin 256) (k : Fin 2048) :
    select (cmpi .eq (iota .tc SB 32 [0] hi) (broadcast SB (BitVec.ofNat 32 n))) u v (ix2 r k) = if r.val = n then u (ix2 r k) else v (ix2 r k) := by
  show Scalar.select (IntOp.cmpi .eq (iota .tc SB 32 [0] hi (ix2 r k)) (BitVec.ofNat 32 n)) _ _ = _
  rw [iota_single_apply]
  show Scalar.select (IntOp.cmpi .eq (BitVec.ofNat 32 r.val) (BitVec.ofNat 32 n)) _ _ = _
  have hr := r.isLt
  rw [WordCmp.cmpi_eq_ofNat (by omega) (by omega)]
  unfold Scalar.select
  by_cases h : r.val = n
  · rw [if_pos h, decide_eq_true h]
    rfl
  · rw [if_neg h, decide_eq_false h]
    rfl

/-- A block's way to the middle of the neighbours, block `j` of the 32 of a sequence. -/
def blockCentre (j : BitVec 32) (x : FVec Ideal SB .f32) (p q : FVec Ideal SR .f32) (hi : SB.Iotas .tc 32 [0]) (hr : SB.Rotates 0 none) (hs : SR.ShapeCasts SR) (hb : SR.Broadcasts SB) : FVec Ideal SB .f32 :=
  subf (mulf (broadcast SB (Scalar.ofBits .f32 0x3F000000#32)) (addf
    (select (cmpi .eq (iota .tc SB 32 [0] hi) (broadcast SB 0#32))
      (broadcastTo SB (shapeCast SR (mulf p (broadcast SR (Scalar.select (Scalar.cmpi .sgt j 0#32) (Scalar.ofBits .f32 0x3F800000#32) (Scalar.ofBits .f32 0x00000000#32)))) hs) hb)
      (dynamicRotate 0 1#32 none x hr))
    (select (cmpi .eq (iota .tc SB 32 [0] hi) (broadcast SB 255#32))
      (broadcastTo SB (shapeCast SR (mulf q (broadcast SR (Scalar.select (Scalar.cmpi .slt j 31#32) (Scalar.ofBits .f32 0x3F800000#32) (Scalar.ofBits .f32 0x00000000#32)))) hs) hb)
      (dynamicRotate 0 255#32 none x hr)))) x

theorem blockCentre_apply (J : ℕ) (hJ : J < 32) (x : FVec Ideal SB .f32) (p q : FVec Ideal SR .f32) (hi : SB.Iotas .tc 32 [0]) (hr : SB.Rotates 0 none) (hs : SR.ShapeCasts SR) (hb : SR.Broadcasts SB)
    (X : Rows) (B : ℕ) (r : Fin 256) (k : Fin 2048) (hx : ∀ r : Fin 256, x (ix2 r k) = at3 X B (J * 256 + r.val) k.val)
    (hp : 0 < J → p (ix2 (0 : Fin 1) k) = at3 X B (J * 256 - 1) k.val) (hq : J < 31 → q (ix2 (0 : Fin 1) k) = at3 X B (J * 256 + 256) k.val) :
    blockCentre (BitVec.ofNat 32 J) x p q hi hr hs hb (ix2 r k) = centre X B (J * 256 + r.val) k.val := by
  have hr' := r.isLt
  have one : ∀ c : Bool, BitVec.ofBool c = 1 ↔ c = true := by decide
  unfold blockCentre centre
  refine congrArg₂ (fun s t : EReal => s - t) (congrArg (fun s : EReal => FloatOps.ofBits (F := Ideal) .f32 0x3F000000#32 * s) (congrArg₂ (fun s t : EReal => s + t) ?_ ?_)) (hx r)
  · refine (pick_apply hi 0 (by omega) _ _ r k).trans ?_
    unfold before
    by_cases h : r.val = 0
    · rw [if_pos h]
      refine (edge_apply p _ hs hb r k _ (0 < J) ?_ hp).trans ?_
      · show IntOp.cmpi .sgt (BitVec.ofNat 32 J) (BitVec.ofNat 32 0) = 1 ↔ _
        rw [WordCmp.cmpi_sgt_ofNat (by omega) (by omega), one, decide_eq_true_iff]
      · by_cases h0 : 0 < J
        · rw [if_pos h0, if_neg (by omega), h]
          rfl
        · rw [if_neg h0, if_pos (by omega)]
    · rw [if_neg h, if_neg (by omega)]
      refine (dynamicRotate_apply 0 1#32 x hr _ (ix2 (⟨r.val - 1, by omega⟩ : Fin 256) k) fun b => ?_).trans ((hx _).trans ?_)
      · match b with
        | ⟨0, _⟩ =>
          show r.val - 1 = (r.val + 256 - 1 % 256) % 256
          omega
        | ⟨1, _⟩ => rfl
      · exact congrArg (fun s => at3 X B s k.val) (by show J * 256 + (r.val - 1) = _; omega)
  · refine (pick_apply hi 255 (by omega) _ _ r k).trans ?_
    unfold behind
    by_cases h : r.val = 255
    · rw [if_pos h]
      refine (edge_apply q _ hs hb r k _ (J < 31) ?_ hq).trans ?_
      · show IntOp.cmpi .slt (BitVec.ofNat 32 J) (BitVec.ofNat 32 31) = 1 ↔ _
        rw [WordCmp.cmpi_slt_ofNat (by omega) (by omega), one, decide_eq_true_iff]
      · by_cases h0 : J < 31
        · rw [if_pos h0, if_neg (by omega), h]
        · rw [if_neg h0, if_pos (by omega)]
    · rw [if_neg h, if_neg (by omega)]
      refine (dynamicRotate_apply 0 255#32 x hr _ (ix2 (⟨r.val + 1, by omega⟩ : Fin 256) k) fun b => ?_).trans ((hx _).trans ?_)
      · match b with
        | ⟨0, _⟩ =>
          show r.val + 1 = (r.val + 256 - 255 % 256) % 256
          omega
        | ⟨1, _⟩ => rfl
      · exact congrArg (fun s => at3 X B s k.val) (by show J * 256 + (r.val + 1) = _; omega)

/-- A block moved by one of the shares. -/
def blockMix (x z : FVec Ideal SB .f32) (w : FVec Ideal SR .f32) (hb : SR.Broadcasts SB) (hl : FTy.bf16.bits < FTy.f32.bits) : FVec Ideal SB .bf16 := truncf .bf16 (addf x (mulf z (broadcastTo SB w hb))) hl

theorem blockMix_apply (x z : FVec Ideal SB .f32) (w : FVec Ideal SR .f32) (hb : SR.Broadcasts SB) (hl : FTy.bf16.bits < FTy.f32.bits) (X : Rows) (M : Shares) (i B R : ℕ) (r : Fin 256) (k : Fin 2048)
    (hx : x (ix2 r k) = at3 X B R k.val) (hz : z (ix2 r k) = centre X B R k.val) (hw : w (ix2 (0 : Fin 1) k) = at2 M i k.val) :
    blockMix x z w hb hl (ix2 r k) = mix X M i B R k.val :=
  congrArg₂ (fun s t : EReal => s + t) hx (congrArg₂ (fun s t : EReal => s * t) hz ((broadcastTo_1b_ab_apply w hb r k).trans hw))

/-- A mixed block times a matrix. -/
theorem blockProd_apply {n : ℕ} (y : FVec Ideal SB .bf16) (w : FVec Ideal ⟨2, ![2048, n]⟩ .bf16) (X : Rows) (M : Shares) (W : (⟨2, ![2048, n]⟩ : Shape).Idx → EReal) (i B R : ℕ) (r : Fin 256) (q : Fin n)
    (hy : ∀ k : Fin 2048, y (ix2 r k) = mix X M i B R k.val) (hw : ∀ k : Fin 2048, w (ix2 k q) = at2 W k.val q.val) :
    matmul (DotDims.plain 256 2048 n) none y w (constant ⟨2, ![256, n]⟩ .f32 0x00000000#32) (ix2 r q) = mixProd X M W i B R q.val := by
  refine (Ideal.matmul_plain_apply none y w _ r q).trans ?_
  rw [show constant (F := Ideal) ⟨2, ![256, n]⟩ .f32 0x00000000#32 (ix2 r q) = (0 : EReal) from Ideal.ofBits_zero_f32, zero_add]
  exact Finset.sum_congr rfl fun k _ => congrArg₂ (· * ·) (hy k) (hw k)

/-! ### A block as loaded -/

abbrev SX0 : Shape := ⟨3, ![1, 256, 2048]⟩
abbrev SX1 : Shape := ⟨3, ![1, 8, 2048]⟩
abbrev SM : Shape := ⟨2, ![6, 2048]⟩
abbrev S11 : Shape := ⟨3, ![1, 1, 2048]⟩

theorem iotas : SB.Iotas .tc 32 [0] := by decide
theorem rotates : SB.Rotates 0 none := by decide
theorem rowCasts : SR.ShapeCasts SR := by decide
theorem rowBroadcasts : SR.Broadcasts SB := by decide
theorem edgeCasts : S11.ShapeCasts SR := by decide
theorem blockCasts : SX0.ShapeCasts SB := by decide
theorem narrower : FTy.bf16.bits < FTy.f32.bits := by decide

/-- What block `J` of sequence `B` holds: its rows, the eight rows before it, the eight rows after it, the shares. -/
structure Block (x : FVec Ideal SX0 .f32) (p q : FVec Ideal SX1 .f32) (w : FVec Ideal SM .f32) (X : Rows) (M : Shares) (B J : ℕ) : Prop where
  inside : J < 32
  rows : ∀ (r : Fin 256) (k : Fin 2048), x (ix3 (0 : Fin 1) r k) = at3 X B (J * 256 + r.val) k.val
  last : 0 < J → ∀ k : Fin 2048, p (ix3 (0 : Fin 1) (7 : Fin 8) k) = at3 X B (J * 256 - 1) k.val
  first : J < 31 → ∀ k : Fin 2048, q (ix3 (0 : Fin 1) (0 : Fin 8) k) = at3 X B (J * 256 + 256) k.val
  shares : ∀ (i : Fin 6) (k : Fin 2048), w (ix2 i k) = at2 M i.val k.val

/-- A piece of an array of three axes, from row `o` on. -/
theorem load3 {e : EltTy} {h m n : ℕ} (x : (⟨3, ![1, h, n]⟩ : Shape).Idx → Elt Ideal e) (o : ℕ) (hi : ∀ a, (![0, o, 0] : Fin 3 → ℕ) a + (⟨3, ![1, m, n]⟩ : Shape).size a ≤ (⟨3, ![1, h, n]⟩ : Shape).size a)
    (r : Fin m) (k : Fin n) (R : Fin h) (hR : R.val = o + r.val) : View.ld x (Rect.unit (s := ⟨3, ![1, h, n]⟩) ![0, o, 0] (⟨3, ![1, m, n]⟩ : Shape).size hi) (ix3 (0 : Fin 1) r k) = x (ix3 (0 : Fin 1) R k) :=
  View.ld_unit_apply_of x _ _ hi _ _ fun a => by
    match a with
    | ⟨0, _⟩ => rfl
    | ⟨1, _⟩ => exact hR
    | ⟨2, _⟩ => exact (Nat.zero_add _).symm

/-- A piece of an array of two axes, from row `o` on. -/
theorem load2 {e : EltTy} {h m n : ℕ} (x : (⟨2, ![h, n]⟩ : Shape).Idx → Elt Ideal e) (o : ℕ) (hi : ∀ a, (![o, 0] : Fin 2 → ℕ) a + (⟨2, ![m, n]⟩ : Shape).size a ≤ (⟨2, ![h, n]⟩ : Shape).size a)
    (r : Fin m) (k : Fin n) (R : Fin h) (hR : R.val = o + r.val) : View.ld x (Rect.unit (s := ⟨2, ![h, n]⟩) ![o, 0] (⟨2, ![m, n]⟩ : Shape).size hi) (ix2 r k) = x (ix2 R k) :=
  View.ld_unit_apply_of x _ _ hi _ _ fun a => by
    match a with
    | ⟨0, _⟩ => exact hR
    | ⟨1, _⟩ => exact (Nat.zero_add _).symm

/-- The block's rows. -/
def loadedRows (x : FVec Ideal SX0 .f32) : FVec Ideal SB .f32 :=
  shapeCast SB (View.ld (Val := Elt Ideal) (e' := .f32) x (Rect.unit (s := SX0) ![0, 0, 0] SX0.size (by decide))) blockCasts
/-- Row `o` of the eight rows before or after. -/
def loadedEdge (o : ℕ) (ho : ∀ a, (![0, o, 0] : Fin 3 → ℕ) a + S11.size a ≤ SX1.size a) (p : FVec Ideal SX1 .f32) : FVec Ideal SR .f32 :=
  shapeCast SR (View.ld (Val := Elt Ideal) (e' := .f32) p (Rect.unit (s := SX1) ![0, o, 0] S11.size ho)) edgeCasts
/-- The way to the middle, from what is loaded. -/
def loadedCentre (J : ℕ) (x : FVec Ideal SX0 .f32) (p q : FVec Ideal SX1 .f32) : FVec Ideal SB .f32 :=
  blockCentre (BitVec.ofNat 32 J) (loadedRows x) (loadedEdge 7 (by decide) p) (loadedEdge 0 (by decide) q) iotas rotates rowCasts rowBroadcasts
/-- The rows moved by share `i`, from what is loaded. -/
def loadedMix (J : ℕ) (x : FVec Ideal SX0 .f32) (p q : FVec Ideal SX1 .f32) (w : FVec Ideal SM .f32) (i : ℕ) (hi : ∀ a, (![i, 0] : Fin 2 → ℕ) a + SR.size a ≤ SM.size a) : FVec Ideal SB .bf16 :=
  blockMix (loadedRows x) (loadedCentre J x p q) (View.ld (Val := Elt Ideal) (e' := .f32) w (Rect.unit (s := SM) ![i, 0] SR.size hi)) rowBroadcasts narrower
/-- The product with a loaded matrix. -/
def loadedProd {n : ℕ} (y : FVec Ideal SB .bf16) (w : FVec Ideal ⟨2, ![2048, n]⟩ .bf16) (hw : ∀ a, (![0, 0] : Fin 2 → ℕ) a + (⟨2, ![2048, n]⟩ : Shape).size a ≤ (⟨2, ![2048, n]⟩ : Shape).size a) : FVec Ideal ⟨2, ![256, n]⟩ .f32 :=
  matmul (φ₂ := .bf16) (DotDims.plain 256 2048 n) none y (View.ld (Val := Elt Ideal) (e' := .bf16) w (Rect.unit (s := ⟨2, ![2048, n]⟩) ![0, 0] (⟨2, ![2048, n]⟩ : Shape).size hw)) (constant ⟨2, ![256, n]⟩ .f32 0x00000000#32)

section Loaded
variable {x : FVec Ideal SX0 .f32} {p q : FVec Ideal SX1 .f32} {w : FVec Ideal SM .f32} {X : Rows} {M : Shares} {B J : ℕ} (hold : Block x p q w X M B J)
include hold

theorem loadedRows_apply (r : Fin 256) (k : Fin 2048) : loadedRows x (ix2 r k) = at3 X B (J * 256 + r.val) k.val :=
  (shapeCast_1ab_ab_apply _ blockCasts r k).trans ((load3 (e := .f32) x 0 _ r k r (Nat.zero_add _).symm).trans (hold.rows r k))

omit hold in
theorem loadedEdge_apply (o : Fin 8) (ho : ∀ a, (![0, o.val, 0] : Fin 3 → ℕ) a + S11.size a ≤ SX1.size a) (p : FVec Ideal SX1 .f32) (k : Fin 2048) : loadedEdge o.val ho p (ix2 (0 : Fin 1) k) = p (ix3 (0 : Fin 1) o k) :=
  (shapeCast_1ab_ab_apply _ edgeCasts 0 k).trans (load3 (e := .f32) p o.val ho 0 k o rfl)

theorem loadedCentre_apply (r : Fin 256) (k : Fin 2048) : loadedCentre J x p q (ix2 r k) = centre X B (J * 256 + r.val) k.val :=
  blockCentre_apply J hold.inside _ _ _ iotas rotates rowCasts rowBroadcasts X B r k (fun r => loadedRows_apply hold r k)
    (fun h => (loadedEdge_apply (7 : Fin 8) _ p k).trans (hold.last h k)) (fun h => (loadedEdge_apply (0 : Fin 8) _ q k).trans (hold.first h k))

theorem loadedMix_apply (i : Fin 6) (hi : ∀ a, (![i.val, 0] : Fin 2 → ℕ) a + SR.size a ≤ SM.size a) (r : Fin 256) (k : Fin 2048) :
    loadedMix J x p q w i.val hi (ix2 r k) = mix X M i.val B (J * 256 + r.val) k.val :=
  blockMix_apply _ _ _ rowBroadcasts narrower X M i.val B _ r k (loadedRows_apply hold r k) (loadedCentre_apply hold r k)
    ((load2 (e := .f32) w i.val hi 0 k i rfl).trans (hold.shares i k))

theorem loadedProd_apply {n : ℕ} (i : Fin 6) (hi : ∀ a, (![i.val, 0] : Fin 2 → ℕ) a + SR.size a ≤ SM.size a) (u : FVec Ideal ⟨2, ![2048, n]⟩ .bf16)
    (hw : ∀ a, (![0, 0] : Fin 2 → ℕ) a + (⟨2, ![2048, n]⟩ : Shape).size a ≤ (⟨2, ![2048, n]⟩ : Shape).size a) (W : (⟨2, ![2048, n]⟩ : Shape).Idx → EReal)
    (hu : ∀ (k : Fin 2048) (c : Fin n), u (ix2 k c) = at2 W k.val c.val) (r : Fin 256) (c : Fin n) :
    loadedProd (loadedMix J x p q w i.val hi) u hw (ix2 r c) = mixProd X M W i.val B (J * 256 + r.val) c.val :=
  blockProd_apply _ _ X M W i.val B _ r c (fun k => loadedMix_apply hold i hi r k) fun k => (load2 (e := .bf16) u 0 hw k c k (Nat.zero_add _).symm).trans (hu k c)

end Loaded

/-- A buffer written whole by one store holds what was stored. -/
theorem canon_whole {n : ℕ} (P : FVec Ideal ⟨3, ![1, 256, n]⟩ .bf16) (hi : ∀ a, (![0, 0, 0] : Fin 3 → ℕ) a + (⟨3, ![1, 256, n]⟩ : Shape).size a ≤ (⟨3, ![1, 256, n]⟩ : Shape).size a) (y : (⟨3, ![1, 256, n]⟩ : Shape).Idx) :
    View.canon (Val := Elt Ideal) (e := .bf16) [⟨Rect.unit (s := ⟨3, ![1, 256, n]⟩) ![0, 0, 0] (⟨3, ![1, 256, n]⟩ : Shape).size hi, P⟩] y = P y := by
  have e : (Rect.unit (s := ⟨3, ![1, 256, n]⟩) ![0, 0, 0] (⟨3, ![1, 256, n]⟩ : Shape).size hi).emb y = y := funext fun a => Fin.ext (by
    refine (Rect.idx_unit_val _ _ hi y a).trans ?_
    match a with
    | ⟨0, _⟩ => exact Nat.zero_add _
    | ⟨1, _⟩ => exact Nat.zero_add _
    | ⟨2, _⟩ => exact Nat.zero_add _)
  exact (congrArg _ e.symm).trans (View.canon_cons_emb (Val := Elt Ideal) (e := .bf16) (Rect.unit (s := ⟨3, ![1, 256, n]⟩) ![0, 0, 0] (⟨3, ![1, 256, n]⟩ : Shape).size hi) P [] y)

/-- The logistic function as a block computes it. -/
theorem blockSigmoid_apply {s : Shape} (v : FVec Ideal s .f32) (i : s.Idx) (x : EReal) (h : v i = x) :
    divf (broadcast s (Scalar.ofBits (F := Ideal) .f32 0x3F800000#32)) (addf (broadcast s (Scalar.ofBits (F := Ideal) .f32 0x3F800000#32)) (exp (subf (broadcast s (Scalar.ofBits (F := Ideal) .f32 0x00000000#32)) v))) i = sigmoid x := by
  subst h
  unfold sigmoid
  refine congrArg (fun u : EReal => Ideal.div (FloatOps.ofBits (F := Ideal) .f32 0x3F800000#32) (FloatOps.ofBits (F := Ideal) .f32 0x3F800000#32 + Ideal.exp u)) ?_
  exact (congrArg (fun u : EReal => u - v i) Ideal.ofBits_zero_f32).trans (zero_sub _)

/-! ### The whole array -/

section Whole
abbrev SX : Shape := ⟨3, ![4, 8192, 2048]⟩
abbrev SE : Shape := ⟨3, ![4, 1, 2048]⟩
abbrev SO : Shape := ⟨3, ![4, 8191, 2048]⟩

/-- The rows moved down by one behind a row of zeros. -/
theorem before_apply (X : Rows) (z : SE.Idx → EReal) (hz : ∀ i, z i = 0) (hs : SX.Slices ![0, 0, 0] SO) (hc : Shape.Concatenates [SE, SO] SX 1) (b : Fin 4) (r : Fin 8192) (k : Fin 2048) :
    concatenate SX 1 [⟨SE, z⟩, ⟨SO, extractStridedSlice SO ![0, 0, 0] X hs⟩] hc (ix3 b r k) = before X b.val r.val k.val := by
  unfold before
  by_cases h : r.val = 0
  · rw [if_pos h]
    refine (concatenate_pair_apply_left 1 z _ hc (ix3 b r k) rfl (ix3 b (0 : Fin 1) k) fun a => ?_).trans (hz _)
    match a with
    | ⟨0, _⟩ => rfl
    | ⟨1, _⟩ => exact h.symm
    | ⟨2, _⟩ => rfl
  · rw [if_neg h]
    have hr := r.isLt
    refine (concatenate_pair_apply_right 1 z _ hc (ix3 b r k) rfl rfl (ix3 b (⟨r.val - 1, by omega⟩ : Fin 8191) k) (fun a ha => ?_) ?_).trans ?_
    · match a with
      | ⟨0, _⟩ => rfl
      | ⟨1, _⟩ => exact absurd rfl ha
      | ⟨2, _⟩ => rfl
    · show r.val - 1 + 1 = r.val
      omega
    · refine (extractStridedSlice_apply (s := SX) (t := SO) ![0, 0, 0] X hs _ (ix3 b (⟨r.val - 1, by omega⟩ : Fin 8192) k) fun a => ?_).trans (at3_of X _ _ _ _ rfl rfl rfl)
      match a with
      | ⟨0, _⟩ => exact (Nat.zero_add _).symm
      | ⟨1, _⟩ => exact (Nat.zero_add _).symm
      | ⟨2, _⟩ => exact (Nat.zero_add _).symm

/-- The rows moved up by one before a row of zeros. -/
theorem behind_apply (X : Rows) (z : SE.Idx → EReal) (hz : ∀ i, z i = 0) (hs : SX.Slices ![0, 1, 0] SO) (hc : Shape.Concatenates [SO, SE] SX 1) (b : Fin 4) (r : Fin 8192) (k : Fin 2048) :
    concatenate SX 1 [⟨SO, extractStridedSlice SO ![0, 1, 0] X hs⟩, ⟨SE, z⟩] hc (ix3 b r k) = behind X b.val r.val k.val := by
  unfold behind
  have hr := r.isLt
  by_cases h : r.val = 8191
  · rw [if_pos h]
    refine (concatenate_pair_apply_right 1 _ z hc (ix3 b r k) rfl rfl (ix3 b (0 : Fin 1) k) (fun a ha => ?_) ?_).trans (hz _)
    · match a with
      | ⟨0, _⟩ => rfl
      | ⟨1, _⟩ => exact absurd rfl ha
      | ⟨2, _⟩ => rfl
    · show 0 + 8191 = r.val
      omega
  · rw [if_neg h]
    refine (concatenate_pair_apply_left 1 _ z hc (ix3 b r k) rfl (ix3 b (⟨r.val, by omega⟩ : Fin 8191) k) fun a => ?_).trans ?_
    · match a with
      | ⟨0, _⟩ => rfl
      | ⟨1, _⟩ => rfl
      | ⟨2, _⟩ => rfl
    · refine (extractStridedSlice_apply (s := SX) (t := SO) ![0, 1, 0] X hs _ (ix3 b (⟨r.val + 1, by omega⟩ : Fin 8192) k) fun a => ?_).trans (at3_of X _ _ _ _ rfl rfl rfl)
      match a with
      | ⟨0, _⟩ => exact (Nat.zero_add _).symm
      | ⟨1, _⟩ => exact Nat.add_comm r.val 1
      | ⟨2, _⟩ => exact (Nat.zero_add _).symm
abbrev SL : Shape := ⟨1, ![2048]⟩
abbrev S0 : Shape := ⟨0, ![]⟩

/-- A share's row copied to every row. -/
theorem share_apply (M : Shares) (i : Fin 6) (hs : SM.Slices ![i.val, 0] SR) (hc : SR.ShapeCasts SL) (h1 : SL.BroadcastsInDim S11 ![2]) (h2 : S11.BroadcastsInDim SX ![0, 1, 2]) (b : Fin 4) (r : Fin 8192) (k : Fin 2048) :
    broadcastInDim SX ![0, 1, 2] h2 (broadcastInDim S11 ![2] h1 (shapeCast SL (extractStridedSlice SR ![i.val, 0] M hs) hc)) (ix3 b r k) = at2 M i.val k.val := by
  refine (broadcastInDim_apply _ h2 _ (ix3 b r k) (ix3 (0 : Fin 1) (0 : Fin 1) k) fun a => ?_).trans ?_
  · match a with
    | ⟨0, _⟩ => rfl
    | ⟨1, _⟩ => rfl
    | ⟨2, _⟩ => rfl
  refine (broadcastInDim_apply _ h1 _ (ix3 (0 : Fin 1) (0 : Fin 1) k) (ix1 k) fun a => ?_).trans ?_
  · match a with
    | ⟨0, _⟩ => rfl
  refine (shapeCast_1a_a_apply _ hc k).trans ?_
  refine (extractStridedSlice_apply (s := SM) (t := SR) ![i.val, 0] M hs _ (ix2 i k) fun a => ?_).trans (at2_of M _ _ _ rfl rfl)
  match a with
  | ⟨0, _⟩ => rfl
  | ⟨1, _⟩ => exact (Nat.zero_add _).symm

/-- A row of zeros for each sequence. -/
def zeroRow (h : S0.BroadcastsInDim SE ![]) : FVec Ideal SE .f32 := broadcastInDim SE ![] h (constant S0 .f32 0x00000000#32)

/-- The whole array moved by share `i`. -/
def hostMix (X : FVec Ideal SX .f32) (M : FVec Ideal SM .f32) (i : ℕ) (hs : SM.Slices ![i, 0] SR) (hc : SR.ShapeCasts SL) (h1 : SL.BroadcastsInDim S11 ![2]) (h2 : S11.BroadcastsInDim SX ![0, 1, 2])
    (hz : S0.BroadcastsInDim SE ![]) (hh : S0.BroadcastsInDim SX ![]) (hd : SX.Slices ![0, 0, 0] SO) (hu : SX.Slices ![0, 1, 0] SO) (hb : Shape.Concatenates [SE, SO] SX 1) (ha : Shape.Concatenates [SO, SE] SX 1) : FVec Ideal SX .f32 :=
  addf X (mulf (subf (mulf (broadcastInDim SX ![] hh (constant S0 .f32 0x3F000000#32))
    (addf (concatenate SX 1 [⟨SE, zeroRow hz⟩, ⟨SO, extractStridedSlice SO ![0, 0, 0] X hd⟩] hb) (concatenate SX 1 [⟨SO, extractStridedSlice SO ![0, 1, 0] X hu⟩, ⟨SE, zeroRow hz⟩] ha))) X)
    (broadcastInDim SX ![0, 1, 2] h2 (broadcastInDim S11 ![2] h1 (shapeCast SL (extractStridedSlice SR ![i, 0] M hs) hc))))

theorem hostMix_eq (X : FVec Ideal SX .f32) (M : FVec Ideal SM .f32) (i : Fin 6) (hs hc h1 h2 hz hh hd hu hb ha) : hostMix X M i.val hs hc h1 h2 hz hh hd hu hb ha = mixed X M i.val := by
  funext y
  obtain ⟨b, r, k, rfl⟩ : ∃ b r k, y = ix3 (n0 := 4) (n1 := 8192) (n2 := 2048) b r k := ⟨y 0, y 1, y 2, ValueIdx.eq_ix3 y⟩
  have hx : X (ix3 b r k) = at3 X b.val r.val k.val := at3_of X _ _ _ _ rfl rfl rfl
  have hzero : ∀ i, zeroRow hz i = (0 : EReal) := fun _ => Ideal.ofBits_zero_f32
  unfold hostMix mixed mix centre
  refine congrArg₂ (fun s t : EReal => s + t) hx (congrArg₂ (fun s t : EReal => s * t) (congrArg₂ (fun s t : EReal => s - t) (congrArg (fun s : EReal => FloatOps.ofBits (F := Ideal) .f32 0x3F000000#32 * s)
    (congrArg₂ (fun s t : EReal => s + t) (before_apply X _ hzero hd hb b r k) (behind_apply X _ hzero hu ha b r k))) hx) (share_apply M i hs hc h1 h2 b r k))

end Whole

end Cert.ShiftMix

end
-- ==== Proof.Mix9.lean ====
/- The shift mix with its four narrow products: what its blocks leave and what its reference leaves. -/
module
public import proofs.«01_k».proof.Proof.ShiftMix
public import proofs.«01_k».proof.Proof.Gen.Kernel9Ideal.Value
public import proofs.«01_k».proof.Proof.Gen.Reference9Ideal.Read
public import Idealize.ShloMosaic.Lib.Pipeline.ValueKit

@[expose] public section

noncomputable section

namespace Cert.Mix9

open Cert.Kernel9Ideal Cert.Kernel9Ideal.Gen Idealize.ShloMosaic.TcCoe Idealize.SL.Sem Idealize.ShloMosaic.ValueIdx Cert.Flash Cert.Dense Cert.ShiftMix
open Idealize.ShloMosaic hiding ix2 ix1 ix3 ix4

section Out
variable {i : grid0.Coords} {x0 : FVec Ideal SX0 .f32} {x1 x2 : FVec Ideal SX1 .f32} {x3 : FVec Ideal SM .f32} {x4 x5 x6 : FVec Ideal S2048x256 .bf16} {x7 : FVec Ideal S2048x128 .bf16}
  {X : Rows} {M : Shares} {B : ℕ} (hold : Block x0 x1 x2 x3 X M B (i 1).val)
include hold

theorem out8_apply (r : Fin 256) (k : Fin 2048) : out0_8 (F := Ideal) i x0 x1 x2 x3 x4 x5 x6 x7 (ix3 (0 : Fin 1) r k) = mix X M 0 B ((i 1).val * 256 + r.val) k.val := by
  unfold_out out0_8
  exact (canon_whole _ _ _).trans ((shapeCast_ab_1ab_apply _ shapeCasts_S256x2048_S1x256x2048 0 r k).trans (loadedMix_apply hold 0 (by decide) r k))
theorem out9_apply (r : Fin 256) (k : Fin 2048) : out0_9 (F := Ideal) i x0 x1 x2 x3 x4 x5 x6 x7 (ix3 (0 : Fin 1) r k) = mix X M 2 B ((i 1).val * 256 + r.val) k.val := by
  unfold_out out0_9
  exact (canon_whole _ _ _).trans ((shapeCast_ab_1ab_apply _ shapeCasts_S256x2048_S1x256x2048 0 r k).trans (loadedMix_apply hold 2 (by decide) r k))
theorem out10_apply (r : Fin 256) (k : Fin 2048) : out0_10 (F := Ideal) i x0 x1 x2 x3 x4 x5 x6 x7 (ix3 (0 : Fin 1) r k) = mix X M 3 B ((i 1).val * 256 + r.val) k.val := by
  unfold_out out0_10
  exact (canon_whole _ _ _).trans ((shapeCast_ab_1ab_apply _ shapeCasts_S256x2048_S1x256x2048 0 r k).trans (loadedMix_apply hold 3 (by decide) r k))
theorem out11_apply (W : S2048x256.Idx → EReal) (hu : ∀ (k : Fin 2048) (q : Fin 256), x4 (ix2 k q) = at2 W k.val q.val) (r : Fin 256) (q : Fin 256) :
    out0_11 (F := Ideal) i x0 x1 x2 x3 x4 x5 x6 x7 (ix3 (0 : Fin 1) r q) = Ideal.tanh (mixProd X M W 1 B ((i 1).val * 256 + r.val) q.val) := by
  unfold_out out0_11
  exact (canon_whole _ _ _).trans ((shapeCast_ab_1ab_apply (fun j => Ideal.tanh (loadedProd (loadedMix (i 1).val x0 x1 x2 x3 1 (by decide)) x4 (by decide) j)) shapeCasts_S256x256_S1x256x256 0 r q).trans (congrArg Ideal.tanh (loadedProd_apply hold 1 (by decide) x4 (by decide) W hu r q)))
theorem out12_apply (W : S2048x256.Idx → EReal) (hu : ∀ (k : Fin 2048) (q : Fin 256), x5 (ix2 k q) = at2 W k.val q.val) (r : Fin 256) (q : Fin 256) :
    out0_12 (F := Ideal) i x0 x1 x2 x3 x4 x5 x6 x7 (ix3 (0 : Fin 1) r q) = mixProd X M W 4 B ((i 1).val * 256 + r.val) q.val := by
  unfold_out out0_12
  exact (canon_whole _ _ _).trans ((shapeCast_ab_1ab_apply _ shapeCasts_S256x256_S1x256x256 0 r q).trans (loadedProd_apply hold 4 (by decide) x5 (by decide) W hu r q))
theorem out13_apply (W : S2048x256.Idx → EReal) (hu : ∀ (k : Fin 2048) (q : Fin 256), x6 (ix2 k q) = at2 W k.val q.val) (r : Fin 256) (q : Fin 256) :
    out0_13 (F := Ideal) i x0 x1 x2 x3 x4 x5 x6 x7 (ix3 (0 : Fin 1) r q) = sigmoid (mixProd X M W 5 B ((i 1).val * 256 + r.val) q.val) := by
  unfold_out out0_13
  exact (canon_whole _ _ _).trans ((shapeCast_ab_1ab_apply _ shapeCasts_S256x256_S1x256x256 0 r q).trans (blockSigmoid_apply _ _ _ (loadedProd_apply hold 5 (by decide) x6 (by decide) W hu r q)))
theorem out14_apply (W : S2048x128.Idx → EReal) (hu : ∀ (k : Fin 2048) (q : Fin 128), x7 (ix2 k q) = at2 W k.val q.val) (r : Fin 256) (q : Fin 128) :
    out0_14 (F := Ideal) i x0 x1 x2 x3 x4 x5 x6 x7 (ix3 (0 : Fin 1) r q) = mixProd X M W 3 B ((i 1).val * 256 + r.val) q.val := by
  unfold_out out0_14
  exact (canon_whole _ _ _).trans ((shapeCast_ab_1ab_apply _ shapeCasts_S256x128_S1x256x128 0 r q).trans (loadedProd_apply hold 3 (by decide) x7 (by decide) W hu r q))

end Out

/-! ### The blocks -/

theorem coord1 : ∀ t : Fin cfg0.N, (grid0.coords t 1).val = t.val % 32 := (by decide +kernel : ∀ t : Fin grid0.N, _)
theorem idx0 : ∀ t : Fin cfg0.N, win0_0.index t = ![t.val / 32, t.val % 32, 0] := (by decide +kernel : ∀ t : Fin grid0.N, _)
theorem idx1 : ∀ t : Fin cfg0.N, win0_1.index t = ![t.val / 32, t.val % 32 * 32 - 1, 0] := (by decide +kernel : ∀ t : Fin grid0.N, _)
theorem idx2 : ∀ t : Fin cfg0.N, win0_2.index t = ![t.val / 32, min (t.val % 32 * 32 + 32) 1023, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 32, t.val % 32, 0] := (by decide +kernel : ∀ t : Fin grid0.N, _)
theorem idx9 : ∀ t : Fin cfg0.N, win0_9.index t = ![t.val / 32, t.val % 32, 0] := (by decide +kernel : ∀ t : Fin grid0.N, _)
theorem idx10 : ∀ t : Fin cfg0.N, win0_10.index t = ![t.val / 32, t.val % 32, 0] := (by decide +kernel : ∀ t : Fin grid0.N, _)
theorem idx11 : ∀ t : Fin cfg0.N, win0_11.index t = ![t.val / 32, t.val % 32, 0] := (by decide +kernel : ∀ t : Fin grid0.N, _)
theorem idx12 : ∀ t : Fin cfg0.N, win0_12.index t = ![t.val / 32, t.val % 32, 0] := (by decide +kernel : ∀ t : Fin grid0.N, _)
theorem idx13 : ∀ t : Fin cfg0.N, win0_13.index t = ![t.val / 32, t.val % 32, 0] := (by decide +kernel : ∀ t : Fin grid0.N, _)
theorem idx14 : ∀ t : Fin cfg0.N, win0_14.index t = ![t.val / 32, t.val % 32, 0] := (by decide +kernel : ∀ t : Fin grid0.N, _)

variable (m : (ℓ : Loc nD τ sig) → Buf (Elt Ideal) ℓ) (c : Dev nD)

/-- The rows as launched. -/
abbrev argX : Rows := m ((c : Thread nD τ).loc main_arg0)
/-- The shares as launched. -/
abbrev argM : Shares := m ((c : Thread nD τ).loc main_arg1)
/-- The four matrices as launched. -/
abbrev argW : S2048x256.Idx → EReal := m ((c : Thread nD τ).loc main_arg2)
abbrev argA : S2048x256.Idx → EReal := m ((c : Thread nD τ).loc main_arg3)
abbrev argG : S2048x256.Idx → EReal := m ((c : Thread nD τ).loc main_arg4)
abbrev argV : S2048x128.Idx → EReal := m ((c : Thread nD τ).loc main_arg5)

theorem block (t : Fin cfg0.N) : Block (iblk m c 0 t) (iblk m c 1 t) (iblk m c 2 t) (iblk m c 3 t) (argX m c) (argM m c) (t.val / 32) (grid0.coords t 1).val := by
  rw [coord1]
  have ht : t.val < 128 := t.isLt
  constructor
  · omega
  · intro r k
    blk_simp [iblk]
    rw [V_main_arg0]
    refine at3_of _ _ _ _ _ ?_ ?_ ?_ <;> blk_simp [idx0]
  · intro hJ k
    blk_simp [iblk]
    rw [V_main_arg0]
    refine at3_of _ _ _ _ _ ?_ ?_ ?_ <;> blk_simp [idx1]
    change _ * 8 + 7 = _
    omega
  · intro hJ k
    blk_simp [iblk]
    rw [V_main_arg0]
    refine at3_of _ _ _ _ _ ?_ ?_ ?_ <;> blk_simp [idx2]
    change _ * 8 + 0 = _
    omega
  · intro i k
    blk_simp [iblk]
    rw [V_main_arg1]
    refine at2_of _ _ _ _ ?_ ?_ <;> blk_simp [idx3]

theorem iblk4_apply (t : Fin cfg0.N) (k : Fin 2048) (q : Fin 256) : iblk m c 4 t (ix2 k q) = at2 (argW m c) k.val q.val := by
  blk_simp [iblk]
  rw [V_main_arg2]
  refine at2_of _ _ _ _ ?_ ?_ <;> blk_simp [idx4]
theorem iblk5_apply (t : Fin cfg0.N) (k : Fin 2048) (q : Fin 256) : iblk m c 5 t (ix2 k q) = at2 (argA m c) k.val q.val := by
  blk_simp [iblk]
  rw [V_main_arg3]
  refine at2_of _ _ _ _ ?_ ?_ <;> blk_simp [idx5]
theorem iblk6_apply (t : Fin cfg0.N) (k : Fin 2048) (q : Fin 256) : iblk m c 6 t (ix2 k q) = at2 (argG m c) k.val q.val := by
  blk_simp [iblk]
  rw [V_main_arg4]
  refine at2_of _ _ _ _ ?_ ?_ <;> blk_simp [idx6]
theorem iblk7_apply (t : Fin cfg0.N) (k : Fin 2048) (q : Fin 128) : iblk m c 7 t (ix2 k q) = at2 (argV m c) k.val q.val := by
  blk_simp [iblk]
  rw [V_main_arg5]
  refine at2_of _ _ _ _ ?_ ?_ <;> blk_simp [idx7]

/-! ### The results -/

theorem final8 : (dats m 0 c).arrAt 8 cfg0.N = mixed (argX m c) (argM m c) 0 := by
  refine (dats m 0 c).arrAt_eq_of_covers 8 _ (by decide +kernel) fun t _ y => ?_
  obtain ⟨z, r, k, rfl⟩ : ∃ z r k, y = ix3 (n0 := 1) (n1 := 256) (n2 := 2048) z r k := ⟨y 0, y 1, y 2, ValueIdx.eq_ix3 y⟩
  obtain rfl : z = 0 := Subsingleton.elim _ _
  blk_simp
  rw [after0_8]
  refine (out8_apply (block m c t) r k).trans (mixed_at _ _ 0 (B := t.val / 32) (R := (grid0.coords t 1).val * 256 + r.val) _ ?_ ?_ ?_) <;> blk_simp [idx8, coord1]
theorem final9 : (dats m 0 c).arrAt 9 cfg0.N = mixed (argX m c) (argM m c) 2 := by
  refine (dats m 0 c).arrAt_eq_of_covers 9 _ (by decide +kernel) fun t _ y => ?_
  obtain ⟨z, r, k, rfl⟩ : ∃ z r k, y = ix3 (n0 := 1) (n1 := 256) (n2 := 2048) z r k := ⟨y 0, y 1, y 2, ValueIdx.eq_ix3 y⟩
  obtain rfl : z = 0 := Subsingleton.elim _ _
  blk_simp
  rw [after0_9]
  refine (out9_apply (block m c t) r k).trans (mixed_at _ _ 2 (B := t.val / 32) (R := (grid0.coords t 1).val * 256 + r.val) _ ?_ ?_ ?_) <;> blk_simp [idx9, coord1]
theorem final10 : (dats m 0 c).arrAt 10 cfg0.N = mixed (argX m c) (argM m c) 3 := by
  refine (dats m 0 c).arrAt_eq_of_covers 10 _ (by decide +kernel) fun t _ y => ?_
  obtain ⟨z, r, k, rfl⟩ : ∃ z r k, y = ix3 (n0 := 1) (n1 := 256) (n2 := 2048) z r k := ⟨y 0, y 1, y 2, ValueIdx.eq_ix3 y⟩
  obtain rfl : z = 0 := Subsingleton.elim _ _
  blk_simp
  rw [after0_10]
  refine (out10_apply (block m c t) r k).trans (mixed_at _ _ 3 (B := t.val / 32) (R := (grid0.coords t 1).val * 256 + r.val) _ ?_ ?_ ?_) <;> blk_simp [idx10, coord1]
theorem final11 : (dats m 0 c).arrAt 11 cfg0.N = lora Ideal.tanh (argX m c) (argM m c) (argW m c) 1 := by
  refine (dats m 0 c).arrAt_eq_of_covers 11 _ (by decide +kernel) fun t _ y => ?_
  obtain ⟨z, r, k, rfl⟩ : ∃ z r k, y = ix3 (n0 := 1) (n1 := 256) (n2 := 256) z r k := ⟨y 0, y 1, y 2, ValueIdx.eq_ix3 y⟩
  obtain rfl : z = 0 := Subsingleton.elim _ _
  blk_simp
  rw [after0_11]
  refine (out11_apply (block m c t) _ (iblk4_apply m c t) r k).trans (lora_at Ideal.tanh _ _ _ 1 (B := t.val / 32) (R := (grid0.coords t 1).val * 256 + r.val) _ ?_ ?_ ?_) <;> blk_simp [idx11, coord1]
theorem final12 : (dats m 0 c).arrAt 12 cfg0.N = lora id (argX m c) (argM m c) (argA m c) 4 := by
  refine (dats m 0 c).arrAt_eq_of_covers 12 _ (by decide +kernel) fun t _ y => ?_
  obtain ⟨z, r, k, rfl⟩ : ∃ z r k, y = ix3 (n0 := 1) (n1 := 256) (n2 := 256) z r k := ⟨y 0, y 1, y 2, ValueIdx.eq_ix3 y⟩
  obtain rfl : z = 0 := Subsingleton.elim _ _
  blk_simp
  rw [after0_12]
  refine (out12_apply (block m c t) _ (iblk5_apply m c t) r k).trans (lora_at id _ _ _ 4 (B := t.val / 32) (R := (grid0.coords t 1).val * 256 + r.val) _ ?_ ?_ ?_) <;> blk_simp [idx12, coord1]
theorem final13 : (dats m 0 c).arrAt 13 cfg0.N = lora sigmoid (argX m c) (argM m c) (argG m c) 5 := by
  refine (dats m 0 c).arrAt_eq_of_covers 13 _ (by decide +kernel) fun t _ y => ?_
  obtain ⟨z, r, k, rfl⟩ : ∃ z r k, y = ix3 (n0 := 1) (n1 := 256) (n2 := 256) z r k := ⟨y 0, y 1, y 2, ValueIdx.eq_ix3 y⟩
  obtain rfl : z = 0 := Subsingleton.elim _ _
  blk_simp
  rw [after0_13]
  refine (out13_apply (block m c t) _ (iblk6_apply m c t) r k).trans (lora_at sigmoid _ _ _ 5 (B := t.val / 32) (R := (grid0.coords t 1).val * 256 + r.val) _ ?_ ?_ ?_) <;> blk_simp [idx13, coord1]
theorem final14 : (dats m 0 c).arrAt 14 cfg0.N = lora id (argX m c) (argM m c) (argV m c) 3 := by
  refine (dats m 0 c).arrAt_eq_of_covers 14 _ (by decide +kernel) fun t _ y => ?_
  obtain ⟨z, r, k, rfl⟩ : ∃ z r k, y = ix3 (n0 := 1) (n1 := 256) (n2 := 128) z r k := ⟨y 0, y 1, y 2, ValueIdx.eq_ix3 y⟩
  obtain rfl : z = 0 := Subsingleton.elim _ _
  blk_simp
  rw [after0_14]
  refine (out14_apply (block m c t) _ (iblk7_apply m c t) r k).trans (lora_at id _ _ _ 3 (B := t.val / 32) (R := (grid0.coords t 1).val * 256 + r.val) _ ?_ ?_ ?_) <;> blk_simp [idx14, coord1]

/-! ### The reference -/

section Reference
open Cert.Reference9Ideal.Read
variable (X : Rows) (M : Shares) (W A G : S2048x256.Idx → EReal) (V : S2048x128.Idx → EReal)

theorem reference_mix0 : val_main_v61 (F := Ideal) X M = mixed X M 0 := hostMix_eq X M 0 _ _ _ _ _ _ _ _ _ _
theorem reference_mix1 : val_main_v21 (F := Ideal) X M = mixed X M 1 := hostMix_eq X M 1 _ _ _ _ _ _ _ _ _ _
theorem reference_mix2 : val_main_v62 (F := Ideal) X M = mixed X M 2 := hostMix_eq X M 2 _ _ _ _ _ _ _ _ _ _
theorem reference_mix3 : val_main_v63 (F := Ideal) X M = mixed X M 3 := hostMix_eq X M 3 _ _ _ _ _ _ _ _ _ _
theorem reference_mix4 : val_main_v39 (F := Ideal) X M = mixed X M 4 := hostMix_eq X M 4 _ _ _ _ _ _ _ _ _ _
theorem reference_mix5 : val_main_v45 (F := Ideal) X M = mixed X M 5 := hostMix_eq X M 5 _ _ _ _ _ _ _ _ _ _

theorem reference_tanh : val_main_v64 (F := Ideal) X M W = lora Ideal.tanh X M W 1 := funext fun y =>
  congrArg Ideal.tanh ((val_main_v50_apply X M W y).trans (Finset.sum_congr rfl fun k _ => congrArg₂ (fun s t : EReal => s * t) (congrFun (reference_mix1 X M) _) (at2_of W _ _ _ rfl rfl)))
theorem reference_plain : val_main_v65 (F := Ideal) X M A = lora id X M A 4 := funext fun y =>
  (val_main_v52_apply X M A y).trans (Finset.sum_congr rfl fun k _ => congrArg₂ (fun s t : EReal => s * t) (congrFun (reference_mix4 X M) _) (at2_of A _ _ _ rfl rfl))
theorem reference_sigmoid : val_main_v66 (F := Ideal) X M G = lora sigmoid X M G 5 := funext fun y =>
  congrArg sigmoid ((val_main_v53_apply X M G y).trans (Finset.sum_congr rfl fun k _ => congrArg₂ (fun s t : EReal => s * t) (congrFun (reference_mix5 X M) _) (at2_of G _ _ _ rfl rfl)))
theorem reference_value : val_main_v67 (F := Ideal) X M V = lora id X M V 3 := funext fun y =>
  (val_main_v60_apply X M V y).trans (Finset.sum_congr rfl fun k _ => congrArg₂ (fun s t : EReal => s * t) (congrFun (reference_mix3 X M) _) (at2_of V _ _ _ rfl rfl))
end Reference

end Cert.Mix9

end
-- ==== Proof.Mix10.lean ====
/- The shift mix with its three narrow products: what its blocks leave and what its reference leaves. -/
module
public import proofs.«01_k».proof.Proof.ShiftMix
public import proofs.«01_k».proof.Proof.Gen.Kernel10Ideal.Value
public import proofs.«01_k».proof.Proof.Gen.Reference10Ideal.Read
public import Idealize.ShloMosaic.Lib.Pipeline.ValueKit

@[expose] public section

noncomputable section

namespace Cert.Mix10

open Cert.Kernel10Ideal Cert.Kernel10Ideal.Gen Idealize.ShloMosaic.TcCoe Idealize.SL.Sem Idealize.ShloMosaic.ValueIdx Cert.Flash Cert.Dense Cert.ShiftMix
open Idealize.ShloMosaic hiding ix2 ix1 ix3 ix4

section Out
variable {i : grid0.Coords} {x0 : FVec Ideal SX0 .f32} {x1 x2 : FVec Ideal SX1 .f32} {x3 : FVec Ideal SM .f32} {x4 x5 x6 : FVec Ideal S2048x256 .bf16}
  {X : Rows} {M : Shares} {B : ℕ} (hold : Block x0 x1 x2 x3 X M B (i 1).val)
include hold

theorem out7_apply (r : Fin 256) (k : Fin 2048) : out0_7 (F := Ideal) i x0 x1 x2 x3 x4 x5 x6 (ix3 (0 : Fin 1) r k) = mix X M 0 B ((i 1).val * 256 + r.val) k.val := by
  unfold_out out0_7
  exact (canon_whole _ _ _).trans ((shapeCast_ab_1ab_apply _ shapeCasts_S256x2048_S1x256x2048 0 r k).trans (loadedMix_apply hold 0 (by decide) r k))
theorem out8_apply (r : Fin 256) (k : Fin 2048) : out0_8 (F := Ideal) i x0 x1 x2 x3 x4 x5 x6 (ix3 (0 : Fin 1) r k) = mix X M 2 B ((i 1).val * 256 + r.val) k.val := by
  unfold_out out0_8
  exact (canon_whole _ _ _).trans ((shapeCast_ab_1ab_apply _ shapeCasts_S256x2048_S1x256x2048 0 r k).trans (loadedMix_apply hold 2 (by decide) r k))
theorem out9_apply (r : Fin 256) (k : Fin 2048) : out0_9 (F := Ideal) i x0 x1 x2 x3 x4 x5 x6 (ix3 (0 : Fin 1) r k) = mix X M 3 B ((i 1).val * 256 + r.val) k.val := by
  unfold_out out0_9
  exact (canon_whole _ _ _).trans ((shapeCast_ab_1ab_apply _ shapeCasts_S256x2048_S1x256x2048 0 r k).trans (loadedMix_apply hold 3 (by decide) r k))
theorem out10_apply (W : S2048x256.Idx → EReal) (hu : ∀ (k : Fin 2048) (q : Fin 256), x4 (ix2 k q) = at2 W k.val q.val) (r : Fin 256) (q : Fin 256) :
    out0_10 (F := Ideal) i x0 x1 x2 x3 x4 x5 x6 (ix3 (0 : Fin 1) r q) = Ideal.tanh (mixProd X M W 1 B ((i 1).val * 256 + r.val) q.val) := by
  unfold_out out0_10
  exact (canon_whole _ _ _).trans ((shapeCast_ab_1ab_apply (fun j => Ideal.tanh (loadedProd (loadedMix (i 1).val x0 x1 x2 x3 1 (by decide)) x4 (by decide) j)) shapeCasts_S256x256_S1x256x256 0 r q).trans (congrArg Ideal.tanh (loadedProd_apply hold 1 (by decide) x4 (by decide) W hu r q)))
theorem out11_apply (W : S2048x256.Idx → EReal) (hu : ∀ (k : Fin 2048) (q : Fin 256), x5 (ix2 k q) = at2 W k.val q.val) (r : Fin 256) (q : Fin 256) :
    out0_11 (F := Ideal) i x0 x1 x2 x3 x4 x5 x6 (ix3 (0 : Fin 1) r q) = mixProd X M W 4 B ((i 1).val * 256 + r.val) q.val := by
  unfold_out out0_11
  exact (canon_whole _ _ _).trans ((shapeCast_ab_1ab_apply _ shapeCasts_S256x256_S1x256x256 0 r q).trans (loadedProd_apply hold 4 (by decide) x5 (by decide) W hu r q))
theorem out12_apply (W : S2048x256.Idx → EReal) (hu : ∀ (k : Fin 2048) (q : Fin 256), x6 (ix2 k q) = at2 W k.val q.val) (r : Fin 256) (q : Fin 256) :
    out0_12 (F := Ideal) i x0 x1 x2 x3 x4 x5 x6 (ix3 (0 : Fin 1) r q) = sigmoid (mixProd X M W 5 B ((i 1).val * 256 + r.val) q.val) := by
  unfold_out out0_12
  exact (canon_whole _ _ _).trans ((shapeCast_ab_1ab_apply _ shapeCasts_S256x256_S1x256x256 0 r q).trans (blockSigmoid_apply _ _ _ (loadedProd_apply hold 5 (by decide) x6 (by decide) W hu r q)))

end Out

/-! ### The blocks -/

theorem coord1 : ∀ t : Fin cfg0.N, (grid0.coords t 1).val = t.val % 32 := (by decide +kernel : ∀ t : Fin grid0.N, _)
theorem idx0 : ∀ t : Fin cfg0.N, win0_0.index t = ![t.val / 32, t.val % 32, 0] := (by decide +kernel : ∀ t : Fin grid0.N, _)
theorem idx1 : ∀ t : Fin cfg0.N, win0_1.index t = ![t.val / 32, t.val % 32 * 32 - 1, 0] := (by decide +kernel : ∀ t : Fin grid0.N, _)
theorem idx2 : ∀ t : Fin cfg0.N, win0_2.index t = ![t.val / 32, min (t.val % 32 * 32 + 32) 1023, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 32, t.val % 32, 0] := (by decide +kernel : ∀ t : Fin grid0.N, _)
theorem idx8 : ∀ t : Fin cfg0.N, win0_8.index t = ![t.val / 32, t.val % 32, 0] := (by decide +kernel : ∀ t : Fin grid0.N, _)
theorem idx9 : ∀ t : Fin cfg0.N, win0_9.index t = ![t.val / 32, t.val % 32, 0] := (by decide +kernel : ∀ t : Fin grid0.N, _)
theorem idx10 : ∀ t : Fin cfg0.N, win0_10.index t = ![t.val / 32, t.val % 32, 0] := (by decide +kernel : ∀ t : Fin grid0.N, _)
theorem idx11 : ∀ t : Fin cfg0.N, win0_11.index t = ![t.val / 32, t.val % 32, 0] := (by decide +kernel : ∀ t : Fin grid0.N, _)
theorem idx12 : ∀ t : Fin cfg0.N, win0_12.index t = ![t.val / 32, t.val % 32, 0] := (by decide +kernel : ∀ t : Fin grid0.N, _)

variable (m : (ℓ : Loc nD τ sig) → Buf (Elt Ideal) ℓ) (c : Dev nD)

/-- The rows as launched. -/
abbrev argX : Rows := m ((c : Thread nD τ).loc main_arg0)
/-- The shares as launched. -/
abbrev argM : Shares := m ((c : Thread nD τ).loc main_arg1)
/-- The three matrices as launched. -/
abbrev argW : S2048x256.Idx → EReal := m ((c : Thread nD τ).loc main_arg2)
abbrev argA : S2048x256.Idx → EReal := m ((c : Thread nD τ).loc main_arg3)
abbrev argG : S2048x256.Idx → EReal := m ((c : Thread nD τ).loc main_arg4)

theorem block (t : Fin cfg0.N) : Block (iblk m c 0 t) (iblk m c 1 t) (iblk m c 2 t) (iblk m c 3 t) (argX m c) (argM m c) (t.val / 32) (grid0.coords t 1).val := by
  rw [coord1]
  have ht : t.val < 128 := t.isLt
  constructor
  · omega
  · intro r k
    blk_simp [iblk]
    rw [V_main_arg0]
    refine at3_of _ _ _ _ _ ?_ ?_ ?_ <;> blk_simp [idx0]
  · intro hJ k
    blk_simp [iblk]
    rw [V_main_arg0]
    refine at3_of _ _ _ _ _ ?_ ?_ ?_ <;> blk_simp [idx1]
    change _ * 8 + 7 = _
    omega
  · intro hJ k
    blk_simp [iblk]
    rw [V_main_arg0]
    refine at3_of _ _ _ _ _ ?_ ?_ ?_ <;> blk_simp [idx2]
    change _ * 8 + 0 = _
    omega
  · intro i k
    blk_simp [iblk]
    rw [V_main_arg1]
    refine at2_of _ _ _ _ ?_ ?_ <;> blk_simp [idx3]

theorem iblk4_apply (t : Fin cfg0.N) (k : Fin 2048) (q : Fin 256) : iblk m c 4 t (ix2 k q) = at2 (argW m c) k.val q.val := by
  blk_simp [iblk]
  rw [V_main_arg2]
  refine at2_of _ _ _ _ ?_ ?_ <;> blk_simp [idx4]
theorem iblk5_apply (t : Fin cfg0.N) (k : Fin 2048) (q : Fin 256) : iblk m c 5 t (ix2 k q) = at2 (argA m c) k.val q.val := by
  blk_simp [iblk]
  rw [V_main_arg3]
  refine at2_of _ _ _ _ ?_ ?_ <;> blk_simp [idx5]
theorem iblk6_apply (t : Fin cfg0.N) (k : Fin 2048) (q : Fin 256) : iblk m c 6 t (ix2 k q) = at2 (argG m c) k.val q.val := by
  blk_simp [iblk]
  rw [V_main_arg4]
  refine at2_of _ _ _ _ ?_ ?_ <;> blk_simp [idx6]

/-! ### The results -/

theorem final7 : (dats m 0 c).arrAt 7 cfg0.N = mixed (argX m c) (argM m c) 0 := by
  refine (dats m 0 c).arrAt_eq_of_covers 7 _ (by decide +kernel) fun t _ y => ?_
  obtain ⟨z, r, k, rfl⟩ : ∃ z r k, y = ix3 (n0 := 1) (n1 := 256) (n2 := 2048) z r k := ⟨y 0, y 1, y 2, ValueIdx.eq_ix3 y⟩
  obtain rfl : z = 0 := Subsingleton.elim _ _
  blk_simp
  rw [after0_7]
  refine (out7_apply (block m c t) r k).trans (mixed_at _ _ 0 (B := t.val / 32) (R := (grid0.coords t 1).val * 256 + r.val) _ ?_ ?_ ?_) <;> blk_simp [idx7, coord1]
theorem final8 : (dats m 0 c).arrAt 8 cfg0.N = mixed (argX m c) (argM m c) 2 := by
  refine (dats m 0 c).arrAt_eq_of_covers 8 _ (by decide +kernel) fun t _ y => ?_
  obtain ⟨z, r, k, rfl⟩ : ∃ z r k, y = ix3 (n0 := 1) (n1 := 256) (n2 := 2048) z r k := ⟨y 0, y 1, y 2, ValueIdx.eq_ix3 y⟩
  obtain rfl : z = 0 := Subsingleton.elim _ _
  blk_simp
  rw [after0_8]
  refine (out8_apply (block m c t) r k).trans (mixed_at _ _ 2 (B := t.val / 32) (R := (grid0.coords t 1).val * 256 + r.val) _ ?_ ?_ ?_) <;> blk_simp [idx8, coord1]
theorem final9 : (dats m 0 c).arrAt 9 cfg0.N = mixed (argX m c) (argM m c) 3 := by
  refine (dats m 0 c).arrAt_eq_of_covers 9 _ (by decide +kernel) fun t _ y => ?_
  obtain ⟨z, r, k, rfl⟩ : ∃ z r k, y = ix3 (n0 := 1) (n1 := 256) (n2 := 2048) z r k := ⟨y 0, y 1, y 2, ValueIdx.eq_ix3 y⟩
  obtain rfl : z = 0 := Subsingleton.elim _ _
  blk_simp
  rw [after0_9]
  refine (out9_apply (block m c t) r k).trans (mixed_at _ _ 3 (B := t.val / 32) (R := (grid0.coords t 1).val * 256 + r.val) _ ?_ ?_ ?_) <;> blk_simp [idx9, coord1]
theorem final10 : (dats m 0 c).arrAt 10 cfg0.N = lora Ideal.tanh (argX m c) (argM m c) (argW m c) 1 := by
  refine (dats m 0 c).arrAt_eq_of_covers 10 _ (by decide +kernel) fun t _ y => ?_
  obtain ⟨z, r, k, rfl⟩ : ∃ z r k, y = ix3 (n0 := 1) (n1 := 256) (n2 := 256) z r k := ⟨y 0, y 1, y 2, ValueIdx.eq_ix3 y⟩
  obtain rfl : z = 0 := Subsingleton.elim _ _
  blk_simp
  rw [after0_10]
  refine (out10_apply (block m c t) _ (iblk4_apply m c t) r k).trans (lora_at Ideal.tanh _ _ _ 1 (B := t.val / 32) (R := (grid0.coords t 1).val * 256 + r.val) _ ?_ ?_ ?_) <;> blk_simp [idx10, coord1]
theorem final11 : (dats m 0 c).arrAt 11 cfg0.N = lora id (argX m c) (argM m c) (argA m c) 4 := by
  refine (dats m 0 c).arrAt_eq_of_covers 11 _ (by decide +kernel) fun t _ y => ?_
  obtain ⟨z, r, k, rfl⟩ : ∃ z r k, y = ix3 (n0 := 1) (n1 := 256) (n2 := 256) z r k := ⟨y 0, y 1, y 2, ValueIdx.eq_ix3 y⟩
  obtain rfl : z = 0 := Subsingleton.elim _ _
  blk_simp
  rw [after0_11]
  refine (out11_apply (block m c t) _ (iblk5_apply m c t) r k).trans (lora_at id _ _ _ 4 (B := t.val / 32) (R := (grid0.coords t 1).val * 256 + r.val) _ ?_ ?_ ?_) <;> blk_simp [idx11, coord1]
theorem final12 : (dats m 0 c).arrAt 12 cfg0.N = lora sigmoid (argX m c) (argM m c) (argG m c) 5 := by
  refine (dats m 0 c).arrAt_eq_of_covers 12 _ (by decide +kernel) fun t _ y => ?_
  obtain ⟨z, r, k, rfl⟩ : ∃ z r k, y = ix3 (n0 := 1) (n1 := 256) (n2 := 256) z r k := ⟨y 0, y 1, y 2, ValueIdx.eq_ix3 y⟩
  obtain rfl : z = 0 := Subsingleton.elim _ _
  blk_simp
  rw [after0_12]
  refine (out12_apply (block m c t) _ (iblk6_apply m c t) r k).trans (lora_at sigmoid _ _ _ 5 (B := t.val / 32) (R := (grid0.coords t 1).val * 256 + r.val) _ ?_ ?_ ?_) <;> blk_simp [idx12, coord1]

/-! ### The reference -/

section Reference
open Cert.Reference10Ideal.Read
variable (X : Rows) (M : Shares) (W A G : S2048x256.Idx → EReal)

theorem reference_mix0 : val_main_v59 (F := Ideal) X M = mixed X M 0 := hostMix_eq X M 0 _ _ _ _ _ _ _ _ _ _
theorem reference_mix1 : val_main_v21 (F := Ideal) X M = mixed X M 1 := hostMix_eq X M 1 _ _ _ _ _ _ _ _ _ _
theorem reference_mix2 : val_main_v60 (F := Ideal) X M = mixed X M 2 := hostMix_eq X M 2 _ _ _ _ _ _ _ _ _ _
theorem reference_mix3 : val_main_v61 (F := Ideal) X M = mixed X M 3 := hostMix_eq X M 3 _ _ _ _ _ _ _ _ _ _
theorem reference_mix4 : val_main_v39 (F := Ideal) X M = mixed X M 4 := hostMix_eq X M 4 _ _ _ _ _ _ _ _ _ _
theorem reference_mix5 : val_main_v45 (F := Ideal) X M = mixed X M 5 := hostMix_eq X M 5 _ _ _ _ _ _ _ _ _ _

theorem reference_tanh : val_main_v62 (F := Ideal) X M W = lora Ideal.tanh X M W 1 := funext fun y =>
  congrArg Ideal.tanh ((val_main_v49_apply X M W y).trans (Finset.sum_congr rfl fun k _ => congrArg₂ (fun s t : EReal => s * t) (congrFun (reference_mix1 X M) _) (at2_of W _ _ _ rfl rfl)))
theorem reference_plain : val_main_v63 (F := Ideal) X M A = lora id X M A 4 := funext fun y =>
  (val_main_v51_apply X M A y).trans (Finset.sum_congr rfl fun k _ => congrArg₂ (fun s t : EReal => s * t) (congrFun (reference_mix4 X M) _) (at2_of A _ _ _ rfl rfl))
theorem reference_sigmoid : val_main_v64 (F := Ideal) X M G = lora sigmoid X M G 5 := funext fun y =>
  congrArg sigmoid ((val_main_v52_apply X M G y).trans (Finset.sum_congr rfl fun k _ => congrArg₂ (fun s t : EReal => s * t) (congrFun (reference_mix5 X M) _) (at2_of G _ _ _ rfl rfl)))
end Reference

end Cert.Mix10

end
-- ==== Proof.VRes.lean ====
/- The mixing of the values with the first layer's values: what its blocks leave, what its reference leaves, and that the two are one array. -/
module
public import proofs.«01_k».proof.Proof.ShiftMix
public import proofs.«01_k».proof.Proof.Gen.Kernel11Ideal.Value
public import proofs.«01_k».proof.Proof.Gen.Reference11Ideal.Read
public import Idealize.ShloMosaic.Lib.Pipeline.ValueKit

@[expose] public section

noncomputable section

namespace Cert.VRes

open Cert.Kernel11Ideal Cert.Kernel11Ideal.Gen Idealize.ShloMosaic.TcCoe Idealize.SL.Sem Idealize.ShloMosaic.ValueIdx Cert.Flash Cert.Dense
open Idealize.ShloMosaic hiding ix2 ix1
open Cert.ShiftMix (sigmoid blockSigmoid_apply)

/-- The values moved toward the first layer's values by a gate. -/
def result (X : S32768x128.Idx → EReal) (W : S128x2048.Idx → EReal) (B : S2048.Idx → EReal) (V U : S32768x2048.Idx → EReal) : S32768x2048.Idx → EReal :=
  fun i => V i + (U i - V i) * sigmoid (prod X W (i 0).val (i 1).val + B (ix1 (i 1)))

/-- A block's elements. -/
theorem pay_apply (x : Vec Ideal S512x128 .bf16) (w : Vec Ideal S128x1024 .bf16) (b : Vec Ideal S1x1024 .f32) (v u : Vec Ideal S512x1024 .f32) (X : S32768x128.Idx → EReal) (W : S128x2048.Idx → EReal) (B V U : EReal) (r : Fin 512) (q : Fin 1024) (R C : ℕ)
    (hx : ∀ k : Fin 128, x (ix2 r k) = at2 X R k.val) (hw : ∀ k : Fin 128, w (ix2 k q) = at2 W k.val C) (hb : b (ix2 (0 : Fin 1) q) = B) (hv : v (ix2 r q) = V) (hu : u (ix2 r q) = U) :
    k0_pay1 (F := Ideal) x w b v u (ix2 r q) = V + (U - V) * sigmoid (prod X W R C + B) := by
  have hp := block_prod (φ₁ := .bf16) (φ₂ := .bf16) x w X W r q R C hx hw
  have hz : broadcastTo S512x1024 (shapeCast S1x1024 b shapeCasts_S1x1024_S1x1024) broadcasts_S1x1024_S512x1024 (ix2 r q) = B := by
    refine (broadcastTo_1b_ab_apply (a := 512) (b := 1024) _ broadcasts_S1x1024_S512x1024 r q).trans ?_
    rw [shapeCast_self, hb]
  have hs := blockSigmoid_apply (addf (matmul (φ₁ := .bf16) (φ₂ := .bf16) (DotDims.plain 512 128 1024) none x w (constant S512x1024 .f32 0x00000000#32)) (broadcastTo S512x1024 (shapeCast S1x1024 b shapeCasts_S1x1024_S1x1024) broadcasts_S1x1024_S512x1024))
    (ix2 r q) _ (congrArg₂ (fun s t : EReal => s + t) hp hz)
  subst hv hu
  exact congrArg (fun s : EReal => v (ix2 r q) + (u (ix2 r q) - v (ix2 r q)) * s) hs

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![0, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)

variable (m : (ℓ : Loc nD τ sig) → Buf (Elt Ideal) ℓ) (c : Dev nD)

/-- The rows as launched. -/
abbrev argX : S32768x128.Idx → EReal := m ((c : Thread nD τ).loc main_arg0)
/-- The weights as launched. -/
abbrev argW : S128x2048.Idx → EReal := m ((c : Thread nD τ).loc main_arg1)
/-- The bias as launched. -/
abbrev argB : S2048.Idx → EReal := m ((c : Thread nD τ).loc main_arg2)
/-- The values as launched. -/
abbrev argV : S32768x2048.Idx → EReal := m ((c : Thread nD τ).loc main_arg3)
/-- The first layer's values as launched. -/
abbrev argU : S32768x2048.Idx → EReal := m ((c : Thread nD τ).loc main_arg4)

/-- The bias row, written before the launch. -/
theorem V_bias : V m c main_v0 = shapeCast S1x2048 (argB m c) shapeCasts_S2048_S1x2048 := by
  unfold_abbrev_sides
  after_results
  rfl

theorem iblk0_apply (t : Fin cfg0.N) (r : Fin 512) (k : Fin 128) : iblk m c 0 t (ix2 r k) = at2 (argX m c) (t.val / 2 * 512 + r.val) k.val := by
  blk_simp [iblk]
  rw [V_main_arg0]
  refine at2_of _ _ _ _ ?_ ?_ <;> blk_simp [idx0]
theorem iblk1_apply (t : Fin cfg0.N) (k : Fin 128) (q : Fin 1024) : iblk m c 1 t (ix2 k q) = at2 (argW m c) k.val (t.val % 2 * 1024 + q.val) := by
  blk_simp [iblk]
  rw [V_main_arg1]
  refine at2_of _ _ _ _ ?_ ?_ <;> blk_simp [idx1]
theorem iblk2_apply (t : Fin cfg0.N) (q : Fin 1024) (C : Fin 2048) (hC : C.val = t.val % 2 * 1024 + q.val) : iblk m c 2 t (ix2 (0 : Fin 1) q) = argB m c (ix1 C) := by
  blk_simp [iblk]
  rw [V_bias]
  refine (congrArg _ (funext fun a => Fin.ext ?_ : _ = ix2 (0 : Fin 1) C)).trans (shapeCast_a_1a_apply (argB m c) shapeCasts_S2048_S1x2048 0 C)
  match a with
  | ⟨0, _⟩ => blk_simp [idx2]
  | ⟨1, _⟩ =>
    blk_simp [idx2]
    exact hC.symm
theorem iblk3_apply (t : Fin cfg0.N) (r : Fin 512) (q : Fin 1024) (i : S32768x2048.Idx) (h0 : (i 0).val = t.val / 2 * 512 + r.val) (h1 : (i 1).val = t.val % 2 * 1024 + q.val) : iblk m c 3 t (ix2 r q) = argV m c i := by
  blk_simp [iblk]
  rw [V_main_arg3]
  refine congrArg _ (funext fun a => Fin.ext ?_)
  match a with
  | ⟨0, _⟩ =>
    blk_simp [idx3]
    exact h0.symm
  | ⟨1, _⟩ =>
    blk_simp [idx3]
    exact h1.symm
theorem iblk4_apply (t : Fin cfg0.N) (r : Fin 512) (q : Fin 1024) (i : S32768x2048.Idx) (h0 : (i 0).val = t.val / 2 * 512 + r.val) (h1 : (i 1).val = t.val % 2 * 1024 + q.val) : iblk m c 4 t (ix2 r q) = argU m c i := by
  blk_simp [iblk]
  rw [V_main_arg4]
  refine congrArg _ (funext fun a => Fin.ext ?_)
  match a with
  | ⟨0, _⟩ =>
    blk_simp [idx4]
    exact h0.symm
  | ⟨1, _⟩ =>
    blk_simp [idx4]
    exact h1.symm

/-- The result array after the run. -/
theorem final : (dats m 0 c).arrAt 5 cfg0.N = result (argX m c) (argW m c) (argB m c) (argV m c) (argU m c) := by
  refine (dats m 0 c).arrAt_eq_of_covers 5 _ (by decide +kernel) fun t _ y => ?_
  obtain ⟨r, q, rfl⟩ : ∃ r q, y = ix2 (n0 := 512) (n1 := 1024) r q := ⟨y 0, y 1, ValueIdx.eq_ix2 y⟩
  blk_simp
  rw [after0_5]
  have e0 : (((cfg0.win 5).blk t).view.emb (ix2 r q) 0).val = t.val / 2 * 512 + r.val := by
    blk_simp [idx5]
    rfl
  have e1 : (((cfg0.win 5).blk t).view.emb (ix2 r q) 1).val = t.val % 2 * 1024 + q.val := by
    blk_simp [idx5]
    rfl
  unfold result
  rw [e0, e1]
  frame_out
  exact pay_apply _ _ _ _ _ _ _ _ _ _ r q _ _ (iblk0_apply m c t r) (fun k => iblk1_apply m c t k q) (iblk2_apply m c t q _ e1) (iblk3_apply m c t r q _ e0 e1) (iblk4_apply m c t r q _ e0 e1)

/-- The reference's result is the closed form. -/
theorem reference_result (X : S32768x128.Idx → EReal) (W : S128x2048.Idx → EReal) (B : S2048.Idx → EReal) (V U : S32768x2048.Idx → EReal) : Cert.Reference11Ideal.Read.val_main_v14 (F := Ideal) X W B V U = result X W B V U := by
  funext i
  have hb : Cert.Reference11Ideal.Read.val_main_v5 (F := Ideal) B i = B (ix1 (i 1)) :=
    (Cert.Reference11Ideal.Read.val_main_v5_apply (F := Ideal) B i).trans ((Cert.Reference11Ideal.Read.val_main_v4_apply (F := Ideal) B _).trans (congrArg B (funext fun a => match a with | ⟨0, _⟩ => rfl)))
  have hp := (congrArg₂ (fun s t : EReal => s + t) hb (host_prod (φ₁ := .f32) (φ₂ := .f32) X W i)).trans (add_comm _ _)
  exact congrArg (fun s : EReal => V i + (U i - V i) * sigmoid s) hp

end Cert.VRes

end
-- ==== Proof.Sink.lean ====
/-
A softmax with a sink over a window of keys: the change of base, the quotient taken after or before the sum over the keys, and
the sum over the keys of a block against the sum over all keys.
-/
module
public import proofs.«01_k».proof.Proof.Online

@[expose] public section

noncomputable section

namespace Cert.Sink

open Idealize.ShloMosaic Cert.Online

/-- The natural exponential of a multiple of the logarithm of two. -/
theorem exp_mul_log_two (y : EReal) : Ideal.exp (y * (Real.log 2 : EReal)) = Ideal.exp2 y := by
  have hl : 0 < Real.log 2 := Real.log_pos (by norm_num)
  induction y using EReal.rec with
  | bot => rw [EReal.bot_mul_coe_of_pos hl]; rfl
  | top => rw [EReal.top_mul_coe_of_pos hl]; rfl
  | coe x =>
    rw [← EReal.coe_mul, Ideal.exp_coe]
    show ((Real.exp (x * Real.log 2) : ℝ) : EReal) = (((2 : ℝ) ^ x : ℝ) : EReal)
    rw [Real.rpow_def_of_pos (by norm_num), mul_comm]

theorem exp_sub (x M : EReal) : Ideal.exp (x * (Real.log 2 : EReal) - M * (Real.log 2 : EReal)) = Ideal.exp2 (x - M) := by
  rw [← exp_mul_log_two, sub_eq_add_neg, sub_eq_add_neg, ← EReal.neg_mul,
    ← EReal.right_distrib_of_nonneg_of_ne_top (EReal.coe_nonneg.mpr (Real.log_nonneg (by norm_num))) (EReal.coe_ne_top _)]

theorem max_mul_log_two (a b : EReal) : max (a * (Real.log 2 : EReal)) (b * (Real.log 2 : EReal)) = max a b * (Real.log 2 : EReal) := by
  have hm : Monotone fun x : EReal => x * (Real.log 2 : EReal) := fun x y h => mul_le_mul_of_nonneg_right h (EReal.coe_nonneg.mpr (Real.log_nonneg (by norm_num)))
  exact (hm.map_max).symm

theorem sup_mul_log_two {ι : Type} [Fintype ι] (S : ι → EReal) : (Finset.univ.sup fun i => S i * (Real.log 2 : EReal)) = Finset.univ.sup S * (Real.log 2 : EReal) :=
  (Finset.comp_sup_eq_sup_comp (fun x : EReal => x * (Real.log 2 : EReal)) (fun x y => (max_mul_log_two x y).symm) (EReal.bot_mul_coe_of_pos (Real.log_pos (by norm_num)))).symm

/-- Two to the power of a score minus a real is a nonnegative real. -/
theorem exists_exp2 (x : EReal) (hx : x ≠ ⊤) (M : ℝ) : ∃ r : ℝ, 0 ≤ r ∧ Ideal.exp2 (x - (M : EReal)) = (r : EReal) := by
  induction x using EReal.rec with
  | bot => exact ⟨0, le_rfl, by rw [sub_eq_add_neg, EReal.bot_add]; rfl⟩
  | top => exact absurd rfl hx
  | coe x => exact ⟨_, Real.rpow_nonneg (by norm_num) _, exp2_sub x M⟩

theorem max_real {ι : Type} [Fintype ι] (S : ι → EReal) (σ : EReal) (hS : ∀ i, S i ≠ ⊤) (i0 : ι) (h0 : S i0 ≠ ⊥) (hσ : σ ≠ ⊤) : ∃ r : ℝ, max (Finset.univ.sup S) σ = (r : EReal) := by
  have ht : max (Finset.univ.sup S) σ ≠ ⊤ := by
    refine (max_lt ?_ (lt_top_iff_ne_top.mpr hσ)).ne
    exact (Finset.sup_lt_iff (by exact bot_lt_top)).mpr fun i _ => lt_top_iff_ne_top.mpr (hS i)
  have hb : max (Finset.univ.sup S) σ ≠ ⊥ := by
    refine (lt_of_lt_of_le (bot_lt_iff_ne_bot.mpr h0) ?_).ne'
    exact le_max_of_le_left (Finset.le_sup (f := S) (Finset.mem_univ i0))
  exact ⟨_, (EReal.coe_toReal ht hb).symm⟩

/-- The weighted sum times the reciprocal of the denominator is the sum of the quotients. -/
theorem quotient {ι : Type} [Fintype ι] (S w : ι → EReal) (σ : EReal) (hS : ∀ i, S i ≠ ⊤) (i0 : ι) (h0 : S i0 ≠ ⊥) (hσ : σ ≠ ⊤) (M : EReal) (hM : M = max (Finset.univ.sup S) σ) :
    (∑ i, Ideal.exp2 (S i - M) * w i) * Ideal.div 1 ((∑ i, Ideal.exp2 (S i - M)) + Ideal.exp2 (σ - M))
      = ∑ i, Ideal.div (Ideal.exp2 (S i - M)) ((∑ j, Ideal.exp2 (S j - M)) + Ideal.exp2 (σ - M)) * w i := by
  obtain ⟨m, hm⟩ := max_real S σ hS i0 h0 hσ
  rw [hm] at hM
  subst hM
  choose p hp0 hp using fun i => exists_exp2 (S i) (hS i) m
  obtain ⟨t, ht0, ht⟩ := exists_exp2 σ hσ m
  have hpos : 0 < p i0 := by
    have hr : ((S i0).toReal : EReal) = S i0 := EReal.coe_toReal (hS i0) h0
    have := hp i0
    rw [← hr, exp2_sub, EReal.coe_eq_coe_iff] at this
    rw [← this]
    exact Real.rpow_pos_of_pos (by norm_num) _
  have hD : 0 < (∑ i, p i) + t := add_pos_of_pos_of_nonneg (Finset.sum_pos' (fun i _ => hp0 i) ⟨i0, Finset.mem_univ _, hpos⟩) ht0
  have hden : (∑ i, Ideal.exp2 (S i - (m : EReal))) + Ideal.exp2 (σ - (m : EReal)) = (((∑ i, p i) + t : ℝ) : EReal) := by
    rw [ht, EReal.coe_add, coe_sum]
    exact congrArg (· + (t : EReal)) (Finset.sum_congr rfl fun i _ => hp i)
  rw [hden, Ideal.div_coe hD.ne', one_mul, mul_comm, coe_mul_sum _ _ (by positivity)]
  refine Finset.sum_congr rfl fun i _ => ?_
  rw [Ideal.div_coe hD.ne', ← mul_assoc]
  exact congrArg (· * w i) (mul_comm _ _)

/-! ### A block of keys and all keys -/

/-- The keys a query may look at. -/
def near (q n : ℕ) : Prop := q ≤ n + 128 ∧ n ≤ q + 128
/-- The positions of a block's 512 keys that its query at row `r` looks at: block `J` starts 128 keys before its first query. -/
def kept (J r κ : ℕ) : Prop := r ≤ κ ∧ κ ≤ r + 256 ∧ 128 ≤ J * 256 + κ ∧ J * 256 + κ < 8320

instance (q n : ℕ) : Decidable (near q n) := instDecidableAnd
instance (J r κ : ℕ) : Decidable (kept J r κ) := instDecidableAnd

theorem sum_block {J r : ℕ} (hJ : J < 32) (hr : r < 256) (g : ℕ → EReal) (b : Fin 512 → EReal)
    (hk : ∀ κ : Fin 512, kept J r κ.val → b κ = g (J * 256 + κ.val - 128)) (h0 : ∀ κ : Fin 512, ¬kept J r κ.val → b κ = 0) (hg : ∀ n < 8192, ¬near (J * 256 + r) n → g n = 0) :
    ∑ κ, b κ = ∑ n : Fin 8192, g n.val := by
  rw [← Finset.sum_filter_of_ne (s := Finset.univ) (f := b) (p := fun κ => kept J r κ.val) fun κ _ h => by by_contra hc; exact h (h0 κ hc)]
  refine Finset.sum_of_injOn (fun κ : Fin 512 => (⟨(J * 256 + κ.val - 128) % 8192, Nat.mod_lt _ (by omega)⟩ : Fin 8192)) ?_ ?_ ?_ ?_
  · intro x hx y hy h
    have hx : kept J r x.val := (Finset.mem_filter.mp (Finset.mem_coe.mp hx)).2
    have hy : kept J r y.val := (Finset.mem_filter.mp (Finset.mem_coe.mp hy)).2
    have h' : (J * 256 + x.val - 128) % 8192 = (J * 256 + y.val - 128) % 8192 := congrArg Fin.val h
    unfold kept at hx hy
    exact Fin.ext (by omega)
  · exact fun _ _ => Finset.mem_coe.mpr (Finset.mem_univ _)
  · intro n _ hn
    refine hg n.val n.isLt fun hc => hn ?_
    unfold near at hc
    have hnl := n.isLt
    refine ⟨⟨n.val + 128 - J * 256, by omega⟩, Finset.mem_coe.mpr (Finset.mem_filter.mpr ⟨Finset.mem_univ _, ?_⟩), Fin.ext ?_⟩
    · show kept J r (n.val + 128 - J * 256)
      unfold kept
      omega
    · show (J * 256 + (n.val + 128 - J * 256) - 128) % 8192 = n.val
      omega
  · intro κ hκ
    simp only [Finset.mem_filter, Finset.mem_univ, true_and] at hκ
    rw [hk κ hκ]
    unfold kept at hκ
    refine congrArg g ?_
    show _ = (J * 256 + κ.val - 128) % 8192
    omega

theorem sup_block {J r : ℕ} (hJ : J < 32) (hr : r < 256) (g : ℕ → EReal) (b : Fin 512 → EReal)
    (hk : ∀ κ : Fin 512, kept J r κ.val → b κ = g (J * 256 + κ.val - 128)) (h0 : ∀ κ : Fin 512, ¬kept J r κ.val → b κ = ⊥) (hg : ∀ n < 8192, ¬near (J * 256 + r) n → g n = ⊥) :
    Finset.univ.sup b = Finset.univ.sup fun n : Fin 8192 => g n.val := by
  apply le_antisymm
  · refine Finset.sup_le fun κ _ => ?_
    by_cases hc : kept J r κ.val
    · rw [hk κ hc]
      unfold kept at hc
      exact Finset.le_sup (f := fun n : Fin 8192 => g n.val) (Finset.mem_univ ⟨J * 256 + κ.val - 128, by omega⟩)
    · rw [h0 κ hc]; exact bot_le
  · refine Finset.sup_le fun n _ => ?_
    have hn := n.isLt
    by_cases hc : near (J * 256 + r) n.val
    · unfold near at hc
      have hκ : kept J r (n.val + 128 - J * 256) := by unfold kept; omega
      refine le_trans (le_of_eq ?_) (Finset.le_sup (f := b) (Finset.mem_univ ⟨n.val + 128 - J * 256, by omega⟩))
      rw [hk ⟨n.val + 128 - J * 256, by omega⟩ hκ]
      refine congrArg g ?_
      show n.val = J * 256 + (n.val + 128 - J * 256) - 128
      omega
    · rw [hg n.val hn hc]; exact bot_le

end Cert.Sink

end
-- ==== Proof.Window.lean ====
/- The attention over a window of keys: what a grid point's block leaves and what its reference leaves. -/
module
public import proofs.«01_k».proof.Proof.At2
public import proofs.«01_k».proof.Proof.Sink
public import proofs.«01_k».proof.Proof.Gen.Kernel12Ideal.Value
public import Idealize.ShloMosaic.Lib.Pipeline.ValueKit

@[expose] public section

noncomputable section

namespace Cert.Window

open Cert.Kernel12Ideal Cert.Kernel12Ideal.Gen Idealize.ShloMosaic.TcCoe Idealize.SL.Sem Idealize.ShloMosaic.ValueIdx Cert.Flash Cert.Sink
open Idealize.ShloMosaic hiding ix2 ix1 ix3 ix4

section Body
variable {F : FTy → Type} [FloatOps F]

/-- The scores of a head, minus infinity at the keys its query does not look at. -/
def scores (keep : IVec S256x512 1) (K : FVec F S512x128 .bf16) (q : Vec F S256x128 .bf16) : FVec F S256x512 .f32 :=
  select keep (matmul dot_S256x128_S512x128_S256x512_1_1_0_0_n_n none q K (constant S256x512 .f32 0x00000000#32)) (broadcast S256x512 (Scalar.ofBits (F := F) .f32 0xFF800000#32))

/-- The larger of a row's largest score and the sink. -/
def largest (S : FVec F S256x512 .f32) (s : FVec F S1x128 .f32) : FVec F S256x128 .f32 :=
  maximumf (broadcastTo S256x128 (shapeCast S256x1 (multiReduction .maximumf [1] S256 S 0xFF800000#32 reduces_S256x512_S256 (.inl rfl) rfl) shapeCasts_S256_S256x1) broadcasts_S256x1_S256x128)
    (broadcastTo S256x128 s broadcasts_S1x128_S256x128)

/-- Two to the power of score minus maximum. -/
def powers (S : FVec F S256x512 .f32) (M : FVec F S256x128 .f32) : FVec F S256x512 .f32 :=
  exp2 (subf S (concatenate S256x512 1 [⟨S256x128, M⟩, ⟨S256x128, M⟩, ⟨S256x128, M⟩, ⟨S256x128, M⟩] concatenates_S256x128_S256x128_S256x128_S256x128_S256x512_d1))

/-- The powers times the values, and beside them the powers' sums. -/
def weighted (V : FVec F S512x256 .bf16) (S : FVec F S256x512 .f32) (M : FVec F S256x128 .f32) : FVec F S256x256 .f32 :=
  matmul dot_S256x512_S512x256_S256x256_1_0_0_1_n_n none (truncf .bf16 (powers S M) bitsLt_bf16_f32) V (constant S256x256 .f32 0x00000000#32)

/-- A head's result from its scores. -/
def headOf (V : FVec F S512x256 .bf16) (S : FVec F S256x512 .f32) (s : FVec F S1x128 .f32) : FVec F S256x128 .f32 :=
  mulf (extractStridedSlice S256x128 ![0, 0] (weighted V S (largest S s)) slices_S256x256_o0_0_S256x128)
    (divf (broadcast S256x128 (Scalar.ofBits (F := F) .f32 0x3F800000#32))
      (addf (extractStridedSlice S256x128 ![0, 128] (weighted V S (largest S s)) slices_S256x256_o0_128_S256x128) (exp2 (subf (broadcastTo S256x128 s broadcasts_S1x128_S256x128) (largest S s)))))

/-- The lanes of the first of two heads, and the queries of one head with zeros in the other's lanes. -/
abbrev low : IVec S256x128 1 := k0_pay2
def firstQ (q : Vec F S256x128 .bf16) : Vec F S256x128 .bf16 := select low q (broadcast S256x128 (Scalar.ofBits (F := F) .bf16 0x0000#16))
def secondQ (q : Vec F S256x128 .bf16) : Vec F S256x128 .bf16 := select (xori low (constantI S256x128 1 1#1)) q (broadcast S256x128 (Scalar.ofBits (F := F) .bf16 0x0000#16))

variable [Named F]

/-- The sink of a head times the logarithm of e in base two. -/
def sinkOf (s : Vec F S1x128 .f32) : FVec F S1x128 .f32 :=
  mulf (shapeCast S1x128 s shapeCasts_S1x128_S1x128) (broadcast S1x128 (Named.named (F := F) Cert.Kernel12Ideal.κ "log2_e" (φ := .f32) 0x3FB8AA3B#32))

/-- Two heads side by side. -/
def pairOf (keep : IVec S256x512 1) (Ka Kb : FVec F S512x128 .bf16) (Va Vb : FVec F S512x256 .bf16) (q : Vec F S256x128 .bf16) (sa sb : Vec F S1x128 .f32) : FVec F S256x128 .bf16 :=
  truncf .bf16 (select low (headOf Va (scores keep Ka (firstQ q)) (sinkOf sa)) (headOf Vb (scores keep Kb (secondQ q)) (sinkOf sb))) bitsLt_bf16_f32

variable (i : grid0.Coords) (x0 : Vec F S256x512 .bf16) (x1 : Vec F S128x128 .bf16) (x2 : Vec F S256x128 .bf16) (x3 : Vec F S128x128 .bf16) (x4 : Vec F S128x128 .bf16) (x5 : Vec F S256x128 .bf16) (x6 : Vec F S128x128 .bf16) (x7 : Vec F S8x128 .f32)

/-- The block's keys, its values with ones beside them, and both with the two halves of the lanes exchanged. -/
abbrev keys : FVec F S512x128 .bf16 := k0_pay3 (View.ld x1 r0_0) (View.ld x2 r0_1) (View.ld x3 r0_0)
abbrev keysSwapped : FVec F S512x128 .bf16 := k0_pay8 (keys x1 x2 x3)
abbrev vals : FVec F S512x256 .bf16 := k0_pay6 (k0_pay4 (View.ld x4 r0_0) (View.ld x5 r0_1) (View.ld x6 r0_0)) (Scalar.ofBits (F := F) .bf16 0x3F80#16)
abbrev valsSwapped : FVec F S512x256 .bf16 := k0_pay7 (k0_pay4 (View.ld x4 r0_0) (View.ld x5 r0_1) (View.ld x6 r0_0)) (Scalar.ofBits (F := F) .bf16 0x3F80#16)

/-- A point's four stores are four pairs of heads. -/
theorem out_eq : out0_8 i x0 x1 x2 x3 x4 x5 x6 x7 = View.canon
    [⟨r0_5, pairOf (k0_pay1 i) (keysSwapped x1 x2 x3) (keys x1 x2 x3) (valsSwapped x4 x5 x6) (vals x4 x5 x6) (View.ld x0 r0_5) (View.ld x7 r0_12) (View.ld x7 r0_13)⟩,
     ⟨r0_4, pairOf (k0_pay1 i) (keysSwapped x1 x2 x3) (keys x1 x2 x3) (valsSwapped x4 x5 x6) (vals x4 x5 x6) (View.ld x0 r0_4) (View.ld x7 r0_10) (View.ld x7 r0_11)⟩,
     ⟨r0_3, pairOf (k0_pay1 i) (keys x1 x2 x3) (keysSwapped x1 x2 x3) (vals x4 x5 x6) (valsSwapped x4 x5 x6) (View.ld x0 r0_3) (View.ld x7 r0_8) (View.ld x7 r0_9)⟩,
     ⟨r0_2, pairOf (k0_pay1 i) (keys x1 x2 x3) (keysSwapped x1 x2 x3) (vals x4 x5 x6) (valsSwapped x4 x5 x6) (View.ld x0 r0_2) (View.ld x7 r0_6) (View.ld x7 r0_7)⟩] := by
  unfold_out out0_8
  rfl

end Body

end Cert.Window

end
-- ==== Proof.Words.lean ====
/- The 32-bit words of the window's masks: what the comparisons say about the naturals the words stand for. -/
module
public import proofs.«01_k».proof.Proof.Sink
public import Idealize.ShloMosaic.Lib.ValueIdx

@[expose] public section

noncomputable section

namespace Cert.Words

open Idealize.ShloMosaic Cert.Sink

theorem toInt_of (n : ℕ) (h : n < 65536) : (BitVec.ofNat 32 n).toInt = n := by
  rw [BitVec.toInt_eq_toNat_cond, BitVec.toNat_ofNat, Nat.mod_eq_of_lt (by omega)]
  rw [if_pos (by omega)]

theorem bmod_of (x : ℤ) (h : x.natAbs < 2097152) : x.bmod (2 ^ 32) = x := by
  rw [Int.bmod_def]
  norm_num
  split <;> omega

theorem toInt_sub_of (x y : BitVec 32) (hx : x.toInt.natAbs < 1048576) (hy : y.toInt.natAbs < 1048576) : (x - y).toInt = x.toInt - y.toInt := by
  rw [BitVec.toInt_sub]
  exact bmod_of _ (by omega)

theorem sge_iff (x y : BitVec 32) : IntOp.cmpi .sge x y = 1#1 ↔ y.toInt ≤ x.toInt := by
  show BitVec.ofBool (y.sle x) = 1#1 ↔ _
  rw [BitVec.sle_eq_decide]
  by_cases h : y.toInt ≤ x.toInt <;> simp [h]
theorem sle_iff (x y : BitVec 32) : IntOp.cmpi .sle x y = 1#1 ↔ x.toInt ≤ y.toInt := by
  show BitVec.ofBool (x.sle y) = 1#1 ↔ _
  rw [BitVec.sle_eq_decide]
  by_cases h : x.toInt ≤ y.toInt <;> simp [h]
theorem slt_iff (x y : BitVec 32) : IntOp.cmpi .slt x y = 1#1 ↔ x.toInt < y.toInt := by
  show BitVec.ofBool (x.slt y) = 1#1 ↔ _
  rw [BitVec.slt_eq_decide]
  by_cases h : x.toInt < y.toInt <;> simp [h]
theorem andi_iff (a b : BitVec 1) : IntOp.andi a b = 1#1 ↔ a = 1#1 ∧ b = 1#1 := by
  revert a b
  decide

/-- A block's mask says which positions are kept. -/
theorem kept_iff (J r κ : ℕ) (hJ : J < 32) (hr : r < 256) (hκ : κ < 512) :
    IntOp.andi (IntOp.andi (IntOp.andi (IntOp.cmpi .sge (IntOp.subi (IntOp.subi (BitVec.ofNat 32 κ) 128#32) (BitVec.ofNat 32 r)) 4294967168#32)
        (IntOp.cmpi .sle (IntOp.subi (IntOp.subi (BitVec.ofNat 32 κ) 128#32) (BitVec.ofNat 32 r)) 128#32))
        (IntOp.cmpi .sge (BitVec.ofNat 32 κ) (Scalar.select (IntOp.cmpi .sgt (BitVec.ofNat 32 J) 0#32) 0#32 128#32)))
        (IntOp.cmpi .slt (BitVec.ofNat 32 κ) (Scalar.select (IntOp.cmpi .slt (BitVec.ofNat 32 J) 31#32) 512#32 384#32)) = 1#1 ↔ kept J r κ := by
  have h1 : (IntOp.subi (IntOp.subi (BitVec.ofNat 32 κ) 128#32) (BitVec.ofNat 32 r)).toInt = (κ : ℤ) - 128 - r := by
    have e1 := toInt_of κ (by omega)
    have e2 := toInt_of r (by omega)
    have e3 : (128#32).toInt = 128 := by decide
    have e4 : (BitVec.ofNat 32 κ - 128#32).toInt = (κ : ℤ) - 128 := by rw [toInt_sub_of _ _ (by omega) (by omega), e1, e3]
    show (BitVec.ofNat 32 κ - 128#32 - BitVec.ofNat 32 r).toInt = _
    rw [toInt_sub_of _ _ (by omega) (by omega), e4, e2]
  have h2 : (Scalar.select (IntOp.cmpi .sgt (BitVec.ofNat 32 J) 0#32) 0#32 128#32).toInt = if J = 0 then 128 else 0 := by
    have : ∀ J : Fin 32, (Scalar.select (IntOp.cmpi .sgt (BitVec.ofNat 32 J.val) 0#32) 0#32 128#32).toInt = if J.val = 0 then 128 else 0 := by decide
    exact this ⟨J, hJ⟩
  have h3 : (Scalar.select (IntOp.cmpi .slt (BitVec.ofNat 32 J) 31#32) 512#32 384#32).toInt = if J = 31 then 384 else 512 := by
    have : ∀ J : Fin 32, (Scalar.select (IntOp.cmpi .slt (BitVec.ofNat 32 J.val) 31#32) 512#32 384#32).toInt = if J.val = 31 then 384 else 512 := by decide
    exact this ⟨J, hJ⟩
  have h4 : (4294967168#32).toInt = -128 := by decide
  have h5 : (128#32).toInt = 128 := by decide
  rw [andi_iff, andi_iff, andi_iff, sge_iff, sle_iff, sge_iff, slt_iff, h1, h2, h3, h4, h5, toInt_of κ (by omega)]
  unfold kept
  split <;> split <;> omega

/-- The reference's mask says which keys are near. -/
theorem near_iff (q n : ℕ) (hq : q < 8192) (hn : n < 8192) :
    IntOp.cmpi .sle (IntOp.absi (IntOp.subi (BitVec.ofNat 32 n) (BitVec.ofNat 32 q))) 128#32 = 1#1 ↔ near q n := by
  have e1 := toInt_of n (by omega)
  have e2 := toInt_of q (by omega)
  have h1 : (BitVec.ofNat 32 n - BitVec.ofNat 32 q).toInt = (n : ℤ) - q := by rw [toInt_sub_of _ _ (by omega) (by omega), e1, e2]
  have h2 : (128#32).toInt = 128 := by decide
  rw [sle_iff, h2]
  unfold near IntOp.absi
  show (if (BitVec.ofNat 32 n - BitVec.ofNat 32 q).msb = true then -(BitVec.ofNat 32 n - BitVec.ofNat 32 q) else (BitVec.ofNat 32 n - BitVec.ofNat 32 q)).toInt ≤ 128 ↔ _
  rw [BitVec.msb_eq_toInt]
  split
  · rename_i hm
    rw [BitVec.toInt_neg, h1]
    rw [h1] at hm
    have := of_decide_eq_true hm
    rw [bmod_of _ (by omega)]
    omega
  · rename_i hm
    rw [h1] at hm
    have := of_decide_eq_false (Bool.eq_false_iff.mpr hm)
    rw [h1]
    omega

end Cert.Words

end
-- ==== Proof.WindowValue.lean ====
/- The attention over a window of keys: what a grid point's block leaves. -/
module
public import proofs.«01_k».proof.Proof.Window
public import proofs.«01_k».proof.Proof.Words
public import proofs.«01_k».proof.Proof.Rope

@[expose] public section

noncomputable section

namespace Cert.Window

open Cert.Kernel12Ideal Cert.Kernel12Ideal.Gen Idealize.ShloMosaic.TcCoe Idealize.SL.Sem Idealize.ShloMosaic.ValueIdx Cert.Flash Cert.Sink
open Idealize.ShloMosaic hiding ix2 ix1 ix3 ix4

abbrev dQK := dot_S256x128_S512x128_S256x512_1_1_0_0_n_n
abbrev dPV := dot_S256x512_S512x256_S256x256_1_0_0_1_n_n

theorem qk_lhs (i : S256x512.Idx) (k : Fin 128) : dQK.lhsIdx i ((contrEquiv1 dQK 128 rfl rfl).symm k) = (ix2 (i 0) k : S256x128.Idx) := by
  have hk := contrEquiv1_symm_val dQK 128 rfl rfl k
  funext b; apply Fin.ext
  match b with
  | ⟨0, _⟩ =>
    show (dQK.lhsIdx i _ 0).val = (i 0).val
    unfold DotDims.lhsIdx
    rw [dif_neg (show (0 : Fin S256x128.rank) ∉ dQK.lhsBatch by decide), dif_pos (show (0 : Fin S256x128.rank) ∈ dQK.lhsNonContracting by decide)]
    rfl
  | ⟨1, _⟩ => exact (dQK.lhsIdx_val_of_single rfl i _).trans hk

theorem qk_rhs (i : S256x512.Idx) (k : Fin 128) : dQK.rhsIdx i ((contrEquiv1 dQK 128 rfl rfl).symm k) = (ix2 (i 1) k : S512x128.Idx) := by
  have hk := contrEquiv1_symm_val dQK 128 rfl rfl k
  funext b; apply Fin.ext
  match b with
  | ⟨0, _⟩ =>
    show (dQK.rhsIdx i _ 0).val = (i 1).val
    unfold DotDims.rhsIdx
    rw [dif_neg (show (0 : Fin S512x128.rank) ∉ dQK.rhsBatch by decide), dif_pos (show (0 : Fin S512x128.rank) ∈ dQK.rhsNonContracting by decide)]
    rfl
  | ⟨1, _⟩ => exact (dQK.rhsIdx_val_of_single rfl i _).trans hk

theorem pv_lhs (i : S256x256.Idx) (k : Fin 512) : dPV.lhsIdx i ((contrEquiv1 dPV 512 rfl rfl).symm k) = (ix2 (i 0) k : S256x512.Idx) := by
  have hk := contrEquiv1_symm_val dPV 512 rfl rfl k
  funext b; apply Fin.ext
  match b with
  | ⟨0, _⟩ =>
    show (dPV.lhsIdx i _ 0).val = (i 0).val
    unfold DotDims.lhsIdx
    rw [dif_neg (show (0 : Fin S256x512.rank) ∉ dPV.lhsBatch by decide), dif_pos (show (0 : Fin S256x512.rank) ∈ dPV.lhsNonContracting by decide)]
    rfl
  | ⟨1, _⟩ => exact (dPV.lhsIdx_val_of_single rfl i _).trans hk

theorem pv_rhs (i : S256x256.Idx) (k : Fin 512) : dPV.rhsIdx i ((contrEquiv1 dPV 512 rfl rfl).symm k) = (ix2 k (i 1) : S512x256.Idx) := by
  have hk := contrEquiv1_symm_val dPV 512 rfl rfl k
  funext b; apply Fin.ext
  match b with
  | ⟨0, _⟩ => exact (dPV.rhsIdx_val_of_single rfl i _).trans hk
  | ⟨1, _⟩ =>
    show (dPV.rhsIdx i _ 1).val = (i 1).val
    unfold DotDims.rhsIdx
    rw [dif_neg (show (1 : Fin S512x256.rank) ∉ dPV.rhsBatch by decide), dif_pos (show (1 : Fin S512x256.rank) ∈ dPV.rhsNonContracting by decide)]
    rfl

theorem bot_bits : (FloatOps.ofBits (F := Ideal) .f32 0xFF800000#32 : EReal) = ⊥ := by simp [FloatOps.ofBits, Ideal.ofBits, Ideal.ieee]
theorem one_bits : (FloatOps.ofBits (F := Ideal) .f32 0x3F800000#32 : EReal) = 1 := by
  simp [FloatOps.ofBits, Ideal.ofBits, Ideal.ieee]
  rw [← EReal.coe_one, ← EReal.coe_mul]
  norm_num
theorem one_bits_narrow : (FloatOps.ofBits (F := Ideal) .bf16 0x3F80#16 : EReal) = 1 := by
  simp [FloatOps.ofBits, Ideal.ofBits, Ideal.ieee]
  rw [← EReal.coe_one, ← EReal.coe_mul]
  norm_num
theorem zero_bits_narrow : (FloatOps.ofBits (F := Ideal) .bf16 0x0000#16 : EReal) = 0 := by simp [FloatOps.ofBits, Ideal.ofBits, Ideal.ieee]

/-! ### One head -/

section Head
variable (K : FVec Ideal S512x128 .bf16) (V : FVec Ideal S512x256 .bf16) (q : Vec Ideal S256x128 .bf16) (S : FVec Ideal S256x512 .f32) (s : FVec Ideal S1x128 .f32) (M : FVec Ideal S256x128 .f32)

theorem keep_iff (i : grid0.Coords) (r : Fin 256) (κ : Fin 512) : k0_pay1 i (ix2 r κ) = 1#1 ↔ kept (i 2).val r.val κ.val := by
  refine Iff.trans (Eq.congr_left ?_) (Words.kept_iff (i 2).val r.val κ.val (i 2).isLt r.isLt κ.isLt)
  have e1 : iota .tc S256x512 32 [0] iota_S256x512_d0_w32 (ix2 r κ) = BitVec.ofNat 32 r.val := congrArg (BitVec.ofNat 32) (by show 0 * 256 + r.val = _; omega)
  have e2 : iota .tc S256x512 32 [1] iota_S256x512_d1_w32 (ix2 r κ) = BitVec.ofNat 32 κ.val := congrArg (BitVec.ofNat 32) (by show 0 * 512 + κ.val = _; omega)
  rw [← e1, ← e2]
  rfl

theorem scores_apply (keep : IVec S256x512 1) (r : Fin 256) (κ : Fin 512) :
    scores (F := Ideal) keep K q (ix2 r κ) = if keep (ix2 r κ) = 1#1 then ∑ d : Fin 128, q (ix2 r d) * K (ix2 κ d) else ⊥ := by
  unfold scores
  rw [select_apply]
  refine (congrArg₂ (Scalar.select (keep (ix2 r κ))) ?_ bot_bits : _ = Scalar.select (keep (ix2 r κ)) (∑ d : Fin 128, q (ix2 r d) * K (ix2 κ d)) ⊥).trans ?_
  · simp only [matmul]
    rw [Ideal.matmul_constant_zero_apply, ← Equiv.sum_comp (contrEquiv1 dQK 128 rfl rfl).symm]
    refine Finset.sum_congr rfl fun k _ => ?_
    rw [qk_lhs, qk_rhs]
  · rfl

theorem largest_apply (r : Fin 256) (l : Fin 128) :
    largest (F := Ideal) S s (ix2 r l) = max (Finset.univ.sup fun κ : Fin 512 => S (ix2 r κ)) (s (ix2 (0 : Fin 1) l)) := by
  unfold largest
  rw [maximumf_apply]
  rw [broadcastTo_apply _ _ (ix2 r l) (ix2 r (0 : Fin 1)) (fun b => by match b with | ⟨0, _⟩ => rfl | ⟨1, _⟩ => rfl),
    broadcastTo_apply s _ (ix2 r l) (ix2 (0 : Fin 1) l) (fun b => by match b with | ⟨0, _⟩ => rfl | ⟨1, _⟩ => rfl)]
  refine congrArg (fun x : EReal => max x (s (ix2 (0 : Fin 1) l))) ?_
  rw [shapeCast_apply _ _ (ix2 r (0 : Fin 1)) (ix1 r) (by rw [Shape.rowMajor_val_two, Shape.rowMajor_val_one]; simp)]
  refine (Ideal.multiReduction_maximumf_single S _ reduces_S256x512_S256 (.inl rfl) rfl (ix1 r)).trans ?_
  refine congrArg₂ (fun b f => (Finset.univ : Finset (Fin 512)).fold max b f) bot_bits (funext fun s => congrArg S (funext fun b => ?_))
  match b with
  | ⟨0, _⟩ => rfl
  | ⟨1, _⟩ => rfl

theorem powers_apply (r : Fin 256) (κ : Fin 512) :
    powers (F := Ideal) S M (ix2 r κ) = Ideal.exp2 (S (ix2 r κ) - M (ix2 r ⟨κ.val % 128, Nat.mod_lt _ (by decide)⟩)) := by
  unfold powers
  show Ideal.exp2 (_ - _) = _
  congr 2
  exact concatenate_replicate_apply (t := S256x512) 1 4 M concatenates_S256x128_S256x128_S256x128_S256x128_S256x512_d1 rfl (ix2 r κ) (ix2 r ⟨κ.val % 128, Nat.mod_lt _ (by decide)⟩) rfl
    (fun b hb => by match b with | ⟨0, _⟩ => rfl | ⟨1, _⟩ => exact absurd rfl hb)

theorem weighted_apply (r : Fin 256) (c : Fin 256) :
    weighted (F := Ideal) V S M (ix2 r c) = ∑ κ : Fin 512, powers (F := Ideal) S M (ix2 r κ) * V (ix2 κ c) := by
  unfold weighted
  generalize powers (F := Ideal) S M = P
  simp only [matmul]
  rw [Ideal.matmul_constant_zero_apply, ← Equiv.sum_comp (contrEquiv1 dPV 512 rfl rfl).symm]
  refine Finset.sum_congr rfl fun k _ => ?_
  rw [pv_lhs, pv_rhs]
  rfl

end Head

/-- The scores of the keys a query looks at, minus infinity at the others. -/
def win (q : ℕ) (sc : ℕ → EReal) (n : ℕ) : EReal := if near q n then sc n else ⊥
/-- The largest of them and of the sink. -/
def most (q : ℕ) (sc : ℕ → EReal) (σ : EReal) : EReal := max (Finset.univ.sup fun n : Fin 8192 => win q sc n.val) σ
/-- The values weighted over the keys a query looks at. -/
def attend (q : ℕ) (sc v : ℕ → EReal) (σ : EReal) : EReal :=
  (∑ n : Fin 8192, Ideal.exp2 (win q sc n.val - most q sc σ) * v n.val)
    * Ideal.div 1 ((∑ n : Fin 8192, Ideal.exp2 (win q sc n.val - most q sc σ)) + Ideal.exp2 (σ - most q sc σ))

theorem exp2_bot_sub (M : EReal) : Ideal.exp2 (⊥ - M) = 0 := by
  rw [sub_eq_add_neg, EReal.bot_add]; rfl

/-- One head of one row of a block. -/
theorem headOf_apply {V : FVec Ideal S512x256 .bf16} {S : FVec Ideal S256x512 .f32} {s : FVec Ideal S1x128 .f32} {J : ℕ} (hJ : J < 32) (r : Fin 256) (l : Fin 128) (sc v : ℕ → EReal) (σ : EReal)
    (hS : ∀ κ : Fin 512, S (ix2 r κ) = if kept J r.val κ.val then sc (J * 256 + κ.val - 128) else ⊥)
    (hv : ∀ κ : Fin 512, kept J r.val κ.val → V (ix2 κ ⟨l.val, by omega⟩) = v (J * 256 + κ.val - 128))
    (hone : ∀ κ : Fin 512, V (ix2 κ ⟨128 + l.val, by omega⟩) = 1) (hs : ∀ d : Fin 128, s (ix2 (0 : Fin 1) d) = σ) :
    headOf (F := Ideal) V S s (ix2 r l) = attend (J * 256 + r.val) sc v σ := by
  have hkn : ∀ κ : Fin 512, kept J r.val κ.val → near (J * 256 + r.val) (J * 256 + κ.val - 128) := fun κ h => by
    unfold kept at h
    unfold near
    omega
  have hM : ∀ d : Fin 128, largest (F := Ideal) S s (ix2 r d) = most (J * 256 + r.val) sc σ := fun d => by
    rw [largest_apply, hs]
    refine congrArg (fun x : EReal => max x σ) (sup_block hJ r.isLt (win (J * 256 + r.val) sc) _ (fun κ h => ?_) (fun κ h => ?_) fun n _ h => if_neg h)
    · rw [hS, if_pos h, win, if_pos (hkn κ h)]
    · rw [hS, if_neg h]
  have hP : ∀ κ : Fin 512, powers (F := Ideal) S (largest (F := Ideal) S s) (ix2 r κ) = Ideal.exp2 (S (ix2 r κ) - most (J * 256 + r.val) sc σ) := fun κ => by rw [powers_apply, hM]
  have hsum : ∀ (c : Fin 256) (w : ℕ → EReal), (∀ κ : Fin 512, kept J r.val κ.val → V (ix2 κ c) = w (J * 256 + κ.val - 128)) →
      weighted (F := Ideal) V S (largest (F := Ideal) S s) (ix2 r c) = ∑ n : Fin 8192, Ideal.exp2 (win (J * 256 + r.val) sc n.val - most (J * 256 + r.val) sc σ) * w n.val := fun c w hw => by
    rw [weighted_apply]
    refine sum_block hJ r.isLt (fun n => Ideal.exp2 (win (J * 256 + r.val) sc n - most (J * 256 + r.val) sc σ) * w n) _ (fun κ h => ?_) (fun κ h => ?_) fun n _ h => ?_
    · rw [hP, hw κ h, hS, if_pos h, win, if_pos (hkn κ h)]
    · rw [hP, hS, if_neg h, exp2_bot_sub, zero_mul]
    · show Ideal.exp2 (win _ sc n - _) * w n = 0
      rw [win, if_neg h, exp2_bot_sub, zero_mul]
  unfold headOf attend
  rw [mulf_apply]
  refine congrArg₂ (fun a b : EReal => a * b) ?_ ?_
  · refine (extractStridedSlice_apply _ _ slices_S256x256_o0_0_S256x128 (ix2 r l) (ix2 r ⟨l.val, by omega⟩) (fun b => ?_)).trans (hsum _ v hv)
    match b with
    | ⟨0, _⟩ => exact (Nat.zero_add _).symm
    | ⟨1, _⟩ => exact (Nat.zero_add _).symm
  · show Ideal.div _ (_ + Ideal.exp2 (_ - _)) = _
    rw [hM]
    refine congrArg₂ Ideal.div one_bits (congrArg₂ (fun a b : EReal => a + b) ?_ ?_)
    · refine (extractStridedSlice_apply _ _ slices_S256x256_o0_128_S256x128 (ix2 r l) (ix2 r ⟨128 + l.val, by omega⟩) (fun b => ?_)).trans ((hsum _ (fun _ => 1) fun κ _ => hone κ).trans ?_)
      · match b with
        | ⟨0, _⟩ => exact (Nat.zero_add _).symm
        | ⟨1, _⟩ => rfl
      · simp only [mul_one]
    · rw [broadcastTo_apply s _ (ix2 r l) (ix2 (0 : Fin 1) l) (fun b => by match b with | ⟨0, _⟩ => rfl | ⟨1, _⟩ => rfl), hs]

end Cert.Window

end
-- ==== Proof.WindowCall.lean ====
/- The attention over a window of keys: the blocks, the four stores of a grid point and the whole result. -/
module
public import proofs.«01_k».proof.Proof.WindowValue

@[expose] public section

noncomputable section

namespace Cert.Window

open Cert.Kernel12Ideal Cert.Kernel12Ideal.Gen Idealize.ShloMosaic.TcCoe Idealize.SL.Sem Idealize.ShloMosaic.ValueIdx Cert.Flash Cert.Sink Cert.Rope
open Idealize.ShloMosaic hiding ix2 ix1 ix3 ix4

/-! ### Lanes -/

theorem low_apply (r : Fin 256) (l : Fin 128) : low (ix2 r l) = if l.val < 64 then 1#1 else 0#1 := by
  have e : iota .tc S256x128 32 [1] iota_S256x128_d1_w32 (ix2 r l) = BitVec.ofNat 32 l.val := congrArg (BitVec.ofNat 32) (by show 0 * 128 + l.val = _; omega)
  have h : ∀ l : Fin 128, IntOp.cmpi .eq (IntOp.andi (BitVec.ofNat 32 l.val) 64#32) 0#32 = if l.val < 64 then 1#1 else 0#1 := by decide
  refine Eq.trans ?_ (h l)
  rw [← e]
  rfl

theorem firstQ_apply (q : Vec Ideal S256x128 .bf16) (r : Fin 256) (l : Fin 128) : firstQ (F := Ideal) q (ix2 r l) = if l.val < 64 then q (ix2 r l) else (0 : EReal) := by
  unfold firstQ
  rw [select_apply, low_apply]
  refine (congrArg (Scalar.select _ _) zero_bits_narrow : _ = Scalar.select (if l.val < 64 then 1#1 else 0#1) (q (ix2 r l)) (0 : EReal)).trans ?_
  split <;> rfl

theorem secondQ_apply (q : Vec Ideal S256x128 .bf16) (r : Fin 256) (l : Fin 128) : secondQ (F := Ideal) q (ix2 r l) = if l.val < 64 then (0 : EReal) else q (ix2 r l) := by
  unfold secondQ
  rw [select_apply]
  refine (congrArg₂ (fun a b => Scalar.select a (q (ix2 r l)) b) (congrArg (fun b => IntOp.xori b 1#1) (low_apply r l)) zero_bits_narrow : _ = Scalar.select (IntOp.xori (if l.val < 64 then 1#1 else 0#1) 1#1) (q (ix2 r l)) (0 : EReal)).trans ?_
  split <;> rfl

theorem sum_halves (f : Fin 128 → EReal) : ∑ d, f d = (∑ d : Fin 64, f ⟨d.val, by omega⟩) + ∑ d : Fin 64, f ⟨64 + d.val, by omega⟩ :=
  Fin.sum_univ_add (a := 64) (b := 64) f

theorem first_dot (q : Vec Ideal S256x128 .bf16) (K : FVec Ideal S512x128 .bf16) (r : Fin 256) (κ : Fin 512) :
    ∑ d : Fin 128, firstQ (F := Ideal) q (ix2 r d) * K (ix2 κ d) = ∑ d : Fin 64, q (ix2 r ⟨d.val, by omega⟩) * K (ix2 κ ⟨d.val, by omega⟩) := by
  rw [sum_halves, Finset.sum_eq_zero (s := Finset.univ) (f := fun d : Fin 64 => firstQ (F := Ideal) q (ix2 r ⟨64 + d.val, _⟩) * K (ix2 κ ⟨64 + d.val, _⟩)), add_zero]
  · refine Finset.sum_congr rfl fun d _ => ?_
    rw [firstQ_apply, if_pos d.isLt]
  · intro d _
    rw [firstQ_apply, if_neg (by show ¬ 64 + d.val < 64; omega), zero_mul]

theorem second_dot (q : Vec Ideal S256x128 .bf16) (K : FVec Ideal S512x128 .bf16) (r : Fin 256) (κ : Fin 512) :
    ∑ d : Fin 128, secondQ (F := Ideal) q (ix2 r d) * K (ix2 κ d) = ∑ d : Fin 64, q (ix2 r ⟨64 + d.val, by omega⟩) * K (ix2 κ ⟨64 + d.val, by omega⟩) := by
  rw [sum_halves, Finset.sum_eq_zero (s := Finset.univ) (f := fun d : Fin 64 => secondQ (F := Ideal) q (ix2 r ⟨d.val, _⟩) * K (ix2 κ ⟨d.val, _⟩)), zero_add]
  · refine Finset.sum_congr rfl fun d _ => ?_
    rw [secondQ_apply, if_neg (by show ¬ 64 + d.val < 64; omega)]
  · intro d _
    rw [secondQ_apply, if_pos d.isLt, zero_mul]

theorem pairOf_apply (keep : IVec S256x512 1) (Ka Kb : FVec Ideal S512x128 .bf16) (Va Vb : FVec Ideal S512x256 .bf16) (q : Vec Ideal S256x128 .bf16) (sa sb : Vec Ideal S1x128 .f32) (r : Fin 256) (l : Fin 128) :
    pairOf (F := Ideal) keep Ka Kb Va Vb q sa sb (ix2 r l) = if l.val < 64 then headOf (F := Ideal) Va (scores (F := Ideal) keep Ka (firstQ (F := Ideal) q)) (sinkOf (F := Ideal) sa) (ix2 r l) else headOf (F := Ideal) Vb (scores (F := Ideal) keep Kb (secondQ (F := Ideal) q)) (sinkOf (F := Ideal) sb) (ix2 r l) := by
  unfold pairOf
  rw [truncf_apply, select_apply, low_apply]
  split <;> rfl

/-! ### What a block holds -/

/-- A piece of an array of two axes. -/
theorem load {e : EltTy} {h m n k : ℕ} (x : (⟨2, ![h, n]⟩ : Shape).Idx → Elt Ideal e) (o p : ℕ) (hi : ∀ a, (![o, p] : Fin 2 → ℕ) a + (⟨2, ![m, k]⟩ : Shape).size a ≤ (⟨2, ![h, n]⟩ : Shape).size a)
    (r : Fin m) (j : Fin k) (R : Fin h) (C : Fin n) (hR : R.val = o + r.val) (hC : C.val = p + j.val) : View.ld x (Rect.unit (s := ⟨2, ![h, n]⟩) ![o, p] (⟨2, ![m, k]⟩ : Shape).size hi) (ix2 r j) = x (ix2 R C) :=
  View.ld_unit_apply_of x _ _ hi _ _ fun a => by
    match a with
    | ⟨0, _⟩ => exact hR
    | ⟨1, _⟩ => exact hC

/-- Three blocks of rows hold the 512 rows around block `J`, those there are. -/
structure Rows (a c : Vec Ideal S128x128 .bf16) (b : Vec Ideal S256x128 .bf16) (g : ℕ → ℕ → EReal) (J : ℕ) : Prop where
  before : 0 < J → ∀ (r : Fin 128) (d : Fin 128), a (ix2 r d) = g (J * 256 + r.val - 128) d.val
  inside : ∀ (r : Fin 256) (d : Fin 128), b (ix2 r d) = g (J * 256 + r.val) d.val
  after : J < 31 → ∀ (r : Fin 128) (d : Fin 128), c (ix2 r d) = g (J * 256 + 256 + r.val) d.val

section Joined
variable {a c : Vec Ideal S128x128 .bf16} {b : Vec Ideal S256x128 .bf16} {g : ℕ → ℕ → EReal} {J : ℕ} (hold : Rows a c b g J)
include hold

theorem joined_apply (κ : Fin 512) (d : Fin 128) (h1 : 128 ≤ J * 256 + κ.val) (h2 : J * 256 + κ.val < 8320) :
    concatenate S512x128 0 [⟨S128x128, View.ld a r0_0⟩, ⟨S256x128, View.ld b r0_1⟩, ⟨S128x128, View.ld c r0_0⟩] concatenates_S128x128_S256x128_S128x128_S512x128_d0 (ix2 κ d) = g (J * 256 + κ.val - 128) d.val := by
  have hκ := κ.isLt
  by_cases ha : κ.val < 128
  · refine (concatenate_apply_piece (t := S512x128) (0 : Fin 2) _ _ (ix2 κ d) 0 (by simp) S128x128 (View.ld a r0_0) rfl rfl 0 rfl (ix2 (⟨κ.val, ha⟩ : Fin 128) d) (fun x hx => ?_) (Nat.zero_add _)).trans ?_
    · match x with
      | ⟨0, _⟩ => exact absurd rfl hx
      | ⟨1, _⟩ => rfl
    · exact (load (m := 128) (k := 128) a 0 0 _ _ _ (⟨κ.val, ha⟩ : Fin 128) d (Nat.zero_add _).symm (Nat.zero_add _).symm).trans (hold.before (by omega) _ _)
  by_cases hb : κ.val < 384
  · refine (concatenate_apply_piece (t := S512x128) (0 : Fin 2) _ _ (ix2 κ d) 1 (by simp) S256x128 (View.ld b r0_1) rfl rfl 128 rfl (ix2 (⟨κ.val - 128, by omega⟩ : Fin 256) d) (fun x hx => ?_) (by show 128 + (κ.val - 128) = κ.val; omega)).trans ?_
    · match x with
      | ⟨0, _⟩ => exact absurd rfl hx
      | ⟨1, _⟩ => rfl
    · refine (load (m := 256) (k := 128) b 0 0 _ _ _ (⟨κ.val - 128, by omega⟩ : Fin 256) d (Nat.zero_add _).symm (Nat.zero_add _).symm).trans ((hold.inside _ _).trans (congrArg (fun n => g n d.val) ?_))
      show J * 256 + (κ.val - 128) = J * 256 + κ.val - 128
      omega
  · refine (concatenate_apply_piece (t := S512x128) (0 : Fin 2) _ _ (ix2 κ d) 2 (by simp) S128x128 (View.ld c r0_0) rfl rfl 384 rfl (ix2 (⟨κ.val - 384, by omega⟩ : Fin 128) d) (fun x hx => ?_) (by show 384 + (κ.val - 384) = κ.val; omega)).trans ?_
    · match x with
      | ⟨0, _⟩ => exact absurd rfl hx
      | ⟨1, _⟩ => rfl
    · refine (load (m := 128) (k := 128) c 0 0 _ _ _ (⟨κ.val - 384, by omega⟩ : Fin 128) d (Nat.zero_add _).symm (Nat.zero_add _).symm).trans ((hold.after (by omega) _ _).trans (congrArg (fun n => g n d.val) ?_))
      show J * 256 + 256 + (κ.val - 384) = J * 256 + κ.val - 128
      omega
end Joined

/-- The two halves of the lanes exchanged. -/
theorem swapped_apply (A : FVec Ideal S512x128 .bf16) (κ : Fin 512) (d : Fin 128) :
    concatenate S512x128 1 [⟨S512x64, extractStridedSlice S512x64 ![0, 64] A slices_S512x128_o0_64_S512x64⟩, ⟨S512x64, extractStridedSlice S512x64 ![0, 0] A slices_S512x128_o0_0_S512x64⟩] concatenates_S512x64_S512x64_S512x128_d1 (ix2 κ d)
      = A (ix2 κ ⟨(64 + d.val) % 128, Nat.mod_lt _ (by decide)⟩) := by
  have hd := d.isLt
  by_cases h : d.val < 64
  · refine (concatenate_pair_apply_left (t := S512x128) (1 : Fin 2) _ _ concatenates_S512x64_S512x64_S512x128_d1 _ rfl (ix2 κ (⟨d.val, h⟩ : Fin 64)) fun a => ?_).trans ?_
    · match a with
      | ⟨0, _⟩ => rfl
      | ⟨1, _⟩ => rfl
    · refine extractStridedSlice_apply _ A slices_S512x128_o0_64_S512x64 _ _ fun a => ?_
      match a with
      | ⟨0, _⟩ => exact (Nat.zero_add _).symm
      | ⟨1, _⟩ => show (64 + d.val) % 128 = 64 + d.val; omega
  · refine (concatenate_pair_apply_right (t := S512x128) (1 : Fin 2) _ _ concatenates_S512x64_S512x64_S512x128_d1 _ rfl rfl (ix2 κ (⟨d.val - 64, by omega⟩ : Fin 64)) (fun a ha => ?_) ?_).trans ?_
    · match a with
      | ⟨0, _⟩ => rfl
      | ⟨1, _⟩ => exact absurd rfl ha
    · show d.val - 64 + 64 = d.val
      omega
    · refine extractStridedSlice_apply _ A slices_S512x128_o0_0_S512x64 _ _ fun a => ?_
      match a with
      | ⟨0, _⟩ => exact (Nat.zero_add _).symm
      | ⟨1, _⟩ => show (64 + d.val) % 128 = 0 + (d.val - 64); omega

/-- Ones beside the values. -/
theorem beside_left (A : FVec Ideal S512x128 .bf16) (κ : Fin 512) (l : Fin 128) :
    k0_pay6 (F := Ideal) A (Scalar.ofBits (F := Ideal) .bf16 0x3F80#16) (ix2 κ ⟨l.val, by omega⟩) = A (ix2 κ l) := by
  refine concatenate_pair_apply_left (t := S512x256) (1 : Fin 2) _ _ concatenates_S512x128_S512x128_S512x256_d1 _ rfl (ix2 κ l) fun a => ?_
  match a with
  | ⟨0, _⟩ => rfl
  | ⟨1, _⟩ => rfl
theorem beside_right (A : FVec Ideal S512x128 .bf16) (κ : Fin 512) (l : Fin 128) :
    k0_pay6 (F := Ideal) A (Scalar.ofBits (F := Ideal) .bf16 0x3F80#16) (ix2 κ ⟨128 + l.val, by omega⟩) = (1 : EReal) := by
  refine (concatenate_pair_apply_right (t := S512x256) (1 : Fin 2) _ _ concatenates_S512x128_S512x128_S512x256_d1 _ rfl rfl (ix2 κ l) (fun a ha => ?_) (Nat.add_comm _ _)).trans one_bits_narrow
  match a with
  | ⟨0, _⟩ => rfl
  | ⟨1, _⟩ => exact absurd rfl ha

/-- The exchanged values are values with their halves exchanged. -/
theorem pay11_eq (A : FVec Ideal S512x128 .bf16) : k0_pay7 (F := Ideal) A (Scalar.ofBits (F := Ideal) .bf16 0x3F80#16) = k0_pay6 (F := Ideal) (k0_pay8 (F := Ideal) A) (Scalar.ofBits (F := Ideal) .bf16 0x3F80#16) := rfl

/-! ### The whole result -/

abbrev Queries := S32768x2560.Idx → EReal
abbrev Values := S32768x512.Idx → EReal
abbrev Sinks := S32.Idx → EReal

/-- The score of key `n` of row `R`'s sequence, for the head of column `C`. -/
def score (X : Queries) (R C n : ℕ) : EReal := ∑ d : Fin 64, at2 X R (C / 64 * 64 + d.val) * at2 X (R / 8192 * 8192 + n) (2048 + C / 256 * 64 + d.val)
/-- The attention of row `R` at column `C`. -/
def attended (X : Queries) (Y : Values) (s : Sinks) (R C : ℕ) : EReal :=
  attend (R % 8192) (score X R C) (fun n => at2 Y (R / 8192 * 8192 + n) (C / 256 * 64 + C % 64)) (at1 s (C / 64))
def result (X : Queries) (Y : Values) (s : Sinks) : S32768x2048.Idx → EReal := fun y => attended X Y s (y 0).val (y 1).val

theorem attend_congr {q q' : ℕ} {sc sc' v v' : ℕ → EReal} {σ σ' : EReal} (h0 : q = q') (h1 : sc = sc') (h2 : v = v') (h3 : σ = σ') : attend q sc v σ = attend q' sc' v' σ' := by
  subst h0 h1 h2 h3; rfl

/-- The sinks times the logarithm of e in base two. -/
def inBaseTwo (s : Sinks) : Sinks := fun i => s i * (((Real.log 2)⁻¹ : ℝ) : EReal)

theorem log_two_e : Named.named (F := Ideal) Cert.Kernel12Ideal.κ "log2_e" (φ := .f32) 0x3FB8AA3B#32 = (((Real.log 2)⁻¹ : ℝ) : EReal) :=
  IdealRules.named_const.ideal_named_scalar _ _ _ _ rfl

theorem inBaseTwo_mul (x : EReal) : x * (((Real.log 2)⁻¹ : ℝ) : EReal) * (Real.log 2 : EReal) = x := by
  rw [mul_assoc, ← EReal.coe_mul, inv_mul_cancel₀ (Real.log_pos (by norm_num)).ne', EReal.coe_one, mul_one]

theorem at1_inBaseTwo (s : Sinks) (h : ℕ) : at1 (inBaseTwo s) h * (Real.log 2 : EReal) = at1 s h := by
  unfold at1
  split
  · exact inBaseTwo_mul _
  · exact zero_mul _

theorem inBaseTwo_ne_top {s : Sinks} (hs : ∀ i, s i ≠ ⊤) (i) : inBaseTwo s i ≠ ⊤ := fun h => by
  refine hs i ?_
  rw [← inBaseTwo_mul (s i)]
  show inBaseTwo s i * _ = ⊤
  rw [h, EReal.top_mul_coe_of_pos (Real.log_pos (by norm_num))]

theorem sinkOf_apply (s : Vec Ideal S1x128 .f32) (j : S1x128.Idx) : sinkOf (F := Ideal) s j = s j * (((Real.log 2)⁻¹ : ℝ) : EReal) := by
  unfold sinkOf
  rw [shapeCast_self]
  exact congrArg (fun x : EReal => s j * x) log_two_e

theorem at1_mul (s : Sinks) (h : ℕ) : at1 s h * (((Real.log 2)⁻¹ : ℝ) : EReal) = at1 (inBaseTwo s) h := by
  unfold at1
  split
  · rfl
  · exact zero_mul _

/-- What the blocks of group `P` and block `J` of sequence `B` hold. -/
structure Holds (x0 : Vec Ideal S256x512 .bf16) (x1 x3 x4 x6 : Vec Ideal S128x128 .bf16) (x2 x5 : Vec Ideal S256x128 .bf16) (x7 : Vec Ideal S8x128 .f32) (X : Queries) (Y : Values) (s : Sinks) (B P J : ℕ) : Prop where
  inside : J < 32
  queries : ∀ (r : Fin 256) (j : Fin 512), x0 (ix2 r j) = at2 X (B * 8192 + (J * 256 + r.val)) (P * 512 + j.val)
  keys : Rows x1 x3 x2 (fun n d => at2 X (B * 8192 + n) (2048 + P * 128 + d)) J
  values : Rows x4 x6 x5 (fun n d => at2 Y (B * 8192 + n) (P * 128 + d)) J
  sinks : ∀ (h : Fin 8) (d : Fin 128), x7 (ix2 h d) * (((Real.log 2)⁻¹ : ℝ) : EReal) = at1 s (P * 8 + h.val)

section Pieces
variable {i : grid0.Coords} {x0 : Vec Ideal S256x512 .bf16} {x1 x3 x4 x6 : Vec Ideal S128x128 .bf16} {x2 x5 : Vec Ideal S256x128 .bf16} {x7 : Vec Ideal S8x128 .f32} {X : Queries} {Y : Values} {s : Sinks} {B P : ℕ}
  (hold : Holds x0 x1 x3 x4 x6 x2 x5 x7 X Y s B P (i 2).val)
include hold

/-- Two heads, given in which lanes of which arrays their keys and values are. -/
theorem pair_apply (u w : ℕ) (hu : u < 4) (hw : w = u / 2 * 64) {Ka Kb : FVec Ideal S512x128 .bf16} {A A' : FVec Ideal S512x128 .bf16}
    (hKa : ∀ (κ : Fin 512) (d : Fin 64), 128 ≤ (i 2).val * 256 + κ.val → (i 2).val * 256 + κ.val < 8320 → Ka (ix2 κ ⟨d.val, by omega⟩) = at2 X (B * 8192 + ((i 2).val * 256 + κ.val - 128)) (2048 + P * 128 + (w + d.val)))
    (hKb : ∀ (κ : Fin 512) (d : Fin 64), 128 ≤ (i 2).val * 256 + κ.val → (i 2).val * 256 + κ.val < 8320 → Kb (ix2 κ ⟨64 + d.val, by omega⟩) = at2 X (B * 8192 + ((i 2).val * 256 + κ.val - 128)) (2048 + P * 128 + (w + d.val)))
    (hVa : ∀ (κ : Fin 512) (l : Fin 128), l.val < 64 → 128 ≤ (i 2).val * 256 + κ.val → (i 2).val * 256 + κ.val < 8320 → A (ix2 κ l) = at2 Y (B * 8192 + ((i 2).val * 256 + κ.val - 128)) (P * 128 + (w + l.val % 64)))
    (hVb : ∀ (κ : Fin 512) (l : Fin 128), ¬ l.val < 64 → 128 ≤ (i 2).val * 256 + κ.val → (i 2).val * 256 + κ.val < 8320 → A' (ix2 κ l) = at2 Y (B * 8192 + ((i 2).val * 256 + κ.val - 128)) (P * 128 + (w + l.val % 64)))
    (o : ℕ) (ho : o = 128 * u) (a b : ℕ) (ha : a = 2 * u) (hb : b = 2 * u + 1) (hi : ∀ a, (![0, o] : Fin 2 → ℕ) a + S256x128.size a ≤ S256x512.size a)
    (hsa : ∀ c, (![a, 0] : Fin 2 → ℕ) c + S1x128.size c ≤ S8x128.size c) (hsb : ∀ c, (![b, 0] : Fin 2 → ℕ) c + S1x128.size c ≤ S8x128.size c) (x : S256x128.Idx) :
    pairOf (F := Ideal) (k0_pay1 i) Ka Kb (k0_pay6 (F := Ideal) A (Scalar.ofBits (F := Ideal) .bf16 0x3F80#16)) (k0_pay6 (F := Ideal) A' (Scalar.ofBits (F := Ideal) .bf16 0x3F80#16))
      (View.ld (Val := Elt Ideal) (e' := .bf16) x0 (Rect.unit (s := S256x512) ![0, o] S256x128.size hi)) (View.ld (Val := Elt Ideal) (e' := .f32) x7 (Rect.unit (s := S8x128) ![a, 0] S1x128.size hsa)) (View.ld (Val := Elt Ideal) (e' := .f32) x7 (Rect.unit (s := S8x128) ![b, 0] S1x128.size hsb)) x
      = (fun y : S256x512.Idx => attended X Y s (B * 8192 + ((i 2).val * 256 + (y 0).val)) (P * 512 + (y 1).val)) ((Rect.unit (s := S256x512) ![0, o] S256x128.size hi).emb x) := by
  obtain ⟨r, l, rfl⟩ : ∃ r l, x = ix2 (n0 := 256) (n1 := 128) r l := ⟨x 0, x 1, ValueIdx.eq_ix2 x⟩
  have hJ := hold.inside
  have hr := r.isLt
  have hl := l.isLt
  have hbound : ∀ κ : Fin 512, kept (i 2).val r.val κ.val → 128 ≤ (i 2).val * 256 + κ.val ∧ (i 2).val * 256 + κ.val < 8320 := fun κ h => ⟨h.2.2.1, h.2.2.2⟩
  have hq : ∀ d : Fin 128, View.ld (Val := Elt Ideal) (e' := .bf16) x0 (Rect.unit (s := S256x512) ![0, o] S256x128.size hi) (ix2 r d) = at2 X (B * 8192 + ((i 2).val * 256 + r.val)) (P * 512 + (128 * u + d.val)) := fun d => by
    have hd := d.isLt
    exact (load (m := 256) (k := 128) x0 0 o _ _ _ r (⟨128 * u + d.val, by omega⟩ : Fin 512) (Nat.zero_add _).symm (by rw [ho])).trans (hold.queries _ _)
  show _ = attended X Y s (B * 8192 + ((i 2).val * 256 + (0 + 1 * r.val))) (P * 512 + (o + 1 * l.val))
  rw [show (i 2).val * 256 + (0 + 1 * r.val) = (i 2).val * 256 + r.val by omega, show P * 512 + (o + 1 * l.val) = P * 512 + (128 * u + l.val) by omega, pairOf_apply]
  have hR1 : (B * 8192 + ((i 2).val * 256 + r.val)) % 8192 = (i 2).val * 256 + r.val := by omega
  have hR2 : (B * 8192 + ((i 2).val * 256 + r.val)) / 8192 = B := by omega
  have hcol : (P * 512 + (128 * u + l.val)) / 256 * 64 = P * 128 + w := by omega
  have hlane : (P * 512 + (128 * u + l.val)) % 64 = l.val % 64 := by omega
  have key : ∀ (V : FVec Ideal S512x128 .bf16) (S : FVec Ideal S256x512 .f32) (t : FVec Ideal S1x128 .f32),
      (∀ κ : Fin 512, kept (i 2).val r.val κ.val → S (ix2 r κ) = score X (B * 8192 + ((i 2).val * 256 + r.val)) (P * 512 + (128 * u + l.val)) ((i 2).val * 256 + κ.val - 128)) →
      (∀ κ : Fin 512, ¬ kept (i 2).val r.val κ.val → S (ix2 r κ) = ⊥) →
      (∀ κ : Fin 512, 128 ≤ (i 2).val * 256 + κ.val → (i 2).val * 256 + κ.val < 8320 → V (ix2 κ l) = at2 Y (B * 8192 + ((i 2).val * 256 + κ.val - 128)) (P * 128 + (w + l.val % 64))) →
      (∀ d : Fin 128, t (ix2 (0 : Fin 1) d) = at1 s ((P * 512 + (128 * u + l.val)) / 64)) →
      headOf (F := Ideal) (k0_pay6 (F := Ideal) V (Scalar.ofBits (F := Ideal) .bf16 0x3F80#16)) S t (ix2 r l) = attended X Y s (B * 8192 + ((i 2).val * 256 + r.val)) (P * 512 + (128 * u + l.val)) := by
    intro V S t h1 h2 h3 h4
    refine (headOf_apply hJ r l (score X (B * 8192 + ((i 2).val * 256 + r.val)) (P * 512 + (128 * u + l.val))) (fun n => at2 Y (B * 8192 + n) (P * 128 + (w + l.val % 64))) _ (fun κ => ?_) (fun κ hk => ?_) (fun κ => beside_right V κ l) h4).trans ?_
    · split
      · exact h1 κ ‹_›
      · exact h2 κ ‹_›
    · exact (beside_left V κ l).trans (h3 κ (hbound κ hk).1 (hbound κ hk).2)
    · unfold attended
      refine attend_congr hR1.symm rfl (funext fun n => ?_) rfl
      exact at2_congr Y (by rw [hR2]) (by rw [hcol, hlane]; omega)
  have hscore : ∀ n, score X (B * 8192 + ((i 2).val * 256 + r.val)) (P * 512 + (128 * u + l.val)) n
      = ∑ d : Fin 64, at2 X (B * 8192 + ((i 2).val * 256 + r.val)) ((P * 512 + (128 * u + l.val)) / 64 * 64 + d.val) * at2 X (B * 8192 + n) (2048 + P * 128 + (w + d.val)) := fun n => by
    unfold score
    rw [hR2, hcol]
    exact Finset.sum_congr rfl fun d _ => congrArg _ (at2_congr X rfl (by omega))
  split
  · rename_i hlt
    refine key A _ _ (fun κ hk => ?_) (fun κ hk => ?_) (fun κ h1 h2 => hVa κ l hlt h1 h2) (fun d => ?_)
    · rw [scores_apply, if_pos ((keep_iff i r κ).mpr hk), first_dot, hscore]
      refine Finset.sum_congr rfl fun d _ => congrArg₂ (fun a b : EReal => a * b) ((hq _).trans (at2_congr X rfl ?_)) (hKa κ d (hbound κ hk).1 (hbound κ hk).2)
      show P * 512 + (128 * u + d.val) = _
      omega
    · rw [scores_apply, if_neg fun h => hk ((keep_iff i r κ).mp h)]
    · refine (sinkOf_apply _ _).trans ((congrArg (fun x : EReal => x * (((Real.log 2)⁻¹ : ℝ) : EReal)) (load (m := 1) (k := 128) x7 a 0 _ _ _ (⟨2 * u, by omega⟩ : Fin 8) d (by rw [ha]; rfl) (Nat.zero_add _).symm)).trans ((hold.sinks _ _).trans (congrArg (at1 s) ?_)))
      show P * 8 + 2 * u = _
      omega
  · rename_i hge
    refine key A' _ _ (fun κ hk => ?_) (fun κ hk => ?_) (fun κ h1 h2 => hVb κ l hge h1 h2) (fun d => ?_)
    · rw [scores_apply, if_pos ((keep_iff i r κ).mpr hk), second_dot, hscore]
      refine Finset.sum_congr rfl fun d _ => congrArg₂ (fun a b : EReal => a * b) ((hq _).trans (at2_congr X rfl ?_)) (hKb κ d (hbound κ hk).1 (hbound κ hk).2)
      show P * 512 + (128 * u + (64 + d.val)) = _
      omega
    · rw [scores_apply, if_neg fun h => hk ((keep_iff i r κ).mp h)]
    · refine (sinkOf_apply _ _).trans ((congrArg (fun x : EReal => x * (((Real.log 2)⁻¹ : ℝ) : EReal)) (load (m := 1) (k := 128) x7 b 0 _ _ _ (⟨2 * u + 1, by omega⟩ : Fin 8) d (by rw [hb]; rfl) (Nat.zero_add _).symm)).trans ((hold.sinks _ _).trans (congrArg (at1 s) ?_)))
      show P * 8 + (2 * u + 1) = _
      omega

/-- All that a grid point stores. -/
theorem out_apply (r : Fin 256) (q : Fin 512) : out0_8 (F := Ideal) i x0 x1 x2 x3 x4 x5 x6 x7 (ix2 r q) = attended X Y s (B * 8192 + ((i 2).val * 256 + r.val)) (P * 512 + q.val) := by
  have hK := fun κ d => joined_apply hold.keys κ d
  have hV := fun κ d => joined_apply hold.values κ d
  have hKs : ∀ κ d, 128 ≤ (i 2).val * 256 + κ.val → (i 2).val * 256 + κ.val < 8320 → keysSwapped (F := Ideal) x1 x2 x3 (ix2 κ d) = at2 X (B * 8192 + ((i 2).val * 256 + κ.val - 128)) (2048 + P * 128 + (64 + d.val) % 128) := fun κ d h1 h2 =>
    (swapped_apply _ κ d).trans (hK κ _ h1 h2)
  have hVs : ∀ κ d, 128 ≤ (i 2).val * 256 + κ.val → (i 2).val * 256 + κ.val < 8320 → k0_pay8 (F := Ideal) (k0_pay4 (F := Ideal) (View.ld x4 r0_0) (View.ld x5 r0_1) (View.ld x6 r0_0)) (ix2 κ d) = at2 Y (B * 8192 + ((i 2).val * 256 + κ.val - 128)) (P * 128 + (64 + d.val) % 128) := fun κ d h1 h2 =>
    (swapped_apply _ κ d).trans (hV κ _ h1 h2)
  rw [out_eq]
  refine View.canon_apply_of_pieces (Val := Elt Ideal) (e := .bf16) (fun y : S256x512.Idx => attended X Y s (B * 8192 + ((i 2).val * 256 + (y 0).val)) (P * 512 + (y 1).val)) _ ?_ (ix2 r q) (cover0_8 _ _ _ _ _)
  simp only [List.forall_mem_cons]
  have upper : ∀ u, u < 4 → 2 ≤ u → ∀ (o : ℕ) (_ : o = 128 * u) (a b : ℕ) (_ : a = 2 * u) (_ : b = 2 * u + 1) (hi : ∀ a, (![0, o] : Fin 2 → ℕ) a + S256x128.size a ≤ S256x512.size a)
      (hsa : ∀ c, (![a, 0] : Fin 2 → ℕ) c + S1x128.size c ≤ S8x128.size c) (hsb : ∀ c, (![b, 0] : Fin 2 → ℕ) c + S1x128.size c ≤ S8x128.size c) (x : S256x128.Idx), _ := fun u hu h2 o ho a b ha hb hi hsa hsb x =>
    pair_apply hold u 64 hu (by omega) (Ka := keysSwapped (F := Ideal) x1 x2 x3) (Kb := keys (F := Ideal) x1 x2 x3) (A := k0_pay8 (F := Ideal) (k0_pay4 (F := Ideal) (View.ld x4 r0_0) (View.ld x5 r0_1) (View.ld x6 r0_0))) (A' := k0_pay4 (F := Ideal) (View.ld x4 r0_0) (View.ld x5 r0_1) (View.ld x6 r0_0))
      (fun κ d h1 h2 => (hKs κ _ h1 h2).trans (at2_congr X rfl (by have := d.isLt; show 2048 + P * 128 + (64 + d.val) % 128 = _; omega)))
      (fun κ d h1 h2 => hK κ _ h1 h2)
      (fun κ l hl h1 h2 => (hVs κ _ h1 h2).trans (at2_congr Y rfl (by omega)))
      (fun κ l hl h1 h2 => (hV κ _ h1 h2).trans (at2_congr Y rfl (by have := l.isLt; omega))) o ho a b ha hb hi hsa hsb x
  have lower : ∀ u, u < 2 → ∀ (o : ℕ) (_ : o = 128 * u) (a b : ℕ) (_ : a = 2 * u) (_ : b = 2 * u + 1) (hi : ∀ a, (![0, o] : Fin 2 → ℕ) a + S256x128.size a ≤ S256x512.size a)
      (hsa : ∀ c, (![a, 0] : Fin 2 → ℕ) c + S1x128.size c ≤ S8x128.size c) (hsb : ∀ c, (![b, 0] : Fin 2 → ℕ) c + S1x128.size c ≤ S8x128.size c) (x : S256x128.Idx), _ := fun u hu o ho a b ha hb hi hsa hsb x =>
    pair_apply hold u 0 (by omega) (by omega) (Ka := keys (F := Ideal) x1 x2 x3) (Kb := keysSwapped (F := Ideal) x1 x2 x3) (A := k0_pay4 (F := Ideal) (View.ld x4 r0_0) (View.ld x5 r0_1) (View.ld x6 r0_0)) (A' := k0_pay8 (F := Ideal) (k0_pay4 (F := Ideal) (View.ld x4 r0_0) (View.ld x5 r0_1) (View.ld x6 r0_0)))
      (fun κ d h1 h2 => (hK κ _ h1 h2).trans (at2_congr X rfl (by show 2048 + P * 128 + d.val = _; omega)))
      (fun κ d h1 h2 => (hKs κ _ h1 h2).trans (at2_congr X rfl (by have := d.isLt; show 2048 + P * 128 + (64 + (64 + d.val)) % 128 = _; omega)))
      (fun κ l hl h1 h2 => (hV κ _ h1 h2).trans (at2_congr Y rfl (by omega)))
      (fun κ l hl h1 h2 => (hVs κ _ h1 h2).trans (at2_congr Y rfl (by have := l.isLt; omega))) o ho a b ha hb hi hsa hsb x
  exact ⟨upper 3 (by decide) (by decide) 384 rfl 6 7 rfl rfl _ _ _, upper 2 (by decide) (by decide) 256 rfl 4 5 rfl rfl _ _ _, lower 1 (by decide) 128 rfl 2 3 rfl rfl _ _ _, lower 0 (by decide) 0 rfl 0 1 rfl rfl _ _ _, fun _ hm => absurd hm List.not_mem_nil⟩

end Pieces

/-! ### The run -/

theorem idx0 : ∀ t : Fin cfg0.N, win0_0.index t = ![t.val / 128 * 32 + t.val % 32, t.val / 32 % 4] := (by decide +kernel : ∀ t : Fin grid0.N, _)
theorem idx1 : ∀ t : Fin cfg0.N, win0_1.index t = ![t.val / 128 * 64 + (t.val % 32 * 2 - 1), 16 + t.val / 32 % 4] := (by decide +kernel : ∀ t : Fin grid0.N, _)
theorem idx2 : ∀ t : Fin cfg0.N, win0_2.index t = ![t.val / 128 * 32 + t.val % 32, 16 + t.val / 32 % 4] := (by decide +kernel : ∀ t : Fin grid0.N, _)
theorem idx3 : ∀ t : Fin cfg0.N, win0_3.index t = ![t.val / 128 * 64 + min (t.val % 32 * 2 + 2) 63, 16 + t.val / 32 % 4] := (by decide +kernel : ∀ t : Fin grid0.N, _)
theorem idx4 : ∀ t : Fin cfg0.N, win0_4.index t = ![t.val / 128 * 64 + (t.val % 32 * 2 - 1), t.val / 32 % 4] := (by decide +kernel : ∀ t : Fin grid0.N, _)
theorem idx5 : ∀ t : Fin cfg0.N, win0_5.index t = ![t.val / 128 * 32 + t.val % 32, t.val / 32 % 4] := (by decide +kernel : ∀ t : Fin grid0.N, _)
theorem idx6 : ∀ t : Fin cfg0.N, win0_6.index t = ![t.val / 128 * 64 + min (t.val % 32 * 2 + 2) 63, t.val / 32 % 4] := (by decide +kernel : ∀ t : Fin grid0.N, _)
theorem idx7 : ∀ t : Fin cfg0.N, win0_7.index t = ![t.val / 32 % 4, 0] := (by decide +kernel : ∀ t : Fin grid0.N, _)
theorem idx8 : ∀ t : Fin cfg0.N, win0_8.index t = ![t.val / 128 * 32 + t.val % 32, t.val / 32 % 4] := (by decide +kernel : ∀ t : Fin grid0.N, _)
theorem coord2 : ∀ t : Fin cfg0.N, (grid0.coords t 2).val = t.val % 32 := (by decide +kernel : ∀ t : Fin grid0.N, _)

variable (m : (ℓ : Loc nD τ sig) → Buf (Elt Ideal) ℓ) (c : Dev nD)

/-- The queries and keys as launched. -/
abbrev argX : Queries := m ((c : Thread nD τ).loc main_arg0)
/-- The values as launched. -/
abbrev argY : Values := m ((c : Thread nD τ).loc main_arg1)
/-- The sinks as launched. -/
abbrev argS : Sinks := m ((c : Thread nD τ).loc main_arg2)

theorem V_sinks : V m c main_v1 = broadcastInDim S32x128 ![0, 1] bcast_S32x1_S32x128_0_1 (broadcastInDim S32x1 ![0] bcast_S32_S32x1_0 (argS m c)) := by
  unfold_abbrev_sides
  after_results

theorem iblk0_apply (t : Fin cfg0.N) (r : Fin 256) (d : Fin 512) : iblk m c 0 t (ix2 r d) = at2 (argX m c) (t.val / 128 * 8192 + (t.val % 32 * 256 + r.val)) (t.val / 32 % 4 * 512 + d.val) := by
  have ht : t.val < 512 := t.isLt
  blk_simp [iblk]
  rw [V_main_arg0]
  refine at2_of _ _ _ _ ?_ ?_
  · blk_simp [idx0]
    try (change _ * 256 + r.val = _; omega)
  · blk_simp [idx0]
    try (change _ * 512 + d.val = _; omega)
theorem iblk1_apply (t : Fin cfg0.N) (hJ : 0 < t.val % 32) (r : Fin 128) (d : Fin 128) : iblk m c 1 t (ix2 r d) = at2 (argX m c) (t.val / 128 * 8192 + (t.val % 32 * 256 + r.val - 128)) (2048 + t.val / 32 % 4 * 128 + d.val) := by
  have ht : t.val < 512 := t.isLt
  blk_simp [iblk]
  rw [V_main_arg0]
  refine at2_of _ _ _ _ ?_ ?_
  · blk_simp [idx1]
    try (change _ * 128 + r.val = _; omega)
  · blk_simp [idx1]
    try (change _ * 128 + d.val = _; omega)
theorem iblk2_apply (t : Fin cfg0.N) (r : Fin 256) (d : Fin 128) : iblk m c 2 t (ix2 r d) = at2 (argX m c) (t.val / 128 * 8192 + (t.val % 32 * 256 + r.val)) (2048 + t.val / 32 % 4 * 128 + d.val) := by
  have ht : t.val < 512 := t.isLt
  blk_simp [iblk]
  rw [V_main_arg0]
  refine at2_of _ _ _ _ ?_ ?_
  · blk_simp [idx2]
    try (change _ * 256 + r.val = _; omega)
  · blk_simp [idx2]
    try (change _ * 128 + d.val = _; omega)
theorem iblk3_apply (t : Fin cfg0.N) (hJ : t.val % 32 < 31) (r : Fin 128) (d : Fin 128) : iblk m c 3 t (ix2 r d) = at2 (argX m c) (t.val / 128 * 8192 + (t.val % 32 * 256 + 256 + r.val)) (2048 + t.val / 32 % 4 * 128 + d.val) := by
  have ht : t.val < 512 := t.isLt
  blk_simp [iblk]
  rw [V_main_arg0]
  refine at2_of _ _ _ _ ?_ ?_
  · blk_simp [idx3]
    try (change _ * 128 + r.val = _; omega)
  · blk_simp [idx3]
    try (change _ * 128 + d.val = _; omega)
theorem iblk4_apply (t : Fin cfg0.N) (hJ : 0 < t.val % 32) (r : Fin 128) (d : Fin 128) : iblk m c 4 t (ix2 r d) = at2 (argY m c) (t.val / 128 * 8192 + (t.val % 32 * 256 + r.val - 128)) (t.val / 32 % 4 * 128 + d.val) := by
  have ht : t.val < 512 := t.isLt
  blk_simp [iblk]
  rw [V_main_arg1]
  refine at2_of _ _ _ _ ?_ ?_
  · blk_simp [idx4]
    try (change _ * 128 + r.val = _; omega)
  · blk_simp [idx4]
    try (change _ * 128 + d.val = _; omega)
theorem iblk5_apply (t : Fin cfg0.N) (r : Fin 256) (d : Fin 128) : iblk m c 5 t (ix2 r d) = at2 (argY m c) (t.val / 128 * 8192 + (t.val % 32 * 256 + r.val)) (t.val / 32 % 4 * 128 + d.val) := by
  have ht : t.val < 512 := t.isLt
  blk_simp [iblk]
  rw [V_main_arg1]
  refine at2_of _ _ _ _ ?_ ?_
  · blk_simp [idx5]
    try (change _ * 256 + r.val = _; omega)
  · blk_simp [idx5]
    try (change _ * 128 + d.val = _; omega)
theorem iblk6_apply (t : Fin cfg0.N) (hJ : t.val % 32 < 31) (r : Fin 128) (d : Fin 128) : iblk m c 6 t (ix2 r d) = at2 (argY m c) (t.val / 128 * 8192 + (t.val % 32 * 256 + 256 + r.val)) (t.val / 32 % 4 * 128 + d.val) := by
  have ht : t.val < 512 := t.isLt
  blk_simp [iblk]
  rw [V_main_arg1]
  refine at2_of _ _ _ _ ?_ ?_
  · blk_simp [idx6]
    try (change _ * 128 + r.val = _; omega)
  · blk_simp [idx6]
    try (change _ * 128 + d.val = _; omega)
theorem iblk7_apply (t : Fin cfg0.N) (h : Fin 8) (d : Fin 128) : iblk m c 7 t (ix2 h d) = at1 (argS m c) (t.val / 32 % 4 * 8 + h.val) := by
  have ht : t.val < 512 := t.isLt
  have hh := h.isLt
  blk_simp [iblk]
  rw [V_sinks]
  refine (congrArg _ (funext fun a => Fin.ext ?_ : _ = ix2 (⟨t.val / 32 % 4 * 8 + h.val, by omega⟩ : Fin 32) d)).trans ?_
  · match a with
    | ⟨0, _⟩ => blk_simp [idx7]
    | ⟨1, _⟩ => blk_simp [idx7]
  · refine (broadcastInDim_apply _ _ _ _ (ix2 (⟨t.val / 32 % 4 * 8 + h.val, by omega⟩ : Fin 32) (0 : Fin 1)) fun x => ?_).trans ((broadcastInDim_apply _ _ _ _ (ix1 (⟨t.val / 32 % 4 * 8 + h.val, by omega⟩ : Fin 32)) fun x => ?_).trans (at1_of _ _))
    · match x with
      | ⟨0, _⟩ => rfl
      | ⟨1, _⟩ => rfl
    · match x with
      | ⟨0, _⟩ => rfl

theorem holds (t : Fin cfg0.N) : Holds (iblk m c 0 t) (iblk m c 1 t) (iblk m c 3 t) (iblk m c 4 t) (iblk m c 6 t) (iblk m c 2 t) (iblk m c 5 t) (iblk m c 7 t) (argX m c) (argY m c) (inBaseTwo (argS m c)) (t.val / 128) (t.val / 32 % 4) (grid0.coords t 2).val := by
  rw [coord2]
  refine ⟨by omega, iblk0_apply m c t, ⟨iblk1_apply m c t, iblk2_apply m c t, iblk3_apply m c t⟩, ⟨iblk4_apply m c t, iblk5_apply m c t, iblk6_apply m c t⟩, fun h d => ?_⟩
  rw [iblk7_apply, at1_mul]

/-- The result array after the run. -/
theorem final : (dats m 0 c).arrAt 8 cfg0.N = result (argX m c) (argY m c) (inBaseTwo (argS m c)) := by
  refine (dats m 0 c).arrAt_eq_of_covers 8 _ (by decide +kernel) fun t _ y => ?_
  obtain ⟨r, q, rfl⟩ : ∃ r q, y = ix2 (n0 := 256) (n1 := 512) r q := ⟨y 0, y 1, ValueIdx.eq_ix2 y⟩
  blk_simp
  rw [after0_8]
  have e0 : (((cfg0.win 8).blk t).view.emb (ix2 r q) 0).val = t.val / 128 * 8192 + ((grid0.coords t 2).val * 256 + r.val) := by
    rw [coord2]
    blk_simp [idx8]
    change _ * 256 + r.val = _
    omega
  have e1 : (((cfg0.win 8).blk t).view.emb (ix2 r q) 1).val = t.val / 32 % 4 * 512 + q.val := by
    blk_simp [idx8]
    rfl
  unfold result
  rw [e0, e1]
  exact out_apply (holds m c t) r q

end Cert.Window

end
-- ==== Proof.WindowRef.lean ====
/-
The window attention's reference at the ideal instance: the softmax over the near keys and the sink, element by
element, is the closed form the kernel's points leave.
-/
module
public import proofs.«01_k».proof.Proof.WindowCall
public import proofs.«01_k».proof.Proof.RefValue
public import proofs.«01_k».proof.Proof.Gen.Reference12Ideal.Read
public import proofs.«01_k».proof.Pre_finite_window

@[expose] public section

noncomputable section

namespace Cert.Window

open Cert.Reference12Ideal Cert.Reference12Ideal.Gen Cert.Reference12Ideal.Read Idealize.ShloMosaic Cert.Flash Cert.Sink Cert.Rope

variable (x0 : S32768x2560.Idx → EReal) (x1 : S32768x512.Idx → EReal) (x2 : S32.Idx → EReal)

theorem query_apply (j : S4x8192x8x4x64.Idx) :
    val_main_v2 (F := Ideal) x0 j = at2 x0 ((j 0).val * 8192 + (j 1).val) (((j 2).val * 4 + (j 3).val) * 64 + (j 4).val) := by
  rw [val_main_v2_apply, val_main_v1_apply, val_main_v0_apply]
  have h0 : (j 0).val < 4 := (j 0).isLt
  have h1 : (j 1).val < 8192 := (j 1).isLt
  have h2 : (j 2).val < 8 := (j 2).isLt
  have h3 : (j 3).val < 4 := (j 3).isLt
  have h4 : (j 4).val < 64 := (j 4).isLt
  refine at2_of x0 _ _ _ ?_ ?_
  · show (_ : ℕ) / 2048 = _; omega
  · show (_ : ℕ) % 2048 = _; omega

theorem key_apply (j : S4x8192x8x64.Idx) :
    val_main_v4 (F := Ideal) x0 j = at2 x0 ((j 0).val * 8192 + (j 1).val) (2048 + ((j 2).val * 64 + (j 3).val)) := by
  rw [val_main_v4_apply, val_main_v3_apply, val_main_v0_apply]
  have h0 : (j 0).val < 4 := (j 0).isLt
  have h1 : (j 1).val < 8192 := (j 1).isLt
  have h2 : (j 2).val < 8 := (j 2).isLt
  have h3 : (j 3).val < 64 := (j 3).isLt
  refine at2_of x0 _ _ _ ?_ ?_
  · show (_ : ℕ) / 512 = _; omega
  · show 2048 + (_ : ℕ) % 512 = _; omega

theorem value_apply (j : S4x8192x8x64.Idx) :
    val_main_v6 (F := Ideal) x1 j = at2 x1 ((j 0).val * 8192 + (j 1).val) ((j 2).val * 64 + (j 3).val) := by
  rw [val_main_v6_apply, val_main_v5_apply]
  have h0 : (j 0).val < 4 := (j 0).isLt
  have h1 : (j 1).val < 8192 := (j 1).isLt
  have h2 : (j 2).val < 8 := (j 2).isLt
  have h3 : (j 3).val < 64 := (j 3).isLt
  refine at2_of x1 _ _ _ ?_ ?_
  · show (_ : ℕ) / 512 = _; omega
  · show (_ : ℕ) % 512 = _; omega

theorem score_congr {R R' C C' : ℕ} (hR : R = R') (hC : C / 64 = C' / 64) (n : ℕ) : score x0 R C n = score x0 R' C' n := by
  subst hR
  unfold score
  exact Finset.sum_congr rfl fun d _ => congrArg₂ (fun a b : EReal => a * b) (at2_congr _ rfl (by omega)) (at2_congr _ rfl (by omega))

/-- A scaled score. -/
theorem scaled_apply (j : S4x8x4x8192x8192.Idx) :
    val_main_v20 (F := Ideal) x0 j = score x0 ((j 0).val * 8192 + (j 3).val) (((j 1).val * 4 + (j 2).val) * 64) (j 4).val * (Real.log 2 : EReal) := by
  rw [val_main_v20_apply, val_main_v17_apply, val_main_v16_apply, val_main_v19_apply, val_main_v18_apply, val_main_cst_apply, log_two]
  refine congrArg (fun x : EReal => x * (Real.log 2 : EReal)) ?_
  have h2 : (j 2).val < 4 := (j 2).isLt
  have h3 : (j 3).val < 8192 := (j 3).isLt
  unfold score
  refine Finset.sum_congr rfl fun d _ => ?_
  rw [key_apply, query_apply, mul_comm]
  refine congrArg₂ (fun a b : EReal => a * b) (at2_congr _ rfl ?_) (at2_congr _ ?_ ?_)
  · show ((j 1).val * 4 + (j 2).val) * 64 + d.val = _; omega
  · show (j 0).val * 8192 + (j 4).val = _; omega
  · show 2048 + ((j 1).val * 64 + d.val) = _; omega

/-- The mask. -/
theorem near_apply (j : S8192x8192.Idx) : val_main_v15 (F := Ideal) j = 1#1 ↔ near (j 0).val (j 1).val := by
  rw [val_main_v15_apply, val_main_v13_apply, val_main_v12_apply, val_main_v10_apply, val_main_v11_apply, val_main_v8_apply, val_main_v9_apply, val_main_v7_apply, val_main_v7_apply, val_main_v14_apply, val_main_c_apply]
  exact Words.near_iff (j 0).val (j 1).val (j 0).isLt (j 1).isLt

/-- A masked score. -/
theorem masked_apply (j : S4x8x4x8192x8192.Idx) :
    val_main_v21 (F := Ideal) x0 j = win (j 3).val (score x0 ((j 0).val * 8192 + (j 3).val) (((j 1).val * 4 + (j 2).val) * 64)) (j 4).val * (Real.log 2 : EReal) := by
  rw [val_main_v21_apply, val_main_call0_v1_apply, val_main_call0_v2_apply, val_main_call0_v0_apply, val_main_cst_0_apply, bot_bits, scaled_apply]
  unfold Scalar.select win
  have hn := near_apply (idx_main_call0_v1 j)
  by_cases h : near (j 3).val (j 4).val
  · rw [if_pos h]
    exact if_pos (hn.mpr h)
  · rw [if_neg h, EReal.bot_mul_coe_of_pos (Real.log_pos (by norm_num))]
    exact if_neg fun hc => h (hn.mp hc)

/-- A sink, as the multiple of the logarithm of two that the kernel takes. -/
theorem sink_apply (j : S1x8x4x1x1.Idx) : val_main_v23 (F := Ideal) x2 j = at1 (inBaseTwo x2) ((j 1).val * 4 + (j 2).val) * (Real.log 2 : EReal) := by
  rw [val_main_v23_apply, val_main_v22_apply, at1_inBaseTwo]
  refine (congrArg x2 (funext fun a => ?_)).trans (at1_of x2 (idx_main_v22 (idx_main_v23 j) 0))
  match a with
  | ⟨0, _⟩ => rfl

/-- A row's largest masked score. -/
theorem row_max_apply (j : S4x8x4x8192.Idx) :
    val_main_v24 (F := Ideal) x0 j = Finset.univ.sup fun k : Fin 8192 => val_main_v21 (F := Ideal) x0 (idx_main_v31 j k) := by
  have h' : S4x8x4x8192x8192.Reduces [4] S4x8x4x8192 := by decide
  unfold val_main_v24 val_main_cst_1
  generalize val_main_v21 (F := Ideal) x0 = S
  refine (hostMax_single S reducesTo_S4x8x4x8192x8192_S4x8x4x8192_d4 h_S_ h' j).trans ?_
  show (Finset.univ : Finset (Fin 8192)).fold max ⊥ _ = (Finset.univ : Finset (Fin 8192)).fold max ⊥ _
  refine congrArg (fun f => (Finset.univ : Finset (Fin 8192)).fold max ⊥ f) (funext fun s => congrArg S (funext fun b => Fin.ext ?_))
  match b with
  | ⟨0, _⟩ => rfl
  | ⟨1, _⟩ => rfl
  | ⟨2, _⟩ => rfl
  | ⟨3, _⟩ => rfl
  | ⟨4, _⟩ => rfl

theorem row_max_scaled (j : S4x8x4x8192.Idx) :
    val_main_v24 (F := Ideal) x0 j = (Finset.univ.sup fun k : Fin 8192 => win (j 3).val (score x0 ((j 0).val * 8192 + (j 3).val) (((j 1).val * 4 + (j 2).val) * 64)) k.val) * (Real.log 2 : EReal) := by
  rw [row_max_apply, ← sup_mul_log_two]
  exact congrArg (fun f : Fin 8192 → EReal => Finset.univ.sup f) (funext fun k => masked_apply x0 (idx_main_v31 j k))

/-- What the softmax subtracts. -/
theorem shift_apply (j : S4x8x4x8192x1.Idx) :
    val_main_v27 (F := Ideal) x0 x2 j = most (j 3).val (score x0 ((j 0).val * 8192 + (j 3).val) (((j 1).val * 4 + (j 2).val) * 64)) (at1 (inBaseTwo x2) ((j 1).val * 4 + (j 2).val)) * (Real.log 2 : EReal) := by
  rw [val_main_v27_apply, val_main_v25_apply, val_main_v26_apply, sink_apply, row_max_scaled]
  exact max_mul_log_two _ _

/-- A numerator. -/
theorem numerator_apply (j : S4x8x4x8192x8192.Idx) :
    val_main_v30 (F := Ideal) x0 x2 j = Ideal.exp2 (win (j 3).val (score x0 ((j 0).val * 8192 + (j 3).val) (((j 1).val * 4 + (j 2).val) * 64)) (j 4).val
      - most (j 3).val (score x0 ((j 0).val * 8192 + (j 3).val) (((j 1).val * 4 + (j 2).val) * 64)) (at1 (inBaseTwo x2) ((j 1).val * 4 + (j 2).val))) := by
  rw [val_main_v30_apply, val_main_v29_apply, val_main_v28_apply, masked_apply, shift_apply]
  exact exp_sub _ _

theorem zero_init : (FloatOps.ofBits (F := Ideal) .f32 0x00000000#32 : EReal) = 0 := Ideal.ofBits_zero_f32

/-- A denominator. -/
theorem denominator_apply (j : S4x8x4x8192x1.Idx) :
    val_main_v36 (F := Ideal) x0 x2 j = (∑ n : Fin 8192, Ideal.exp2 (win (j 3).val (score x0 ((j 0).val * 8192 + (j 3).val) (((j 1).val * 4 + (j 2).val) * 64)) n.val
      - most (j 3).val (score x0 ((j 0).val * 8192 + (j 3).val) (((j 1).val * 4 + (j 2).val) * 64)) (at1 (inBaseTwo x2) ((j 1).val * 4 + (j 2).val))))
      + Ideal.exp2 (at1 (inBaseTwo x2) ((j 1).val * 4 + (j 2).val) - most (j 3).val (score x0 ((j 0).val * 8192 + (j 3).val) (((j 1).val * 4 + (j 2).val) * 64)) (at1 (inBaseTwo x2) ((j 1).val * 4 + (j 2).val))) := by
  rw [val_main_v36_apply, val_main_v32_apply, val_main_v31_apply, val_main_cst_2_apply, val_main_v35_apply, val_main_v34_apply, val_main_v33_apply, sink_apply, shift_apply,
    zero_init, zero_add]
  refine congrArg₂ (fun a b : EReal => a + b) (Finset.sum_congr rfl fun n _ => ?_) (exp_sub _ _)
  exact numerator_apply x0 x2 _

theorem score_real {x0 : S32768x2560.Idx → EReal} (hX : Flash.Finite x0) (R C n : ℕ) : ∃ r : ℝ, score x0 R C n = (r : EReal) := by
  choose f hf using hX.at2
  refine ⟨∑ d : Fin 64, f R (C / 64 * 64 + d.val) * f (R / 8192 * 8192 + n) (2048 + C / 256 * 64 + d.val), ?_⟩
  rw [Online.coe_sum]
  exact Finset.sum_congr rfl fun d _ => by rw [hf, hf, EReal.coe_mul]

/-- The reference's result is the closed form. -/
theorem reference_result (hX : Flash.Finite x0) (hs : ∀ i, x2 i ≠ ⊤) : val_main_v42 (F := Ideal) x0 x1 x2 = result x0 x1 (inBaseTwo x2) := by
  funext i
  rw [val_main_v42_apply, val_main_v41_apply, val_main_v40_apply]
  refine (val_main_v39_apply x0 x1 x2 _).trans ?_
  have h0 : (i 0).val < 32768 := (i 0).isLt
  have h1 : (i 1).val < 2048 := (i 1).isLt
  unfold result attended attend
  have hσ : at1 (inBaseTwo x2) ((i 1).val / 64) ≠ ⊤ := by
    unfold at1
    split
    · exact inBaseTwo_ne_top hs _
    · exact EReal.zero_ne_top
  have hreal := score_real hX (i 0).val (i 1).val
  rw [quotient (fun n : Fin 8192 => win ((i 0).val % 8192) (score x0 (i 0).val (i 1).val) n.val) (fun n : Fin 8192 => at2 x1 ((i 0).val / 8192 * 8192 + n.val) ((i 1).val / 256 * 64 + (i 1).val % 64)) (at1 (inBaseTwo x2) ((i 1).val / 64))
    (fun n => ?_) ⟨(i 0).val % 8192, Nat.mod_lt _ (by decide)⟩ ?_ hσ (most ((i 0).val % 8192) (score x0 (i 0).val (i 1).val) (at1 (inBaseTwo x2) ((i 1).val / 64))) rfl]
  · have eq0 : (((i 0).val * 2048 + (i 1).val) / 2048 % 8192) = (i 0).val % 8192 := by omega
    have eq1 : ((i 0).val * 2048 + (i 1).val) / 16777216 * 8192 + ((i 0).val * 2048 + (i 1).val) / 2048 % 8192 = (i 0).val := by omega
    have eq2 : ((i 0).val * 2048 + (i 1).val) / 256 % 8 * 4 + ((i 0).val * 2048 + (i 1).val) / 64 % 4 = (i 1).val / 64 := by omega
    have eq3 : score x0 (((i 0).val * 2048 + (i 1).val) / 16777216 * 8192 + ((i 0).val * 2048 + (i 1).val) / 2048 % 8192) ((((i 0).val * 2048 + (i 1).val) / 256 % 8 * 4 + ((i 0).val * 2048 + (i 1).val) / 64 % 4) * 64) = score x0 (i 0).val (i 1).val :=
      funext fun n => score_congr x0 eq1 (by omega) n
    refine Finset.sum_congr rfl fun n _ => ?_
    rw [mul_comm]
    refine congrArg₂ (fun a b : EReal => a * b) ?_ ((value_apply x1 _).trans (at2_congr _ ?_ ?_))
    · rw [val_main_v38_apply, val_main_v37_apply]
      refine congrArg₂ Ideal.div ((numerator_apply x0 x2 _).trans ?_) ((denominator_apply x0 x2 _).trans ?_)
      · show Ideal.exp2 (win (((i 0).val * 2048 + (i 1).val) / 2048 % 8192) (score x0 (((i 0).val * 2048 + (i 1).val) / 16777216 * 8192 + ((i 0).val * 2048 + (i 1).val) / 2048 % 8192) ((((i 0).val * 2048 + (i 1).val) / 256 % 8 * 4 + ((i 0).val * 2048 + (i 1).val) / 64 % 4) * 64)) n.val
          - most (((i 0).val * 2048 + (i 1).val) / 2048 % 8192) (score x0 (((i 0).val * 2048 + (i 1).val) / 16777216 * 8192 + ((i 0).val * 2048 + (i 1).val) / 2048 % 8192) ((((i 0).val * 2048 + (i 1).val) / 256 % 8 * 4 + ((i 0).val * 2048 + (i 1).val) / 64 % 4) * 64)) (at1 (inBaseTwo x2) (((i 0).val * 2048 + (i 1).val) / 256 % 8 * 4 + ((i 0).val * 2048 + (i 1).val) / 64 % 4))) = _
        rw [eq3, eq2, eq0]
      · show (∑ l : Fin 8192, Ideal.exp2 (win (((i 0).val * 2048 + (i 1).val) / 2048 % 8192) (score x0 (((i 0).val * 2048 + (i 1).val) / 16777216 * 8192 + ((i 0).val * 2048 + (i 1).val) / 2048 % 8192) ((((i 0).val * 2048 + (i 1).val) / 256 % 8 * 4 + ((i 0).val * 2048 + (i 1).val) / 64 % 4) * 64)) l.val
          - most (((i 0).val * 2048 + (i 1).val) / 2048 % 8192) (score x0 (((i 0).val * 2048 + (i 1).val) / 16777216 * 8192 + ((i 0).val * 2048 + (i 1).val) / 2048 % 8192) ((((i 0).val * 2048 + (i 1).val) / 256 % 8 * 4 + ((i 0).val * 2048 + (i 1).val) / 64 % 4) * 64)) (at1 (inBaseTwo x2) (((i 0).val * 2048 + (i 1).val) / 256 % 8 * 4 + ((i 0).val * 2048 + (i 1).val) / 64 % 4))))
          + Ideal.exp2 (at1 (inBaseTwo x2) (((i 0).val * 2048 + (i 1).val) / 256 % 8 * 4 + ((i 0).val * 2048 + (i 1).val) / 64 % 4)
          - most (((i 0).val * 2048 + (i 1).val) / 2048 % 8192) (score x0 (((i 0).val * 2048 + (i 1).val) / 16777216 * 8192 + ((i 0).val * 2048 + (i 1).val) / 2048 % 8192) ((((i 0).val * 2048 + (i 1).val) / 256 % 8 * 4 + ((i 0).val * 2048 + (i 1).val) / 64 % 4) * 64)) (at1 (inBaseTwo x2) (((i 0).val * 2048 + (i 1).val) / 256 % 8 * 4 + ((i 0).val * 2048 + (i 1).val) / 64 % 4))) = _
        rw [eq3, eq2, eq0]
    · show ((i 0).val * 2048 + (i 1).val) / 16777216 * 8192 + n.val = _; omega
    · show ((i 0).val * 2048 + (i 1).val) / 256 % 8 * 64 + ((i 0).val * 2048 + (i 1).val) % 64 = _; omega
  · obtain ⟨r, hr⟩ := hreal ((i 0).val % 8192)
    show win _ _ ((i 0).val % 8192) ≠ ⊥
    unfold win
    rw [if_pos (by unfold near; omega), hr]
    exact EReal.coe_ne_bot r
  · obtain ⟨r, hr⟩ := hreal n.val
    show win _ _ n.val ≠ ⊤
    unfold win
    split
    · rw [hr]; exact EReal.coe_ne_top r
    · exact bot_ne_top

theorem inf_bits : (FloatOps.ofBits (F := Ideal) .f32 0x7F800000#32 : EReal) = ⊤ := by simp [FloatOps.ofBits, Ideal.ofBits, Ideal.ieee]

/-- The precondition's array of ones says that the queries and keys are reals and no sink is plus infinity. -/
theorem of_ones [Cert.Pre_finite_window.Facts] (h : Cert.Pre_finite_window.fn (F := Ideal) x0 x1 x2 = fun _ => 1#1) : Flash.Finite x0 ∧ ∀ i, x2 i ≠ ⊤ := by
  have both := fun j => (Words.andi_iff _ _).mp (congrFun h j)
  constructor
  · intro i
    obtain ⟨r, q, rfl⟩ : ∃ r q, i = ValueIdx.ix2 (n0 := 32768) (n1 := 2560) r q := ⟨i 0, i 1, ValueIdx.eq_ix2 i⟩
    have hq := q.isLt
    have hi : FloatOps.cmpf (F := Ideal) (φ := .f32) .olt (FloatOps.hostAbsf (x0 (ValueIdx.ix2 r q))) (FloatOps.ofBits (F := Ideal) .f32 0x7F800000#32) = 1#1 := by
      refine Eq.trans (Eq.symm ?_) (both (ValueIdx.ix4 r (⟨q.val / 64, by omega⟩ : Fin 40) (⟨q.val / 32 % 2, Nat.mod_lt _ (by decide)⟩ : Fin 2) (⟨q.val % 32, Nat.mod_lt _ (by decide)⟩ : Fin 32))).1
      refine (shapeCast_apply _ Cert.Pre_finite_window.Facts.shapeCasts_S32768x2560_S32768x40x2x32 _ (ValueIdx.ix2 r q) ?_).trans rfl
      rw [Shape.rowMajor_val_two, Shape.rowMajor_val_four]
      show r.val * 2560 + q.val = ((r.val * 40 + q.val / 64) * 2 + q.val / 32 % 2) * 32 + q.val % 32
      omega
    rw [← Ideal.xori_weird_eq_hostAbsf_olt_inf] at hi
    have hw : ¬((x0 (ValueIdx.ix2 r q) : EReal) = ⊤ ∨ (x0 (ValueIdx.ix2 r q) : EReal) = ⊥) := fun hc => by
      have h1 : (FloatOps.weird (F := Ideal) (show Ideal .f32 from x0 (ValueIdx.ix2 r q))) = 1#1 := by
        show BitVec.ofBool (decide ((x0 (ValueIdx.ix2 r q) : EReal) = ⊤ ∨ (x0 (ValueIdx.ix2 r q) : EReal) = ⊥)) = 1#1
        rw [decide_eq_true hc]; rfl
      rw [h1] at hi
      exact absurd hi (by decide)
    push Not at hw
    exact ⟨(x0 (ValueIdx.ix2 r q)).toReal, (EReal.coe_toReal hw.1 hw.2).symm⟩
  · intro i ht
    have hi : FloatOps.cmpf (F := Ideal) (φ := .f32) .olt (x2 i) (FloatOps.ofBits (F := Ideal) .f32 0x7F800000#32) = 1#1 := by
      refine Eq.trans ?_ (both (ValueIdx.ix4 (0 : Fin 32768) (0 : Fin 40) (0 : Fin 2) (⟨(i 0).val, (i 0).isLt⟩ : Fin 32))).2
      refine Eq.symm ((broadcastInDim_apply _ Cert.Pre_finite_window.Facts.bcast_S1x1x1x32_S32768x40x2x32_0_1_2_3 _ _ (ValueIdx.ix4 (0 : Fin 1) (0 : Fin 1) (0 : Fin 1) (⟨(i 0).val, (i 0).isLt⟩ : Fin 32)) fun x => ?_).trans
        ((broadcastInDim_apply _ Cert.Pre_finite_window.Facts.bcast_S32_S1x1x1x32_3 _ _ i fun x => ?_).trans rfl))
      · match x with
        | ⟨0, _⟩ => rfl
        | ⟨1, _⟩ => rfl
        | ⟨2, _⟩ => rfl
        | ⟨3, _⟩ => rfl
      · match x with
        | ⟨0, _⟩ => rfl
    rw [ht, Ideal.cmpf_def, inf_bits] at hi
    simp [Ideal.cmp] at hi

end Cert.Window

end
-- ==== Proof.lean ====
/- The proof of the claims about the twelve calls: the generated frames, and each value claim from its closed form. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Reference5Ideal.Run
public import proofs.«01_k».proof.Proof.Gen.Kernel6Ideal.Value
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Reference6Ideal.Run
public import proofs.«01_k».proof.Proof.Gen.Kernel7Ideal.Value
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Reference7Ideal.Run
public import proofs.«01_k».proof.Proof.Gen.Kernel8Ideal.Value
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Reference8Ideal.Run
public import proofs.«01_k».proof.Proof.Gen.Kernel9Ideal.Value
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Reference9Ideal.Run
public import proofs.«01_k».proof.Proof.Gen.Kernel10Ideal.Value
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Reference10Ideal.Run
public import proofs.«01_k».proof.Proof.Gen.Kernel11Ideal.Value
public import proofs.«01_k».proof.Proof.Gen.Kernel11.Frame
public import proofs.«01_k».proof.Proof.Gen.Kernel11Ideal.Frame
public import proofs.«01_k».proof.Proof.Gen.Reference11Ideal.Read
public import proofs.«01_k».proof.Proof.Gen.Reference11Ideal.Run
public import proofs.«01_k».proof.Proof.Gen.Kernel12Ideal.Value
public import proofs.«01_k».proof.Proof.Gen.Kernel12.Frame
public import proofs.«01_k».proof.Proof.Gen.Kernel12Ideal.Frame
public import proofs.«01_k».proof.Proof.Gen.Reference12Ideal.Read
public import proofs.«01_k».proof.Proof.Gen.Reference12Ideal.Run
public import proofs.«01_k».proof.Proof.RefValue
public import proofs.«01_k».proof.Proof.SwiGlu
public import proofs.«01_k».proof.Proof.FfnDown
public import proofs.«01_k».proof.Proof.Proj
public import proofs.«01_k».proof.Proof.OutProj
public import proofs.«01_k».proof.Proof.VProj
public import proofs.«01_k».proof.Proof.AxialProj
public import proofs.«01_k».proof.Proof.WindowProj
public import proofs.«01_k».proof.Proof.Mix9
public import proofs.«01_k».proof.Proof.Mix10
public import proofs.«01_k».proof.Proof.VRes
public import proofs.«01_k».proof.Proof.WindowRef
public import Idealize.ShloMosaic.Adequacy
public import Idealize.ShloMosaic.Init

@[expose] public section

noncomputable section

namespace Cert.Proof

open Idealize.ShloMosaic Idealize.SL.Sem Cert.Kernel

/-- The precondition's own side conditions. -/
theorem pre_facts : Cert.Pre_finite_qk.Facts where
  bitsLt_bf16_f32 := by decide
  bcast_S_S32768x2560 := by decide

/-- The kernel and the softmax attention leave the same array. -/
theorem algebraic : algebraic_KernelIdeal_ReferenceIdeal_pre_finite_qk (hKernelIdeal := Cert.KernelIdeal.Gen.facts) (hReferenceIdeal := Cert.ReferenceIdeal.Gen.facts) (hPre_finite_qk := pre_facts) := by
  intro m g m' g' hpre hargs
  refine ⟨fun c => Cert.Flash.result (Cert.Flash.argQK m c) (Cert.Flash.argV m c), ?_, ?_⟩
  · refine (θ_run _ _ _).mono (fun r h c => ?_) (Cert.KernelIdeal.Value.run_blocks m g)
    have hX := @Cert.Flash.finite_of_ones _ _ pre_facts (hpre c)
    exact ⟨(h c).1.trans (Cert.Flash.final m c hX), (h c).2⟩
  · refine (θ_run _ _ _).mono (fun r h c => ?_) (Cert.ReferenceIdeal.Value.run m' g')
    have hX := @Cert.Flash.finite_of_ones _ _ pre_facts (hpre c)
    refine ⟨(h c).1.trans ?_, (h c).2⟩
    rw [Cert.ReferenceIdeal.Read.val_main_v26_eq, (hargs c).1, (hargs c).2]
    exact Cert.Flash.reference_result _ _ hX

/-- The reference runs, keeps its arguments and has no counter. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- The gated product and its reference leave the same array. -/
theorem algebraic2 : algebraic_Kernel2Ideal_Reference2Ideal (hKernel2Ideal := Cert.Kernel2Ideal.Gen.facts) (hReference2Ideal := Cert.Reference2Ideal.Gen.facts) := by
  intro m g m' g' _ hargs
  refine ⟨fun c => Cert.SwiGlu.result (Cert.SwiGlu.argX m c) (Cert.SwiGlu.argW m c), ?_, ?_⟩
  · exact (θ_run _ _ _).mono (fun r h c => ⟨(h c).1.trans (Cert.SwiGlu.final m c), (h c).2⟩) (Cert.Kernel2Ideal.Value.run_blocks m g)
  · refine (θ_run _ _ _).mono (fun r h c => ⟨(h c).1.trans ?_, (h c).2⟩) (Cert.Reference2Ideal.Value.run m' g')
    rw [Cert.Reference2Ideal.Read.val_main_v7_eq, (hargs c).1, (hargs c).2]
    exact Cert.SwiGlu.reference_result _ _

/-- The second product of the feed-forward network, with residual and normalization, and its reference leave the same two arrays. -/
theorem algebraic3 : algebraic_Kernel3Ideal_Reference3Ideal (hKernel3Ideal := Cert.Kernel3Ideal.Gen.facts) (hReference3Ideal := Cert.Reference3Ideal.Gen.facts) := by
  intro m g m' g' _ hargs
  refine ⟨fun c => Cert.FfnDown.result (Cert.FfnDown.argX m c) (Cert.FfnDown.argW m c) (Cert.FfnDown.argY m c) (Cert.FfnDown.argG m c) (Cert.FfnDown.argH m c), fun c => Cert.FfnDown.result (Cert.FfnDown.argX m c) (Cert.FfnDown.argW m c) (Cert.FfnDown.argY m c) (Cert.FfnDown.argG m c) (Cert.FfnDown.argH m c), ?_, ?_⟩
  · exact (θ_run _ _ _).mono (fun r h c => ⟨(h c).1.trans (Cert.FfnDown.final m c), (h c).2.1.trans (Cert.FfnDown.final_copy m c), (h c).2.2⟩) (Cert.Kernel3Ideal.Value.run_blocks m g)
  · refine (θ_run _ _ _).mono (fun r h c => ⟨(h c).1.trans ?_, (h c).2.1.trans ?_, (h c).2.2⟩) (Cert.Reference3Ideal.Value.run m' g')
    · rw [Cert.Reference3Ideal.Read.val_main_v29_eq, (hargs c).1, (hargs c).2.1, (hargs c).2.2.1, (hargs c).2.2.2.1, (hargs c).2.2.2.2]
      exact Cert.FfnDown.reference_result _ _ _ _ _
    · rw [Cert.Reference3Ideal.Read.val_main_v30_eq, (hargs c).1, (hargs c).2.1, (hargs c).2.2.1, (hargs c).2.2.2.1, (hargs c).2.2.2.2]
      exact Cert.FfnDown.reference_copy _ _ _ _ _

/-- The plain projection and its reference leave the same array. -/
theorem algebraic4 : algebraic_Kernel4Ideal_Reference4Ideal (hKernel4Ideal := Cert.Kernel4Ideal.Gen.facts) (hReference4Ideal := Cert.Reference4Ideal.Gen.facts) := by
  intro m g m' g' _ hargs
  refine ⟨fun c => Cert.Proj.result (Cert.Proj.argX m c) (Cert.Proj.argW m c), ?_, ?_⟩
  · exact (θ_run _ _ _).mono (fun r h c => ⟨(h c).1.trans (Cert.Proj.final m c), (h c).2⟩) (Cert.Kernel4Ideal.Value.run_blocks m g)
  · refine (θ_run _ _ _).mono (fun r h c => ⟨(h c).1.trans ?_, (h c).2⟩) (Cert.Reference4Ideal.Value.run m' g')
    rw [Cert.Reference4Ideal.Read.val_main_v2_eq, (hargs c).1, (hargs c).2]
    exact Cert.Proj.reference_result _ _

/-- The output projection, with residual and normalization, and its reference leave the same two arrays. -/
theorem algebraic5 : algebraic_Kernel5Ideal_Reference5Ideal (hKernel5Ideal := Cert.Kernel5Ideal.Gen.facts) (hReference5Ideal := Cert.Reference5Ideal.Gen.facts) := by
  intro m g m' g' _ hargs
  refine ⟨fun c => Cert.OutProj.result (Cert.OutProj.argX m c) (Cert.OutProj.argW m c) (Cert.OutProj.argY m c) (Cert.OutProj.argG m c) (Cert.OutProj.argH m c), fun c => Cert.OutProj.result (Cert.OutProj.argX m c) (Cert.OutProj.argW m c) (Cert.OutProj.argY m c) (Cert.OutProj.argG m c) (Cert.OutProj.argH m c), ?_, ?_⟩
  · exact (θ_run _ _ _).mono (fun r h c => ⟨(h c).1.trans (Cert.OutProj.final m c), (h c).2.1.trans (Cert.OutProj.final_copy m c), (h c).2.2⟩) (Cert.Kernel5Ideal.Value.run_blocks m g)
  · refine (θ_run _ _ _).mono (fun r h c => ⟨(h c).1.trans ?_, (h c).2.1.trans ?_, (h c).2.2⟩) (Cert.Reference5Ideal.Value.run m' g')
    · rw [Cert.Reference5Ideal.Read.val_main_v29_eq, (hargs c).1, (hargs c).2.1, (hargs c).2.2.1, (hargs c).2.2.2.1, (hargs c).2.2.2.2]
      exact Cert.OutProj.reference_result _ _ _ _ _
    · rw [Cert.Reference5Ideal.Read.val_main_v30_eq, (hargs c).1, (hargs c).2.1, (hargs c).2.2.1, (hargs c).2.2.2.1, (hargs c).2.2.2.2]
      exact Cert.OutProj.reference_copy _ _ _ _ _

/-- The projection to the window layer's values and its reference leave the same array. -/
theorem algebraic6 : algebraic_Kernel6Ideal_Reference6Ideal (hKernel6Ideal := Cert.Kernel6Ideal.Gen.facts) (hReference6Ideal := Cert.Reference6Ideal.Gen.facts) := by
  intro m g m' g' _ hargs
  refine ⟨fun c => Cert.VProj.result (Cert.VProj.argX m c) (Cert.VProj.argW m c) (Cert.VProj.argB m c), ?_, ?_⟩
  · exact (θ_run _ _ _).mono (fun r h c => ⟨(h c).1.trans (Cert.VProj.final m c), (h c).2⟩) (Cert.Kernel6Ideal.Value.run_blocks m g)
  · refine (θ_run _ _ _).mono (fun r h c => ⟨(h c).1.trans ?_, (h c).2⟩) (Cert.Reference6Ideal.Value.run m' g')
    rw [Cert.Reference6Ideal.Read.val_main_v6_eq, (hargs c).1, (hargs c).2.1, (hargs c).2.2]
    exact Cert.VProj.reference_result _ _ _

/-- The axial layer's queries and keys, normalized and turned, and their reference are the same array. -/
theorem algebraic7 : algebraic_Kernel7Ideal_Reference7Ideal (hKernel7Ideal := Cert.Kernel7Ideal.Gen.facts) (hReference7Ideal := Cert.Reference7Ideal.Gen.facts) := by
  intro m g m' g' _ hargs
  refine ⟨fun c => Cert.AxialProj.result (Cert.AxialProj.argX m c) (Cert.AxialProj.argW m c) (Cert.AxialProj.argQ m c) (Cert.AxialProj.argK m c) (Cert.AxialProj.argG m c) (Cert.AxialProj.argH m c), ?_, ?_⟩
  · exact (θ_run _ _ _).mono (fun r h c => ⟨(h c).1.trans (Cert.AxialProj.final m c), (h c).2⟩) (Cert.Kernel7Ideal.Value.run_blocks m g)
  · refine (θ_run _ _ _).mono (fun r h c => ⟨(h c).1.trans ?_, (h c).2⟩) (Cert.Reference7Ideal.Value.run m' g')
    rw [Cert.Reference7Ideal.Read.val_main_v112_eq, (hargs c).1, (hargs c).2.1, (hargs c).2.2.1, (hargs c).2.2.2.1, (hargs c).2.2.2.2.1, (hargs c).2.2.2.2.2]
    exact Cert.AxialProj.reference_result _ _ _ _ _ _

/-- The window layer's queries and keys, biased and turned, and their reference are the same array. -/
theorem algebraic8 : algebraic_Kernel8Ideal_Reference8Ideal (hKernel8Ideal := Cert.Kernel8Ideal.Gen.facts) (hReference8Ideal := Cert.Reference8Ideal.Gen.facts) := by
  intro m g m' g' _ hargs
  refine ⟨fun c => Cert.WindowProj.result (Cert.WindowProj.argX m c) (Cert.WindowProj.argW m c) (Cert.WindowProj.argB m c) (Cert.WindowProj.argG m c), ?_, ?_⟩
  · exact (θ_run _ _ _).mono (fun r h c => ⟨(h c).1.trans (Cert.WindowProj.final m c), (h c).2⟩) (Cert.Kernel8Ideal.Value.run_blocks m g)
  · refine (θ_run _ _ _).mono (fun r h c => ⟨(h c).1.trans ?_, (h c).2⟩) (Cert.Reference8Ideal.Value.run m' g')
    rw [Cert.Reference8Ideal.Read.val_main_v49_eq, (hargs c).1, (hargs c).2.1, (hargs c).2.2.1, (hargs c).2.2.2]
    exact Cert.WindowProj.reference_result _ _ _ _

/-- The shift mix with its four products and its reference leave the same seven arrays. -/
theorem algebraic9 : algebraic_Kernel9Ideal_Reference9Ideal (hKernel9Ideal := Cert.Kernel9Ideal.Gen.facts) (hReference9Ideal := Cert.Reference9Ideal.Gen.facts) := by
  intro m g m' g' _ hargs
  refine ⟨fun c => Cert.ShiftMix.mixed (Cert.Mix9.argX m c) (Cert.Mix9.argM m c) 0,
    fun c => Cert.ShiftMix.mixed (Cert.Mix9.argX m c) (Cert.Mix9.argM m c) 2,
    fun c => Cert.ShiftMix.mixed (Cert.Mix9.argX m c) (Cert.Mix9.argM m c) 3,
    fun c => Cert.ShiftMix.lora Ideal.tanh (Cert.Mix9.argX m c) (Cert.Mix9.argM m c) (Cert.Mix9.argW m c) 1,
    fun c => Cert.ShiftMix.lora id (Cert.Mix9.argX m c) (Cert.Mix9.argM m c) (Cert.Mix9.argA m c) 4,
    fun c => Cert.ShiftMix.lora Cert.ShiftMix.sigmoid (Cert.Mix9.argX m c) (Cert.Mix9.argM m c) (Cert.Mix9.argG m c) 5,
    fun c => Cert.ShiftMix.lora id (Cert.Mix9.argX m c) (Cert.Mix9.argM m c) (Cert.Mix9.argV m c) 3, ?_, ?_⟩
  · exact (θ_run _ _ _).mono (fun r h c => ⟨(h c).1.trans (Cert.Mix9.final8 m c), (h c).2.1.trans (Cert.Mix9.final9 m c), (h c).2.2.1.trans (Cert.Mix9.final10 m c), (h c).2.2.2.1.trans (Cert.Mix9.final11 m c), (h c).2.2.2.2.1.trans (Cert.Mix9.final12 m c), (h c).2.2.2.2.2.1.trans (Cert.Mix9.final13 m c), (h c).2.2.2.2.2.2.1.trans (Cert.Mix9.final14 m c), (h c).2.2.2.2.2.2.2⟩) (Cert.Kernel9Ideal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference9Ideal.Value.run m' g')
    · rw [Cert.Reference9Ideal.Read.val_main_v61_eq, (hargs c).1, (hargs c).2.1]
      exact Cert.Mix9.reference_mix0 _ _
    · rw [Cert.Reference9Ideal.Read.val_main_v62_eq, (hargs c).1, (hargs c).2.1]
      exact Cert.Mix9.reference_mix2 _ _
    · rw [Cert.Reference9Ideal.Read.val_main_v63_eq, (hargs c).1, (hargs c).2.1]
      exact Cert.Mix9.reference_mix3 _ _
    · rw [Cert.Reference9Ideal.Read.val_main_v64_eq, (hargs c).1, (hargs c).2.1, (hargs c).2.2.1]
      exact Cert.Mix9.reference_tanh _ _ _
    · rw [Cert.Reference9Ideal.Read.val_main_v65_eq, (hargs c).1, (hargs c).2.1, (hargs c).2.2.2.1]
      exact Cert.Mix9.reference_plain _ _ _
    · rw [Cert.Reference9Ideal.Read.val_main_v66_eq, (hargs c).1, (hargs c).2.1, (hargs c).2.2.2.2.1]
      exact Cert.Mix9.reference_sigmoid _ _ _
    · rw [Cert.Reference9Ideal.Read.val_main_v67_eq, (hargs c).1, (hargs c).2.1, (hargs c).2.2.2.2.2]
      exact Cert.Mix9.reference_value _ _ _

/-- The shift mix with its three products and its reference leave the same six arrays. -/
theorem algebraic10 : algebraic_Kernel10Ideal_Reference10Ideal (hKernel10Ideal := Cert.Kernel10Ideal.Gen.facts) (hReference10Ideal := Cert.Reference10Ideal.Gen.facts) := by
  intro m g m' g' _ hargs
  refine ⟨fun c => Cert.ShiftMix.mixed (Cert.Mix10.argX m c) (Cert.Mix10.argM m c) 0,
    fun c => Cert.ShiftMix.mixed (Cert.Mix10.argX m c) (Cert.Mix10.argM m c) 2,
    fun c => Cert.ShiftMix.mixed (Cert.Mix10.argX m c) (Cert.Mix10.argM m c) 3,
    fun c => Cert.ShiftMix.lora Ideal.tanh (Cert.Mix10.argX m c) (Cert.Mix10.argM m c) (Cert.Mix10.argW m c) 1,
    fun c => Cert.ShiftMix.lora id (Cert.Mix10.argX m c) (Cert.Mix10.argM m c) (Cert.Mix10.argA m c) 4,
    fun c => Cert.ShiftMix.lora Cert.ShiftMix.sigmoid (Cert.Mix10.argX m c) (Cert.Mix10.argM m c) (Cert.Mix10.argG m c) 5, ?_, ?_⟩
  · exact (θ_run _ _ _).mono (fun r h c => ⟨(h c).1.trans (Cert.Mix10.final7 m c), (h c).2.1.trans (Cert.Mix10.final8 m c), (h c).2.2.1.trans (Cert.Mix10.final9 m c), (h c).2.2.2.1.trans (Cert.Mix10.final10 m c), (h c).2.2.2.2.1.trans (Cert.Mix10.final11 m c), (h c).2.2.2.2.2.1.trans (Cert.Mix10.final12 m c), (h c).2.2.2.2.2.2⟩) (Cert.Kernel10Ideal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference10Ideal.Value.run m' g')
    · rw [Cert.Reference10Ideal.Read.val_main_v59_eq, (hargs c).1, (hargs c).2.1]
      exact Cert.Mix10.reference_mix0 _ _
    · rw [Cert.Reference10Ideal.Read.val_main_v60_eq, (hargs c).1, (hargs c).2.1]
      exact Cert.Mix10.reference_mix2 _ _
    · rw [Cert.Reference10Ideal.Read.val_main_v61_eq, (hargs c).1, (hargs c).2.1]
      exact Cert.Mix10.reference_mix3 _ _
    · rw [Cert.Reference10Ideal.Read.val_main_v62_eq, (hargs c).1, (hargs c).2.1, (hargs c).2.2.1]
      exact Cert.Mix10.reference_tanh _ _ _
    · rw [Cert.Reference10Ideal.Read.val_main_v63_eq, (hargs c).1, (hargs c).2.1, (hargs c).2.2.2.1]
      exact Cert.Mix10.reference_plain _ _ _
    · rw [Cert.Reference10Ideal.Read.val_main_v64_eq, (hargs c).1, (hargs c).2.1, (hargs c).2.2.2.2]
      exact Cert.Mix10.reference_sigmoid _ _ _

/-- The values mixed with the first layer's values and their reference are the same array. -/
theorem algebraic11 : algebraic_Kernel11Ideal_Reference11Ideal (hKernel11Ideal := Cert.Kernel11Ideal.Gen.facts) (hReference11Ideal := Cert.Reference11Ideal.Gen.facts) := by
  intro m g m' g' _ hargs
  refine ⟨fun c => Cert.VRes.result (Cert.VRes.argX m c) (Cert.VRes.argW m c) (Cert.VRes.argB m c) (Cert.VRes.argV m c) (Cert.VRes.argU m c), ?_, ?_⟩
  · exact (θ_run _ _ _).mono (fun r h c => ⟨(h c).1.trans (Cert.VRes.final m c), (h c).2⟩) (Cert.Kernel11Ideal.Value.run_blocks m g)
  · refine (θ_run _ _ _).mono (fun r h c => ⟨(h c).1.trans ?_, (h c).2⟩) (Cert.Reference11Ideal.Value.run m' g')
    rw [Cert.Reference11Ideal.Read.val_main_v14_eq, (hargs c).1, (hargs c).2.1, (hargs c).2.2.1, (hargs c).2.2.2.1, (hargs c).2.2.2.2]
    exact Cert.VRes.reference_result _ _ _ _ _

/-- The side conditions of the window attention's precondition. -/
theorem window_pre_facts : Cert.Pre_finite_window.Facts where
  bitsLt_bf16_f32 := by decide
  bcast_S_S32768x2560 := by decide
  shapeCasts_S32768x2560_S32768x40x2x32 := by decide
  bcast_S_S32 := by decide
  bcast_S32_S1x1x1x32_3 := by decide
  bcast_S1x1x1x32_S32768x40x2x32_0_1_2_3 := by decide

/-- The only replaced literal, the rounded logarithm of e in base two, is the constant it is named. -/
theorem preserves12 : preserves_Kernel12_Kernel12Ideal :=
  IdealRules.named_const.statement Cert.Kernel12Ideal.κ "log2_e" .f32 0x3FB8AA3B#32 (((Real.log 2)⁻¹ : ℝ) : EReal) rfl

/-- The window attention's call and the dense softmax with a sink leave the same array. -/
theorem algebraic12 : algebraic_Kernel12Ideal_Reference12Ideal_pre_finite_window (hKernel12Ideal := Cert.Kernel12Ideal.Gen.facts) (hReference12Ideal := Cert.Reference12Ideal.Gen.facts) (hPre_finite_window := window_pre_facts) := by
  intro m g m' g' hpre hargs
  refine ⟨fun c => Cert.Window.result (Cert.Window.argX m c) (Cert.Window.argY m c) (Cert.Window.inBaseTwo (Cert.Window.argS m c)), ?_, ?_⟩
  · refine (θ_run _ _ _).mono (fun r h c => ?_) (Cert.Kernel12Ideal.Value.run_blocks m g)
    exact ⟨(h c).1.trans (Cert.Window.final m c), (h c).2⟩
  · refine (θ_run _ _ _).mono (fun r h c => ?_) (Cert.Reference12Ideal.Value.run m' g')
    have hX := @Cert.Window.of_ones _ _ _ window_pre_facts (hpre c)
    refine ⟨(h c).1.trans ?_, (h c).2⟩
    rw [Cert.Reference12Ideal.Read.val_main_v42_eq, (hargs c).1, (hargs c).2.1, (hargs c).2.2]
    exact Cert.Window.reference_result _ _ _ hX.1 hX.2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  pre_facts, window_pre_facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2.2.2.2.2.2.2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2.2.2.2.2.2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run _ _ _).mono (fun r h => ⟨fun c => (h c).2, sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => Cert.Kernel12Ideal.Gen.frame m ρ,
  fun m ρ _ => (θ_run _ _ _).mono (fun r h => ⟨fun c => (h c).2, sem_eq_zero_of_no_sems (by decide) r.2⟩) (Cert.Reference12Ideal.Value.run m ρ),
  fun m ρ _ => (θ_run _ _ _).mono (fun r h => ⟨fun c => (h c).2, sem_eq_zero_of_no_sems (by decide) r.2⟩) (Cert.Reference12Ideal.Value.run m ρ),
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  preserves12,
  algebraic12⟩

end Cert.Proof

end
